-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_chunks_name_experts : Cert.Pre_chunks_name_experts.Facts] (m : (ℓ : Loc Cert.Kernel2.nD Cert.Kernel2.τ Cert.Kernel2.sig) → Buf (Elt Bits) ℓ) : Prop :=
  ∀ c : Dev Cert.Kernel2.nD,
    (Cert.Pre_chunks_name_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_chunks_name_experts : Cert.Pre_chunks_name_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_chunks_name_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_chunks_name_experts [hPre_chunks_name_experts : Cert.Pre_chunks_name_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_chunks_name_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_chunks_name_experts : Cert.Pre_chunks_name_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_chunks_name_experts : Cert.Pre_chunks_name_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_chunks_name_experts [hReference2Ideal : Cert.Reference2Ideal.Facts] [hPre_chunks_name_experts : Cert.Pre_chunks_name_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_chunks_name_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] [hPre_chunks_name_experts : Cert.Pre_chunks_name_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v61_0)) (v1 : (c : Dev Cert.Kernel3Ideal.nD) → Buf (Elt Ideal) ((c.tc : Thread Cert.Kernel3Ideal.nD Cert.Kernel3Ideal.τ).loc Cert.Kernel3Ideal.main_v61_1)) (v2 : (c : Dev Cert.Kernel3Ideal.nD) → Buf (Elt Ideal) ((c.tc : Thread Cert.Kernel3Ideal.nD Cert.Kernel3Ideal.τ).loc Cert.Kernel3Ideal.main_v61_2)) (v3 : (c : Dev Cert.Kernel3Ideal.nD) → Buf (Elt Ideal) ((c.tc : Thread Cert.Kernel3Ideal.nD Cert.Kernel3Ideal.τ).loc Cert.Kernel3Ideal.main_v61_3)) (v4 : (c : Dev Cert.Kernel3Ideal.nD) → Buf (Elt Ideal) ((c.tc : Thread Cert.Kernel3Ideal.nD Cert.Kernel3Ideal.τ).loc Cert.Kernel3Ideal.main_v61_4)) (v5 : (c : Dev Cert.Kernel3Ideal.nD) → Buf (Elt Ideal) ((c.tc : Thread Cert.Kernel3Ideal.nD Cert.Kernel3Ideal.τ).loc Cert.Kernel3Ideal.main_v61_5)) (v6 : (c : Dev Cert.Kernel3Ideal.nD) → Buf (Elt Ideal) ((c.tc : Thread Cert.Kernel3Ideal.nD Cert.Kernel3Ideal.τ).loc Cert.Kernel3Ideal.main_v61_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61_0) = v0 c
          ∧ r.2.mem ((c.tc : Thread Cert.Kernel3Ideal.nD Cert.Kernel3Ideal.τ).loc Cert.Kernel3Ideal.main_v61_1) = v1 c
          ∧ r.2.mem ((c.tc : Thread Cert.Kernel3Ideal.nD Cert.Kernel3Ideal.τ).loc Cert.Kernel3Ideal.main_v61_2) = v2 c
          ∧ r.2.mem ((c.tc : Thread Cert.Kernel3Ideal.nD Cert.Kernel3Ideal.τ).loc Cert.Kernel3Ideal.main_v61_3) = v3 c
          ∧ r.2.mem ((c.tc : Thread Cert.Kernel3Ideal.nD Cert.Kernel3Ideal.τ).loc Cert.Kernel3Ideal.main_v61_4) = v4 c
          ∧ r.2.mem ((c.tc : Thread Cert.Kernel3Ideal.nD Cert.Kernel3Ideal.τ).loc Cert.Kernel3Ideal.main_v61_5) = v5 c
          ∧ r.2.mem ((c.tc : Thread Cert.Kernel3Ideal.nD Cert.Kernel3Ideal.τ).loc Cert.Kernel3Ideal.main_v61_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_v100) = v1 c
          ∧ r.2.mem ((c.tc : Thread Cert.Reference3Ideal.nD Cert.Reference3Ideal.τ).loc Cert.Reference3Ideal.main_v101) = v2 c
          ∧ r.2.mem ((c.tc : Thread Cert.Reference3Ideal.nD Cert.Reference3Ideal.τ).loc Cert.Reference3Ideal.main_v81) = v3 c
          ∧ r.2.mem ((c.tc : Thread Cert.Reference3Ideal.nD Cert.Reference3Ideal.τ).loc Cert.Reference3Ideal.main_v93) = v4 c
          ∧ r.2.mem ((c.tc : Thread Cert.Reference3Ideal.nD Cert.Reference3Ideal.τ).loc Cert.Reference3Ideal.main_v4) = v5 c
          ∧ r.2.mem ((c.tc : Thread Cert.Reference3Ideal.nD Cert.Reference3Ideal.τ).loc Cert.Reference3Ideal.main_v5) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v62_3)) (v1 : (c : Dev Cert.Kernel4Ideal.nD) → Buf (Elt Ideal) ((c.tc : Thread Cert.Kernel4Ideal.nD Cert.Kernel4Ideal.τ).loc Cert.Kernel4Ideal.main_v62_4)) (v2 : (c : Dev Cert.Kernel4Ideal.nD) → Buf (Elt Ideal) ((c.tc : Thread Cert.Kernel4Ideal.nD Cert.Kernel4Ideal.τ).loc Cert.Kernel4Ideal.main_v62_5)) (v3 : (c : Dev Cert.Kernel4Ideal.nD) → Buf (Elt Ideal) ((c.tc : Thread Cert.Kernel4Ideal.nD Cert.Kernel4Ideal.τ).loc Cert.Kernel4Ideal.main_v62_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v62_3) = v0 c
          ∧ r.2.mem ((c.tc : Thread Cert.Kernel4Ideal.nD Cert.Kernel4Ideal.τ).loc Cert.Kernel4Ideal.main_v62_4) = v1 c
          ∧ r.2.mem ((c.tc : Thread Cert.Kernel4Ideal.nD Cert.Kernel4Ideal.τ).loc Cert.Kernel4Ideal.main_v62_5) = v2 c
          ∧ r.2.mem ((c.tc : Thread Cert.Kernel4Ideal.nD Cert.Kernel4Ideal.τ).loc Cert.Kernel4Ideal.main_v62_6) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_v58) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v39_0)) (v1 : (c : Dev Cert.Kernel5Ideal.nD) → Buf (Elt Ideal) ((c.tc : Thread Cert.Kernel5Ideal.nD Cert.Kernel5Ideal.τ).loc Cert.Kernel5Ideal.main_v39_1)) (v2 : (c : Dev Cert.Kernel5Ideal.nD) → Buf (Elt Ideal) ((c.tc : Thread Cert.Kernel5Ideal.nD Cert.Kernel5Ideal.τ).loc Cert.Kernel5Ideal.main_v39_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39_0) = v0 c
          ∧ r.2.mem ((c.tc : Thread Cert.Kernel5Ideal.nD Cert.Kernel5Ideal.τ).loc Cert.Kernel5Ideal.main_v39_1) = v1 c
          ∧ r.2.mem ((c.tc : Thread Cert.Kernel5Ideal.nD Cert.Kernel5Ideal.τ).loc Cert.Kernel5Ideal.main_v39_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v95) = v0 c
          ∧ r.2.mem ((c.tc : Thread Cert.Reference5Ideal.nD Cert.Reference5Ideal.τ).loc Cert.Reference5Ideal.main_v96) = v1 c
          ∧ r.2.mem ((c.tc : Thread Cert.Reference5Ideal.nD Cert.Reference5Ideal.τ).loc Cert.Reference5Ideal.main_v79) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v36)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v25_0)) (v1 : (c : Dev Cert.Kernel7Ideal.nD) → Buf (Elt Ideal) ((c.tc : Thread Cert.Kernel7Ideal.nD Cert.Kernel7Ideal.τ).loc Cert.Kernel7Ideal.main_v25_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25_0) = v0 c
          ∧ r.2.mem ((c.tc : Thread Cert.Kernel7Ideal.nD Cert.Kernel7Ideal.τ).loc Cert.Kernel7Ideal.main_v25_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_chunks_name_experts : Cert.Pre_chunks_name_experts.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_chunks_name_experts := hPre_chunks_name_experts)
    ∧ quiescent_Kernel2Ideal (hKernel2Ideal := hKernel2Ideal) (hPre_chunks_name_experts := hPre_chunks_name_experts)
    ∧ quiescent_Reference2Ideal (hReference2Ideal := hReference2Ideal)
    ∧ quiescent_Reference2Ideal_pre_chunks_name_experts (hReference2Ideal := hReference2Ideal) (hPre_chunks_name_experts := hPre_chunks_name_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_chunks_name_experts := hPre_chunks_name_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_chunks_name_experts.lean ====
abbrev S126 : Shape := ⟨1, ![126]⟩
abbrev S64512x1024 : Shape := ⟨2, ![64512, 1024]⟩
abbrev S64512x128 : Shape := ⟨2, ![64512, 128]⟩
abbrev S32x1024x512 : Shape := ⟨3, ![32, 1024, 512]⟩
abbrev S32x256x1024 : Shape := ⟨3, ![32, 256, 1024]⟩
abbrev S_ : Shape := ⟨0, ![]⟩

class Facts : Prop where
  bcast_S_S126 : S_.BroadcastsInDim S126 (![] : Fin 0 → Fin S126.rank)

variable [Facts]

def fn {F : FTy → Type} [FloatOps F] (main_arg0 : IVec S126 32) (main_arg1 : FVec F S64512x1024 .bf16) (main_arg2 : FVec F S64512x128 .f32) (main_arg3 : FVec F S32x1024x512 .f32) (main_arg4 : FVec F S32x256x1024 .f32) : IVec S126 1 :=
  let main_c : IVec S_ 32 := constantI S_ 32 4294967295#32
  let main_v0 : IVec S126 32 := broadcastInDim S126 ![] bcast_S_S126 main_c
  let main_v1 : IVec S126 1 := cmpi .sge main_arg0 main_v0
  let main_c_0 : IVec S_ 32 := constantI S_ 32 32#32
  let main_v2 : IVec S126 32 := broadcastInDim S126 ![] bcast_S_S126 main_c_0
  let main_v3 : IVec S126 1 := cmpi .slt main_arg0 main_v2
  let main_v4 : IVec S126 1 := andi main_v1 main_v3
  main_v4
-- ==== Kernel.lean ====
abbrev S4x4096x512 : Shape := ⟨3, ![4, 4096, 512]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S256x256 : Shape := ⟨2, ![256, 256]⟩
abbrev S256x512 : Shape := ⟨2, ![256, 512]⟩
abbrev S1x256x512 : Shape := ⟨3, ![1, 256, 512]⟩
abbrev S2x256x512 : Shape := ⟨3, ![2, 256, 512]⟩
abbrev S1x512 : Shape := ⟨2, ![1, 512]⟩
abbrev S4x1x512 : Shape := ⟨3, ![4, 1, 512]⟩
abbrev S1x1x512 : Shape := ⟨3, ![1, 1, 512]⟩
abbrev S264x512 : Shape := ⟨2, ![264, 512]⟩
abbrev S8x512 : Shape := ⟨2, ![8, 512]⟩

abbrev nBuf : Space → Nat
  | .hbm => 51
  | .vmem => 16
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S512, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S8x64x1x64, .f32⟩
  | .hbm, ⟨17, _⟩ => ⟨S8x1x8x1, .f32⟩
  | .hbm, ⟨18, _⟩ => ⟨S8x64x8x64, .f32⟩
  | .hbm, ⟨19, _⟩ => ⟨S8x64x8x64, .f32⟩
  | .hbm, ⟨20, _⟩ => ⟨S8x64x8x64, .f32⟩
  | .hbm, ⟨21, _⟩ => ⟨S512x512, .f32⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S8x64x1x64, .f32⟩
  | .hbm, ⟨30, _⟩ => ⟨S8x1x8x1, .f32⟩
  | .hbm, ⟨31, _⟩ => ⟨S8x64x8x64, .f32⟩
  | .hbm, ⟨32, _⟩ => ⟨S8x64x8x64, .f32⟩
  | .hbm, ⟨33, _⟩ => ⟨S8x64x8x64, .f32⟩
  | .hbm, ⟨34, _⟩ => ⟨S512x512, .f32⟩
  | .hbm, ⟨35, _⟩ => ⟨S256x256, .f32⟩
  | .hbm, ⟨36, _⟩ => ⟨S256x256, .f32⟩
  | .hbm, ⟨37, _⟩ => ⟨S256x512, .f32⟩
  | .hbm, ⟨38, _⟩ => ⟨S256x256, .f32⟩
  | .hbm, ⟨39, _⟩ => ⟨S256x256, .f32⟩
  | .hbm, ⟨40, _⟩ => ⟨S256x512, .f32⟩
  | .hbm, ⟨41, _⟩ => ⟨S1x256x512, .f32⟩
  | .hbm, ⟨42, _⟩ => ⟨S1x256x512, .f32⟩
  | .hbm, ⟨43, _⟩ => ⟨S2x256x512, .f32⟩
  | .hbm, ⟨44, _⟩ => ⟨S2x256x512, .bf16⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S4x4096x512, .f32⟩
  | .hbm, ⟨50, _⟩ => ⟨S4x1x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S4x512, .f32⟩
  | .local _ .vmem, ⟨5, _⟩ => ⟨S1x512, .f32⟩
  | .local _ .vmem, ⟨6, _⟩ => ⟨S2x256x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x256x512, .f32⟩
  | .local _ .vmem, ⟨11, _⟩ => ⟨S1x256x512, .f32⟩
  | .local _ .vmem, ⟨12, _⟩ => ⟨S1x1x512, .f32⟩
  | .local _ .vmem, ⟨13, _⟩ => ⟨S1x1x512, .f32⟩
  | .local _ .vmem, ⟨14, _⟩ => ⟨S264x512, .f32⟩
  | .local _ .vmem, ⟨15, _⟩ => ⟨S1x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4x4096x512 : Shape := ⟨3, ![4, 4096, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S4x3x512 : Shape := ⟨3, ![4, 3, 512]⟩
abbrev S4x4099x512 : Shape := ⟨3, ![4, 4099, 512]⟩
abbrev S1x512 : Shape := ⟨2, ![1, 512]⟩
abbrev S1x1x512 : Shape := ⟨3, ![1, 1, 512]⟩
abbrev S4x4096x8x64 : Shape := ⟨4, ![4, 4096, 8, 64]⟩
abbrev S8x64x4x4096 : Shape := ⟨4, ![8, 64, 4, 4096]⟩
abbrev S4096x4x512 : Shape := ⟨3, ![4096, 4, 512]⟩
abbrev S1x4x512 : Shape := ⟨3, ![1, 4, 512]⟩
abbrev S4x1x512 : Shape := ⟨3, ![4, 1, 512]⟩

abbrev nBuf : Space → Nat
  | .hbm => 154
  | .vmem => 0
  | .smem => 0
  | _ => 0

abbrev hbmTy0_0 (i : Nat) : BufTy := match i % 128 with
  | 0 => ⟨S4x4096x512, .f32⟩
  | 1 => ⟨S4x4096x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S_, .f32⟩
  | 10 => ⟨S4x3x512, .f32⟩
  | 11 => ⟨S_, .f32⟩
  | 12 => ⟨S4x512, .f32⟩
  | 13 => ⟨S4x4099x512, .f32⟩
  | 14 => ⟨S4x4096x512, .f32⟩
  | 15 => ⟨S1x512, .f32⟩
  | 16 => ⟨S512, .f32⟩
  | 17 => ⟨S1x1x512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x4096x512, .f32⟩
  | 24 => ⟨S1x512, .f32⟩
  | 25 => ⟨S512, .f32⟩
  | 26 => ⟨S1x1x512, .f32⟩
  | 27 => ⟨S4x4096x512, .f32⟩
  | 28 => ⟨S4x4096x512, .f32⟩
  | 29 => ⟨S4x4096x512, .f32⟩
  | 30 => ⟨S4x4096x512, .f32⟩
  | 31 => ⟨S1x512, .f32⟩
  | 32 => ⟨S512, .f32⟩
  | 33 => ⟨S1x1x512, .f32⟩
  | 34 => ⟨S4x4096x512, .f32⟩
  | 35 => ⟨S4x4096x512, .f32⟩
  | 36 => ⟨S4x4096x512, .f32⟩
  | 37 => ⟨S4x4096x512, .f32⟩
  | 38 => ⟨S1x512, .f32⟩
  | 39 => ⟨S512, .f32⟩
  | 40 => ⟨S1x1x512, .f32⟩
  | 41 => ⟨S4x4096x512, .f32⟩
  | 42 => ⟨S4x4096x512, .f32⟩
  | 43 => ⟨S4x4096x512, .f32⟩
  | 44 => ⟨S1x1x512, .f32⟩
  | 45 => ⟨S4x4096x512, .f32⟩
  | 46 => ⟨S4x4096x512, .f32⟩
  | 47 => ⟨S4x4096x8x64, .f32⟩
  | 48 => ⟨S8x64x4x4096, .f32⟩
  | 49 => ⟨S4x4096x8x64, .f32⟩
  | 50 => ⟨S4x4096x512, .f32⟩
  | 51 => ⟨S1x1x512, .f32⟩
  | 52 => ⟨S4x4096x512, .f32⟩
  | 53 => ⟨S4x4096x512, .f32⟩
  | 54 => ⟨S4x4096x512, .f32⟩
  | 55 => ⟨S4x4096x512, .f32⟩
  | 56 => ⟨S_, .f32⟩
  | 57 => ⟨S4x4096x512, .f32⟩
  | 58 => ⟨S4x4096x512, .f32⟩
  | 59 => ⟨S_, .f32⟩
  | 60 => ⟨S4x4096x512, .f32⟩
  | 61 => ⟨S4x4096x512, .f32⟩
  | 62 => ⟨S8x64x4x4096, .f32⟩
  | 63 => ⟨S4x4096x8x64, .f32⟩
  | 64 => ⟨S4x4096x512, .f32⟩
  | 65 => ⟨S1x1x512, .f32⟩
  | 66 => ⟨S4x4096x512, .f32⟩
  | 67 => ⟨S4x4096x512, .f32⟩
  | 68 => ⟨S4x4096x512, .f32⟩
  | 69 => ⟨S4x4096x512, .f32⟩
  | 70 => ⟨S_, .f32⟩
  | 71 => ⟨S4x4096x512, .f32⟩
  | 72 => ⟨S4x4096x512, .f32⟩
  | 73 => ⟨S_, .f32⟩
  | 74 => ⟨S4x4096x512, .f32⟩
  | 75 => ⟨S4x4096x512, .f32⟩
  | 76 => ⟨S512, .f32⟩
  | 77 => ⟨S_, .f32⟩
  | 78 => ⟨S512, .f32⟩
  | 79 => ⟨S512, .f32⟩
  | 80 => ⟨S512, .f32⟩
  | 81 => ⟨S512, .f32⟩
  | 82 => ⟨S512, .i1⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S_, .f32⟩
  | 92 => ⟨S512, .f32⟩
  | 93 => ⟨S512, .f32⟩
  | 94 => ⟨S1x1x512, .f32⟩
  | 95 => ⟨S4x4096x512, .f32⟩
  | 96 => ⟨S4x4096x512, .f32⟩
  | 97 => ⟨S4x4096x512, .f32⟩
  | 98 => ⟨S_, .f32⟩
  | 99 => ⟨S4x4096x512, .f32⟩
  | 100 => ⟨S4x4096x512, .f32⟩
  | 101 => ⟨S4x4096x512, .f32⟩
  | 102 => ⟨S4x4096x512, .f32⟩
  | 103 => ⟨S4x4096x512, .f32⟩
  | 104 => ⟨S4x4096x512, .f32⟩
  | 105 => ⟨S4x4096x512, .f32⟩
  | 106 => ⟨S4096x4x512, .f32⟩
  | 107 => ⟨S4096x4x512, .f32⟩
  | 108 => ⟨S_, .f32⟩
  | 109 => ⟨S4096x4x512, .f32⟩
  | 110 => ⟨S_, .i32⟩
  | 111 => ⟨S4096x4x512, .f32⟩
  | 112 => ⟨S4096x4x512, .f32⟩
  | 113 => ⟨S_, .i32⟩
  | 114 => ⟨S4x512, .f32⟩
  | 115 => ⟨S4096x4x512, .f32⟩
  | 116 => ⟨S_, .i32⟩
  | 117 => ⟨S_, .i1⟩
  | 118 => ⟨S_, .i32⟩
  | 119 => ⟨S_, .i32⟩
  | 120 => ⟨S1x4x512, .f32⟩
  | 121 => ⟨S4x512, .f32⟩
  | 122 => ⟨S_, .i32⟩
  | 123 => ⟨S_, .i32⟩
  | 124 => ⟨S1x4x512, .f32⟩
  | 125 => ⟨S4x512, .f32⟩
  | 126 => ⟨S4x512, .f32⟩
  | 127 => ⟨S4x512, .f32⟩
  | _ => ⟨S4x4096x512, .f32⟩

abbrev hbmTy0_1 (i : Nat) : BufTy := match i % 128 with
  | 0 => ⟨S1x4x512, .f32⟩
  | 1 => ⟨S_, .i32⟩
  | 2 => ⟨S_, .i32⟩
  | 3 => ⟨S4096x4x512, .f32⟩
  | 4 => ⟨S_, .i32⟩
  | 5 => ⟨S_, .i32⟩
  | 6 => ⟨S4x4096x512, .f32⟩
  | 7 => ⟨S4x4096x512, .f32⟩
  | 8 => ⟨S4x4096x512, .f32⟩
  | 9 => ⟨S_, .f32⟩
  | 10 => ⟨S4x4096x512, .f32⟩
  | 11 => ⟨S4x4096x512, .f32⟩
  | 12 => ⟨S4x4096x512, .f32⟩
  | 13 => ⟨S_, .f32⟩
  | 14 => ⟨S4x4096x512, .f32⟩
  | 15 => ⟨S4x4096x512, .f32⟩
  | 16 => ⟨S4x4096x512, .f32⟩
  | 17 => ⟨S_, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x4096x512, .f32⟩
  | 24 => ⟨S4x4096x512, .f32⟩
  | 25 => ⟨S4x1x512, .f32⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_8 : Ref sig .tc := ⟨.hbm, 108, rfl⟩
abbrev main_v77 : Ref sig .tc := ⟨.hbm, 109, rfl⟩
abbrev main_c : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_while0c_c_17 : Ref sig .tc := ⟨.hbm, 116, rfl⟩
abbrev main_while0c_v95 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v95 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v96 : Ref sig .tc := ⟨.hbm, 125, rfl⟩
abbrev main_while0b_v97 : Ref sig .tc := ⟨.hbm, 126, rfl⟩
abbrev main_while0b_v98 : Ref sig .tc := ⟨.hbm, 127, rfl⟩
abbrev main_while0b_call3_v0 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_v99 : Ref sig .tc := ⟨.hbm, 131, rfl⟩
abbrev main_while0b_c_17 : Ref sig .tc := ⟨.hbm, 132, rfl⟩
abbrev main_while0b_v100 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_9 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_10 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_11 : Ref sig .tc := ⟨.hbm, 145, rfl⟩
abbrev main_v88 : Ref sig .tc := ⟨.hbm, 146, rfl⟩
abbrev main_v89 : Ref sig .tc := ⟨.hbm, 147, rfl⟩
abbrev main_cst_12 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S126 : Shape := ⟨1, ![126]⟩
abbrev S64512x1024 : Shape := ⟨2, ![64512, 1024]⟩
abbrev S64512x128 : Shape := ⟨2, ![64512, 128]⟩
abbrev S32x1024x512 : Shape := ⟨3, ![32, 1024, 512]⟩
abbrev S32x256x1024 : Shape := ⟨3, ![32, 256, 1024]⟩
abbrev S512x1024 : Shape := ⟨2, ![512, 1024]⟩
abbrev S1 : Shape := ⟨1, ![1]⟩
abbrev S512x128 : Shape := ⟨2, ![512, 128]⟩
abbrev S1x1024x512 : Shape := ⟨3, ![1, 1024, 512]⟩
abbrev S1x256x1024 : Shape := ⟨3, ![1, 256, 1024]⟩
abbrev S1024x512 : Shape := ⟨2, ![1024, 512]⟩
abbrev S256x1024 : Shape := ⟨2, ![256, 1024]⟩
abbrev S256x512 : Shape := ⟨2, ![256, 512]⟩
abbrev S256x256 : Shape := ⟨2, ![256, 256]⟩
abbrev S256x1 : Shape := ⟨2, ![256, 1]⟩

abbrev nBuf : Space → Nat
  | .hbm => 5
  | .vmem => 12
  | .smem => 1
  | _ => 0

abbrev bufTy : (tb : Table) → Fin (tcTables nBuf tb) → BufTy
  | .hbm, ⟨0, _⟩ => ⟨S64512x1024, .bf16⟩
  | .hbm, ⟨1, _⟩ => ⟨S64512x128, .f32⟩
  | .hbm, ⟨2, _⟩ => ⟨S32x1024x512, .f32⟩
  | .hbm, ⟨3, _⟩ => ⟨S32x256x1024, .f32⟩
  | .hbm, ⟨4, _⟩ => ⟨S64512x1024, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x1024x512, .f32⟩
  | .local _ .vmem, ⟨5, _⟩ => ⟨S1x1024x512, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S256x1024, .bf16⟩
  | .local _ .smem, ⟨0, _⟩ => ⟨S126, .i32⟩
  | _, _ => ⟨S64512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![126], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32_1 : BitVec 32 := 0#32
  let v5 : BitVec 32 := Scalar.maxsi v4 c0_i32_1
  let v6 : Index := Scalar.indexCast v5
  ![v6.toNat]
def k0_off3 (i : grid0.Coords) : Fin 1 → Nat :=
  let arg0 : BitVec 32 := BitVec.ofNat 32 (i 0).val
  let v16 : Index := Scalar.indexCast arg0
  ![v16.toNat]
def k0_cond2 (v1 : BitVec 32) : BitVec 1 :=
  let c0_i32_3 : BitVec 32 := 0#32
  let v13 : BitVec 1 := Scalar.cmpi .sge v1 c0_i32_3
  let v14 : BitVec 32 := Scalar.extui v13
  let c0_i32_4 : BitVec 32 := 0#32
  let v15 : BitVec 1 := Scalar.cmpi .ne v14 c0_i32_4
  v15

def k0_cond3 (v17 : BitVec 32) : BitVec 1 :=
  let c0_i32_5 : BitVec 32 := 0#32
  let v18 : BitVec 1 := Scalar.cmpi .slt v17 c0_i32_5
  let v19 : BitVec 32 := Scalar.extui v18
  let c0_i32_6 : BitVec 32 := 0#32
  let v20 : BitVec 1 := Scalar.cmpi .ne v19 c0_i32_6
  v20

def cc0_transform_0 (k0_off1_inb : ∀ i : grid0.Coords, ∀ a, (k0_off1 i) a + S1.size a ≤ S126.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S126) ![v0.toNat] S1.size (k0_off1_inb i)) numel1_S1
  let c0_i32 : BitVec 32 := 0#32
  let v2 : BitVec 1 := Scalar.cmpi .sge v1 c0_i32
  let c0_i32_0 : BitVec 32 := 0#32
  let v3 : BitVec 32 := Scalar.select v2 arg0 c0_i32_0
  let c0_i32_1 : BitVec 32 := 0#32
  let c0_i32_2 : BitVec 32 := 0#32
  ![v3.toNat, c0_i32_1.toNat]

def cc0_transform_1 (k0_off1_inb : ∀ i : grid0.Coords, ∀ a, (k0_off1 i) a + S1.size a ≤ S126.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S126) ![v0.toNat] S1.size (k0_off1_inb i)) numel1_S1
  let c0_i32 : BitVec 32 := 0#32
  let v2 : BitVec 1 := Scalar.cmpi .sge v1 c0_i32
  let c0_i32_0 : BitVec 32 := 0#32
  let v3 : BitVec 32 := Scalar.select v2 arg0 c0_i32_0
  let c0_i32_1 : BitVec 32 := 0#32
  let c0_i32_2 : BitVec 32 := 0#32
  ![v3.toNat, c0_i32_1.toNat]

def cc0_transform_2 (k0_off1_inb : ∀ i : grid0.Coords, ∀ a, (k0_off1 i) a + S1.size a ≤ S126.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S126) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S126.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S126) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S126 : Shape := ⟨1, ![126]⟩
abbrev S64512x1024 : Shape := ⟨2, ![64512, 1024]⟩
abbrev S64512x128 : Shape := ⟨2, ![64512, 128]⟩
abbrev S32x1024x512 : Shape := ⟨3, ![32, 1024, 512]⟩
abbrev S32x256x1024 : Shape := ⟨3, ![32, 256, 1024]⟩
abbrev S126x1 : Shape := ⟨2, ![126, 1]⟩
abbrev S126x512 : Shape := ⟨2, ![126, 512]⟩
abbrev S64512 : Shape := ⟨1, ![64512]⟩
abbrev S1x64512 : Shape := ⟨2, ![1, 64512]⟩
abbrev S32 : Shape := ⟨1, ![32]⟩
abbrev S32x1 : Shape := ⟨2, ![32, 1]⟩
abbrev S32x64512 : Shape := ⟨2, ![32, 64512]⟩
abbrev S64512x1 : Shape := ⟨2, ![64512, 1]⟩
abbrev S_ : Shape := ⟨0, ![]⟩
abbrev S32x512x64512 : Shape := ⟨3, ![32, 512, 64512]⟩
abbrev S32x64512x512 : Shape := ⟨3, ![32, 64512, 512]⟩
abbrev S32x64512x256 : Shape := ⟨3, ![32, 64512, 256]⟩
abbrev S32x64512x1 : Shape := ⟨3, ![32, 64512, 1]⟩
abbrev S32x64512x1024 : Shape := ⟨3, ![32, 64512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S126, .i32⟩
  | .hbm, ⟨1, _⟩ => ⟨S64512x1024, .bf16⟩
  | .hbm, ⟨2, _⟩ => ⟨S64512x128, .f32⟩
  | .hbm, ⟨3, _⟩ => ⟨S32x1024x512, .f32⟩
  | .hbm, ⟨4, _⟩ => ⟨S32x256x1024, .f32⟩
  | .hbm, ⟨5, _⟩ => ⟨S126x1, .i32⟩
  | .hbm, ⟨6, _⟩ => ⟨S126x512, .i32⟩
  | .hbm, ⟨7, _⟩ => ⟨S64512, .i32⟩
  | .hbm, ⟨8, _⟩ => ⟨S1x64512, .i32⟩
  | .hbm, ⟨9, _⟩ => ⟨S32, .i32⟩
  | .hbm, ⟨10, _⟩ => ⟨S32x1, .i32⟩
  | .hbm, ⟨11, _⟩ => ⟨S32x64512, .i32⟩
  | .hbm, ⟨12, _⟩ => ⟨S32x64512, .i32⟩
  | .hbm, ⟨13, _⟩ => ⟨S32x64512, .i1⟩
  | .hbm, ⟨14, _⟩ => ⟨S64512x1, .f32⟩
  | .hbm, ⟨15, _⟩ => ⟨S64512, .f32⟩
  | .hbm, ⟨16, _⟩ => ⟨S1x64512, .f32⟩
  | .hbm, ⟨17, _⟩ => ⟨S_, .f32⟩
  | .hbm, ⟨18, _⟩ => ⟨S_, .f32⟩
  | .hbm, ⟨19, _⟩ => ⟨S32x64512, .f32⟩
  | .hbm, ⟨20, _⟩ => ⟨S32x64512, .f32⟩
  | .hbm, ⟨21, _⟩ => ⟨S32x64512, .f32⟩
  | .hbm, ⟨22, _⟩ => ⟨S64512x1024, .f32⟩
  | .hbm, ⟨23, _⟩ => ⟨S32x512x64512, .f32⟩
  | .hbm, ⟨24, _⟩ => ⟨S32x64512x512, .f32⟩
  | .hbm, ⟨25, _⟩ => ⟨S32x64512x256, .f32⟩
  | .hbm, ⟨26, _⟩ => ⟨S32x64512x256, .f32⟩
  | .hbm, ⟨27, _⟩ => ⟨S32x64512x256, .f32⟩
  | .hbm, ⟨28, _⟩ => ⟨S_, .f32⟩
  | .hbm, ⟨29, _⟩ => ⟨S32x64512x256, .f32⟩
  | .hbm, ⟨30, _⟩ => ⟨S32x64512x256, .f32⟩
  | .hbm, ⟨31, _⟩ => ⟨S_, .f32⟩
  | .hbm, ⟨32, _⟩ => ⟨S32x64512x256, .f32⟩
  | .hbm, ⟨33, _⟩ => ⟨S32x64512x256, .f32⟩
  | .hbm, ⟨34, _⟩ => ⟨S32x64512x256, .f32⟩
  | .hbm, ⟨35, _⟩ => ⟨S32x64512x256, .f32⟩
  | .hbm, ⟨36, _⟩ => ⟨S32x64512x256, .f32⟩
  | .hbm, ⟨37, _⟩ => ⟨S32x64512x1, .f32⟩
  | .hbm, ⟨38, _⟩ => ⟨S32x64512x1024, .f32⟩
  | .hbm, ⟨39, _⟩ => ⟨S32x64512x1024, .f32⟩
  | .hbm, ⟨40, _⟩ => ⟨S32x64512x1024, .f32⟩
  | .hbm, ⟨41, _⟩ => ⟨S_, .f32⟩
  | .hbm, ⟨42, _⟩ => ⟨S64512x1024, .f32⟩
  | .hbm, ⟨43, _⟩ => ⟨S64512x1024, .bf16⟩
  | _, _ => ⟨S126, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x1696 : Shape := ⟨2, ![1024, 1696]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S1024x16 : Shape := ⟨2, ![1024, 16]⟩
abbrev S1024x512 : Shape := ⟨2, ![1024, 512]⟩
abbrev S1024x1920 : Shape := ⟨2, ![1024, 1920]⟩
abbrev S384x8x64 : Shape := ⟨3, ![384, 8, 64]⟩
abbrev S384x8x32 : Shape := ⟨3, ![384, 8, 32]⟩
abbrev S384x8x128 : Shape := ⟨3, ![384, 8, 128]⟩
abbrev S384x8x16 : Shape := ⟨3, ![384, 8, 16]⟩
abbrev S384x1024 : Shape := ⟨2, ![384, 1024]⟩
abbrev S384x2048 : Shape := ⟨2, ![384, 2048]⟩
abbrev S2048x384 : Shape := ⟨2, ![2048, 384]⟩
abbrev S256x8x128 : Shape := ⟨3, ![256, 8, 128]⟩
abbrev S256x1024 : Shape := ⟨2, ![256, 1024]⟩
abbrev S256x512 : Shape := ⟨2, ![256, 512]⟩
abbrev S512x256 : Shape := ⟨2, ![512, 256]⟩
abbrev S1x384 : Shape := ⟨2, ![1, 384]⟩
abbrev S1x256 : Shape := ⟨2, ![1, 256]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S128x4096 : Shape := ⟨2, ![128, 4096]⟩
abbrev S4x8x8x128x512 : Shape := ⟨5, ![4, 8, 8, 128, 512]⟩
abbrev S4x8x4096x128 : Shape := ⟨4, ![4, 8, 4096, 128]⟩
abbrev S4x4x8x128x512 : Shape := ⟨5, ![4, 4, 8, 128, 512]⟩
abbrev S4x4096x256 : Shape := ⟨3, ![4, 4096, 256]⟩
abbrev S4x4096x128 : Shape := ⟨3, ![4, 4096, 128]⟩
abbrev S4x4096x512 : Shape := ⟨3, ![4, 4096, 512]⟩
abbrev S1x512x1024 : Shape := ⟨3, ![1, 512, 1024]⟩
abbrev S512x128 : Shape := ⟨2, ![512, 128]⟩
abbrev S128x512 : Shape := ⟨2, ![128, 512]⟩
abbrev S1x8x1x128x512 : Shape := ⟨5, ![1, 8, 1, 128, 512]⟩
abbrev S1x8x512x128 : Shape := ⟨4, ![1, 8, 512, 128]⟩
abbrev S1x4x1x128x512 : Shape := ⟨5, ![1, 4, 1, 128, 512]⟩
abbrev S1x512x256 : Shape := ⟨3, ![1, 512, 256]⟩
abbrev S1x512x128 : Shape := ⟨3, ![1, 512, 128]⟩
abbrev S1x512x512 : Shape := ⟨3, ![1, 512, 512]⟩
abbrev S512x1024 : Shape := ⟨2, ![512, 1024]⟩
abbrev S512x1920 : Shape := ⟨2, ![512, 1920]⟩
abbrev S512x384 : Shape := ⟨2, ![512, 384]⟩
abbrev S512 : Shape := ⟨1, ![512]⟩
abbrev S512x1 : Shape := ⟨2, ![512, 1]⟩
abbrev S2048x512 : Shape := ⟨2, ![2048, 512]⟩
abbrev S1x1x1x128x512 : Shape := ⟨5, ![1, 1, 1, 128, 512]⟩
abbrev S1x1x512x128 : Shape := ⟨4, ![1, 1, 512, 128]⟩
abbrev S512x512 : Shape := ⟨2, ![512, 512]⟩

abbrev nBuf : Space → Nat
  | .hbm => 88
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S1024x1696, .f32⟩
  | .hbm, ⟨2, _⟩ => ⟨S384, .f32⟩
  | .hbm, ⟨3, _⟩ => ⟨S384x8x96, .f32⟩
  | .hbm, ⟨4, _⟩ => ⟨S256, .f32⟩
  | .hbm, ⟨5, _⟩ => ⟨S256x8x64, .f32⟩
  | .hbm, ⟨6, _⟩ => ⟨S256x8x64, .f32⟩
  | .hbm, ⟨7, _⟩ => ⟨S1024x32, .f32⟩
  | .hbm, ⟨8, _⟩ => ⟨S_, .f32⟩
  | .hbm, ⟨9, _⟩ => ⟨S1024x64, .f32⟩
  | .hbm, ⟨10, _⟩ => ⟨S_, .f32⟩
  | .hbm, ⟨11, _⟩ => ⟨S1024x32, .f32⟩
  | .hbm, ⟨12, _⟩ => ⟨S1024x640, .f32⟩
  | .hbm, ⟨13, _⟩ => ⟨S1024x16, .f32⟩
  | .hbm, ⟨14, _⟩ => ⟨S1024x16, .f32⟩
  | .hbm, ⟨15, _⟩ => ⟨S1024x32, .f32⟩
  | .hbm, ⟨16, _⟩ => ⟨S1024x512, .f32⟩
  | .hbm, ⟨17, _⟩ => ⟨S1024x512, .f32⟩
  | .hbm, ⟨18, _⟩ => ⟨S1024x1920, .f32⟩
  | .hbm, ⟨19, _⟩ => ⟨S1024x1920, .bf16⟩
  | .hbm, ⟨20, _⟩ => ⟨S384x8x64, .f32⟩
  | .hbm, ⟨21, _⟩ => ⟨S384x8x32, .f32⟩
  | .hbm, ⟨22, _⟩ => ⟨S_, .f32⟩
  | .hbm, ⟨23, _⟩ => ⟨S384x8x32, .f32⟩
  | .hbm, ⟨24, _⟩ => ⟨S384x8x128, .f32⟩
  | .hbm, ⟨25, _⟩ => ⟨S_, .f32⟩
  | .hbm, ⟨26, _⟩ => ⟨S384x8x64, .f32⟩
  | .hbm, ⟨27, _⟩ => ⟨S384x8x16, .f32⟩
  | .hbm, ⟨28, _⟩ => ⟨S384x8x16, .f32⟩
  | .hbm, ⟨29, _⟩ => ⟨S384x8x32, .f32⟩
  | .hbm, ⟨30, _⟩ => ⟨S_, .f32⟩
  | .hbm, ⟨31, _⟩ => ⟨S384x8x32, .f32⟩
  | .hbm, ⟨32, _⟩ => ⟨S384x8x128, .f32⟩
  | .hbm, ⟨33, _⟩ => ⟨S384x1024, .f32⟩
  | .hbm, ⟨34, _⟩ => ⟨S384x1024, .f32⟩
  | .hbm, ⟨35, _⟩ => ⟨S384x2048, .f32⟩
  | .hbm, ⟨36, _⟩ => ⟨S2048x384, .f32⟩
  | .hbm, ⟨37, _⟩ => ⟨S2048x384, .bf16⟩
  | .hbm, ⟨38, _⟩ => ⟨S_, .f32⟩
  | .hbm, ⟨39, _⟩ => ⟨S256x8x64, .f32⟩
  | .hbm, ⟨40, _⟩ => ⟨S256x8x128, .f32⟩
  | .hbm, ⟨41, _⟩ => ⟨S256x1024, .f32⟩
  | .hbm, ⟨42, _⟩ => ⟨S256x1024, .bf16⟩
  | .hbm, ⟨43, _⟩ => ⟨S256x512, .f32⟩
  | .hbm, ⟨44, _⟩ => ⟨S512x256, .f32⟩
  | .hbm, ⟨45, _⟩ => ⟨S512x256, .bf16⟩
  | .hbm, ⟨46, _⟩ => ⟨S1x384, .f32⟩
  | .hbm, ⟨47, _⟩ => ⟨S1x256, .f32⟩
  | .hbm, ⟨48, _⟩ => ⟨S4096, .i32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S4096, .f32⟩
  | .hbm, ⟨61, _⟩ => ⟨S4096x1, .f32⟩
  | .hbm, ⟨62, _⟩ => ⟨S1x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S_, .f32⟩
  | .hbm, ⟨69, _⟩ => ⟨S4096x64, .f32⟩
  | .hbm, ⟨70, _⟩ => ⟨S_, .f32⟩
  | .hbm, ⟨71, _⟩ => ⟨S4096x32, .f32⟩
  | .hbm, ⟨72, _⟩ => ⟨S4096x128, .f32⟩
  | .hbm, ⟨73, _⟩ => ⟨S_, .f32⟩
  | .hbm, ⟨74, _⟩ => ⟨S4096x64, .f32⟩
  | .hbm, ⟨75, _⟩ => ⟨S4096x16, .f32⟩
  | .hbm, ⟨76, _⟩ => ⟨S_, .f32⟩
  | .hbm, ⟨77, _⟩ => ⟨S4096x32, .f32⟩
  | .hbm, ⟨78, _⟩ => ⟨S4096x128, .f32⟩
  | .hbm, ⟨79, _⟩ => ⟨S128x4096, .f32⟩
  | .hbm, ⟨80, _⟩ => ⟨S128x4096, .f32⟩
  | .hbm, ⟨81, _⟩ => ⟨S4x8x8x128x512, .bf16⟩
  | .hbm, ⟨82, _⟩ => ⟨S4x8x4096x128, .bf16⟩
  | .hbm, ⟨83, _⟩ => ⟨S4x4x8x128x512, .bf16⟩
  | .hbm, ⟨84, _⟩ => ⟨S4x4096x256, .f32⟩
  | .hbm, ⟨85, _⟩ => ⟨S4x4096x128, .f32⟩
  | .hbm, ⟨86, _⟩ => ⟨S4x4096x512, .f32⟩
  | .hbm, ⟨87, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S1024x1920, .bf16⟩
  | .local _ .vmem, ⟨11, _⟩ => ⟨S1x384, .f32⟩
  | .local _ .vmem, ⟨12, _⟩ => ⟨S2048x384, .bf16⟩
  | .local _ .vmem, ⟨13, _⟩ => ⟨S1x256, .f32⟩
  | .local _ .vmem, ⟨14, _⟩ => ⟨S256x1024, .bf16⟩
  | .local _ .vmem, ⟨15, _⟩ => ⟨S512x256, .bf16⟩
  | .local _ .vmem, ⟨16, _⟩ => ⟨S1x8x1x128x512, .bf16⟩
  | .local _ .vmem, ⟨17, _⟩ => ⟨S1x8x1x128x512, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x4x1x128x512, .bf16⟩
  | .local _ .vmem, ⟨21, _⟩ => ⟨S1x4x1x128x512, .bf16⟩
  | .local _ .vmem, ⟨22, _⟩ => ⟨S1x512x256, .f32⟩
  | .local _ .vmem, ⟨23, _⟩ => ⟨S1x512x256, .f32⟩
  | .local _ .vmem, ⟨24, _⟩ => ⟨S1x512x128, .f32⟩
  | .local _ .vmem, ⟨25, _⟩ => ⟨S1x512x128, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev main_v61_4 : Ref sig .tc := ⟨.hbm, 85, rfl⟩
abbrev main_v61_5 : Ref sig .tc := ⟨.hbm, 86, rfl⟩
abbrev main_v61_6 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x1920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x4096x1024 : Shape := ⟨3, ![4, 4096, 1024]⟩
abbrev S1024x1696 : Shape := ⟨2, ![1024, 1696]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S4x4096x1696 : Shape := ⟨3, ![4, 4096, 1696]⟩
abbrev S4x4096x384 : Shape := ⟨3, ![4, 4096, 384]⟩
abbrev S4x4096x256 : Shape := ⟨3, ![4, 4096, 256]⟩
abbrev S4x4096x32 : Shape := ⟨3, ![4, 4096, 32]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x384 : Shape := ⟨3, ![1, 1, 384]⟩
abbrev S4x4096x8x96 : Shape := ⟨4, ![4, 4096, 8, 96]⟩
abbrev S4x4096x8x64 : Shape := ⟨4, ![4, 4096, 8, 64]⟩
abbrev S4x4096x8x32 : Shape := ⟨4, ![4, 4096, 8, 32]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S1x4096x16 : Shape := ⟨3, ![1, 4096, 16]⟩
abbrev S4x4096x16 : Shape := ⟨3, ![4, 4096, 16]⟩
abbrev S1x1x256 : Shape := ⟨3, ![1, 1, 256]⟩
abbrev S4x4096x8x128 : Shape := ⟨4, ![4, 4096, 8, 128]⟩
abbrev S4x4096x1x32 : Shape := ⟨4, ![4, 4096, 1, 32]⟩
abbrev S4x4096x64 : Shape := ⟨3, ![4, 4096, 64]⟩
abbrev S4x4096x128 : Shape := ⟨3, ![4, 4096, 128]⟩
abbrev S4x8x512x8x128 : Shape := ⟨5, ![4, 8, 512, 8, 128]⟩
abbrev S4x8x8x128x512 : Shape := ⟨5, ![4, 8, 8, 128, 512]⟩
abbrev S4x8x512x4x128 : Shape := ⟨5, ![4, 8, 512, 4, 128]⟩
abbrev S4x4x8x128x512 : Shape := ⟨5, ![4, 4, 8, 128, 512]⟩
abbrev S4x8x4096x128 : Shape := ⟨4, ![4, 8, 4096, 128]⟩

abbrev nBuf : Space → Nat
  | .hbm => 122
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1696, .f32⟩
  | .hbm, ⟨2, _⟩ => ⟨S384, .f32⟩
  | .hbm, ⟨3, _⟩ => ⟨S384x8x96, .f32⟩
  | .hbm, ⟨4, _⟩ => ⟨S256, .f32⟩
  | .hbm, ⟨5, _⟩ => ⟨S256x8x64, .f32⟩
  | .hbm, ⟨6, _⟩ => ⟨S256x8x64, .f32⟩
  | .hbm, ⟨7, _⟩ => ⟨S4x4096x1696, .f32⟩
  | .hbm, ⟨8, _⟩ => ⟨S4x4096x384, .f32⟩
  | .hbm, ⟨9, _⟩ => ⟨S4x4096x256, .f32⟩
  | .hbm, ⟨10, _⟩ => ⟨S4x4096x32, .f32⟩
  | .hbm, ⟨11, _⟩ => ⟨S4x4096x512, .f32⟩
  | .hbm, ⟨12, _⟩ => ⟨S4x4096x512, .f32⟩
  | .hbm, ⟨13, _⟩ => ⟨S4x4096x384, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x384, .f32⟩
  | .hbm, ⟨25, _⟩ => ⟨S4x4096x384, .f32⟩
  | .hbm, ⟨26, _⟩ => ⟨S1x1x384, .f32⟩
  | .hbm, ⟨27, _⟩ => ⟨S4x4096x384, .f32⟩
  | .hbm, ⟨28, _⟩ => ⟨S4x4096x384, .f32⟩
  | .hbm, ⟨29, _⟩ => ⟨S4x4096x8x96, .f32⟩
  | .hbm, ⟨30, _⟩ => ⟨S4x4096x8x64, .f32⟩
  | .hbm, ⟨31, _⟩ => ⟨S4x4096x8x32, .f32⟩
  | .hbm, ⟨32, _⟩ => ⟨S4096, .i32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S4096, .f32⟩
  | .hbm, ⟨45, _⟩ => ⟨S4096x1, .f32⟩
  | .hbm, ⟨46, _⟩ => ⟨S1x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S1x4096x1x16, .f32⟩
  | .hbm, ⟨53, _⟩ => ⟨S1x4096x1x16, .f32⟩
  | .hbm, ⟨54, _⟩ => ⟨S4x4096x8x16, .f32⟩
  | .hbm, ⟨55, _⟩ => ⟨S4x4096x8x16, .f32⟩
  | .hbm, ⟨56, _⟩ => ⟨S4x4096x8x16, .f32⟩
  | .hbm, ⟨57, _⟩ => ⟨S4x4096x8x16, .f32⟩
  | .hbm, ⟨58, _⟩ => ⟨S4x4096x8x16, .f32⟩
  | .hbm, ⟨59, _⟩ => ⟨S4x4096x8x16, .f32⟩
  | .hbm, ⟨60, _⟩ => ⟨S4x4096x8x16, .f32⟩
  | .hbm, ⟨61, _⟩ => ⟨S4x4096x8x16, .f32⟩
  | .hbm, ⟨62, _⟩ => ⟨S4x4096x8x16, .f32⟩
  | .hbm, ⟨63, _⟩ => ⟨S4x4096x8x16, .f32⟩
  | .hbm, ⟨64, _⟩ => ⟨S4x4096x8x16, .f32⟩
  | .hbm, ⟨65, _⟩ => ⟨S4x4096x8x16, .f32⟩
  | .hbm, ⟨66, _⟩ => ⟨S4x4096x8x32, .f32⟩
  | .hbm, ⟨67, _⟩ => ⟨S1x4096x16, .f32⟩
  | .hbm, ⟨68, _⟩ => ⟨S1x4096x16, .f32⟩
  | .hbm, ⟨69, _⟩ => ⟨S4x4096x16, .f32⟩
  | .hbm, ⟨70, _⟩ => ⟨S4x4096x16, .f32⟩
  | .hbm, ⟨71, _⟩ => ⟨S4x4096x16, .f32⟩
  | .hbm, ⟨72, _⟩ => ⟨S4x4096x16, .f32⟩
  | .hbm, ⟨73, _⟩ => ⟨S4x4096x16, .f32⟩
  | .hbm, ⟨74, _⟩ => ⟨S4x4096x16, .f32⟩
  | .hbm, ⟨75, _⟩ => ⟨S4x4096x16, .f32⟩
  | .hbm, ⟨76, _⟩ => ⟨S4x4096x16, .f32⟩
  | .hbm, ⟨77, _⟩ => ⟨S4x4096x16, .f32⟩
  | .hbm, ⟨78, _⟩ => ⟨S4x4096x16, .f32⟩
  | .hbm, ⟨79, _⟩ => ⟨S4x4096x16, .f32⟩
  | .hbm, ⟨80, _⟩ => ⟨S4x4096x16, .f32⟩
  | .hbm, ⟨81, _⟩ => ⟨S4x4096x32, .f32⟩
  | .hbm, ⟨82, _⟩ => ⟨S4x4096x256, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1, .f32⟩
  | .hbm, ⟨93, _⟩ => ⟨S4x4096x256, .f32⟩
  | .hbm, ⟨94, _⟩ => ⟨S4x4096x256, .f32⟩
  | .hbm, ⟨95, _⟩ => ⟨S1x1x256, .f32⟩
  | .hbm, ⟨96, _⟩ => ⟨S4x4096x256, .f32⟩
  | .hbm, ⟨97, _⟩ => ⟨S4x4096x256, .f32⟩
  | .hbm, ⟨98, _⟩ => ⟨S4x4096x8x64, .f32⟩
  | .hbm, ⟨99, _⟩ => ⟨S4x4096x8x64, .f32⟩
  | .hbm, ⟨100, _⟩ => ⟨S_, .f32⟩
  | .hbm, ⟨101, _⟩ => ⟨S4x4096x8x32, .f32⟩
  | .hbm, ⟨102, _⟩ => ⟨S4x4096x8x128, .f32⟩
  | .hbm, ⟨103, _⟩ => ⟨S_, .f32⟩
  | .hbm, ⟨104, _⟩ => ⟨S4x4096x8x128, .f32⟩
  | .hbm, ⟨105, _⟩ => ⟨S4x4096x8x128, .f32⟩
  | .hbm, ⟨106, _⟩ => ⟨S4x4096x1x32, .f32⟩
  | .hbm, ⟨107, _⟩ => ⟨S4x4096x8x32, .f32⟩
  | .hbm, ⟨108, _⟩ => ⟨S4x4096x8x128, .f32⟩
  | .hbm, ⟨109, _⟩ => ⟨S_, .f32⟩
  | .hbm, ⟨110, _⟩ => ⟨S4x4096x64, .f32⟩
  | .hbm, ⟨111, _⟩ => ⟨S_, .f32⟩
  | .hbm, ⟨112, _⟩ => ⟨S4x4096x32, .f32⟩
  | .hbm, ⟨113, _⟩ => ⟨S4x4096x128, .f32⟩
  | .hbm, ⟨114, _⟩ => ⟨S4x8x512x8x128, .f32⟩
  | .hbm, ⟨115, _⟩ => ⟨S4x8x8x128x512, .f32⟩
  | .hbm, ⟨116, _⟩ => ⟨S4x8x512x4x128, .f32⟩
  | .hbm, ⟨117, _⟩ => ⟨S4x4x8x128x512, .f32⟩
  | .hbm, ⟨118, _⟩ => ⟨S4x8x8x128x512, .bf16⟩
  | .hbm, ⟨119, _⟩ => ⟨S4x8x4096x128, .f32⟩
  | .hbm, ⟨120, _⟩ => ⟨S4x8x4096x128, .bf16⟩
  | .hbm, ⟨121, _⟩ => ⟨S4x4x8x128x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_5 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_8 : Ref sig .tc := ⟨.hbm, 100, rfl⟩
abbrev main_v84 : Ref sig .tc := ⟨.hbm, 101, rfl⟩
abbrev main_v85 : Ref sig .tc := ⟨.hbm, 102, rfl⟩
abbrev main_cst_9 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_10 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Kernel4.lean ====
abbrev S128x1x1024 : Shape := ⟨3, ![128, 1, 1024]⟩
abbrev S1024x1696 : Shape := ⟨2, ![1024, 1696]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S1024x16 : Shape := ⟨2, ![1024, 16]⟩
abbrev S1024x512 : Shape := ⟨2, ![1024, 512]⟩
abbrev S1024x1920 : Shape := ⟨2, ![1024, 1920]⟩
abbrev S384x8x64 : Shape := ⟨3, ![384, 8, 64]⟩
abbrev S384x8x32 : Shape := ⟨3, ![384, 8, 32]⟩
abbrev S384x8x128 : Shape := ⟨3, ![384, 8, 128]⟩
abbrev S384x8x16 : Shape := ⟨3, ![384, 8, 16]⟩
abbrev S384x1024 : Shape := ⟨2, ![384, 1024]⟩
abbrev S384x2048 : Shape := ⟨2, ![384, 2048]⟩
abbrev S2048x384 : Shape := ⟨2, ![2048, 384]⟩
abbrev S256x8x128 : Shape := ⟨3, ![256, 8, 128]⟩
abbrev S256x1024 : Shape := ⟨2, ![256, 1024]⟩
abbrev S256x512 : Shape := ⟨2, ![256, 512]⟩
abbrev S512x256 : Shape := ⟨2, ![512, 256]⟩
abbrev S1x384 : Shape := ⟨2, ![1, 384]⟩
abbrev S1x256 : Shape := ⟨2, ![1, 256]⟩
abbrev S1x128x1024 : Shape := ⟨3, ![1, 128, 1024]⟩
abbrev S128 : Shape := ⟨1, ![128]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x64 : Shape := ⟨2, ![128, 64]⟩
abbrev S128x32 : Shape := ⟨2, ![128, 32]⟩
abbrev S128x128 : Shape := ⟨2, ![128, 128]⟩
abbrev S1x8x1x128x128 : Shape := ⟨5, ![1, 8, 1, 128, 128]⟩
abbrev S1x8x128x128 : Shape := ⟨4, ![1, 8, 128, 128]⟩
abbrev S1x4x1x128x128 : Shape := ⟨5, ![1, 4, 1, 128, 128]⟩
abbrev S1x128x256 : Shape := ⟨3, ![1, 128, 256]⟩
abbrev S1x128x128 : Shape := ⟨3, ![1, 128, 128]⟩
abbrev S1x128x512 : Shape := ⟨3, ![1, 128, 512]⟩
abbrev S128x1024 : Shape := ⟨2, ![128, 1024]⟩
abbrev S128x1920 : Shape := ⟨2, ![128, 1920]⟩
abbrev S128x384 : Shape := ⟨2, ![128, 384]⟩
abbrev S2048x128 : Shape := ⟨2, ![2048, 128]⟩
abbrev S1x1x1x128x128 : Shape := ⟨5, ![1, 1, 1, 128, 128]⟩
abbrev S128x256 : Shape := ⟨2, ![128, 256]⟩
abbrev S1x1x128x128 : Shape := ⟨4, ![1, 1, 128, 128]⟩
abbrev S512x128 : Shape := ⟨2, ![512, 128]⟩
abbrev S128x512 : Shape := ⟨2, ![128, 512]⟩

abbrev nBuf : Space → Nat
  | .hbm => 90
  | .vmem => 18
  | .smem => 0
  | _ => 0

abbrev bufTy : (tb : Table) → Fin (tcTables nBuf tb) → BufTy
  | .hbm, ⟨0, _⟩ => ⟨S128x1x1024, .f32⟩
  | .hbm, ⟨1, _⟩ => ⟨S1024x1696, .f32⟩
  | .hbm, ⟨2, _⟩ => ⟨S384, .f32⟩
  | .hbm, ⟨3, _⟩ => ⟨S384x8x96, .f32⟩
  | .hbm, ⟨4, _⟩ => ⟨S256, .f32⟩
  | .hbm, ⟨5, _⟩ => ⟨S256x8x64, .f32⟩
  | .hbm, ⟨6, _⟩ => ⟨S256x8x64, .f32⟩
  | .hbm, ⟨7, _⟩ => ⟨S1024x32, .f32⟩
  | .hbm, ⟨8, _⟩ => ⟨S_, .f32⟩
  | .hbm, ⟨9, _⟩ => ⟨S1024x64, .f32⟩
  | .hbm, ⟨10, _⟩ => ⟨S_, .f32⟩
  | .hbm, ⟨11, _⟩ => ⟨S1024x32, .f32⟩
  | .hbm, ⟨12, _⟩ => ⟨S1024x640, .f32⟩
  | .hbm, ⟨13, _⟩ => ⟨S1024x16, .f32⟩
  | .hbm, ⟨14, _⟩ => ⟨S1024x16, .f32⟩
  | .hbm, ⟨15, _⟩ => ⟨S1024x32, .f32⟩
  | .hbm, ⟨16, _⟩ => ⟨S1024x512, .f32⟩
  | .hbm, ⟨17, _⟩ => ⟨S1024x512, .f32⟩
  | .hbm, ⟨18, _⟩ => ⟨S1024x1920, .f32⟩
  | .hbm, ⟨19, _⟩ => ⟨S1024x1920, .bf16⟩
  | .hbm, ⟨20, _⟩ => ⟨S384x8x64, .f32⟩
  | .hbm, ⟨21, _⟩ => ⟨S384x8x32, .f32⟩
  | .hbm, ⟨22, _⟩ => ⟨S_, .f32⟩
  | .hbm, ⟨23, _⟩ => ⟨S384x8x32, .f32⟩
  | .hbm, ⟨24, _⟩ => ⟨S384x8x128, .f32⟩
  | .hbm, ⟨25, _⟩ => ⟨S_, .f32⟩
  | .hbm, ⟨26, _⟩ => ⟨S384x8x64, .f32⟩
  | .hbm, ⟨27, _⟩ => ⟨S384x8x16, .f32⟩
  | .hbm, ⟨28, _⟩ => ⟨S384x8x16, .f32⟩
  | .hbm, ⟨29, _⟩ => ⟨S384x8x32, .f32⟩
  | .hbm, ⟨30, _⟩ => ⟨S_, .f32⟩
  | .hbm, ⟨31, _⟩ => ⟨S384x8x32, .f32⟩
  | .hbm, ⟨32, _⟩ => ⟨S384x8x128, .f32⟩
  | .hbm, ⟨33, _⟩ => ⟨S384x1024, .f32⟩
  | .hbm, ⟨34, _⟩ => ⟨S384x1024, .f32⟩
  | .hbm, ⟨35, _⟩ => ⟨S384x2048, .f32⟩
  | .hbm, ⟨36, _⟩ => ⟨S2048x384, .f32⟩
  | .hbm, ⟨37, _⟩ => ⟨S2048x384, .bf16⟩
  | .hbm, ⟨38, _⟩ => ⟨S_, .f32⟩
  | .hbm, ⟨39, _⟩ => ⟨S256x8x64, .f32⟩
  | .hbm, ⟨40, _⟩ => ⟨S256x8x128, .f32⟩
  | .hbm, ⟨41, _⟩ => ⟨S256x1024, .f32⟩
  | .hbm, ⟨42, _⟩ => ⟨S256x1024, .bf16⟩
  | .hbm, ⟨43, _⟩ => ⟨S256x512, .f32⟩
  | .hbm, ⟨44, _⟩ => ⟨S512x256, .f32⟩
  | .hbm, ⟨45, _⟩ => ⟨S512x256, .bf16⟩
  | .hbm, ⟨46, _⟩ => ⟨S1x384, .f32⟩
  | .hbm, ⟨47, _⟩ => ⟨S1x256, .f32⟩
  | .hbm, ⟨48, _⟩ => ⟨S1x128x1024, .f32⟩
  | .hbm, ⟨49, _⟩ => ⟨S_, .i32⟩
  | .hbm, ⟨50, _⟩ => ⟨S128, .i32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S128, .f32⟩
  | .hbm, ⟨63, _⟩ => ⟨S128x1, .f32⟩
  | .hbm, ⟨64, _⟩ => ⟨S1x16, .f32⟩
  | .hbm, ⟨65, _⟩ => ⟨S128x16, .f32⟩
  | .hbm, ⟨66, _⟩ => ⟨S128x16, .f32⟩
  | .hbm, ⟨67, _⟩ => ⟨S128x16, .f32⟩
  | .hbm, ⟨68, _⟩ => ⟨S128x16, .f32⟩
  | .hbm, ⟨69, _⟩ => ⟨S128x16, .f32⟩
  | .hbm, ⟨70, _⟩ => ⟨S_, .f32⟩
  | .hbm, ⟨71, _⟩ => ⟨S128x64, .f32⟩
  | .hbm, ⟨72, _⟩ => ⟨S_, .f32⟩
  | .hbm, ⟨73, _⟩ => ⟨S128x32, .f32⟩
  | .hbm, ⟨74, _⟩ => ⟨S128x128, .f32⟩
  | .hbm, ⟨75, _⟩ => ⟨S_, .f32⟩
  | .hbm, ⟨76, _⟩ => ⟨S128x64, .f32⟩
  | .hbm, ⟨77, _⟩ => ⟨S128x16, .f32⟩
  | .hbm, ⟨78, _⟩ => ⟨S_, .f32⟩
  | .hbm, ⟨79, _⟩ => ⟨S128x32, .f32⟩
  | .hbm, ⟨80, _⟩ => ⟨S128x128, .f32⟩
  | .hbm, ⟨81, _⟩ => ⟨S128x128, .f32⟩
  | .hbm, ⟨82, _⟩ => ⟨S128x128, .f32⟩
  | .hbm, ⟨83, _⟩ => ⟨S1x8x1x128x128, .bf16⟩
  | .hbm, ⟨84, _⟩ => ⟨S1x8x128x128, .bf16⟩
  | .hbm, ⟨85, _⟩ => ⟨S1x4x1x128x128, .bf16⟩
  | .hbm, ⟨86, _⟩ => ⟨S1x128x256, .f32⟩
  | .hbm, ⟨87, _⟩ => ⟨S1x128x128, .f32⟩
  | .hbm, ⟨88, _⟩ => ⟨S1x128x512, .f32⟩
  | .hbm, ⟨89, _⟩ => ⟨S1x128x512, .f32⟩
  | .local _ .vmem, ⟨0, _⟩ => ⟨S1x128x1024, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1024x1920, .bf16⟩
  | .local _ .vmem, ⟨6, _⟩ => ⟨S1x384, .f32⟩
  | .local _ .vmem, ⟨7, _⟩ => ⟨S2048x384, .bf16⟩
  | .local _ .vmem, ⟨8, _⟩ => ⟨S1x256, .f32⟩
  | .local _ .vmem, ⟨9, _⟩ => ⟨S256x1024, .bf16⟩
  | .local _ .vmem, ⟨10, _⟩ => ⟨S512x256, .bf16⟩
  | .local _ .vmem, ⟨11, _⟩ => ⟨S1x8x1x128x128, .bf16⟩
  | .local _ .vmem, ⟨12, _⟩ => ⟨S1x8x128x128, .bf16⟩
  | .local _ .vmem, ⟨13, _⟩ => ⟨S1x4x1x128x128, .bf16⟩
  | .local _ .vmem, ⟨14, _⟩ => ⟨S1x128x256, .f32⟩
  | .local _ .vmem, ⟨15, _⟩ => ⟨S1x128x128, .f32⟩
  | .local _ .vmem, ⟨16, _⟩ => ⟨S1x128x512, .f32⟩
  | .local _ .vmem, ⟨17, _⟩ => ⟨S1x128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62_0 : Ref sig .tc := ⟨.hbm, 83, rfl⟩
abbrev main_v62_1 : Ref sig .tc := ⟨.hbm, 84, rfl⟩
abbrev main_v62_2 : Ref sig .tc := ⟨.hbm, 85, rfl⟩
abbrev main_v62_3 : Ref sig .tc := ⟨.hbm, 86, rfl⟩
abbrev main_v62_4 : Ref sig .tc := ⟨.hbm, 87, rfl⟩
abbrev main_v62_5 : Ref sig .tc := ⟨.hbm, 88, rfl⟩
abbrev main_v62_6 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x1920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x8x1x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x4x1x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]
-- ==== Reference4Ideal.lean ====
abbrev S128x1x1024 : Shape := ⟨3, ![128, 1, 1024]⟩
abbrev S1024x1696 : Shape := ⟨2, ![1024, 1696]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S128x1x1696 : Shape := ⟨3, ![128, 1, 1696]⟩
abbrev S128x1x384 : Shape := ⟨3, ![128, 1, 384]⟩
abbrev S128x1x256 : Shape := ⟨3, ![128, 1, 256]⟩
abbrev S128x1x32 : Shape := ⟨3, ![128, 1, 32]⟩
abbrev S128x1x512 : Shape := ⟨3, ![128, 1, 512]⟩
abbrev S1 : Shape := ⟨1, ![1]⟩
abbrev S_ : Shape := ⟨0, ![]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x16 : Shape := ⟨3, ![128, 1, 16]⟩
abbrev S128x1 : Shape := ⟨2, ![128, 1]⟩
abbrev S128x1x1 : Shape := ⟨3, ![128, 1, 1]⟩
abbrev S1x1x256 : Shape := ⟨3, ![1, 1, 256]⟩
abbrev S128x1x64 : Shape := ⟨3, ![128, 1, 64]⟩
abbrev S128x1x128 : Shape := ⟨3, ![128, 1, 128]⟩
abbrev S1x128x256 : Shape := ⟨3, ![1, 128, 256]⟩
abbrev S1x128x128 : Shape := ⟨3, ![1, 128, 128]⟩
abbrev S1x128x512 : Shape := ⟨3, ![1, 128, 512]⟩

abbrev nBuf : Space → Nat
  | .hbm => 75
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x1696, .f32⟩
  | .hbm, ⟨2, _⟩ => ⟨S384, .f32⟩
  | .hbm, ⟨3, _⟩ => ⟨S384x8x96, .f32⟩
  | .hbm, ⟨4, _⟩ => ⟨S256, .f32⟩
  | .hbm, ⟨5, _⟩ => ⟨S256x8x64, .f32⟩
  | .hbm, ⟨6, _⟩ => ⟨S256x8x64, .f32⟩
  | .hbm, ⟨7, _⟩ => ⟨S128x1x1696, .f32⟩
  | .hbm, ⟨8, _⟩ => ⟨S128x1x384, .f32⟩
  | .hbm, ⟨9, _⟩ => ⟨S128x1x256, .f32⟩
  | .hbm, ⟨10, _⟩ => ⟨S128x1x32, .f32⟩
  | .hbm, ⟨11, _⟩ => ⟨S128x1x512, .f32⟩
  | .hbm, ⟨12, _⟩ => ⟨S128x1x512, .f32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S1, .f32⟩
  | .hbm, ⟨29, _⟩ => ⟨S1x1, .f32⟩
  | .hbm, ⟨30, _⟩ => ⟨S1x16, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S1x16, .f32⟩
  | .hbm, ⟨35, _⟩ => ⟨S1x1x16, .f32⟩
  | .hbm, ⟨36, _⟩ => ⟨S1x1x16, .f32⟩
  | .hbm, ⟨37, _⟩ => ⟨S128x1x16, .f32⟩
  | .hbm, ⟨38, _⟩ => ⟨S128x1x16, .f32⟩
  | .hbm, ⟨39, _⟩ => ⟨S128x1x16, .f32⟩
  | .hbm, ⟨40, _⟩ => ⟨S128x1x16, .f32⟩
  | .hbm, ⟨41, _⟩ => ⟨S128x1x16, .f32⟩
  | .hbm, ⟨42, _⟩ => ⟨S128x1x16, .f32⟩
  | .hbm, ⟨43, _⟩ => ⟨S128x1x16, .f32⟩
  | .hbm, ⟨44, _⟩ => ⟨S128x1x16, .f32⟩
  | .hbm, ⟨45, _⟩ => ⟨S128x1x16, .f32⟩
  | .hbm, ⟨46, _⟩ => ⟨S128x1x16, .f32⟩
  | .hbm, ⟨47, _⟩ => ⟨S128x1x16, .f32⟩
  | .hbm, ⟨48, _⟩ => ⟨S128x1x16, .f32⟩
  | .hbm, ⟨49, _⟩ => ⟨S128x1x32, .f32⟩
  | .hbm, ⟨50, _⟩ => ⟨S128x1x256, .f32⟩
  | .hbm, ⟨51, _⟩ => ⟨S_, .f32⟩
  | .hbm, ⟨52, _⟩ => ⟨S128x1, .f32⟩
  | .hbm, ⟨53, _⟩ => ⟨S128x1x1, .f32⟩
  | .hbm, ⟨54, _⟩ => ⟨S_, .f32⟩
  | .hbm, ⟨55, _⟩ => ⟨S128x1x1, .f32⟩
  | .hbm, ⟨56, _⟩ => ⟨S128x1x1, .f32⟩
  | .hbm, ⟨57, _⟩ => ⟨S_, .f32⟩
  | .hbm, ⟨58, _⟩ => ⟨S128x1x1, .f32⟩
  | .hbm, ⟨59, _⟩ => ⟨S128x1x1, .f32⟩
  | .hbm, ⟨60, _⟩ => ⟨S128x1x1, .f32⟩
  | .hbm, ⟨61, _⟩ => ⟨S128x1x256, .f32⟩
  | .hbm, ⟨62, _⟩ => ⟨S128x1x256, .f32⟩
  | .hbm, ⟨63, _⟩ => ⟨S1x1x256, .f32⟩
  | .hbm, ⟨64, _⟩ => ⟨S128x1x256, .f32⟩
  | .hbm, ⟨65, _⟩ => ⟨S128x1x256, .f32⟩
  | .hbm, ⟨66, _⟩ => ⟨S_, .f32⟩
  | .hbm, ⟨67, _⟩ => ⟨S128x1x64, .f32⟩
  | .hbm, ⟨68, _⟩ => ⟨S_, .f32⟩
  | .hbm, ⟨69, _⟩ => ⟨S128x1x32, .f32⟩
  | .hbm, ⟨70, _⟩ => ⟨S128x1x128, .f32⟩
  | .hbm, ⟨71, _⟩ => ⟨S1x128x256, .f32⟩
  | .hbm, ⟨72, _⟩ => ⟨S1x128x128, .f32⟩
  | .hbm, ⟨73, _⟩ => ⟨S1x128x512, .f32⟩
  | .hbm, ⟨74, _⟩ => ⟨S1x128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel5.lean ====
abbrev S128x512 : Shape := ⟨2, ![128, 512]⟩
abbrev S128x3x512 : Shape := ⟨3, ![128, 3, 512]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S256x256 : Shape := ⟨2, ![256, 256]⟩
abbrev S256x512 : Shape := ⟨2, ![256, 512]⟩
abbrev S1x256x512 : Shape := ⟨3, ![1, 256, 512]⟩
abbrev S2x256x512 : Shape := ⟨3, ![2, 256, 512]⟩
abbrev S1x512 : Shape := ⟨2, ![1, 512]⟩
abbrev S3x128x512 : Shape := ⟨3, ![3, 128, 512]⟩
abbrev S1x128x512 : Shape := ⟨3, ![1, 128, 512]⟩
abbrev S128x256 : Shape := ⟨2, ![128, 256]⟩

abbrev nBuf : Space → Nat
  | .hbm => 55
  | .vmem => 13
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x3x512, .f32⟩
  | .hbm, ⟨3, _⟩ => ⟨S128x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x64x1x64, .f32⟩
  | .hbm, ⟨19, _⟩ => ⟨S8x1x8x1, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x64x1x64, .f32⟩
  | .hbm, ⟨32, _⟩ => ⟨S8x1x8x1, .f32⟩
  | .hbm, ⟨33, _⟩ => ⟨S8x64x8x64, .f32⟩
  | .hbm, ⟨34, _⟩ => ⟨S8x64x8x64, .f32⟩
  | .hbm, ⟨35, _⟩ => ⟨S8x64x8x64, .f32⟩
  | .hbm, ⟨36, _⟩ => ⟨S512x512, .f32⟩
  | .hbm, ⟨37, _⟩ => ⟨S256x256, .f32⟩
  | .hbm, ⟨38, _⟩ => ⟨S256x256, .f32⟩
  | .hbm, ⟨39, _⟩ => ⟨S256x512, .f32⟩
  | .hbm, ⟨40, _⟩ => ⟨S256x256, .f32⟩
  | .hbm, ⟨41, _⟩ => ⟨S256x256, .f32⟩
  | .hbm, ⟨42, _⟩ => ⟨S256x512, .f32⟩
  | .hbm, ⟨43, _⟩ => ⟨S1x256x512, .f32⟩
  | .hbm, ⟨44, _⟩ => ⟨S1x256x512, .f32⟩
  | .hbm, ⟨45, _⟩ => ⟨S2x256x512, .f32⟩
  | .hbm, ⟨46, _⟩ => ⟨S2x256x512, .bf16⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S3x128x512, .f32⟩
  | .hbm, ⟨52, _⟩ => ⟨S128x512, .f32⟩
  | .hbm, ⟨53, _⟩ => ⟨S3x128x512, .f32⟩
  | .hbm, ⟨54, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S3x128x512, .f32⟩
  | .local _ .vmem, ⟨3, _⟩ => ⟨S128x512, .f32⟩
  | .local _ .vmem, ⟨4, _⟩ => ⟨S4x512, .f32⟩
  | .local _ .vmem, ⟨5, _⟩ => ⟨S1x512, .f32⟩
  | .local _ .vmem, ⟨6, _⟩ => ⟨S2x256x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S3x128x512, .f32⟩
  | .local _ .vmem, ⟨12, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference5Ideal.lean ====
abbrev S128x512 : Shape := ⟨2, ![128, 512]⟩
abbrev S128x3x512 : Shape := ⟨3, ![128, 3, 512]⟩
abbrev S4x512 : Shape := ⟨2, ![4, 512]⟩
abbrev S512 : Shape := ⟨1, ![512]⟩
abbrev S8x64x64 : Shape := ⟨3, ![8, 64, 64]⟩
abbrev S128x1x512 : Shape := ⟨3, ![128, 1, 512]⟩
abbrev S128x4x512 : Shape := ⟨3, ![128, 4, 512]⟩
abbrev S1x512 : Shape := ⟨2, ![1, 512]⟩
abbrev S1x1x512 : Shape := ⟨3, ![1, 1, 512]⟩
abbrev S_ : Shape := ⟨0, ![]⟩
abbrev S128x1x8x64 : Shape := ⟨4, ![128, 1, 8, 64]⟩
abbrev S8x64x128x1 : Shape := ⟨4, ![8, 64, 128, 1]⟩
abbrev S3x128x512 : Shape := ⟨3, ![3, 128, 512]⟩

abbrev nBuf : Space → Nat
  | .hbm => 132
  | .vmem => 0
  | .smem => 0
  | _ => 0

abbrev hbmTy0_0 (i : Nat) : BufTy := match i % 128 with
  | 0 => ⟨S128x512, .f32⟩
  | 1 => ⟨S128x512, .f32⟩
  | 2 => ⟨S128x3x512, .f32⟩
  | 3 => ⟨S128x512, .f32⟩
  | 4 => ⟨S4x512, .f32⟩
  | 5 => ⟨S512, .f32⟩
  | 6 => ⟨S8x64x64, .f32⟩
  | 7 => ⟨S512, .f32⟩
  | 8 => ⟨S8x64x64, .f32⟩
  | 9 => ⟨S512, .f32⟩
  | 10 => ⟨S512, .f32⟩
  | 11 => ⟨S128x1x512, .f32⟩
  | 12 => ⟨S128x1x512, .f32⟩
  | 13 => ⟨S128x4x512, .f32⟩
  | 14 => ⟨S128x1x512, .f32⟩
  | 15 => ⟨S1x512, .f32⟩
  | 16 => ⟨S512, .f32⟩
  | 17 => ⟨S1x1x512, .f32⟩
  | 18 => ⟨S128x1x512, .f32⟩
  | 19 => ⟨S128x1x512, .f32⟩
  | 20 => ⟨S_, .f32⟩
  | 21 => ⟨S128x1x512, .f32⟩
  | 22 => ⟨S128x1x512, .f32⟩
  | 23 => ⟨S128x1x512, .f32⟩
  | 24 => ⟨S1x512, .f32⟩
  | 25 => ⟨S512, .f32⟩
  | 26 => ⟨S1x1x512, .f32⟩
  | 27 => ⟨S128x1x512, .f32⟩
  | 28 => ⟨S128x1x512, .f32⟩
  | 29 => ⟨S128x1x512, .f32⟩
  | 30 => ⟨S128x1x512, .f32⟩
  | 31 => ⟨S1x512, .f32⟩
  | 32 => ⟨S512, .f32⟩
  | 33 => ⟨S1x1x512, .f32⟩
  | 34 => ⟨S128x1x512, .f32⟩
  | 35 => ⟨S128x1x512, .f32⟩
  | 36 => ⟨S128x1x512, .f32⟩
  | 37 => ⟨S128x1x512, .f32⟩
  | 38 => ⟨S1x512, .f32⟩
  | 39 => ⟨S512, .f32⟩
  | 40 => ⟨S1x1x512, .f32⟩
  | 41 => ⟨S128x1x512, .f32⟩
  | 42 => ⟨S128x1x512, .f32⟩
  | 43 => ⟨S128x1x512, .f32⟩
  | 44 => ⟨S1x1x512, .f32⟩
  | 45 => ⟨S128x1x512, .f32⟩
  | 46 => ⟨S128x1x512, .f32⟩
  | 47 => ⟨S128x3x512, .f32⟩
  | 48 => ⟨S128x1x8x64, .f32⟩
  | 49 => ⟨S8x64x128x1, .f32⟩
  | 50 => ⟨S128x1x8x64, .f32⟩
  | 51 => ⟨S128x1x512, .f32⟩
  | 52 => ⟨S1x1x512, .f32⟩
  | 53 => ⟨S128x1x512, .f32⟩
  | 54 => ⟨S128x1x512, .f32⟩
  | 55 => ⟨S128x1x512, .f32⟩
  | 56 => ⟨S128x1x512, .f32⟩
  | 57 => ⟨S_, .f32⟩
  | 58 => ⟨S128x1x512, .f32⟩
  | 59 => ⟨S128x1x512, .f32⟩
  | 60 => ⟨S_, .f32⟩
  | 61 => ⟨S128x1x512, .f32⟩
  | 62 => ⟨S128x1x512, .f32⟩
  | 63 => ⟨S8x64x128x1, .f32⟩
  | 64 => ⟨S128x1x8x64, .f32⟩
  | 65 => ⟨S128x1x512, .f32⟩
  | 66 => ⟨S1x1x512, .f32⟩
  | 67 => ⟨S128x1x512, .f32⟩
  | 68 => ⟨S128x1x512, .f32⟩
  | 69 => ⟨S128x1x512, .f32⟩
  | 70 => ⟨S128x1x512, .f32⟩
  | 71 => ⟨S_, .f32⟩
  | 72 => ⟨S128x1x512, .f32⟩
  | 73 => ⟨S128x1x512, .f32⟩
  | 74 => ⟨S_, .f32⟩
  | 75 => ⟨S128x1x512, .f32⟩
  | 76 => ⟨S128x1x512, .f32⟩
  | 77 => ⟨S512, .f32⟩
  | 78 => ⟨S_, .f32⟩
  | 79 => ⟨S512, .f32⟩
  | 80 => ⟨S512, .f32⟩
  | 81 => ⟨S512, .f32⟩
  | 82 => ⟨S512, .f32⟩
  | 83 => ⟨S512, .i1⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S_, .f32⟩
  | 93 => ⟨S512, .f32⟩
  | 94 => ⟨S512, .f32⟩
  | 95 => ⟨S1x1x512, .f32⟩
  | 96 => ⟨S128x1x512, .f32⟩
  | 97 => ⟨S128x1x512, .f32⟩
  | 98 => ⟨S128x1x512, .f32⟩
  | 99 => ⟨S_, .f32⟩
  | 100 => ⟨S128x1x512, .f32⟩
  | 101 => ⟨S128x1x512, .f32⟩
  | 102 => ⟨S128x1x512, .f32⟩
  | 103 => ⟨S128x1x512, .f32⟩
  | 104 => ⟨S128x1x512, .f32⟩
  | 105 => ⟨S128x1x512, .f32⟩
  | 106 => ⟨S128x1x512, .f32⟩
  | 107 => ⟨S128x512, .f32⟩
  | 108 => ⟨S128x512, .f32⟩
  | 109 => ⟨S128x512, .f32⟩
  | 110 => ⟨S128x512, .f32⟩
  | 111 => ⟨S128x1x512, .f32⟩
  | 112 => ⟨S128x1x512, .f32⟩
  | 113 => ⟨S128x1x512, .f32⟩
  | 114 => ⟨S_, .f32⟩
  | 115 => ⟨S128x1x512, .f32⟩
  | 116 => ⟨S128x1x512, .f32⟩
  | 117 => ⟨S128x1x512, .f32⟩
  | 118 => ⟨S_, .f32⟩
  | 119 => ⟨S128x1x512, .f32⟩
  | 120 => ⟨S128x1x512, .f32⟩
  | 121 => ⟨S128x1x512, .f32⟩
  | 122 => ⟨S_, .f32⟩
  | 123 => ⟨S128x1x512, .f32⟩
  | 124 => ⟨S128x1x512, .f32⟩
  | 125 => ⟨S_, .f32⟩
  | 126 => ⟨S128x1x512, .f32⟩
  | 127 => ⟨S128x1x512, .f32⟩
  | _ => ⟨S128x512, .f32⟩

abbrev hbmTy0_1 (i : Nat) : BufTy := match i % 128 with
  | 0 => ⟨S128x1x512, .f32⟩
  | 1 => ⟨S128x1x512, .f32⟩
  | 2 => ⟨S128x512, .f32⟩
  | 3 => ⟨S3x128x512, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_2 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v62 : Ref sig .tc := ⟨.hbm, 91, rfl⟩
abbrev main_cst_4 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_6 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_7 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_8 : Ref sig .tc := ⟨.hbm, 122, rfl⟩
abbrev main_v89 : Ref sig .tc := ⟨.hbm, 123, rfl⟩
abbrev main_v90 : Ref sig .tc := ⟨.hbm, 124, rfl⟩
abbrev main_cst_9 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]
-- ==== Kernel6.lean ====
abbrev S128x2048 : Shape := ⟨2, ![128, 2048]⟩
abbrev S256x8x64 : Shape := ⟨3, ![256, 8, 64]⟩
abbrev S8x256x64 : Shape := ⟨3, ![8, 256, 64]⟩
abbrev S_ : Shape := ⟨0, ![]⟩
abbrev S256x64 : Shape := ⟨2, ![256, 64]⟩
abbrev S1x256x64 : Shape := ⟨3, ![1, 256, 64]⟩
abbrev S256x128 : Shape := ⟨2, ![256, 128]⟩
abbrev S512x128 : Shape := ⟨2, ![512, 128]⟩
abbrev S1x512x128 : Shape := ⟨3, ![1, 512, 128]⟩
abbrev S4x512x128 : Shape := ⟨3, ![4, 512, 128]⟩
abbrev S1x4x128x128 : Shape := ⟨4, ![1, 4, 128, 128]⟩
abbrev S128x512 : Shape := ⟨2, ![128, 512]⟩
abbrev S128x128 : Shape := ⟨2, ![128, 128]⟩
abbrev S1x1x128x128 : Shape := ⟨4, ![1, 1, 128, 128]⟩

abbrev nBuf : Space → Nat
  | .hbm => 40
  | .vmem => 3
  | .smem => 0
  | _ => 0

abbrev bufTy : (tb : Table) → Fin (tcTables nBuf tb) → BufTy
  | .hbm, ⟨0, _⟩ => ⟨S128x2048, .f32⟩
  | .hbm, ⟨1, _⟩ => ⟨S256x8x64, .f32⟩
  | .hbm, ⟨2, _⟩ => ⟨S8x256x64, .f32⟩
  | .hbm, ⟨3, _⟩ => ⟨S_, .f32⟩
  | .hbm, ⟨4, _⟩ => ⟨S256x64, .f32⟩
  | .hbm, ⟨5, _⟩ => ⟨S1x256x64, .f32⟩
  | .hbm, ⟨6, _⟩ => ⟨S256x64, .f32⟩
  | .hbm, ⟨7, _⟩ => ⟨S256x128, .f32⟩
  | .hbm, ⟨8, _⟩ => ⟨S1x256x64, .f32⟩
  | .hbm, ⟨9, _⟩ => ⟨S256x64, .f32⟩
  | .hbm, ⟨10, _⟩ => ⟨S256x128, .f32⟩
  | .hbm, ⟨11, _⟩ => ⟨S512x128, .f32⟩
  | .hbm, ⟨12, _⟩ => ⟨S1x256x64, .f32⟩
  | .hbm, ⟨13, _⟩ => ⟨S256x64, .f32⟩
  | .hbm, ⟨14, _⟩ => ⟨S256x128, .f32⟩
  | .hbm, ⟨15, _⟩ => ⟨S1x256x64, .f32⟩
  | .hbm, ⟨16, _⟩ => ⟨S256x64, .f32⟩
  | .hbm, ⟨17, _⟩ => ⟨S256x128, .f32⟩
  | .hbm, ⟨18, _⟩ => ⟨S512x128, .f32⟩
  | .hbm, ⟨19, _⟩ => ⟨S1x256x64, .f32⟩
  | .hbm, ⟨20, _⟩ => ⟨S256x64, .f32⟩
  | .hbm, ⟨21, _⟩ => ⟨S256x128, .f32⟩
  | .hbm, ⟨22, _⟩ => ⟨S1x256x64, .f32⟩
  | .hbm, ⟨23, _⟩ => ⟨S256x64, .f32⟩
  | .hbm, ⟨24, _⟩ => ⟨S256x128, .f32⟩
  | .hbm, ⟨25, _⟩ => ⟨S512x128, .f32⟩
  | .hbm, ⟨26, _⟩ => ⟨S1x256x64, .f32⟩
  | .hbm, ⟨27, _⟩ => ⟨S256x64, .f32⟩
  | .hbm, ⟨28, _⟩ => ⟨S256x128, .f32⟩
  | .hbm, ⟨29, _⟩ => ⟨S1x256x64, .f32⟩
  | .hbm, ⟨30, _⟩ => ⟨S256x64, .f32⟩
  | .hbm, ⟨31, _⟩ => ⟨S256x128, .f32⟩
  | .hbm, ⟨32, _⟩ => ⟨S512x128, .f32⟩
  | .hbm, ⟨33, _⟩ => ⟨S1x512x128, .f32⟩
  | .hbm, ⟨34, _⟩ => ⟨S1x512x128, .f32⟩
  | .hbm, ⟨35, _⟩ => ⟨S1x512x128, .f32⟩
  | .hbm, ⟨36, _⟩ => ⟨S1x512x128, .f32⟩
  | .hbm, ⟨37, _⟩ => ⟨S4x512x128, .f32⟩
  | .hbm, ⟨38, _⟩ => ⟨S4x512x128, .bf16⟩
  | .hbm, ⟨39, _⟩ => ⟨S1x4x128x128, .f32⟩
  | .local _ .vmem, ⟨0, _⟩ => ⟨S128x2048, .f32⟩
  | .local _ .vmem, ⟨1, _⟩ => ⟨S4x512x128, .bf16⟩
  | .local _ .vmem, ⟨2, _⟩ => ⟨S1x4x128x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference6Ideal.lean ====
abbrev S128x2048 : Shape := ⟨2, ![128, 2048]⟩
abbrev S256x8x64 : Shape := ⟨3, ![256, 8, 64]⟩
abbrev S128x1x8x256 : Shape := ⟨4, ![128, 1, 8, 256]⟩
abbrev S8x64x128x1 : Shape := ⟨4, ![8, 64, 128, 1]⟩
abbrev S128x1x8x64 : Shape := ⟨4, ![128, 1, 8, 64]⟩
abbrev S128x1x512 : Shape := ⟨3, ![128, 1, 512]⟩
abbrev S128x4x128 : Shape := ⟨3, ![128, 4, 128]⟩
abbrev S4x128x128 : Shape := ⟨3, ![4, 128, 128]⟩
abbrev S1x4x128x128 : Shape := ⟨4, ![1, 4, 128, 128]⟩

abbrev nBuf : Space → Nat
  | .hbm => 9
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S256x8x64, .f32⟩
  | .hbm, ⟨2, _⟩ => ⟨S128x1x8x256, .f32⟩
  | .hbm, ⟨3, _⟩ => ⟨S8x64x128x1, .f32⟩
  | .hbm, ⟨4, _⟩ => ⟨S128x1x8x64, .f32⟩
  | .hbm, ⟨5, _⟩ => ⟨S128x1x512, .f32⟩
  | .hbm, ⟨6, _⟩ => ⟨S128x4x128, .f32⟩
  | .hbm, ⟨7, _⟩ => ⟨S4x128x128, .f32⟩
  | .hbm, ⟨8, _⟩ => ⟨S1x4x128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S8x128x128 : Shape := ⟨3, ![8, 128, 128]⟩
abbrev S256x8x64 : Shape := ⟨3, ![256, 8, 64]⟩
abbrev S8x64x256 : Shape := ⟨3, ![8, 64, 256]⟩
abbrev S_ : Shape := ⟨0, ![]⟩
abbrev S8x128x256 : Shape := ⟨3, ![8, 128, 256]⟩
abbrev S128x32 : Shape := ⟨2, ![128, 32]⟩
abbrev S32 : Shape := ⟨1, ![32]⟩
abbrev S32x1 : Shape := ⟨2, ![32, 1]⟩
abbrev S32x2 : Shape := ⟨2, ![32, 2]⟩
abbrev S8x128x32 : Shape := ⟨3, ![8, 128, 32]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S1x128x32 : Shape := ⟨3, ![1, 128, 32]⟩

abbrev nBuf : Space → Nat
  | .hbm => 37
  | .vmem => 5
  | .smem => 0
  | _ => 0

abbrev bufTy : (tb : Table) → Fin (tcTables nBuf tb) → BufTy
  | .hbm, ⟨0, _⟩ => ⟨S8x128x128, .bf16⟩
  | .hbm, ⟨1, _⟩ => ⟨S256x8x64, .f32⟩
  | .hbm, ⟨2, _⟩ => ⟨S8x64x256, .f32⟩
  | .hbm, ⟨3, _⟩ => ⟨S_, .f32⟩
  | .hbm, ⟨4, _⟩ => ⟨S8x64x256, .f32⟩
  | .hbm, ⟨5, _⟩ => ⟨S8x128x256, .f32⟩
  | .hbm, ⟨6, _⟩ => ⟨S8x128x256, .bf16⟩
  | .hbm, ⟨7, _⟩ => ⟨S_, .f32⟩
  | .hbm, ⟨8, _⟩ => ⟨S128x32, .f32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S32x1, .i32⟩
  | .hbm, ⟨29, _⟩ => ⟨S32x1, .i32⟩
  | .hbm, ⟨30, _⟩ => ⟨S32x2, .i32⟩
  | .hbm, ⟨31, _⟩ => ⟨S_, .f32⟩
  | .hbm, ⟨32, _⟩ => ⟨S32, .f32⟩
  | .hbm, ⟨33, _⟩ => ⟨S128x32, .f32⟩
  | .hbm, ⟨34, _⟩ => ⟨S128x32, .bf16⟩
  | .hbm, ⟨35, _⟩ => ⟨S8x128x256, .f32⟩
  | .hbm, ⟨36, _⟩ => ⟨S8x128x32, .f32⟩
  | .local _ .vmem, ⟨0, _⟩ => ⟨S8x128x128, .bf16⟩
  | .local _ .vmem, ⟨1, _⟩ => ⟨S8x128x256, .bf16⟩
  | .local _ .vmem, ⟨2, _⟩ => ⟨S128x32, .bf16⟩
  | .local _ .vmem, ⟨3, _⟩ => ⟨S8x128x256, .f32⟩
  | .local _ .vmem, ⟨4, _⟩ => ⟨S8x128x32, .f32⟩
  | _, _ => ⟨S8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference7Ideal.lean ====
abbrev S8x128x128 : Shape := ⟨3, ![8, 128, 128]⟩
abbrev S256x8x64 : Shape := ⟨3, ![256, 8, 64]⟩
abbrev S128x8x128 : Shape := ⟨3, ![128, 8, 128]⟩
abbrev S128x1x8x128 : Shape := ⟨4, ![128, 1, 8, 128]⟩
abbrev S128x1x8x64 : Shape := ⟨4, ![128, 1, 8, 64]⟩
abbrev S128x1x8x32 : Shape := ⟨4, ![128, 1, 8, 32]⟩
abbrev S8x256x128x1 : Shape := ⟨4, ![8, 256, 128, 1]⟩
abbrev S128x1x8x256 : Shape := ⟨4, ![128, 1, 8, 256]⟩
abbrev S128x8x256 : Shape := ⟨3, ![128, 8, 256]⟩
abbrev S8x128x256 : Shape := ⟨3, ![8, 128, 256]⟩
abbrev S128x8x32 : Shape := ⟨3, ![128, 8, 32]⟩
abbrev S8x128x32 : Shape := ⟨3, ![8, 128, 32]⟩

abbrev nBuf : Space → Nat
  | .hbm => 13
  | .vmem => 0
  | .smem => 0
  | _ => 0

abbrev bufTy : (tb : Table) → Fin (tcTables nBuf tb) → BufTy
  | .hbm, ⟨0, _⟩ => ⟨S8x128x128, .bf16⟩
  | .hbm, ⟨1, _⟩ => ⟨S256x8x64, .f32⟩
  | .hbm, ⟨2, _⟩ => ⟨S8x128x128, .f32⟩
  | .hbm, ⟨3, _⟩ => ⟨S128x8x128, .f32⟩
  | .hbm, ⟨4, _⟩ => ⟨S128x1x8x128, .f32⟩
  | .hbm, ⟨5, _⟩ => ⟨S128x1x8x64, .f32⟩
  | .hbm, ⟨6, _⟩ => ⟨S128x1x8x32, .f32⟩
  | .hbm, ⟨7, _⟩ => ⟨S8x256x128x1, .f32⟩
  | .hbm, ⟨8, _⟩ => ⟨S128x1x8x256, .f32⟩
  | .hbm, ⟨9, _⟩ => ⟨S128x8x256, .f32⟩
  | .hbm, ⟨10, _⟩ => ⟨S8x128x256, .f32⟩
  | .hbm, ⟨11, _⟩ => ⟨S128x8x32, .f32⟩
  | .hbm, ⟨12, _⟩ => ⟨S8x128x32, .f32⟩
  | _, _ => ⟨S8x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.LruScalar.lean ====
module
public import Idealize.ShloMosaic.Lib.Pointwise

/-! # Scalar facts of the gated linear recurrence, over the extended reals

The decay and the input coefficient of the recurrence as the kernel and as the reference spell them, and the
doubling scan in groups of eight rows against the sequential recurrence. -/

@[expose] public section
noncomputable section
open Idealize.ShloMosaic

namespace Cert.Lru

/-! ## Sign and finiteness -/

/-- A coefficient through which a multiplication distributes: not negative and not infinite. -/
def Good (a : EReal) : Prop := 0 ≤ a ∧ a ≠ ⊤

theorem Good.exists_real {a : EReal} (h : Good a) : ∃ r : ℝ, 0 ≤ r ∧ a = (r : EReal) := by
  obtain ⟨h0, h1⟩ := h
  have hb : a ≠ ⊥ := fun e => by simp [e] at h0
  lift a to ℝ using ⟨h1, hb⟩
  exact ⟨a, by exact_mod_cast h0, rfl⟩

theorem Good.mul {a b : EReal} (ha : Good a) (hb : Good b) : Good (a * b) := by
  obtain ⟨r, hr, rfl⟩ := ha.exists_real
  obtain ⟨s, hs, rfl⟩ := hb.exists_real
  refine ⟨?_, ?_⟩
  · rw [← EReal.coe_mul]; exact_mod_cast mul_nonneg hr hs
  · rw [← EReal.coe_mul]; exact EReal.coe_ne_top _

theorem good_one : Good 1 := ⟨zero_le_one, by decide⟩

theorem Good.distrib {a : EReal} (h : Good a) (x y : EReal) : a * (x + y) = a * x + a * y :=
  EReal.left_distrib_of_nonneg_of_ne_top h.1 h.2 x y

/-- The exponential of a nonpositive number is such a coefficient. -/
theorem good_exp {x : EReal} (h : x ≤ 0) : Good (Ideal.exp x) := by
  induction x using EReal.rec with
  | bot => exact ⟨le_refl _, by decide⟩
  | coe r => exact ⟨by show (0 : EReal) ≤ ((Real.exp r : ℝ) : EReal); exact_mod_cast (Real.exp_pos r).le, EReal.coe_ne_top _⟩
  | top => exact absurd h (by decide)

theorem exp_nonneg (x : EReal) : 0 ≤ Ideal.exp x := by
  induction x using EReal.rec with
  | bot => exact le_refl _
  | coe r => show (0 : EReal) ≤ ((Real.exp r : ℝ) : EReal); exact_mod_cast (Real.exp_pos r).le
  | top => exact le_top

/-- The logistic function takes no negative values. -/
theorem logistic_nonneg (x : EReal) : 0 ≤ Ideal.div 1 (1 + Ideal.exp (-x)) := by
  have h1 : (1 : EReal) ≤ 1 + Ideal.exp (-x) := le_add_of_nonneg_right (exp_nonneg _)
  have h0 : (0 : EReal) < 1 + Ideal.exp (-x) := lt_of_lt_of_le zero_lt_one h1
  unfold Ideal.div
  rw [if_neg h0.ne', one_mul]
  exact EReal.inv_nonneg_of_nonneg h0.le

/-- The logarithm of one plus a nonnegative number is not negative. -/
theorem log1p_nonneg {e : EReal} (h : 0 ≤ e) : 0 ≤ Ideal.log1p e := by
  induction e using EReal.rec with
  | bot => simp at h
  | top =>
    have : (1 : EReal) + ⊤ = ⊤ := by decide
    unfold Ideal.log1p
    rw [this]
    exact le_top
  | coe r =>
    have hr : (0 : ℝ) ≤ r := by exact_mod_cast h
    have : (1 : EReal) + (r : EReal) = ((1 + r : ℝ) : EReal) := by rw [EReal.coe_add, EReal.coe_one]
    unfold Ideal.log1p
    rw [this]
    show (0 : EReal) ≤ if 1 + r ≤ 0 then ⊥ else ((Real.log (1 + r) : ℝ) : EReal)
    rw [if_neg (by linarith)]
    exact_mod_cast Real.log_nonneg (by linarith)

/-- The softplus function of a number, its absolute value written as a maximum. -/
def softplus (x : EReal) : EReal := max x 0 + Ideal.log1p (Ideal.exp (-max x (-x)))

theorem softplus_nonneg (x : EReal) : 0 ≤ softplus x :=
  add_nonneg (le_max_right _ _) (log1p_nonneg (exp_nonneg _))

/-- A nonpositive multiple of a product of nonnegative numbers is not positive. -/
theorem mul_nonpos_of (c : ℝ) (hc : c ≤ 0) {s l : EReal} (hs : 0 ≤ s) (hl : 0 ≤ l) : (c : EReal) * s * l ≤ 0 := by
  have h : (c : EReal) = -((-c : ℝ) : EReal) := by rw [EReal.coe_neg, neg_neg]
  rw [h, EReal.neg_mul, EReal.neg_mul]
  refine EReal.neg_le.1 ?_
  rw [neg_zero]
  exact EReal.mul_nonneg (EReal.mul_nonneg (by exact_mod_cast neg_nonneg.2 hc) hs) hl

/-! ## The input coefficient -/

/-- The input coefficient as the kernel spells it, by the hyperbolic tangent of the logarithm of the decay and the
decay itself, is the reference's, by the exponential of its double less one. -/
theorem coef_eq (la : EReal) :
    Ideal.sqrt ((0 - Ideal.tanh la) * (Ideal.exp la * Ideal.exp la + 1)) = Ideal.sqrt (-(Ideal.exp (2 * la) - 1)) := by
  induction la using EReal.rec with
  | bot =>
    have h : (2 : EReal) * ⊥ = ⊥ := EReal.mul_bot_of_pos (by norm_num)
    rw [h]
    show Ideal.sqrt ((0 - (-1)) * (0 * 0 + 1)) = Ideal.sqrt (-(0 - 1))
    norm_num
  | top =>
    have h : (2 : EReal) * ⊤ = ⊤ := EReal.mul_top_of_pos (by norm_num)
    rw [h]
    show Ideal.sqrt ((0 - 1) * (⊤ * ⊤ + 1)) = Ideal.sqrt (-(⊤ - 1))
    have h1 : (⊤ : EReal) * ⊤ + 1 = ⊤ := by rw [EReal.top_mul_top]; decide
    have h2 : (⊤ : EReal) - 1 = ⊤ := by decide
    have h3 : (0 : EReal) - 1 = ((-1 : ℝ) : EReal) := by norm_num
    rw [h1, h2, h3, EReal.coe_mul_top_of_neg (by norm_num)]
    rfl
  | coe r =>
    have h2 : (2 : EReal) * (r : EReal) = ((2 * r : ℝ) : EReal) := by
      rw [EReal.coe_mul]; rfl
    rw [h2]
    show Ideal.sqrt ((0 - ((Real.tanh r : ℝ) : EReal)) * (((Real.exp r : ℝ) : EReal) * ((Real.exp r : ℝ) : EReal) + 1))
      = Ideal.sqrt (-(((Real.exp (2 * r) : ℝ) : EReal) - 1))
    have e1 : (0 - ((Real.tanh r : ℝ) : EReal)) * (((Real.exp r : ℝ) : EReal) * ((Real.exp r : ℝ) : EReal) + 1)
        = (((0 - Real.tanh r) * (Real.exp r * Real.exp r + 1) : ℝ) : EReal) := by push_cast; rfl
    have e2 : -(((Real.exp (2 * r) : ℝ) : EReal) - 1) = ((-(Real.exp (2 * r) - 1) : ℝ) : EReal) := by push_cast; rfl
    rw [e1, e2]
    congr 2
    rw [Real.tanh_eq_sinh_div_cosh, Real.sinh_eq, Real.cosh_eq, two_mul, Real.exp_add, Real.exp_neg]
    have hp := Real.exp_pos r
    field_simp
    ring

/-! ## The scan -/

/-- One doubling of the scan in groups of eight: if row `p` maps the state `min (p % 8 + 1) d` steps back to the state
after row `p`, the row composed with row `p - d` of its group maps the state `min (p % 8 + 1) (2 * d)` steps back. -/
theorem level (d : ℕ) (hd : 0 < d) (h A U : ℕ → EReal) (hA : ∀ p, Good (A p))
    (H : ∀ p, A p * h (p + 1 - min (p % 8 + 1) d) + U p = h (p + 1)) (p : ℕ) :
    (A p * (if d ≤ p % 8 then A (p - d) else 1)) * h (p + 1 - min (p % 8 + 1) (2 * d))
      + (U p + A p * (if d ≤ p % 8 then U (p - d) else 0)) = h (p + 1) := by
  by_cases hp : d ≤ p % 8
  · rw [if_pos hp, if_pos hp]
    have h1 := H p
    have h2 := H (p - d)
    have e1 : p + 1 - min (p % 8 + 1) d = p - d + 1 := by omega
    have e2 : p - d + 1 - min ((p - d) % 8 + 1) d = p + 1 - min (p % 8 + 1) (2 * d) := by omega
    rw [e1, ← h2, e2, (hA p).distrib] at h1
    rw [← h1, mul_assoc, add_comm (U p), add_assoc]
  · rw [if_neg hp, if_neg hp, mul_one, mul_zero, add_zero]
    have e : p + 1 - min (p % 8 + 1) (2 * d) = p + 1 - min (p % 8 + 1) d := by omega
    rw [e]
    exact H p

/-- The product column of one doubling. -/
def lvA (d : ℕ) (A : ℕ → EReal) (q : ℕ) : EReal := A q * (if d ≤ q % 8 then A (q - d) else 1)

/-- The sum column of one doubling. -/
def lvU (d : ℕ) (A U : ℕ → EReal) (q : ℕ) : EReal := U q + A q * (if d ≤ q % 8 then U (q - d) else 0)

theorem good_lvA (d : ℕ) {A : ℕ → EReal} (hA : ∀ p, Good (A p)) (p : ℕ) : Good (lvA d A p) := by
  unfold lvA
  split
  · exact (hA _).mul (hA _)
  · exact (hA _).mul good_one

/-- The three doublings of the recurrence `h (p + 1) = a p * h p + u p`: row `p` maps the state its group of eight
starts from to the state after row `p`. -/
theorem scan8 (h a u : ℕ → EReal) (ha : ∀ p, Good (a p)) (hh : ∀ p, h (p + 1) = a p * h p + u p) (p : ℕ) :
    lvA 4 (lvA 2 (lvA 1 a)) p * h (8 * (p / 8)) + lvU 4 (lvA 2 (lvA 1 a)) (lvU 2 (lvA 1 a) (lvU 1 a u)) p
      = h (p + 1) := by
  have h1 := level 1 (by norm_num) h a u ha (fun p => by
    rw [show p + 1 - min (p % 8 + 1) 1 = p by omega]; exact (hh p).symm)
  have h2 := level 2 (by norm_num) h _ _ (good_lvA 1 ha) h1
  have h3 := level 4 (by norm_num) h _ _ (good_lvA 2 (good_lvA 1 ha)) h2 p
  rw [show p + 1 - min (p % 8 + 1) (2 * 4) = 8 * (p / 8) by omega] at h3
  exact h3

end Cert.Lru
end
-- ==== Proof.LruScan.lean ====
module
public import proofs.«01_k».proof.Proof.Gen.KernelIdeal.Value
public import proofs.«01_k».proof.Proof.LruScalar

/-! # The scan of one tile

The kernel's doubling scan of a 256-row tile and its 32 groups of eight rows, read at an index. -/

@[expose] public section
set_option maxRecDepth 16384
noncomputable section
open Idealize.ShloMosaic Idealize.ShloMosaic.TcCoe Idealize.SL.Sem

namespace Cert.KernelIdeal.Lru
open Cert.KernelIdeal Cert.KernelIdeal.Gen Cert.Lru

/-- The row index within its group of eight. -/
theorem pay16_apply (p : Fin 256) (j : Fin 512) : k0_pay16 (ix2 p j) = BitVec.ofNat 32 (p.val % 8) := by
  pointwise [k0_pay16]
  revert p
  decide +kernel

theorem sel1 : ∀ p : Fin 256, IntOp.cmpi .sge (BitVec.ofNat 32 (p.val % 8)) 1#32 = if 1 ≤ p.val % 8 then 1#1 else 0#1 := by
  decide +kernel
theorem sel2 : ∀ p : Fin 256, IntOp.cmpi .sge (BitVec.ofNat 32 (p.val % 8)) 2#32 = if 2 ≤ p.val % 8 then 1#1 else 0#1 := by
  decide +kernel
theorem sel4 : ∀ p : Fin 256, IntOp.cmpi .sge (BitVec.ofNat 32 (p.val % 8)) 4#32 = if 4 ≤ p.val % 8 then 1#1 else 0#1 := by
  decide +kernel

theorem select_ite {α : Type} (P : Prop) [Decidable P] (x y : α) :
    Scalar.select (if P then 1#1 else 0#1) x y = if P then x else y := by
  by_cases h : P <;> simp [h, Scalar.select]

/-- A column rotated down by `d` rows and masked to the rows whose group has `d` rows before them. -/
theorem rot_apply (d : ℕ) (hd : 1 ≤ d) (V : FVec Ideal S256x512 .f32) (A : ℕ → EReal) (j : Fin 512)
    (hV : ∀ p : Fin 256, V (ix2 p j) = A p.val) (p q : Fin 256) (y : EReal) (hq : q.val = (p.val + 256 - d) % 256) :
    (if d ≤ p.val % 8 then V (ix2 q j) else y) = if d ≤ p.val % 8 then A (p.val - d) else y := by
  by_cases h : d ≤ p.val % 8
  · rw [if_pos h, if_pos h, hV]
    congr 1
    have := p.isLt
    omega
  · rw [if_neg h, if_neg h]

section
variable (V : FVec Ideal S256x512 .f32) (A : ℕ → EReal) (j : Fin 512) (hV : ∀ p : Fin 256, V (ix2 p j) = A p.val)
include hV

theorem rotsel1 (y : Ideal .f32) (p : Fin 256) :
    select k0_pay17 (dynamicRotate 0 1#32 none V rotates_S256x512_d0) (broadcast S256x512 y) (ix2 p j)
      = if 1 ≤ p.val % 8 then A (p.val - 1) else y := by
  unfold k0_pay17
  pointwise
  rw [pay16_apply, sel1, select_ite]
  exact rot_apply 1 (by norm_num) V A j hV p _ y rfl

theorem rotsel2 (y : Ideal .f32) (p : Fin 256) :
    select k0_pay20 (dynamicRotate 0 2#32 none V rotates_S256x512_d0) (broadcast S256x512 y) (ix2 p j)
      = if 2 ≤ p.val % 8 then A (p.val - 2) else y := by
  unfold k0_pay20
  pointwise
  rw [pay16_apply, sel2, select_ite]
  exact rot_apply 2 (by norm_num) V A j hV p _ y rfl

theorem rotsel4 (y : Ideal .f32) (p : Fin 256) :
    select (k0_pay22 k0_pay16) (dynamicRotate 0 4#32 none V rotates_S256x512_d0) (broadcast S256x512 y) (ix2 p j)
      = if 4 ≤ p.val % 8 then A (p.val - 4) else y := by
  unfold k0_pay22
  pointwise
  rw [pay16_apply, sel4, select_ite]
  exact rot_apply 4 (by norm_num) V A j hV p _ y rfl

end

/-- The two masked-off values. -/
theorem one_word : (Scalar.ofBits .f32 0x3F800000#32 : Ideal .f32) = (1 : EReal) := by
  have h : (broadcast S1x512 (Scalar.ofBits .f32 0x3F800000#32 : Ideal .f32)) (ix2 0 0) = (1 : EReal) := by pointwise
  exact h
theorem zero_word : (Scalar.ofBits .f32 0x00000000#32 : Ideal .f32) = (0 : EReal) := by
  have h : (broadcast S1x512 (Scalar.ofBits .f32 0x00000000#32 : Ideal .f32)) (ix2 0 0) = (0 : EReal) := by pointwise
  exact h

section
variable (v58 : FVec Ideal S256x512 .f32) (v71 : FVec Ideal S1x512 .f32) (c8 : Ideal .f32) (a : ℕ → EReal) (j : Fin 512)
  (ha : ∀ p : Fin 256, k0_pay15 v58 v71 c8 (ix2 p j) = a p.val)
include ha

theorem pay19_apply (p : Fin 256) : k0_pay19 v58 v71 c8 (ix2 p j) = lvA 1 a p.val := by
  show k0_pay15 v58 v71 c8 (ix2 p j) * select k0_pay17 (dynamicRotate 0 1#32 none _ rotates_S256x512_d0) (broadcast S256x512 _) (ix2 p j) = _
  rw [rotsel1 _ a j ha, ha, one_word]
  rfl

omit ha in
/-- The kernel's input column. -/
def uvec (v29 v58 v61 : FVec Ideal S256x512 .f32) (v71 : FVec Ideal S1x512 .f32) (c8 : Ideal .f32) : FVec Ideal S256x512 .f32 :=
  mulf (sqrt (mulf (subf (broadcast S256x512 (Scalar.ofBits .f32 0x00000000#32)) (tanh (k0_pay14 v58 v71 c8)))
    (addf (mulf (k0_pay15 v58 v71 c8) (k0_pay15 v58 v71 c8)) (broadcast S256x512 (Scalar.ofBits .f32 0x3F800000#32))))) (mulf v61 v29)

theorem pay18_apply (v29 v61 : FVec Ideal S256x512 .f32) (u : ℕ → EReal)
    (hu : ∀ p : Fin 256, uvec v29 v58 v61 v71 c8 (ix2 p j) = u p.val) (p : Fin 256) :
    k0_pay18 v29 v58 v61 v71 c8 (ix2 p j) = lvU 1 a u p.val := by
  show uvec v29 v58 v61 v71 c8 (ix2 p j) + k0_pay15 v58 v71 c8 (ix2 p j) * select k0_pay17 (dynamicRotate 0 1#32 none
    (uvec v29 v58 v61 v71 c8) rotates_S256x512_d0) (broadcast S256x512 _) (ix2 p j) = _
  rw [rotsel1 _ u j hu, hu, ha, zero_word]
  rfl

end

section
variable (j : Fin 512) (A U : FVec Ideal S256x512 .f32) (fA fU : ℕ → EReal)
  (hA : ∀ p : Fin 256, A (ix2 p j) = fA p.val) (hU : ∀ p : Fin 256, U (ix2 p j) = fU p.val)
include hA

theorem pay21_apply (p : Fin 256) : k0_pay21 A k0_pay20 2#32 (ix2 p j) = lvA 2 fA p.val := by
  show A (ix2 p j) * select k0_pay20 (dynamicRotate 0 2#32 none A rotates_S256x512_d0) (broadcast S256x512 _) (ix2 p j) = _
  rw [rotsel2 _ fA j hA, hA, one_word]
  rfl

theorem pay24_apply (p : Fin 256) : k0_pay24 k0_pay16 A k0_pay20 2#32 (ix2 p j) = lvA 4 (lvA 2 fA) p.val := by
  have h21 := pay21_apply j A fA hA
  show k0_pay21 A k0_pay20 2#32 (ix2 p j) * select (k0_pay22 k0_pay16) (dynamicRotate 0 4#32 none
    (k0_pay21 A k0_pay20 2#32) rotates_S256x512_d0) (broadcast S256x512 _) (ix2 p j) = _
  rw [rotsel4 _ _ j h21, h21, one_word]
  rfl

include hU in
theorem pay23_apply (p : Fin 256) :
    k0_pay23 k0_pay16 U A k0_pay20 2#32 (ix2 p j) = lvU 4 (lvA 2 fA) (lvU 2 fA fU) p.val := by
  have h21 := pay21_apply j A fA hA
  have h124 : ∀ p : Fin 256, addf U (mulf A (select k0_pay20 (dynamicRotate 0 2#32 none U rotates_S256x512_d0)
      (broadcast S256x512 (Scalar.ofBits .f32 0x00000000#32)))) (ix2 p j) = lvU 2 fA fU p.val := by
    intro p
    show U (ix2 p j) + A (ix2 p j) * select k0_pay20 (dynamicRotate 0 2#32 none U rotates_S256x512_d0) (broadcast S256x512 _) (ix2 p j) = _
    rw [rotsel2 _ fU j hU, hU, hA, zero_word]
    rfl
  show addf U (mulf A (select k0_pay20 (dynamicRotate 0 2#32 none U rotates_S256x512_d0)
      (broadcast S256x512 (Scalar.ofBits .f32 0x00000000#32)))) (ix2 p j) + k0_pay21 A k0_pay20 2#32 (ix2 p j)
      * select (k0_pay22 k0_pay16) (dynamicRotate 0 4#32 none (addf U (mulf A (select k0_pay20
          (dynamicRotate 0 2#32 none U rotates_S256x512_d0) (broadcast S256x512 (Scalar.ofBits .f32 0x00000000#32)))))
          rotates_S256x512_d0) (broadcast S256x512 _) (ix2 p j) = _
  rw [rotsel4 _ _ j h124, h124, h21, zero_word]
  rfl

end

/-! ## The groups of eight rows -/

/-- One group: eight rows of the composed maps applied to one state row. -/
def piece (A U : FVec Ideal S256x512 .f32) (o : ℕ) (hs : S256x512.Slices ![o, 0] S8x512) (carry : FVec Ideal S1x512 .f32) :
    FVec Ideal S8x512 .f32 :=
  addf (mulf (extractStridedSlice S8x512 ![o, 0] A hs) (broadcastTo S8x512 carry broadcasts_S1x512_S8x512))
    (extractStridedSlice S8x512 ![o, 0] U hs)

/-- The last row of a group. -/
def lastRow (v : FVec Ideal S8x512 .f32) : FVec Ideal S1x512 .f32 := extractStridedSlice S1x512 ![7, 0] v slices_S8x512_o7_0_S1x512

theorem lastRow_apply (v : FVec Ideal S8x512 .f32) (j : Fin 512) : lastRow v (ix2 0 j) = v (ix2 7 j) := by
  unfold lastRow
  pointwise

section
variable (A U : FVec Ideal S256x512 .f32) (j : Fin 512) (h : ℕ → EReal)
  (hs : ∀ p : Fin 256, A (ix2 p j) * h (8 * (p.val / 8)) + U (ix2 p j) = h (p.val + 1))
include hs

theorem piece_apply (k : ℕ) (hk : k < 32) (hsl : S256x512.Slices ![8 * k, 0] S8x512) (carry : FVec Ideal S1x512 .f32)
    (hc : carry (ix2 0 j) = h (8 * k)) (r : Fin 8) : piece A U (8 * k) hsl carry (ix2 r j) = h (8 * k + r.val + 1) := by
  have hr := r.isLt
  have e : ∀ V : FVec Ideal S256x512 .f32, extractStridedSlice S8x512 ![8 * k, 0] V hsl (ix2 r j) = V (ix2 ⟨8 * k + r.val, by omega⟩ j) :=
    fun V => extractStridedSlice_apply _ _ _ _ _ fun a => by
      match a with
      | ⟨0, _⟩ => rfl
      | ⟨1, _⟩ => exact (Nat.zero_add _).symm
  have hb : broadcastTo S8x512 carry broadcasts_S1x512_S8x512 (ix2 r j) = carry (ix2 0 j) := by pointwise
  show extractStridedSlice S8x512 ![8 * k, 0] A hsl (ix2 r j) * broadcastTo S8x512 carry broadcasts_S1x512_S8x512 (ix2 r j)
    + extractStridedSlice S8x512 ![8 * k, 0] U hsl (ix2 r j) = _
  rw [e, e, hb, hc]
  have := hs ⟨8 * k + r.val, by omega⟩
  rw [show 8 * ((⟨8 * k + r.val, by omega⟩ : Fin 256).val / 8) = 8 * k by show 8 * ((8 * k + r.val) / 8) = _; omega] at this
  exact this

theorem last_apply (k : ℕ) (hk : k < 32) (hsl : S256x512.Slices ![8 * k, 0] S8x512) (carry : FVec Ideal S1x512 .f32)
    (hc : carry (ix2 0 j) = h (8 * k)) : lastRow (piece A U (8 * k) hsl carry) (ix2 0 j) = h (8 * (k + 1)) := by
  rw [lastRow_apply, piece_apply A U j h hs k hk hsl carry hc]
  rfl

end

end Cert.KernelIdeal.Lru
end
-- ==== Proof.LruRows.lean ====
module
public import proofs.«01_k».proof.Proof.LruScan

/-! # The rows of one tile

The 32 groups of one tile in turn, each starting from the last row of the one before, and their concatenation. -/

@[expose] public section
set_option maxRecDepth 16384
noncomputable section
open Idealize.ShloMosaic Idealize.ShloMosaic.TcCoe Idealize.SL.Sem

namespace Cert.KernelIdeal.Lru
open Cert.KernelIdeal Cert.KernelIdeal.Gen Cert.Lru

/-- The sum column after the three doublings. -/
def tU (v113 v114 : FVec Ideal S256x512 .f32) : FVec Ideal S256x512 .f32 := k0_pay23 k0_pay16 v113 v114 k0_pay20 2#32
/-- The product column after the three doublings. -/
def tA (v114 : FVec Ideal S256x512 .f32) : FVec Ideal S256x512 .f32 := k0_pay24 k0_pay16 v114 k0_pay20 2#32
/-- The fifth, fifteenth and twenty-fifth group. -/
def g29 (v113 v114 : FVec Ideal S256x512 .f32) (v137 : FVec Ideal S1x512 .f32) : FVec Ideal S8x512 .f32 :=
  k0_pay29 k0_pay16 v113 v114 k0_pay20 2#32 v137
@[inherit_doc g29] def g39 (v113 v114 : FVec Ideal S256x512 .f32) (v137 : FVec Ideal S1x512 .f32) : FVec Ideal S8x512 .f32 :=
  k0_pay39 (tU v113 v114) (tA v114) (g29 v113 v114 v137)
@[inherit_doc g29] def g49 (v113 v114 : FVec Ideal S256x512 .f32) (v137 : FVec Ideal S1x512 .f32) : FVec Ideal S8x512 .f32 :=
  k0_pay49 (tU v113 v114) (tA v114) (g39 v113 v114 v137)

/-- The groups in order. -/
def groups (v113 v114 : FVec Ideal S256x512 .f32) (v137 : FVec Ideal S1x512 .f32) : Fin 32 → FVec Ideal S8x512 .f32 :=
  ![k0_pay25 k0_pay16 v113 v114 k0_pay20 2#32 v137,
    k0_pay26 k0_pay16 v113 v114 k0_pay20 2#32 v137,
    k0_pay27 k0_pay16 v113 v114 k0_pay20 2#32 v137,
    k0_pay28 k0_pay16 v113 v114 k0_pay20 2#32 v137,
    k0_pay29 k0_pay16 v113 v114 k0_pay20 2#32 v137,
    k0_pay30 (tU v113 v114) (tA v114) (g29 v113 v114 v137),
    k0_pay31 (tU v113 v114) (tA v114) (g29 v113 v114 v137),
    k0_pay32 (tU v113 v114) (tA v114) (g29 v113 v114 v137),
    k0_pay33 (tU v113 v114) (tA v114) (g29 v113 v114 v137),
    k0_pay34 (tU v113 v114) (tA v114) (g29 v113 v114 v137),
    k0_pay35 (tU v113 v114) (tA v114) (g29 v113 v114 v137),
    k0_pay36 (tU v113 v114) (tA v114) (g29 v113 v114 v137),
    k0_pay37 (tU v113 v114) (tA v114) (g29 v113 v114 v137),
    k0_pay38 (tU v113 v114) (tA v114) (g29 v113 v114 v137),
    k0_pay39 (tU v113 v114) (tA v114) (g29 v113 v114 v137),
    k0_pay40 (tU v113 v114) (tA v114) (g39 v113 v114 v137),
    k0_pay41 (tU v113 v114) (tA v114) (g39 v113 v114 v137),
    k0_pay42 (tU v113 v114) (tA v114) (g39 v113 v114 v137),
    k0_pay43 (tU v113 v114) (tA v114) (g39 v113 v114 v137),
    k0_pay44 (tU v113 v114) (tA v114) (g39 v113 v114 v137),
    k0_pay45 (tU v113 v114) (tA v114) (g39 v113 v114 v137),
    k0_pay46 (tU v113 v114) (tA v114) (g39 v113 v114 v137),
    k0_pay47 (tU v113 v114) (tA v114) (g39 v113 v114 v137),
    k0_pay48 (tU v113 v114) (tA v114) (g39 v113 v114 v137),
    k0_pay49 (tU v113 v114) (tA v114) (g39 v113 v114 v137),
    k0_pay50 (tU v113 v114) (tA v114) (g49 v113 v114 v137),
    k0_pay51 (tU v113 v114) (tA v114) (g49 v113 v114 v137),
    k0_pay52 (tU v113 v114) (tA v114) (g49 v113 v114 v137),
    k0_pay53 (tU v113 v114) (tA v114) (g49 v113 v114 v137),
    k0_pay54 (tU v113 v114) (tA v114) (g49 v113 v114 v137),
    k0_pay55 (tU v113 v114) (tA v114) (g49 v113 v114 v137),
    k0_pay56 (tU v113 v114) (tA v114) (g49 v113 v114 v137)]

/-- The tile's rows. -/
def rows (v113 v114 : FVec Ideal S256x512 .f32) (v137 : FVec Ideal S1x512 .f32) : FVec Ideal S256x512 .f32 :=
  k0_pay58 (tU v113 v114) (tA v114) (k0_pay25 k0_pay16 v113 v114 k0_pay20 2#32 v137) (k0_pay26 k0_pay16 v113 v114 k0_pay20 2#32 v137) (k0_pay27 k0_pay16 v113 v114 k0_pay20 2#32 v137) (k0_pay28 k0_pay16 v113 v114 k0_pay20 2#32 v137) (k0_pay29 k0_pay16 v113 v114 k0_pay20 2#32 v137) (k0_pay30 (tU v113 v114) (tA v114) (g29 v113 v114 v137)) (k0_pay31 (tU v113 v114) (tA v114) (g29 v113 v114 v137)) (k0_pay32 (tU v113 v114) (tA v114) (g29 v113 v114 v137)) (k0_pay33 (tU v113 v114) (tA v114) (g29 v113 v114 v137)) (k0_pay34 (tU v113 v114) (tA v114) (g29 v113 v114 v137)) (k0_pay35 (tU v113 v114) (tA v114) (g29 v113 v114 v137)) (k0_pay36 (tU v113 v114) (tA v114) (g29 v113 v114 v137)) (k0_pay37 (tU v113 v114) (tA v114) (g29 v113 v114 v137)) (k0_pay38 (tU v113 v114) (tA v114) (g29 v113 v114 v137)) (k0_pay39 (tU v113 v114) (tA v114) (g29 v113 v114 v137)) (k0_pay40 (tU v113 v114) (tA v114) (g39 v113 v114 v137)) (k0_pay41 (tU v113 v114) (tA v114) (g39 v113 v114 v137)) (k0_pay42 (tU v113 v114) (tA v114) (g39 v113 v114 v137)) (k0_pay43 (tU v113 v114) (tA v114) (g39 v113 v114 v137)) (k0_pay44 (tU v113 v114) (tA v114) (g39 v113 v114 v137)) (k0_pay45 (tU v113 v114) (tA v114) (g39 v113 v114 v137)) (k0_pay46 (tU v113 v114) (tA v114) (g39 v113 v114 v137)) (k0_pay47 (tU v113 v114) (tA v114) (g39 v113 v114 v137)) (k0_pay48 (tU v113 v114) (tA v114) (g39 v113 v114 v137)) (k0_pay49 (tU v113 v114) (tA v114) (g39 v113 v114 v137))

section
variable (v113 v114 : FVec Ideal S256x512 .f32) (v137 : FVec Ideal S1x512 .f32) (j : Fin 512) (h : ℕ → EReal)
  (hs : ∀ p : Fin 256, tA v114 (ix2 p j) * h (8 * (p.val / 8)) + tU v113 v114 (ix2 p j) = h (p.val + 1))
  (hc : v137 (ix2 0 j) = h 0)

theorem rows_eq : rows v113 v114 v137 = concatenate S256x512 0
    (List.ofFn fun n : Fin 32 => (⟨S8x512, groups v113 v114 v137 n⟩ : (s : Shape) × (s.Idx → EReal)))
    concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 := rfl

include hs hc in
/-- Row `r` of group `k` is the state after row `8 k + r`. -/
theorem groups_apply (k : Fin 32) (r : Fin 8) : groups v113 v114 v137 k (ix2 r j) = h (8 * k.val + r.val + 1) := by
  have p0 : ∀ r, (k0_pay25 k0_pay16 v113 v114 k0_pay20 2#32 v137) (ix2 r j) = h (8 * 0 + r.val + 1) :=
    piece_apply (tA v114) (tU v113 v114) j h hs 0 (by norm_num) slices_S256x512_o0_0_S8x512 v137 hc
  have c1 : lastRow (k0_pay25 k0_pay16 v113 v114 k0_pay20 2#32 v137) (ix2 0 j) = h (8 * 1) := by rw [lastRow_apply, p0]; rfl
  have p1 : ∀ r, (k0_pay26 k0_pay16 v113 v114 k0_pay20 2#32 v137) (ix2 r j) = h (8 * 1 + r.val + 1) :=
    piece_apply (tA v114) (tU v113 v114) j h hs 1 (by norm_num) slices_S256x512_o8_0_S8x512 (lastRow (k0_pay25 k0_pay16 v113 v114 k0_pay20 2#32 v137)) c1
  have c2 : lastRow (k0_pay26 k0_pay16 v113 v114 k0_pay20 2#32 v137) (ix2 0 j) = h (8 * 2) := by rw [lastRow_apply, p1]; rfl
  have p2 : ∀ r, (k0_pay27 k0_pay16 v113 v114 k0_pay20 2#32 v137) (ix2 r j) = h (8 * 2 + r.val + 1) :=
    piece_apply (tA v114) (tU v113 v114) j h hs 2 (by norm_num) slices_S256x512_o16_0_S8x512 (lastRow (k0_pay26 k0_pay16 v113 v114 k0_pay20 2#32 v137)) c2
  have c3 : lastRow (k0_pay27 k0_pay16 v113 v114 k0_pay20 2#32 v137) (ix2 0 j) = h (8 * 3) := by rw [lastRow_apply, p2]; rfl
  have p3 : ∀ r, (k0_pay28 k0_pay16 v113 v114 k0_pay20 2#32 v137) (ix2 r j) = h (8 * 3 + r.val + 1) :=
    piece_apply (tA v114) (tU v113 v114) j h hs 3 (by norm_num) slices_S256x512_o24_0_S8x512 (lastRow (k0_pay27 k0_pay16 v113 v114 k0_pay20 2#32 v137)) c3
  have c4 : lastRow (k0_pay28 k0_pay16 v113 v114 k0_pay20 2#32 v137) (ix2 0 j) = h (8 * 4) := by rw [lastRow_apply, p3]; rfl
  have p4 : ∀ r, (k0_pay29 k0_pay16 v113 v114 k0_pay20 2#32 v137) (ix2 r j) = h (8 * 4 + r.val + 1) :=
    piece_apply (tA v114) (tU v113 v114) j h hs 4 (by norm_num) slices_S256x512_o32_0_S8x512 (lastRow (k0_pay28 k0_pay16 v113 v114 k0_pay20 2#32 v137)) c4
  have c5 : lastRow (k0_pay29 k0_pay16 v113 v114 k0_pay20 2#32 v137) (ix2 0 j) = h (8 * 5) := by rw [lastRow_apply, p4]; rfl
  have p5 : ∀ r, (k0_pay30 (tU v113 v114) (tA v114) (g29 v113 v114 v137)) (ix2 r j) = h (8 * 5 + r.val + 1) :=
    piece_apply (tA v114) (tU v113 v114) j h hs 5 (by norm_num) slices_S256x512_o40_0_S8x512 (lastRow (k0_pay29 k0_pay16 v113 v114 k0_pay20 2#32 v137)) c5
  have c6 : lastRow (k0_pay30 (tU v113 v114) (tA v114) (g29 v113 v114 v137)) (ix2 0 j) = h (8 * 6) := by rw [lastRow_apply, p5]; rfl
  have p6 : ∀ r, (k0_pay31 (tU v113 v114) (tA v114) (g29 v113 v114 v137)) (ix2 r j) = h (8 * 6 + r.val + 1) :=
    piece_apply (tA v114) (tU v113 v114) j h hs 6 (by norm_num) slices_S256x512_o48_0_S8x512 (lastRow (k0_pay30 (tU v113 v114) (tA v114) (g29 v113 v114 v137))) c6
  have c7 : lastRow (k0_pay31 (tU v113 v114) (tA v114) (g29 v113 v114 v137)) (ix2 0 j) = h (8 * 7) := by rw [lastRow_apply, p6]; rfl
  have p7 : ∀ r, (k0_pay32 (tU v113 v114) (tA v114) (g29 v113 v114 v137)) (ix2 r j) = h (8 * 7 + r.val + 1) :=
    piece_apply (tA v114) (tU v113 v114) j h hs 7 (by norm_num) slices_S256x512_o56_0_S8x512 (lastRow (k0_pay31 (tU v113 v114) (tA v114) (g29 v113 v114 v137))) c7
  have c8 : lastRow (k0_pay32 (tU v113 v114) (tA v114) (g29 v113 v114 v137)) (ix2 0 j) = h (8 * 8) := by rw [lastRow_apply, p7]; rfl
  have p8 : ∀ r, (k0_pay33 (tU v113 v114) (tA v114) (g29 v113 v114 v137)) (ix2 r j) = h (8 * 8 + r.val + 1) :=
    piece_apply (tA v114) (tU v113 v114) j h hs 8 (by norm_num) slices_S256x512_o64_0_S8x512 (lastRow (k0_pay32 (tU v113 v114) (tA v114) (g29 v113 v114 v137))) c8
  have c9 : lastRow (k0_pay33 (tU v113 v114) (tA v114) (g29 v113 v114 v137)) (ix2 0 j) = h (8 * 9) := by rw [lastRow_apply, p8]; rfl
  have p9 : ∀ r, (k0_pay34 (tU v113 v114) (tA v114) (g29 v113 v114 v137)) (ix2 r j) = h (8 * 9 + r.val + 1) :=
    piece_apply (tA v114) (tU v113 v114) j h hs 9 (by norm_num) slices_S256x512_o72_0_S8x512 (lastRow (k0_pay33 (tU v113 v114) (tA v114) (g29 v113 v114 v137))) c9
  have c10 : lastRow (k0_pay34 (tU v113 v114) (tA v114) (g29 v113 v114 v137)) (ix2 0 j) = h (8 * 10) := by rw [lastRow_apply, p9]; rfl
  have p10 : ∀ r, (k0_pay35 (tU v113 v114) (tA v114) (g29 v113 v114 v137)) (ix2 r j) = h (8 * 10 + r.val + 1) :=
    piece_apply (tA v114) (tU v113 v114) j h hs 10 (by norm_num) slices_S256x512_o80_0_S8x512 (lastRow (k0_pay34 (tU v113 v114) (tA v114) (g29 v113 v114 v137))) c10
  have c11 : lastRow (k0_pay35 (tU v113 v114) (tA v114) (g29 v113 v114 v137)) (ix2 0 j) = h (8 * 11) := by rw [lastRow_apply, p10]; rfl
  have p11 : ∀ r, (k0_pay36 (tU v113 v114) (tA v114) (g29 v113 v114 v137)) (ix2 r j) = h (8 * 11 + r.val + 1) :=
    piece_apply (tA v114) (tU v113 v114) j h hs 11 (by norm_num) slices_S256x512_o88_0_S8x512 (lastRow (k0_pay35 (tU v113 v114) (tA v114) (g29 v113 v114 v137))) c11
  have c12 : lastRow (k0_pay36 (tU v113 v114) (tA v114) (g29 v113 v114 v137)) (ix2 0 j) = h (8 * 12) := by rw [lastRow_apply, p11]; rfl
  have p12 : ∀ r, (k0_pay37 (tU v113 v114) (tA v114) (g29 v113 v114 v137)) (ix2 r j) = h (8 * 12 + r.val + 1) :=
    piece_apply (tA v114) (tU v113 v114) j h hs 12 (by norm_num) slices_S256x512_o96_0_S8x512 (lastRow (k0_pay36 (tU v113 v114) (tA v114) (g29 v113 v114 v137))) c12
  have c13 : lastRow (k0_pay37 (tU v113 v114) (tA v114) (g29 v113 v114 v137)) (ix2 0 j) = h (8 * 13) := by rw [lastRow_apply, p12]; rfl
  have p13 : ∀ r, (k0_pay38 (tU v113 v114) (tA v114) (g29 v113 v114 v137)) (ix2 r j) = h (8 * 13 + r.val + 1) :=
    piece_apply (tA v114) (tU v113 v114) j h hs 13 (by norm_num) slices_S256x512_o104_0_S8x512 (lastRow (k0_pay37 (tU v113 v114) (tA v114) (g29 v113 v114 v137))) c13
  have c14 : lastRow (k0_pay38 (tU v113 v114) (tA v114) (g29 v113 v114 v137)) (ix2 0 j) = h (8 * 14) := by rw [lastRow_apply, p13]; rfl
  have p14 : ∀ r, (k0_pay39 (tU v113 v114) (tA v114) (g29 v113 v114 v137)) (ix2 r j) = h (8 * 14 + r.val + 1) :=
    piece_apply (tA v114) (tU v113 v114) j h hs 14 (by norm_num) slices_S256x512_o112_0_S8x512 (lastRow (k0_pay38 (tU v113 v114) (tA v114) (g29 v113 v114 v137))) c14
  have c15 : lastRow (k0_pay39 (tU v113 v114) (tA v114) (g29 v113 v114 v137)) (ix2 0 j) = h (8 * 15) := by rw [lastRow_apply, p14]; rfl
  have p15 : ∀ r, (k0_pay40 (tU v113 v114) (tA v114) (g39 v113 v114 v137)) (ix2 r j) = h (8 * 15 + r.val + 1) :=
    piece_apply (tA v114) (tU v113 v114) j h hs 15 (by norm_num) slices_S256x512_o120_0_S8x512 (lastRow (k0_pay39 (tU v113 v114) (tA v114) (g29 v113 v114 v137))) c15
  have c16 : lastRow (k0_pay40 (tU v113 v114) (tA v114) (g39 v113 v114 v137)) (ix2 0 j) = h (8 * 16) := by rw [lastRow_apply, p15]; rfl
  have p16 : ∀ r, (k0_pay41 (tU v113 v114) (tA v114) (g39 v113 v114 v137)) (ix2 r j) = h (8 * 16 + r.val + 1) :=
    piece_apply (tA v114) (tU v113 v114) j h hs 16 (by norm_num) slices_S256x512_o128_0_S8x512 (lastRow (k0_pay40 (tU v113 v114) (tA v114) (g39 v113 v114 v137))) c16
  have c17 : lastRow (k0_pay41 (tU v113 v114) (tA v114) (g39 v113 v114 v137)) (ix2 0 j) = h (8 * 17) := by rw [lastRow_apply, p16]; rfl
  have p17 : ∀ r, (k0_pay42 (tU v113 v114) (tA v114) (g39 v113 v114 v137)) (ix2 r j) = h (8 * 17 + r.val + 1) :=
    piece_apply (tA v114) (tU v113 v114) j h hs 17 (by norm_num) slices_S256x512_o136_0_S8x512 (lastRow (k0_pay41 (tU v113 v114) (tA v114) (g39 v113 v114 v137))) c17
  have c18 : lastRow (k0_pay42 (tU v113 v114) (tA v114) (g39 v113 v114 v137)) (ix2 0 j) = h (8 * 18) := by rw [lastRow_apply, p17]; rfl
  have p18 : ∀ r, (k0_pay43 (tU v113 v114) (tA v114) (g39 v113 v114 v137)) (ix2 r j) = h (8 * 18 + r.val + 1) :=
    piece_apply (tA v114) (tU v113 v114) j h hs 18 (by norm_num) slices_S256x512_o144_0_S8x512 (lastRow (k0_pay42 (tU v113 v114) (tA v114) (g39 v113 v114 v137))) c18
  have c19 : lastRow (k0_pay43 (tU v113 v114) (tA v114) (g39 v113 v114 v137)) (ix2 0 j) = h (8 * 19) := by rw [lastRow_apply, p18]; rfl
  have p19 : ∀ r, (k0_pay44 (tU v113 v114) (tA v114) (g39 v113 v114 v137)) (ix2 r j) = h (8 * 19 + r.val + 1) :=
    piece_apply (tA v114) (tU v113 v114) j h hs 19 (by norm_num) slices_S256x512_o152_0_S8x512 (lastRow (k0_pay43 (tU v113 v114) (tA v114) (g39 v113 v114 v137))) c19
  have c20 : lastRow (k0_pay44 (tU v113 v114) (tA v114) (g39 v113 v114 v137)) (ix2 0 j) = h (8 * 20) := by rw [lastRow_apply, p19]; rfl
  have p20 : ∀ r, (k0_pay45 (tU v113 v114) (tA v114) (g39 v113 v114 v137)) (ix2 r j) = h (8 * 20 + r.val + 1) :=
    piece_apply (tA v114) (tU v113 v114) j h hs 20 (by norm_num) slices_S256x512_o160_0_S8x512 (lastRow (k0_pay44 (tU v113 v114) (tA v114) (g39 v113 v114 v137))) c20
  have c21 : lastRow (k0_pay45 (tU v113 v114) (tA v114) (g39 v113 v114 v137)) (ix2 0 j) = h (8 * 21) := by rw [lastRow_apply, p20]; rfl
  have p21 : ∀ r, (k0_pay46 (tU v113 v114) (tA v114) (g39 v113 v114 v137)) (ix2 r j) = h (8 * 21 + r.val + 1) :=
    piece_apply (tA v114) (tU v113 v114) j h hs 21 (by norm_num) slices_S256x512_o168_0_S8x512 (lastRow (k0_pay45 (tU v113 v114) (tA v114) (g39 v113 v114 v137))) c21
  have c22 : lastRow (k0_pay46 (tU v113 v114) (tA v114) (g39 v113 v114 v137)) (ix2 0 j) = h (8 * 22) := by rw [lastRow_apply, p21]; rfl
  have p22 : ∀ r, (k0_pay47 (tU v113 v114) (tA v114) (g39 v113 v114 v137)) (ix2 r j) = h (8 * 22 + r.val + 1) :=
    piece_apply (tA v114) (tU v113 v114) j h hs 22 (by norm_num) slices_S256x512_o176_0_S8x512 (lastRow (k0_pay46 (tU v113 v114) (tA v114) (g39 v113 v114 v137))) c22
  have c23 : lastRow (k0_pay47 (tU v113 v114) (tA v114) (g39 v113 v114 v137)) (ix2 0 j) = h (8 * 23) := by rw [lastRow_apply, p22]; rfl
  have p23 : ∀ r, (k0_pay48 (tU v113 v114) (tA v114) (g39 v113 v114 v137)) (ix2 r j) = h (8 * 23 + r.val + 1) :=
    piece_apply (tA v114) (tU v113 v114) j h hs 23 (by norm_num) slices_S256x512_o184_0_S8x512 (lastRow (k0_pay47 (tU v113 v114) (tA v114) (g39 v113 v114 v137))) c23
  have c24 : lastRow (k0_pay48 (tU v113 v114) (tA v114) (g39 v113 v114 v137)) (ix2 0 j) = h (8 * 24) := by rw [lastRow_apply, p23]; rfl
  have p24 : ∀ r, (k0_pay49 (tU v113 v114) (tA v114) (g39 v113 v114 v137)) (ix2 r j) = h (8 * 24 + r.val + 1) :=
    piece_apply (tA v114) (tU v113 v114) j h hs 24 (by norm_num) slices_S256x512_o192_0_S8x512 (lastRow (k0_pay48 (tU v113 v114) (tA v114) (g39 v113 v114 v137))) c24
  have c25 : lastRow (k0_pay49 (tU v113 v114) (tA v114) (g39 v113 v114 v137)) (ix2 0 j) = h (8 * 25) := by rw [lastRow_apply, p24]; rfl
  have p25 : ∀ r, (k0_pay50 (tU v113 v114) (tA v114) (g49 v113 v114 v137)) (ix2 r j) = h (8 * 25 + r.val + 1) :=
    piece_apply (tA v114) (tU v113 v114) j h hs 25 (by norm_num) slices_S256x512_o200_0_S8x512 (lastRow (k0_pay49 (tU v113 v114) (tA v114) (g39 v113 v114 v137))) c25
  have c26 : lastRow (k0_pay50 (tU v113 v114) (tA v114) (g49 v113 v114 v137)) (ix2 0 j) = h (8 * 26) := by rw [lastRow_apply, p25]; rfl
  have p26 : ∀ r, (k0_pay51 (tU v113 v114) (tA v114) (g49 v113 v114 v137)) (ix2 r j) = h (8 * 26 + r.val + 1) :=
    piece_apply (tA v114) (tU v113 v114) j h hs 26 (by norm_num) slices_S256x512_o208_0_S8x512 (lastRow (k0_pay50 (tU v113 v114) (tA v114) (g49 v113 v114 v137))) c26
  have c27 : lastRow (k0_pay51 (tU v113 v114) (tA v114) (g49 v113 v114 v137)) (ix2 0 j) = h (8 * 27) := by rw [lastRow_apply, p26]; rfl
  have p27 : ∀ r, (k0_pay52 (tU v113 v114) (tA v114) (g49 v113 v114 v137)) (ix2 r j) = h (8 * 27 + r.val + 1) :=
    piece_apply (tA v114) (tU v113 v114) j h hs 27 (by norm_num) slices_S256x512_o216_0_S8x512 (lastRow (k0_pay51 (tU v113 v114) (tA v114) (g49 v113 v114 v137))) c27
  have c28 : lastRow (k0_pay52 (tU v113 v114) (tA v114) (g49 v113 v114 v137)) (ix2 0 j) = h (8 * 28) := by rw [lastRow_apply, p27]; rfl
  have p28 : ∀ r, (k0_pay53 (tU v113 v114) (tA v114) (g49 v113 v114 v137)) (ix2 r j) = h (8 * 28 + r.val + 1) :=
    piece_apply (tA v114) (tU v113 v114) j h hs 28 (by norm_num) slices_S256x512_o224_0_S8x512 (lastRow (k0_pay52 (tU v113 v114) (tA v114) (g49 v113 v114 v137))) c28
  have c29 : lastRow (k0_pay53 (tU v113 v114) (tA v114) (g49 v113 v114 v137)) (ix2 0 j) = h (8 * 29) := by rw [lastRow_apply, p28]; rfl
  have p29 : ∀ r, (k0_pay54 (tU v113 v114) (tA v114) (g49 v113 v114 v137)) (ix2 r j) = h (8 * 29 + r.val + 1) :=
    piece_apply (tA v114) (tU v113 v114) j h hs 29 (by norm_num) slices_S256x512_o232_0_S8x512 (lastRow (k0_pay53 (tU v113 v114) (tA v114) (g49 v113 v114 v137))) c29
  have c30 : lastRow (k0_pay54 (tU v113 v114) (tA v114) (g49 v113 v114 v137)) (ix2 0 j) = h (8 * 30) := by rw [lastRow_apply, p29]; rfl
  have p30 : ∀ r, (k0_pay55 (tU v113 v114) (tA v114) (g49 v113 v114 v137)) (ix2 r j) = h (8 * 30 + r.val + 1) :=
    piece_apply (tA v114) (tU v113 v114) j h hs 30 (by norm_num) slices_S256x512_o240_0_S8x512 (lastRow (k0_pay54 (tU v113 v114) (tA v114) (g49 v113 v114 v137))) c30
  have c31 : lastRow (k0_pay55 (tU v113 v114) (tA v114) (g49 v113 v114 v137)) (ix2 0 j) = h (8 * 31) := by rw [lastRow_apply, p30]; rfl
  have p31 : ∀ r, (k0_pay56 (tU v113 v114) (tA v114) (g49 v113 v114 v137)) (ix2 r j) = h (8 * 31 + r.val + 1) :=
    piece_apply (tA v114) (tU v113 v114) j h hs 31 (by norm_num) slices_S256x512_o248_0_S8x512 (lastRow (k0_pay55 (tU v113 v114) (tA v114) (g49 v113 v114 v137))) c31
  fin_cases k
  · exact p0 r
  · exact p1 r
  · exact p2 r
  · exact p3 r
  · exact p4 r
  · exact p5 r
  · exact p6 r
  · exact p7 r
  · exact p8 r
  · exact p9 r
  · exact p10 r
  · exact p11 r
  · exact p12 r
  · exact p13 r
  · exact p14 r
  · exact p15 r
  · exact p16 r
  · exact p17 r
  · exact p18 r
  · exact p19 r
  · exact p20 r
  · exact p21 r
  · exact p22 r
  · exact p23 r
  · exact p24 r
  · exact p25 r
  · exact p26 r
  · exact p27 r
  · exact p28 r
  · exact p29 r
  · exact p30 r
  · exact p31 r

include hs hc in
/-- The state row after the tile. -/
theorem end_apply : lastRow (k0_pay56 (tU v113 v114) (tA v114) (g49 v113 v114 v137)) (ix2 0 j) = h 256 := by
  rw [lastRow_apply]
  exact groups_apply v113 v114 v137 j h hs hc 31 7

include hs hc in
/-- Row `p` of the tile is the state after it. -/
theorem rows_apply (p : Fin 256) : rows v113 v114 v137 (ix2 p j) = h (p.val + 1) := by
  have hp := p.isLt
  rw [rows_eq]
  refine (concatenate_ofFn_apply (t := S256x512) (s₁ := S8x512) 0 (groups v113 v114 v137) _ rfl 8 rfl (ix2 p j)
    ⟨p.val / 8, by omega⟩ rfl (ix2 ⟨p.val % 8, by omega⟩ j) rfl (fun b hb => by
      match b with
      | ⟨0, _⟩ => exact absurd rfl hb
      | ⟨1, _⟩ => rfl)).trans ?_
  rw [groups_apply v113 v114 v137 j h hs hc]
  congr 1
  show 8 * (p.val / 8) + p.val % 8 + 1 = p.val + 1
  omega

end

end Cert.KernelIdeal.Lru
end
-- ==== Proof.LruCase.lean ====
module
public import proofs.«01_k».proof.Proof.LruRows
public import Idealize.ShloMosaic.Lib.WritesUnit

/-! # What one grid point leaves

At each grid point: the block of outputs, the last state row, and the two scratch buffers, as the tile's functions of
the input blocks, of the eight rows carried before the tile and of the carried state row. -/

@[expose] public section
set_option maxRecDepth 16384
noncomputable section
open Idealize.ShloMosaic Idealize.ShloMosaic.TcCoe Idealize.SL.Sem

namespace Cert.KernelIdeal.Lru
open Cert.KernelIdeal Cert.KernelIdeal.Gen Cert.Lru

theorem hz2 : (![0, 0] : Fin 2 → Nat) = fun _ => 0 := funext fun a => by fin_cases a <;> rfl
theorem hz3 : (![0, 0, 0] : Fin 3 → Nat) = fun _ => 0 := funext fun a => by fin_cases a <;> rfl

/-- The padded rows: eight carried rows, then the tile's. -/
def padded (P : Vec Ideal S264x512 .f32) (x0 : Vec Ideal S1x256x512 .f32) : Vec Ideal S264x512 .f32 := fun y =>
  if h : 8 ≤ (y 0).val then x0 (ix3 0 ⟨(y 0).val - 8, by have := (y 0).isLt; change (y 0).val < 264 at this; omega⟩ (y 1)) else P y

/-- The tile's convolution. -/
def tConv (x0 : Vec Ideal S1x256x512 .f32) (x2 : Vec Ideal S4x512 .f32) (x3 : Vec Ideal S1x512 .f32) (C : Vec Ideal S264x512 .f32) :
    FVec Ideal S256x512 .f32 :=
  k0_pay6 x0 x3 (View.ld x2 (Rect.unit ![3, 0] S1x512.size inb_S4x512_S1x512_3_0))
    (View.ld C (Rect.unit ![7, 0] S256x512.size inb_S264x512_S256x512_7_0))
    (View.ld x2 (Rect.unit ![2, 0] S1x512.size inb_S4x512_S1x512_2_0))
    (View.ld C (Rect.unit ![6, 0] S256x512.size inb_S264x512_S256x512_6_0))
    (View.ld x2 (Rect.unit ![1, 0] S1x512.size inb_S4x512_S1x512_1_0))
    (View.ld C (Rect.unit ![5, 0] S256x512.size inb_S264x512_S256x512_5_0))
    (View.ld x2 (Rect.unit ![0, 0] S1x512.size inb_S4x512_S1x512_0_0))

/-- The tile's recurrence gate. -/
def tR (xc : FVec Ideal S256x512 .f32) (x4 : Vec Ideal S2x256x512 .bf16) (x5 : Vec Ideal S1x512 .f32) : FVec Ideal S256x512 .f32 :=
  k0_pay11 xc (View.ld x4 (Rect.unit ![0, 0, 0] S1x256x512.size inb_S2x256x512_S1x256x512_0_0_0))
    (View.ld x4 (Rect.unit ![1, 0, 0] S1x256x512.size inb_S2x256x512_S1x256x512_1_0_0)) x5

/-- The tile's input gate. -/
def tI (xc : FVec Ideal S256x512 .f32) (x4 : Vec Ideal S2x256x512 .bf16) (x6 : Vec Ideal S1x512 .f32) : FVec Ideal S256x512 .f32 :=
  k0_pay12 xc (View.ld x4 (Rect.unit ![0, 0, 0] S1x256x512.size inb_S2x256x512_S1x256x512_0_0_0))
    (View.ld x4 (Rect.unit ![1, 0, 0] S1x256x512.size inb_S2x256x512_S1x256x512_1_0_0)) x6

/-- The factor eight of the decay, negated. -/
def c8 : Ideal .f32 := FloatOps.ofBits .f32 0xC1000000#32

/-- The tile's columns after the first doubling. -/
def tU1 (xc : FVec Ideal S256x512 .f32) (x4 : Vec Ideal S2x256x512 .bf16) (x5 x6 x7 : Vec Ideal S1x512 .f32) : FVec Ideal S256x512 .f32 :=
  k0_pay18 xc (tR xc x4 x5) (tI xc x4 x6) (k0_pay13 x7) c8
@[inherit_doc tU1] def tA1 (xc : FVec Ideal S256x512 .f32) (x4 : Vec Ideal S2x256x512 .bf16) (x5 x7 : Vec Ideal S1x512 .f32) :
    FVec Ideal S256x512 .f32 :=
  k0_pay19 (tR xc x4 x5) (k0_pay13 x7) c8

/-- The tile's states. -/
def tH (xc : FVec Ideal S256x512 .f32) (x4 : Vec Ideal S2x256x512 .bf16) (x5 x6 x7 hin : Vec Ideal S1x512 .f32) : FVec Ideal S256x512 .f32 :=
  rows (tU1 xc x4 x5 x6 x7) (tA1 xc x4 x5 x7) hin

/-- The state row after the tile. -/
def tEnd (xc : FVec Ideal S256x512 .f32) (x4 : Vec Ideal S2x256x512 .bf16) (x5 x6 x7 hin : Vec Ideal S1x512 .f32) : FVec Ideal S1x512 .f32 :=
  lastRow (k0_pay56 (tU (tU1 xc x4 x5 x6 x7) (tA1 xc x4 x5 x7)) (tA (tA1 xc x4 x5 x7)) (g49 (tU1 xc x4 x5 x6 x7) (tA1 xc x4 x5 x7) hin))

/-- The eight zero rows before the first tile. -/
def zeroRows : Vec Ideal S264x512 .f32 := fun _ => (0 : EReal)

theorem pay5_row (x0 : Vec Ideal S1x256x512 .f32) (p : Fin 256) (j : Fin 512) : k0_pay5 x0 (ix2 p j) = x0 (ix3 0 p j) := by
  pointwise [k0_pay5, k0_pay4]

theorem pay8_row (x0 : Vec Ideal S1x256x512 .f32) (p : Fin 8) (j : Fin 512) :
    k0_pay8 (k0_pay7 x0) (ix2 p j) = x0 (ix3 0 ⟨248 + p.val, by omega⟩ j) := by
  pointwise [k0_pay8, k0_pay7, k0_pay4]

/-- The tile's rows stored over the scratch buffer, whatever the other pieces leave in its first eight rows. -/
theorem read_padded {sg : RefSig} {κ : Kind} {sp : Space} (v : View sg κ sp S264x512 .f32) (f : v.ty.Contents (Elt Ideal))
    (P : Vec Ideal S264x512 .f32) (x0 : Vec Ideal S1x256x512 .f32) (L : List (View.Piece (Elt Ideal) S264x512 .f32))
    (hL : ∀ y : S264x512.Idx, (y 0).val < 8 → v.read (Elt Ideal) (v.writes (Elt Ideal) f L) y = P y) :
    v.read (Elt Ideal) (v.writes (Elt Ideal) f (⟨Rect.unit ![8, 0] S256x512.size inb_S264x512_S256x512_8_0, k0_pay5 x0⟩ :: L)) = padded P x0 := by
  funext y
  unfold padded
  by_cases h : 8 ≤ (y 0).val
  · rw [dif_pos h]
    have hy := (y 0).isLt
    change (y 0).val < 264 at hy
    rw [View.read_writes_cons_rows_of_mem v f (o := 8) inb_S264x512_S256x512_8_0 (k0_pay5 x0) L y
      (ix2 ⟨(y 0).val - 8, by omega⟩ (y 1)) rfl (by show (y 0).val = 8 + ((y 0).val - 8); omega) rfl]
    exact pay5_row x0 _ _
  · rw [dif_neg h]
    rw [View.read_writes_cons_rows_of_not_mem v f (o := 8) (W := 256) inb_S264x512_S256x512_8_0 (k0_pay5 x0) L y rfl rfl
      (Or.inl (by omega))]
    exact hL y (by omega)

/-- The carried rows of the first tile are zeros. -/
theorem read_zeroRows {sg : RefSig} {κ : Kind} {sp : Space} (v : View sg κ sp S264x512 .f32) (f : v.ty.Contents (Elt Ideal))
    (y : S264x512.Idx) (h : (y 0).val < 8) :
    v.read (Elt Ideal) (v.writes (Elt Ideal) f [⟨Rect.unit ![0, 0] S8x512.size inb_S264x512_S8x512_0_0, k0_pay2 (F := Ideal)⟩]) y = zeroRows y := by
  rw [View.read_writes_cons_rows_of_mem v f (o := 0) inb_S264x512_S8x512_0_0 (k0_pay2 (F := Ideal)) [] y
      (ix2 ⟨(y 0).val, h⟩ (y 1)) rfl (by show (y 0).val = 0 + (y 0).val; omega) rfl]
  exact zero_word

/-- What the first eight rows of the scratch buffer hold after a tile. -/
theorem read_tail {sg : RefSig} {κ : Kind} {sp : Space} (v : View sg κ sp S264x512 .f32) (f : v.ty.Contents (Elt Ideal))
    (x0 : Vec Ideal S1x256x512 .f32) (L : List (View.Piece (Elt Ideal) S264x512 .f32)) (r : Fin 8) (j : Fin 512) :
    v.read (Elt Ideal) (v.writes (Elt Ideal) f (⟨Rect.unit ![0, 0] S8x512.size inb_S264x512_S8x512_0_0, k0_pay8 (k0_pay7 x0)⟩ :: L))
      (ix2 ⟨r.val, by omega⟩ j) = x0 (ix3 0 ⟨248 + r.val, by omega⟩ j) := by
  rw [View.read_writes_cons_rows_of_mem v f (o := 0) inb_S264x512_S8x512_0_0 (k0_pay8 (k0_pay7 x0)) L _
      (ix2 r j) rfl (by show r.val = 0 + r.val; omega) rfl]
  exact pay8_row x0 r j

section
variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x256x512 .f32) (harg10 : arg10.IsWhole) (arg11 : Memref sig .tc .vmem S1x1x512 .f32) (harg11 : arg11.IsWhole) (arg12 : Memref sig .tc .vmem S264x512 .f32) (harg12 : arg12.IsWhole) (arg13 : Memref sig .tc .vmem S1x512 .f32) (harg13 : arg13.IsWhole)
    (x0 : Vec Ideal S1x256x512 .f32) (x1 : Vec Ideal S1x256x512 .f32) (x2 : Vec Ideal S4x512 .f32) (x3 : Vec Ideal S1x512 .f32) (x4 : Vec Ideal S2x256x512 .bf16) (x5 : Vec Ideal S1x512 .f32) (x6 : Vec Ideal S1x512 .f32) (x7 : Vec Ideal S1x512 .f32) (xs0 : Vec Ideal S264x512 .f32) (xs1 : Vec Ideal S1x512 .f32)

theorem out0_A_8_eq (hc0 : cond0_0 i) : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay1 (tH (tConv x0 x2 x3 (padded zeroRows x0)) x4 x5 x6 x7 (k0_pay3 (F := Ideal))) x1 := by
  have hpad : arg12.view.read (Elt Ideal) (arg12.view.writes (Elt Ideal) arg12.view.junk
      [⟨Rect.unit ![8, 0] S256x512.size inb_S264x512_S256x512_8_0, k0_pay5 x0⟩, ⟨Rect.unit ![0, 0] S8x512.size inb_S264x512_S8x512_0_0, k0_pay2 (F := Ideal)⟩])
      = padded zeroRows x0 := read_padded _ _ _ _ _ fun y hy => read_zeroRows _ _ y hy
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.canon_cons_unit_zero (S := S1x512) hz2, View.canon_unit_zero (S := S1x512) hz2, View.canon_unit_zero (S := S1x256x512) hz3, View.canon_unit_zero (S := S1x1x512) hz3, View.readAt_eq_ld, harg2.read_unread, harg3.read_unread, harg4.read_unread, harg5.read_unread, harg6.read_unread, harg7.read_unread, harg8.read_unread, harg9.read_unread, harg12.read_unread, harg13.read_unread, View.ld_unit_zero (S := S1x256x512) hz3, View.ld_unit_zero (S := S1x512) hz2, View.readCov_unit_zero (S := S1x512) _ hz2]
  simp only [View.readCov, View.readAt_eq_ld]
  rw [hpad]
  rfl

theorem out0_A_9_eq (hc0 : cond0_0 i) : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = shapeCast S1x1x512 (tEnd (tConv x0 x2 x3 (padded zeroRows x0)) x4 x5 x6 x7 (k0_pay3 (F := Ideal))) shapeCasts_S1x512_S1x1x512 := by
  have hpad : arg12.view.read (Elt Ideal) (arg12.view.writes (Elt Ideal) arg12.view.junk
      [⟨Rect.unit ![8, 0] S256x512.size inb_S264x512_S256x512_8_0, k0_pay5 x0⟩, ⟨Rect.unit ![0, 0] S8x512.size inb_S264x512_S8x512_0_0, k0_pay2 (F := Ideal)⟩])
      = padded zeroRows x0 := read_padded _ _ _ _ _ fun y hy => read_zeroRows _ _ y hy
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.canon_cons_unit_zero (S := S1x512) hz2, View.canon_unit_zero (S := S1x512) hz2, View.canon_unit_zero (S := S1x256x512) hz3, View.canon_unit_zero (S := S1x1x512) hz3, View.readAt_eq_ld, harg2.read_unread, harg3.read_unread, harg4.read_unread, harg5.read_unread, harg6.read_unread, harg7.read_unread, harg8.read_unread, harg9.read_unread, harg12.read_unread, harg13.read_unread, View.ld_unit_zero (S := S1x256x512) hz3, View.ld_unit_zero (S := S1x512) hz2, View.readCov_unit_zero (S := S1x512) _ hz2]
  simp only [View.readCov, View.readAt_eq_ld]
  rw [hpad]
  rfl

theorem sout0_A_1_eq (hc0 : cond0_0 i) : sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = shapeCast S1x512 (tEnd (tConv x0 x2 x3 (padded zeroRows x0)) x4 x5 x6 x7 (k0_pay3 (F := Ideal))) shapeCasts_S1x512_S1x512 := by
  have hpad : arg12.view.read (Elt Ideal) (arg12.view.writes (Elt Ideal) arg12.view.junk
      [⟨Rect.unit ![8, 0] S256x512.size inb_S264x512_S256x512_8_0, k0_pay5 x0⟩, ⟨Rect.unit ![0, 0] S8x512.size inb_S264x512_S8x512_0_0, k0_pay2 (F := Ideal)⟩])
      = padded zeroRows x0 := read_padded _ _ _ _ _ fun y hy => read_zeroRows _ _ y hy
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.canon_cons_unit_zero (S := S1x512) hz2, View.canon_unit_zero (S := S1x512) hz2, View.canon_unit_zero (S := S1x256x512) hz3, View.canon_unit_zero (S := S1x1x512) hz3, View.readAt_eq_ld, harg2.read_unread, harg3.read_unread, harg4.read_unread, harg5.read_unread, harg6.read_unread, harg7.read_unread, harg8.read_unread, harg9.read_unread, harg12.read_unread, harg13.read_unread, View.ld_unit_zero (S := S1x256x512) hz3, View.ld_unit_zero (S := S1x512) hz2, View.readCov_unit_zero (S := S1x512) _ hz2]
  simp only [View.readCov, View.readAt_eq_ld]
  rw [hpad]
  rfl

theorem sout0_A_0_row (hc0 : cond0_0 i) (r : Fin 8) (j : Fin 512) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 ⟨r.val, by omega⟩ j) = x0 (ix3 0 ⟨248 + r.val, by omega⟩ j) := by
  unfold sout0_A_0
  unfold kernelRun0_A
  dsimp only
  sl_unfold_words
  simp only [View.readAt_eq_ld, harg2.read_unread, View.ld_unit_zero (S := S1x256x512) hz3]
  exact read_tail _ _ x0 _ r j

theorem out0_B_8_eq (hc0 : ¬cond0_0 i) : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 = k0_pay1 (tH (tConv x0 x2 x3 (padded xs0 x0)) x4 x5 x6 x7 xs1) x1 := by
  have hpad : arg12.view.read (Elt Ideal) (arg12.view.writes (Elt Ideal) (harg12.unread xs0)
      [⟨Rect.unit ![8, 0] S256x512.size inb_S264x512_S256x512_8_0, k0_pay5 x0⟩]) = padded xs0 x0 :=
    read_padded _ _ _ _ _ fun y _ => congrFun (harg12.read_unread xs0) y
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1)]
  unfold kernelRun0_B
  dsimp only
  sl_unfold_words
  simp only [View.canon_cons_unit_zero (S := S1x512) hz2, View.canon_unit_zero (S := S1x512) hz2, View.canon_unit_zero (S := S1x256x512) hz3, View.canon_unit_zero (S := S1x1x512) hz3, View.readAt_eq_ld, harg2.read_unread, harg3.read_unread, harg4.read_unread, harg5.read_unread, harg6.read_unread, harg7.read_unread, harg8.read_unread, harg9.read_unread, harg12.read_unread, harg13.read_unread, View.ld_unit_zero (S := S1x256x512) hz3, View.ld_unit_zero (S := S1x512) hz2, View.readCov_unit_zero (S := S1x512) _ hz2]
  rw [hpad]
  rfl

theorem out0_B_9_eq (hc0 : ¬cond0_0 i) : out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 = shapeCast S1x1x512 (tEnd (tConv x0 x2 x3 (padded xs0 x0)) x4 x5 x6 x7 xs1) shapeCasts_S1x512_S1x1x512 := by
  have hpad : arg12.view.read (Elt Ideal) (arg12.view.writes (Elt Ideal) (harg12.unread xs0)
      [⟨Rect.unit ![8, 0] S256x512.size inb_S264x512_S256x512_8_0, k0_pay5 x0⟩]) = padded xs0 x0 :=
    read_padded _ _ _ _ _ fun y _ => congrFun (harg12.read_unread xs0) y
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1)]
  unfold kernelRun0_B
  dsimp only
  sl_unfold_words
  simp only [View.canon_cons_unit_zero (S := S1x512) hz2, View.canon_unit_zero (S := S1x512) hz2, View.canon_unit_zero (S := S1x256x512) hz3, View.canon_unit_zero (S := S1x1x512) hz3, View.readAt_eq_ld, harg2.read_unread, harg3.read_unread, harg4.read_unread, harg5.read_unread, harg6.read_unread, harg7.read_unread, harg8.read_unread, harg9.read_unread, harg12.read_unread, harg13.read_unread, View.ld_unit_zero (S := S1x256x512) hz3, View.ld_unit_zero (S := S1x512) hz2, View.readCov_unit_zero (S := S1x512) _ hz2]
  rw [hpad]
  rfl

theorem sout0_B_1_eq (hc0 : ¬cond0_0 i) : sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 = shapeCast S1x512 (tEnd (tConv x0 x2 x3 (padded xs0 x0)) x4 x5 x6 x7 xs1) shapeCasts_S1x512_S1x512 := by
  have hpad : arg12.view.read (Elt Ideal) (arg12.view.writes (Elt Ideal) (harg12.unread xs0)
      [⟨Rect.unit ![8, 0] S256x512.size inb_S264x512_S256x512_8_0, k0_pay5 x0⟩]) = padded xs0 x0 :=
    read_padded _ _ _ _ _ fun y _ => congrFun (harg12.read_unread xs0) y
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1)]
  unfold kernelRun0_B
  dsimp only
  sl_unfold_words
  simp only [View.canon_cons_unit_zero (S := S1x512) hz2, View.canon_unit_zero (S := S1x512) hz2, View.canon_unit_zero (S := S1x256x512) hz3, View.canon_unit_zero (S := S1x1x512) hz3, View.readAt_eq_ld, harg2.read_unread, harg3.read_unread, harg4.read_unread, harg5.read_unread, harg6.read_unread, harg7.read_unread, harg8.read_unread, harg9.read_unread, harg12.read_unread, harg13.read_unread, View.ld_unit_zero (S := S1x256x512) hz3, View.ld_unit_zero (S := S1x512) hz2, View.readCov_unit_zero (S := S1x512) _ hz2]
  rw [hpad]
  rfl

theorem sout0_B_0_row (hc0 : ¬cond0_0 i) (r : Fin 8) (j : Fin 512) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 (ix2 ⟨r.val, by omega⟩ j) = x0 (ix3 0 ⟨248 + r.val, by omega⟩ j) := by
  unfold sout0_B_0
  unfold kernelRun0_B
  dsimp only
  sl_unfold_words
  simp only [View.readAt_eq_ld, harg2.read_unread, View.ld_unit_zero (S := S1x256x512) hz3]
  exact read_tail _ _ x0 _ r j

end

end Cert.KernelIdeal.Lru
end
-- ==== Proof.LruSpec.lean ====
module
public import proofs.«01_k».proof.Proof.LruScalar
public import Mathlib.Algebra.BigOperators.Fin
public import Idealize.ShloMosaic.Lib.Pointwise

/-! # The recurrence over one sequence

The short convolution, the two gates, the decay, the scaled input and the states of one sequence, as functions of the
row number and the channel. Both programs are read against these. -/

@[expose] public section
noncomputable section
open Idealize.ShloMosaic

namespace Cert.Lru

/-- The layer's weights, by channel: the four taps and the bias of the convolution, the two gates' head matrices and
biases, and the decay's parameter. -/
structure Weights where
  cw : Fin 4 → Fin 512 → EReal
  cb : Fin 512 → EReal
  wr : ℕ → ℕ → ℕ → EReal
  br : Fin 512 → EReal
  wi : ℕ → ℕ → ℕ → EReal
  bi : Fin 512 → EReal
  lam : Fin 512 → EReal

/-- The weights as the arrays hold them. -/
def Weights.of (cw : Fin 4 → Fin 512 → EReal) (cb : Fin 512 → EReal) (wr : Fin 8 → Fin 64 → Fin 64 → EReal) (br : Fin 512 → EReal)
    (wi : Fin 8 → Fin 64 → Fin 64 → EReal) (bi lam : Fin 512 → EReal) : Weights where
  cw := cw
  cb := cb
  wr n d e := if h : n < 8 ∧ d < 64 ∧ e < 64 then wr ⟨n, h.1⟩ ⟨d, h.2.1⟩ ⟨e, h.2.2⟩ else 0
  br := br
  wi n d e := if h : n < 8 ∧ d < 64 ∧ e < 64 then wi ⟨n, h.1⟩ ⟨d, h.2.1⟩ ⟨e, h.2.2⟩ else 0
  bi := bi
  lam := lam

/-- A sequence of 4096 rows after three rows of zeros. -/
def seqOf (r : Fin 4096 → Fin 512 → EReal) (s : ℕ) (c : Fin 512) : EReal :=
  if h : 3 ≤ s ∧ s < 4099 then r ⟨s - 3, by omega⟩ c else 0

variable (P : Weights) (X : ℕ → Fin 512 → EReal)

/-- The convolution at row `t`, of rows three further on: `X` begins with three zero rows. -/
def conv (t : ℕ) (c : Fin 512) : EReal :=
  P.cb c + X (t + 3) c * P.cw 3 c + X (t + 2) c * P.cw 2 c + X (t + 1) c * P.cw 1 c + X t c * P.cw 0 c

/-- A gate of the channel `c`: the sigmoid of its head's product plus the bias. -/
def gate (w : ℕ → ℕ → ℕ → EReal) (b : Fin 512 → EReal) (y : Fin 512 → EReal) (c : Fin 512) : EReal :=
  Ideal.div 1 (1 + Ideal.exp (-((∑ d : Fin 64, y ⟨64 * (c.val / 64) + d.val, by omega⟩ * w (c.val / 64) d.val (c.val % 64)) + b c)))

/-- The tanh form of the gelu. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The negated factor eight. -/
def c8 : EReal := Ideal.ofBits .f32 0xC1000000#32

theorem c8_eq : c8 = ((-8 : ℝ) : EReal) := by
  unfold c8
  simp [Ideal.ofBits, Ideal.ieee, -EReal.coe_mul, -EReal.coe_neg]; norm_num

/-- The decay's logarithm. -/
def la (t : ℕ) (c : Fin 512) : EReal := c8 * softplus (-P.lam c) * gate P.wr P.br (conv P X t) c
/-- The decay. -/
def dec (t : ℕ) (c : Fin 512) : EReal := Ideal.exp (la P X t c)
/-- The scaled input. -/
def inp (t : ℕ) (c : Fin 512) : EReal :=
  Ideal.sqrt (-(Ideal.exp (2 * la P X t c) - 1)) * (gate P.wi P.bi (conv P X t) c * conv P X t c)

/-- The state before row `t`. -/
def st (c : Fin 512) : ℕ → EReal
  | 0 => 0
  | t + 1 => dec P X t c * st c t + inp P X t c

theorem good_dec (t : ℕ) (c : Fin 512) : Good (dec P X t c) :=
  good_exp (by
    unfold la
    rw [c8_eq]
    exact mul_nonpos_of (-8) (by norm_num) (softplus_nonneg _) (logistic_nonneg _))

/-- A sum against a column of a block-diagonal matrix is the sum over its block. -/
theorem block_sum (f : Fin 256 → EReal) (w : ℕ → ℕ → EReal) (m : Fin 4) :
    (∑ x : Fin 256, f x * (w (x.val / 64) (x.val % 64) * (if x.val / 64 = m.val then 1 else 0)))
      = ∑ d : Fin 64, f ⟨64 * m.val + d.val, by omega⟩ * w m.val d.val := by
  rw [← (finProdFinEquiv (m := 4) (n := 64)).sum_comp, Fintype.sum_prod_type]
  have hv : ∀ (x : Fin 4) (y : Fin 64), ((finProdFinEquiv (x, y) : Fin (4 * 64)).val) = y.val + 64 * x.val := fun x y => rfl
  rw [Finset.sum_eq_single m]
  · refine Finset.sum_congr rfl fun d _ => ?_
    have h1 : ((finProdFinEquiv (m, d) : Fin (4 * 64)).val) / 64 = m.val := by rw [hv]; omega
    have h2 : ((finProdFinEquiv (m, d) : Fin (4 * 64)).val) % 64 = d.val := by rw [hv]; omega
    have h3 : (finProdFinEquiv (m, d) : Fin 256) = ⟨64 * m.val + d.val, by omega⟩ := Fin.ext (by rw [hv]; exact Nat.add_comm _ _)
    rw [h1, h2, if_pos rfl, mul_one]
    exact congrArg (fun z => f z * _) h3
  · intro b _ hb
    refine Finset.sum_eq_zero fun d _ => ?_
    have h1 : ((finProdFinEquiv (b, d) : Fin (4 * 64)).val) / 64 = b.val := by rw [hv]; omega
    rw [h1, if_neg (fun h => hb (Fin.ext h)), mul_zero, mul_zero]
  · intro h; exact absurd (Finset.mem_univ _) h

end Cert.Lru
end
-- ==== Proof.LruTile.lean ====
module
public import proofs.«01_k».proof.Proof.LruCase
public import proofs.«01_k».proof.Proof.LruSpec

/-! # A tile against the recurrence

The tile's convolution, gates, decays and scaled inputs at a row are the recurrence's at that row of the sequence, and so
are the states. -/

@[expose] public section
set_option maxRecDepth 16384
noncomputable section
open Idealize.ShloMosaic Idealize.ShloMosaic.TcCoe Idealize.SL.Sem

namespace Cert.KernelIdeal.Lru
open Cert.KernelIdeal Cert.KernelIdeal.Gen Cert.Lru

/-- The weights as the kernel's blocks hold them. -/
structure Holds (P : Weights) (x2 : Vec Ideal S4x512 .f32) (x3 : Vec Ideal S1x512 .f32) (x4 : Vec Ideal S2x256x512 .bf16)
    (x5 x6 x7 : Vec Ideal S1x512 .f32) : Prop where
  cw : ∀ k c, x2 (ix2 k c) = P.cw k c
  cb : ∀ c, x3 (ix2 0 c) = P.cb c
  wr : ∀ (k : Fin 2) (x : Fin 256) (j : Fin 256), x4 (ix3 k x ⟨j.val, by omega⟩)
    = P.wr (4 * k.val + x.val / 64) (x.val % 64) (j.val % 64) * (if x.val / 64 = j.val / 64 then 1 else 0)
  br : ∀ c, x5 (ix2 0 c) = P.br c
  wi : ∀ (k : Fin 2) (x : Fin 256) (j : Fin 256), x4 (ix3 k x ⟨256 + j.val, by omega⟩)
    = P.wi (4 * k.val + x.val / 64) (x.val % 64) (j.val % 64) * (if x.val / 64 = j.val / 64 then 1 else 0)
  bi : ∀ c, x6 (ix2 0 c) = P.bi c
  lam : ∀ c, x7 (ix2 0 c) = P.lam c

section
variable {P : Weights} {x2 : Vec Ideal S4x512 .f32} {x3 : Vec Ideal S1x512 .f32} {x4 : Vec Ideal S2x256x512 .bf16}
  {x5 x6 x7 : Vec Ideal S1x512 .f32} (H : Holds P x2 x3 x4 x5 x6 x7)
  (X : ℕ → Fin 512 → EReal) (base : ℕ)
  (x0 : Vec Ideal S1x256x512 .f32) (hx : ∀ (p : Fin 256) c, x0 (ix3 0 p c) = X (base + p.val + 3) c)
  (C : Vec Ideal S264x512 .f32) (hC : ∀ (q : Fin 264) c, 5 ≤ q.val → C (ix2 q c) = X (base + (q.val - 5)) c)
include H hx hC

theorem tConv_apply (p : Fin 256) (c : Fin 512) : tConv x0 x2 x3 C (ix2 p c) = conv P X (base + p.val) c := by
  have e : tConv x0 x2 x3 C (ix2 p c) = x3 (ix2 0 c) + x0 (ix3 0 p c) * x2 (ix2 3 c)
      + C (ix2 ⟨7 + p.val, by omega⟩ c) * x2 (ix2 2 c) + C (ix2 ⟨6 + p.val, by omega⟩ c) * x2 (ix2 1 c)
      + C (ix2 ⟨5 + p.val, by omega⟩ c) * x2 (ix2 0 c) := by
    pointwise [tConv, k0_pay6, k0_pay4]
  rw [e, H.cb, H.cw, H.cw, H.cw, H.cw, hx, hC _ _ (by show 5 ≤ 7 + p.val; omega), hC _ _ (by show 5 ≤ 6 + p.val; omega),
    hC _ _ (by show 5 ≤ 5 + p.val; omega)]
  unfold conv
  have e2 : base + (7 + p.val - 5) = base + p.val + 2 := by omega
  have e1 : base + (6 + p.val - 5) = base + p.val + 1 := by omega
  have e0 : base + (5 + p.val - 5) = base + p.val := by omega
  show P.cb c + _ + X (base + (7 + p.val - 5)) c * _ + X (base + (6 + p.val - 5)) c * _ + X (base + (5 + p.val - 5)) c * _ = _
  rw [e2, e1, e0]

omit H hx hC in
/-- The product of one half of the channels with its block of the gate's matrix is the head's own product. -/
theorem half_sum (y : Fin 512 → EReal) (w : ℕ → ℕ → ℕ → EReal) (k : Fin 2) (j : Fin 256) (g : Fin 256 → EReal)
    (hg : ∀ x : Fin 256, g x = w (4 * k.val + x.val / 64) (x.val % 64) (j.val % 64) * (if x.val / 64 = j.val / 64 then 1 else 0))
    (c : Fin 512) (hc : c.val = 256 * k.val + j.val) :
    (∑ x : Fin 256, y ⟨256 * k.val + x.val, by omega⟩ * g x)
      = ∑ d : Fin 64, y ⟨64 * (c.val / 64) + d.val, by omega⟩ * w (c.val / 64) d.val (c.val % 64) := by
  have hj := j.isLt
  have hk := k.isLt
  simp only [hg]
  rw [block_sum (fun x => y ⟨256 * k.val + x.val, by omega⟩) (fun n d => w (4 * k.val + n) d (j.val % 64)) ⟨j.val / 64, by omega⟩]
  refine Finset.sum_congr rfl fun d _ => ?_
  have e1 : 4 * k.val + j.val / 64 = c.val / 64 := by omega
  have e2 : j.val % 64 = c.val % 64 := by omega
  have e3 : (⟨256 * k.val + (64 * (j.val / 64) + d.val), by omega⟩ : Fin 512) = ⟨64 * (c.val / 64) + d.val, by omega⟩ :=
    Fin.ext (by show 256 * k.val + (64 * (j.val / 64) + d.val) = 64 * (c.val / 64) + d.val; omega)
  show y ⟨256 * k.val + (64 * (j.val / 64) + d.val), _⟩ * w (4 * k.val + j.val / 64) d.val (j.val % 64) = _
  rw [e1, e2, e3]

omit hx hC in
theorem tR_apply (xc : FVec Ideal S256x512 .f32) (p : Fin 256) (c : Fin 512) :
    tR xc x4 x5 (ix2 p c) = gate P.wr P.br (fun c => xc (ix2 p c)) c := by
  have e : tR xc x4 x5 (ix2 p c) = Ideal.logistic ((if h : c.val < 256 then
      ∑ x : Fin 256, xc (ix2 p ⟨x.val, by omega⟩) * x4 (ix3 0 x ⟨c.val, by omega⟩)
      else ∑ x : Fin 256, xc (ix2 p ⟨256 + x.val, by omega⟩) * x4 (ix3 1 x ⟨c.val - 256, by omega⟩)) + x5 (ix2 0 c)) := by
    pointwise [tR, k0_pay11, k0_pay9, k0_pay10]
  have hc := c.isLt
  rw [e, H.br]
  show Ideal.div 1 (1 + Ideal.exp (-(_ + P.br c))) = _
  unfold gate
  congr 6
  split
  · have := half_sum (fun c => xc (ix2 p c)) P.wr 0 ⟨c.val, by omega⟩ _ (fun x => H.wr 0 x ⟨c.val, by omega⟩) c (by simp)
    simpa using this
  · have := half_sum (fun c => xc (ix2 p c)) P.wr 1 ⟨c.val - 256, by omega⟩ _ (fun x => H.wr 1 x ⟨c.val - 256, by omega⟩) c
      (by simp; omega)
    simpa using this

omit hx hC in
theorem tI_apply (xc : FVec Ideal S256x512 .f32) (p : Fin 256) (c : Fin 512) :
    tI xc x4 x6 (ix2 p c) = gate P.wi P.bi (fun c => xc (ix2 p c)) c := by
  have e : tI xc x4 x6 (ix2 p c) = Ideal.logistic ((if h : c.val < 256 then
      ∑ x : Fin 256, xc (ix2 p ⟨x.val, by omega⟩) * x4 (ix3 0 x ⟨256 + c.val, by omega⟩)
      else ∑ x : Fin 256, xc (ix2 p ⟨256 + x.val, by omega⟩) * x4 (ix3 1 x ⟨256 + (c.val - 256), by omega⟩)) + x6 (ix2 0 c)) := by
    pointwise [tI, k0_pay12, k0_pay9, k0_pay10]
  have hc := c.isLt
  rw [e, H.bi]
  show Ideal.div 1 (1 + Ideal.exp (-(_ + P.bi c))) = _
  unfold gate
  congr 6
  split
  · have := half_sum (fun c => xc (ix2 p c)) P.wi 0 ⟨c.val, by omega⟩ _ (fun x => H.wi 0 x ⟨c.val, by omega⟩) c (by simp)
    simpa using this
  · have := half_sum (fun c => xc (ix2 p c)) P.wi 1 ⟨c.val - 256, by omega⟩ _ (fun x => H.wi 1 x ⟨c.val - 256, by omega⟩) c
      (by simp; omega)
    simpa using this

theorem conv_row (p : Fin 256) : (fun c => tConv x0 x2 x3 C (ix2 p c)) = conv P X (base + p.val) :=
  funext fun c => tConv_apply H X base x0 hx C hC p c

theorem log_apply (p : Fin 256) (c : Fin 512) :
    k0_pay14 (tR (tConv x0 x2 x3 C) x4 x5) (k0_pay13 x7) c8 (ix2 p c) = la P X (base + p.val) c := by
  have e : k0_pay14 (tR (tConv x0 x2 x3 C) x4 x5) (k0_pay13 x7) c8 (ix2 p c)
      = c8 * k0_pay13 x7 (ix2 0 c) * tR (tConv x0 x2 x3 C) x4 x5 (ix2 p c) := by
    pointwise [k0_pay14]
  have e2 : k0_pay13 x7 (ix2 0 c) = softplus (-x7 (ix2 0 c)) := by
    pointwise [k0_pay13]
    simp only [zero_sub]
    rfl
  rw [e, e2, H.lam, tR_apply H, conv_row H X base x0 hx C hC]
  rfl

theorem dec_apply (p : Fin 256) (c : Fin 512) :
    k0_pay15 (tR (tConv x0 x2 x3 C) x4 x5) (k0_pay13 x7) c8 (ix2 p c) = dec P X (base + p.val) c :=
  congrArg Ideal.exp (log_apply H X base x0 hx C hC p c)

theorem inp_apply (p : Fin 256) (c : Fin 512) :
    uvec (tConv x0 x2 x3 C) (tR (tConv x0 x2 x3 C) x4 x5) (tI (tConv x0 x2 x3 C) x4 x6) (k0_pay13 x7) c8 (ix2 p c)
      = inp P X (base + p.val) c := by
  show Ideal.sqrt (((Scalar.ofBits .f32 0x00000000#32 : Ideal .f32) - Ideal.tanh (k0_pay14 (tR (tConv x0 x2 x3 C) x4 x5) (k0_pay13 x7) c8 (ix2 p c)))
    * (k0_pay15 (tR (tConv x0 x2 x3 C) x4 x5) (k0_pay13 x7) c8 (ix2 p c) * k0_pay15 (tR (tConv x0 x2 x3 C) x4 x5) (k0_pay13 x7) c8 (ix2 p c)
      + (Scalar.ofBits .f32 0x3F800000#32 : Ideal .f32))) * (tI (tConv x0 x2 x3 C) x4 x6 (ix2 p c) * tConv x0 x2 x3 C (ix2 p c)) = _
  rw [zero_word, one_word, log_apply H X base x0 hx C hC, dec_apply H X base x0 hx C hC, tI_apply H, conv_row H X base x0 hx C hC,
    tConv_apply H X base x0 hx C hC]
  unfold dec inp
  rw [coef_eq]

variable (hin : Vec Ideal S1x512 .f32) (hh : ∀ c, hin (ix2 0 c) = st P X c base)

theorem step_apply (c : Fin 512) (p : Fin 256) :
    tA (tA1 (tConv x0 x2 x3 C) x4 x5 x7) (ix2 p c) * st P X c (base + 8 * (p.val / 8))
      + tU (tU1 (tConv x0 x2 x3 C) x4 x5 x6 x7) (tA1 (tConv x0 x2 x3 C) x4 x5 x7) (ix2 p c) = st P X c (base + (p.val + 1)) := by
  have h1 : ∀ p : Fin 256, tA1 (tConv x0 x2 x3 C) x4 x5 x7 (ix2 p c) = lvA 1 (fun q => dec P X (base + q) c) p.val :=
    pay19_apply _ _ _ (fun q => dec P X (base + q) c) c (fun p => dec_apply H X base x0 hx C hC p c)
  have h2 : ∀ p : Fin 256, tU1 (tConv x0 x2 x3 C) x4 x5 x6 x7 (ix2 p c)
      = lvU 1 (fun q => dec P X (base + q) c) (fun q => inp P X (base + q) c) p.val :=
    pay18_apply _ _ _ (fun q => dec P X (base + q) c) c (fun p => dec_apply H X base x0 hx C hC p c) _ _
      (fun q => inp P X (base + q) c) (fun p => inp_apply H X base x0 hx C hC p c)
  have h3 : tA (tA1 (tConv x0 x2 x3 C) x4 x5 x7) (ix2 p c) = _ := pay24_apply c _ _ h1 p
  have h4 : tU (tU1 (tConv x0 x2 x3 C) x4 x5 x6 x7) (tA1 (tConv x0 x2 x3 C) x4 x5 x7) (ix2 p c) = _ := pay23_apply c _ _ _ _ h1 h2 p
  rw [h3, h4]
  exact scan8 (fun q => st P X c (base + q)) _ _ (fun q => good_dec P X (base + q) c) (fun q => rfl) p.val

include hh in
theorem tH_apply (c : Fin 512) (p : Fin 256) :
    tH (tConv x0 x2 x3 C) x4 x5 x6 x7 hin (ix2 p c) = st P X c (base + (p.val + 1)) :=
  rows_apply _ _ _ c (fun q => st P X c (base + q)) (step_apply H X base x0 hx C hC c) (hh c) p

include hh in
theorem tEnd_apply (c : Fin 512) : tEnd (tConv x0 x2 x3 C) x4 x5 x6 x7 hin (ix2 0 c) = st P X c (base + 256) :=
  end_apply _ _ _ c (fun q => st P X c (base + q)) (step_apply H X base x0 hx C hC c) (hh c)

end

end Cert.KernelIdeal.Lru
end
-- ==== Proof.LruBlocks.lean ====
module
public import proofs.«01_k».proof.Proof.LruTile
public import proofs.«01_k».proof.Proof.Gen.KernelIdeal.Value
public import Idealize.ShloMosaic.Lib.Pipeline.ValueKit

/-! # The blocks the grid points read

Each input block at a grid point, at the array it is cut from; the gates' matrix is block diagonal. -/

@[expose] public section
set_option maxRecDepth 16384
noncomputable section
open Idealize.ShloMosaic Idealize.ShloMosaic.TcCoe Idealize.SL.Sem

namespace Cert.KernelIdeal.Lru
open Cert.KernelIdeal Cert.KernelIdeal.Gen Cert.Lru

theorem idx : ∀ t : Fin cfg0.N, win0_0.index t = ![t.val / 16, t.val % 16, 0] ∧ win0_1.index t = ![t.val / 16, t.val % 16, 0]
    ∧ win0_2.index t = ![0, 0] ∧ win0_3.index t = ![0, 0] ∧ win0_4.index t = ![0, 0, 0] ∧ win0_5.index t = ![0, 0]
    ∧ win0_6.index t = ![0, 0] ∧ win0_7.index t = ![0, 0] :=
  (by decide +kernel : ∀ t : Fin grid0.N, _)

variable (m : (ℓ : Loc nD τ sig) → Buf (Elt Ideal) ℓ) (c : Dev nD) (t : Fin cfg0.N)

theorem t_lt : t.val < 64 := lt_of_lt_of_eq t.isLt N_0

theorem blk0 (p : Fin 256) (j : Fin 512) : (iblk m c 0 t : Vec Ideal S1x256x512 .f32) (ix3 0 p j)
    = m ((c : Thread nD τ).loc main_arg0) (ix3 ⟨t.val / 16, by have := t_lt t; omega⟩ ⟨256 * (t.val % 16) + p.val, by omega⟩ j) := by
  blk_ext [iblk, V, idx t]

theorem blk1 (p : Fin 256) (j : Fin 512) : (iblk m c 1 t : Vec Ideal S1x256x512 .f32) (ix3 0 p j)
    = m ((c : Thread nD τ).loc main_arg1) (ix3 ⟨t.val / 16, by have := t_lt t; omega⟩ ⟨256 * (t.val % 16) + p.val, by omega⟩ j) := by
  blk_ext [iblk, V, idx t]

theorem blk2 (k : Fin 4) (j : Fin 512) : (iblk m c 2 t : Vec Ideal S4x512 .f32) (ix2 k j)
    = m ((c : Thread nD τ).loc main_arg2) (ix2 k j) := by
  blk_ext [iblk, V, idx t]

theorem blk3 (j : Fin 512) : (iblk m c 3 t : Vec Ideal S1x512 .f32) (ix2 0 j) = m ((c : Thread nD τ).loc main_arg3) (ix1 j) := by
  blk_ext! [iblk, idx t]

theorem blk5 (j : Fin 512) : (iblk m c 5 t : Vec Ideal S1x512 .f32) (ix2 0 j) = m ((c : Thread nD τ).loc main_arg5) (ix1 j) := by
  blk_ext! [iblk, idx t]

theorem blk6 (j : Fin 512) : (iblk m c 6 t : Vec Ideal S1x512 .f32) (ix2 0 j) = m ((c : Thread nD τ).loc main_arg7) (ix1 j) := by
  blk_ext! [iblk, idx t]

theorem blk7 (j : Fin 512) : (iblk m c 7 t : Vec Ideal S1x512 .f32) (ix2 0 j) = m ((c : Thread nD τ).loc main_arg8) (ix1 j) := by
  blk_ext! [iblk, idx t]

theorem blk4 (k : Fin 2) (x : Fin 256) (j : Fin 512) : (iblk m c 4 t : Vec Ideal S2x256x512 .bf16) (ix3 k x j)
    = V m c main_v33 (ix3 k x j) := by
  blk_ext [iblk, idx t]

theorem eye_bit : ∀ a b : Fin 8, IntOp.cmpi .eq (IntOp.addi (BitVec.ofNat 32 a.val) 0#32) (BitVec.ofNat 32 b.val)
    = if a.val = b.val then 1#1 else 0#1 := by decide +kernel

/-- An entry of the identity, as a float. -/
theorem eye_apply (a b : ℕ) (ha : a < 8) (hb : b < 8) :
    (FloatOps.uitofp .f32 (IntOp.cmpi .eq (IntOp.addi (BitVec.ofNat 32 a) 0#32) (BitVec.ofNat 32 b)) : Ideal .f32)
      = if a = b then (1 : EReal) else 0 := by
  rw [show IntOp.cmpi .eq (IntOp.addi (BitVec.ofNat 32 a) 0#32) (BitVec.ofNat 32 b) = if a = b then 1#1 else 0#1 from
    eye_bit ⟨a, ha⟩ ⟨b, hb⟩]
  by_cases h : a = b
  · rw [if_pos h, if_pos h]
    show (((1#1 : BitVec 1).toNat : ℝ) : EReal) = 1
    norm_num
  · rw [if_neg h, if_neg h]
    show (((0#1 : BitVec 1).toNat : ℝ) : EReal) = 0
    norm_num

/-- The weights the kernel's program is given. -/
def weights : Weights :=
  Weights.of (fun k j => m ((c : Thread nD τ).loc main_arg2) (ix2 k j)) (fun j => m ((c : Thread nD τ).loc main_arg3) (ix1 j))
    (fun n d e => m ((c : Thread nD τ).loc main_arg4) (ix3 n d e)) (fun j => m ((c : Thread nD τ).loc main_arg5) (ix1 j))
    (fun n d e => m ((c : Thread nD τ).loc main_arg6) (ix3 n d e)) (fun j => m ((c : Thread nD τ).loc main_arg7) (ix1 j))
    (fun j => m ((c : Thread nD τ).loc main_arg8) (ix1 j))

/-- The rows of one sequence the kernel's program is given. -/
def seq (b : Fin 4) : ℕ → Fin 512 → EReal := seqOf fun s j => m ((c : Thread nD τ).loc main_arg0) (ix3 b s j)

theorem wr_apply (n d e : ℕ) (hn : n < 8) (hd : d < 64) (he : e < 64) :
    (weights m c).wr n d e = m ((c : Thread nD τ).loc main_arg4) (ix3 ⟨n, hn⟩ ⟨d, hd⟩ ⟨e, he⟩) := dif_pos ⟨hn, hd, he⟩
theorem wi_apply (n d e : ℕ) (hn : n < 8) (hd : d < 64) (he : e < 64) :
    (weights m c).wi n d e = m ((c : Thread nD τ).loc main_arg6) (ix3 ⟨n, hn⟩ ⟨d, hd⟩ ⟨e, he⟩) := dif_pos ⟨hn, hd, he⟩

theorem entry_congr (w : ℕ → ℕ → ℕ → EReal) {n n' d d' e e' a b a' b' : ℕ} (h1 : n = n') (h2 : d = d') (h3 : e = e')
    (h4 : a = b ↔ a' = b') : w n d e * (if a = b then 1 else 0) = w n' d' e' * (if a' = b' then (1 : EReal) else 0) := by
  subst h1 h2 h3
  simp only [h4]

/-- A gate's head matrices. -/
def heads4 : Vec Ideal S8x64x64 .f32 := m ((c : Thread nD τ).loc main_arg4)
@[inherit_doc heads4] def heads6 : Vec Ideal S8x64x64 .f32 := m ((c : Thread nD τ).loc main_arg6)

/-- An entry of the gates' matrix, as the host builds it of the two gates' head matrices. -/
def gateEntry (u v : Vec Ideal S8x64x64 .f32) (k : Fin 2) (x : Fin 256) (j : Fin 512) : EReal :=
    if h : k.val < 1 then
      if h : j.val < 256 then
        u (ix3 ⟨x.val / 64, by omega⟩ ⟨x.val % 64, by omega⟩ ⟨j.val % 64, by omega⟩) *
          FloatOps.uitofp (F := Ideal) FTy.f32 (IntOp.cmpi CmpIPredicate.eq (IntOp.addi (BitVec.ofNat 32 (x.val / 64)) 0#32) (BitVec.ofNat 32 (j.val / 64)))
      else
        v (ix3 ⟨x.val / 64, by omega⟩ ⟨x.val % 64, by omega⟩ ⟨(j.val - 256) % 64, by omega⟩) *
          FloatOps.uitofp (F := Ideal) FTy.f32 (IntOp.cmpi CmpIPredicate.eq (IntOp.addi (BitVec.ofNat 32 (x.val / 64)) 0#32) (BitVec.ofNat 32 ((j.val - 256) / 64)))
    else
      if h : j.val < 256 then
        u (ix3 ⟨(256 + x.val) / 64, by omega⟩ ⟨(256 + x.val) % 64, by omega⟩ ⟨(256 + j.val) % 64, by omega⟩) *
          FloatOps.uitofp (F := Ideal) FTy.f32 (IntOp.cmpi CmpIPredicate.eq (IntOp.addi (BitVec.ofNat 32 ((256 + x.val) / 64)) 0#32) (BitVec.ofNat 32 ((256 + j.val) / 64)))
      else
        v (ix3 ⟨(256 + x.val) / 64, by omega⟩ ⟨(256 + x.val) % 64, by omega⟩ ⟨(256 + (j.val - 256)) % 64, by omega⟩) *
          FloatOps.uitofp (F := Ideal) FTy.f32 (IntOp.cmpi CmpIPredicate.eq (IntOp.addi (BitVec.ofNat 32 ((256 + x.val) / 64)) 0#32) (BitVec.ofNat 32 ((256 + (j.val - 256)) / 64)))

theorem v33_apply (k : Fin 2) (x : Fin 256) (j : Fin 512) :
    (V m c main_v33 : Vec Ideal S2x256x512 .bf16) (ix3 k x j) = gateEntry (heads4 m c) (heads6 m c) k x j := by
  unfold gateEntry
  entry_read
  pointwise
  rfl

theorem gateEntry_r (u v : Vec Ideal S8x64x64 .f32) (w : ℕ → ℕ → ℕ → EReal)
    (hw : ∀ (n d e : ℕ) (hn : n < 8) (hd : d < 64) (he : e < 64), w n d e = u (ix3 ⟨n, hn⟩ ⟨d, hd⟩ ⟨e, he⟩))
    (k : Fin 2) (x : Fin 256) (j : Fin 256) : gateEntry u v k x ⟨j.val, by omega⟩
      = w (4 * k.val + x.val / 64) (x.val % 64) (j.val % 64) * (if x.val / 64 = j.val / 64 then 1 else 0) := by
  have hk := k.isLt
  have hx := x.isLt
  have hj := j.isLt
  unfold gateEntry
  by_cases h : k.val < 1
  · refine (dif_pos h).trans ((dif_pos (by omega)).trans ?_)
    refine (congrArg₂ (fun a b : EReal => a * b) (hw (x.val / 64) (x.val % 64) (j.val % 64) (by omega) (by omega) (by omega)).symm
      (eye_apply (x.val / 64) (j.val / 64) (by omega) (by omega))).trans ?_
    exact entry_congr _ (by omega) (by omega) (by omega) (by omega)
  · refine (dif_neg h).trans ((dif_pos (by omega)).trans ?_)
    refine (congrArg₂ (fun a b : EReal => a * b) (hw ((256 + x.val) / 64) ((256 + x.val) % 64) ((256 + j.val) % 64) (by omega) (by omega) (by omega)).symm
      (eye_apply ((256 + x.val) / 64) ((256 + j.val) / 64) (by omega) (by omega))).trans ?_
    exact entry_congr _ (by omega) (by omega) (by omega) (by omega)

theorem gateEntry_i (u v : Vec Ideal S8x64x64 .f32) (w : ℕ → ℕ → ℕ → EReal)
    (hw : ∀ (n d e : ℕ) (hn : n < 8) (hd : d < 64) (he : e < 64), w n d e = v (ix3 ⟨n, hn⟩ ⟨d, hd⟩ ⟨e, he⟩))
    (k : Fin 2) (x : Fin 256) (j : Fin 256) : gateEntry u v k x ⟨256 + j.val, by omega⟩
      = w (4 * k.val + x.val / 64) (x.val % 64) (j.val % 64) * (if x.val / 64 = j.val / 64 then 1 else 0) := by
  have hk := k.isLt
  have hx := x.isLt
  have hj := j.isLt
  unfold gateEntry
  by_cases h : k.val < 1
  · refine (dif_pos h).trans ((dif_neg (by show ¬256 + j.val < 256; omega)).trans ?_)
    refine (congrArg₂ (fun a b : EReal => a * b) (hw (x.val / 64) (x.val % 64) ((256 + j.val - 256) % 64) (by omega) (by omega) (by omega)).symm
      (eye_apply (x.val / 64) ((256 + j.val - 256) / 64) (by omega) (by omega))).trans ?_
    exact entry_congr _ (by omega) (by omega) (by omega) (by omega)
  · refine (dif_neg h).trans ((dif_neg (by show ¬256 + j.val < 256; omega)).trans ?_)
    refine (congrArg₂ (fun a b : EReal => a * b) (hw ((256 + x.val) / 64) ((256 + x.val) % 64) ((256 + (256 + j.val - 256)) % 64) (by omega) (by omega) (by omega)).symm
      (eye_apply ((256 + x.val) / 64) ((256 + (256 + j.val - 256)) / 64) (by omega) (by omega))).trans ?_
    exact entry_congr _ (by omega) (by omega) (by omega) (by omega)

/-- The blocks at every grid point hold the weights. -/
theorem holds : Holds (weights m c) (iblk m c 2 t) (iblk m c 3 t) (iblk m c 4 t) (iblk m c 5 t) (iblk m c 6 t) (iblk m c 7 t) where
  cw := blk2 m c t
  cb := blk3 m c t
  wr k x j := (blk4 m c t k x _).trans ((v33_apply m c k x _).trans (gateEntry_r _ _ _ (wr_apply m c) k x j))
  br := blk5 m c t
  wi k x j := (blk4 m c t k x _).trans ((v33_apply m c k x _).trans (gateEntry_i _ _ _ (wi_apply m c) k x j))
  bi := blk6 m c t
  lam := blk7 m c t

end Cert.KernelIdeal.Lru
end
-- ==== Proof.LruRun.lean ====
module
public import proofs.«01_k».proof.Proof.LruBlocks

/-! # What the grid leaves

By induction on the grid point: each block of outputs, the last state row, the eight rows carried and the state carried
are the recurrence's. Then the two result arrays at an index. -/

@[expose] public section
set_option maxRecDepth 16384
noncomputable section
open Idealize.ShloMosaic Idealize.ShloMosaic.TcCoe Idealize.SL.Sem

namespace Cert.KernelIdeal.Lru
open Cert.KernelIdeal Cert.KernelIdeal.Gen Cert.KernelIdeal.Value Cert.Lru

theorem pay1_apply (h : FVec Ideal S256x512 .f32) (x1 : Vec Ideal S1x256x512 .f32) (p : Fin 256) (j : Fin 512) :
    k0_pay1 h x1 (ix3 0 p j) = h (ix2 p j) * gelu (x1 (ix3 0 p j)) := by
  pointwise [k0_pay1]
  rfl

theorem pay3_apply (j : Fin 512) : k0_pay3 (F := Ideal) (ix2 0 j) = (0 : EReal) := by
  pointwise [k0_pay3]

variable (m : (ℓ : Loc nD τ sig) → Buf (Elt Ideal) ℓ) (c : Dev nD)

/-- The state of one sequence before row `t`. -/
abbrev state (b : Fin 4) (j : Fin 512) (t : ℕ) : EReal := st (weights m c) (seq m c b) j t

/-- The sequence a grid point works on. -/
abbrev batch (t : Fin cfg0.N) : Fin 4 := ⟨t.val / 16, by have := t_lt t; omega⟩

/-- What the carried components hold after a point. -/
structure Left (t : Fin cfg0.N) (S : Vec Ideal S1x256x512 .f32 × Vec Ideal S1x1x512 .f32 × Vec Ideal S264x512 .f32 × Vec Ideal S1x512 .f32) : Prop where
  y : ∀ (p : Fin 256) j, S.1 (ix3 0 p j) = state m c (batch t) j (256 * (t.val % 16) + (p.val + 1)) * gelu ((iblk m c 1 t : Vec Ideal S1x256x512 .f32) (ix3 0 p j))
  e : ∀ j, S.2.1 (ix3 0 0 j) = state m c (batch t) j (256 * (t.val % 16) + 256)
  r : ∀ (r : Fin 8) j, S.2.2.1 (ix2 ⟨r.val, by omega⟩ j) = seq m c (batch t) (256 * (t.val % 16) + 251 + r.val) j
  h : ∀ j, S.2.2.2 (ix2 0 j) = state m c (batch t) j (256 * (t.val % 16) + 256)

theorem rows0 (t : Fin cfg0.N) (p : Fin 256) (j : Fin 512) :
    (iblk m c 0 t : Vec Ideal S1x256x512 .f32) (ix3 0 p j) = seq m c (batch t) (256 * (t.val % 16) + p.val + 3) j := by
  rw [blk0]
  have ht := t_lt t
  unfold seq seqOf
  rw [dif_pos (by omega)]
  congr 2

/-- The padded rows of a tile are the sequence's, if the carried rows are. -/
theorem padded_apply (t : Fin cfg0.N) (C : Vec Ideal S264x512 .f32)
    (hC : ∀ (r : Fin 8) j, 5 ≤ r.val → C (ix2 ⟨r.val, by omega⟩ j) = seq m c (batch t) (256 * (t.val % 16) + (r.val - 5)) j)
    (q : Fin 264) (j : Fin 512) (hq : 5 ≤ q.val) :
    padded C (iblk m c 0 t) (ix2 q j) = seq m c (batch t) (256 * (t.val % 16) + (q.val - 5)) j := by
  unfold padded
  by_cases h : 8 ≤ q.val
  · refine (dif_pos h).trans ((rows0 m c t ⟨q.val - 8, by omega⟩ j).trans ?_)
    congr 1
    show 256 * (t.val % 16) + (q.val - 8) + 3 = _
    omega
  · exact (dif_neg h).trans (hC ⟨q.val, by omega⟩ j hq)

theorem cast3 (v : FVec Ideal S1x512 .f32) (j : Fin 512) : shapeCast S1x1x512 v shapeCasts_S1x512_S1x1x512 (ix3 0 0 j) = v (ix2 0 j) := by
  pointwise
theorem cast2 (v : FVec Ideal S1x512 .f32) (j : Fin 512) : shapeCast S1x512 v shapeCasts_S1x512_S1x512 (ix2 0 j) = v (ix2 0 j) := by
  pointwise

theorem seq_zero (b : Fin 4) (s : ℕ) (hs : s < 3) (j : Fin 512) : seq m c b s j = 0 := dif_neg (by omega)

/-- A point's components, from what they are of the carried rows and state. -/
theorem left_of (t : Fin cfg0.N) (C : Vec Ideal S264x512 .f32) (hin : Vec Ideal S1x512 .f32)
    (hC : ∀ (q : Fin 264) j, 5 ≤ q.val → padded C (iblk m c 0 t) (ix2 q j) = seq m c (batch t) (256 * (t.val % 16) + (q.val - 5)) j)
    (hh : ∀ j, hin (ix2 0 j) = st (weights m c) (seq m c (batch t)) j (256 * (t.val % 16)))
    {a : Vec Ideal S1x256x512 .f32} {b : Vec Ideal S1x1x512 .f32} {d : Vec Ideal S264x512 .f32} {e : Vec Ideal S1x512 .f32}
    (ea : a = k0_pay1 (tH (tConv (iblk m c 0 t) (iblk m c 2 t) (iblk m c 3 t) (padded C (iblk m c 0 t))) (iblk m c 4 t) (iblk m c 5 t)
      (iblk m c 6 t) (iblk m c 7 t) hin) (iblk m c 1 t))
    (eb : b = shapeCast S1x1x512 (tEnd (tConv (iblk m c 0 t) (iblk m c 2 t) (iblk m c 3 t) (padded C (iblk m c 0 t))) (iblk m c 4 t)
      (iblk m c 5 t) (iblk m c 6 t) (iblk m c 7 t) hin) shapeCasts_S1x512_S1x1x512)
    (ed : ∀ (r : Fin 8) (j : Fin 512), d (ix2 ⟨r.val, by omega⟩ j) = (iblk m c 0 t : Vec Ideal S1x256x512 .f32) (ix3 0 ⟨248 + r.val, by omega⟩ j))
    (ee : e = shapeCast S1x512 (tEnd (tConv (iblk m c 0 t) (iblk m c 2 t) (iblk m c 3 t) (padded C (iblk m c 0 t))) (iblk m c 4 t)
      (iblk m c 5 t) (iblk m c 6 t) (iblk m c 7 t) hin) shapeCasts_S1x512_S1x512) : Left m c t (a, b, d, e) := by
  subst ea eb ee
  refine ⟨fun p j => ?_, fun j => ?_, fun r j => ?_, fun j => ?_⟩
  · refine (pay1_apply _ _ p j).trans ?_
    rw [tH_apply (holds m c t) _ _ _ (rows0 m c t) _ hC _ hh]
  · exact (cast3 _ j).trans (tEnd_apply (holds m c t) _ _ _ (rows0 m c t) _ hC _ hh j)
  · refine (ed r j).trans ((rows0 m c t _ j).trans ?_)
    congr 1
    show 256 * (t.val % 16) + (248 + r.val) + 3 = _
    omega
  · exact (cast2 _ j).trans (tEnd_apply (holds m c t) _ _ _ (rows0 m c t) _ hC _ hh j)

set_option maxHeartbeats 2000000 in
theorem left_A (t : Fin cfg0.N) (acc : Vec Ideal S1x256x512 .f32 × Vec Ideal S1x1x512 .f32 × Vec Ideal S264x512 .f32 × Vec Ideal S1x512 .f32)
    (h0 : t.val % 16 = 0) : Left m c t (stAt0 m c t.val t.isLt acc) := by
  have hC := padded_apply m c t zeroRows (fun r j hr => (seq_zero m c _ _ (by omega) j).symm)
  have hh : ∀ j, k0_pay3 (F := Ideal) (ix2 0 j) = st (weights m c) (seq m c (batch t)) j (256 * (t.val % 16)) := fun j => by
    rw [h0]; exact (pay3_apply j).trans rfl
  rw [stAt0_A m c t acc h0]
  exact left_of m c t zeroRows (k0_pay3 (F := Ideal)) hC hh (out0_A_8_eq (hc0 := _) ..) (out0_A_9_eq (hc0 := _) ..)
    (fun r j => sout0_A_0_row (hc0 := _) (r := r) (j := j) ..) (sout0_A_1_eq (hc0 := _) ..)

theorem left_B (t : Fin cfg0.N) (s : Fin cfg0.N) (acc : Vec Ideal S1x256x512 .f32 × Vec Ideal S1x1x512 .f32 × Vec Ideal S264x512 .f32 × Vec Ideal S1x512 .f32)
    (hs : s.val + 1 = t.val) (ha : Left m c s acc) (h0 : ¬t.val % 16 = 0) : Left m c t (stAt0 m c t.val t.isLt acc) := by
  have hb : batch t = batch s := Fin.ext (by show t.val / 16 = s.val / 16; omega)
  have hq : 256 * (t.val % 16) = 256 * (s.val % 16) + 256 := by omega
  have hC := padded_apply m c t acc.2.2.1 (fun r j hr => (ha.r r j).trans (by
    rw [hb, hq]; congr 1; omega))
  have hh : ∀ j, acc.2.2.2 (ix2 0 j) = st (weights m c) (seq m c (batch t)) j (256 * (t.val % 16)) := fun j => by
    rw [ha.h, hb, hq]
  rw [stAt0_B m c t acc h0]
  exact left_of m c t acc.2.2.1 acc.2.2.2 hC hh (out0_B_8_eq (hc0 := _) ..) (out0_B_9_eq (hc0 := _) ..)
    (fun r j => sout0_B_0_row (hc0 := _) (r := r) (j := j) ..) (sout0_B_1_eq (hc0 := _) ..)

theorem left_all : ∀ (n : ℕ) (hn : n < cfg0.N), Left m c ⟨n, hn⟩ (outsAt0 m c n hn)
  | 0, hn => by rw [outsAt0_zero]; exact left_A m c ⟨0, hn⟩ _ rfl
  | n + 1, hn => by
    rw [outsAt0_succ]
    by_cases h : (n + 1) % 16 = 0
    · exact left_A m c ⟨n + 1, hn⟩ _ h
    · exact left_B m c ⟨n + 1, hn⟩ ⟨n, Nat.lt_of_succ_lt hn⟩ _ rfl (left_all n _) h

/-- The branch's outputs. -/
theorem G8_apply (b : Fin 4) (s : Fin 4096) (j : Fin 512) : G8 m c (ix3 b s j)
    = state m c b j (s.val + 1) * gelu (m ((c : Thread nD τ).loc main_arg1) (ix3 b s j)) := by
  have hb := b.isLt
  have hs := s.isLt
  have hn : 16 * b.val + s.val / 256 < cfg0.N := lt_of_lt_of_eq (by omega) N_0.symm
  have hp : pt8Of (ix3 b s j) = 16 * b.val + s.val / 256 := by
    have hj := j.isLt
    show 16 * (b.val / 1 - 0) + 1 * (s.val / 256 - 0) + 1 * (j.val / 512 - 0) = _
    omega
  have hl : loc8Of (ix3 b s j) = ix3 0 ⟨s.val % 256, by omega⟩ j := by
    funext a
    match a with
    | ⟨0, _⟩ => exact Fin.ext (Nat.mod_one _)
    | ⟨1, _⟩ => rfl
    | ⟨2, _⟩ => exact Fin.ext (Nat.mod_eq_of_lt j.isLt)
  unfold G8
  rw [dif_pos (hp ▸ hn), hl, fold0_congr m c _ _ (16 * b.val + s.val / 256) (by omega) hp, ← outsAt0_sweep m c _ hn,
    (left_all m c _ hn).y, blk1]
  have e1 : batch ⟨16 * b.val + s.val / 256, hn⟩ = b := Fin.ext (by show (16 * b.val + s.val / 256) / 16 = b.val; omega)
  have e2 : 256 * ((16 * b.val + s.val / 256) % 16) + (s.val % 256 + 1) = s.val + 1 := by omega
  have e3 : 256 * ((16 * b.val + s.val / 256) % 16) + s.val % 256 = s.val := by omega
  show st (weights m c) (seq m c (batch _)) j (256 * ((16 * b.val + s.val / 256) % 16) + (s.val % 256 + 1)) * _ = _
  rw [e1, e2]
  congr 3
  exact congrArg₂ (fun x y => ix3 x y j) e1 (Fin.ext e3)

/-- The last states. -/
theorem G9_apply (b : Fin 4) (j : Fin 512) : G9 m c (ix3 b 0 j) = state m c b j 4096 := by
  have hb := b.isLt
  have hn : 16 * b.val + 15 < cfg0.N := lt_of_lt_of_eq (by omega) N_0.symm
  have hp : pt9Of (ix3 b 0 j) = 16 * b.val + 15 := by
    have hj := j.isLt
    show 16 * (1 * (b.val / 1 - 0) + 1 * (0 / 1 - 0) + 1 * (j.val / 512 - 0)) + 15 = _
    omega
  have hl : loc9Of (ix3 b 0 j) = ix3 0 0 j := by
    funext a
    match a with
    | ⟨0, _⟩ => exact Fin.ext (Nat.mod_one _)
    | ⟨1, _⟩ => rfl
    | ⟨2, _⟩ => exact Fin.ext (Nat.mod_eq_of_lt j.isLt)
  unfold G9
  rw [dif_pos (hp ▸ hn), hl, fold0_congr m c _ _ (16 * b.val + 15) (by omega) hp, ← outsAt0_sweep m c _ hn,
    (left_all m c _ hn).e]
  have e1 : batch ⟨16 * b.val + 15, hn⟩ = b := Fin.ext (by show (16 * b.val + 15) / 16 = b.val; omega)
  have e2 : 256 * ((16 * b.val + 15) % 16) + 256 = 4096 := by omega
  show st (weights m c) (seq m c (batch _)) j (256 * ((16 * b.val + 15) % 16) + 256) = _
  rw [e1, e2]

end Cert.KernelIdeal.Lru
end
-- ==== Proof.LruEntry.lean ====
module
public import proofs.«01_k».proof.Proof.LruSpec
public import proofs.«01_k».proof.Proof.Gen.ReferenceIdeal.Run
public import Idealize.ShloMosaic.Lib.Pipeline.ValueKit
public import Idealize.ShloMosaic.Lib.StableHlo.ReadAt

/-! # The reference before its loop

The reference makes all the decays and all the scaled inputs first, then scans. Here the two arrays it scans, read at an
index, are the recurrence's decay and scaled input. -/

@[expose] public section
set_option maxRecDepth 16384
noncomputable section
open Idealize.ShloMosaic Idealize.ShloMosaic.TcCoe Idealize.SL.Sem Idealize.ShloMosaic.StableHlo

namespace Cert.Lru

section
variable (rows : Fin 4096 → Fin 512 → EReal) (cw : Fin 4 → Fin 512 → EReal) (cb : Fin 512 → EReal) (wr : Fin 8 → Fin 64 → Fin 64 → EReal)
  (br : Fin 512 → EReal) (wi : Fin 8 → Fin 64 → Fin 64 → EReal) (bi lam : Fin 512 → EReal)

/-- The convolution as the reference sums it: the four taps first, then the bias. -/
def convTaps (s : Fin 4096) (j : Fin 512) : EReal :=
  cb j + ((if h : s.val < 3 then 0 else rows ⟨s.val - 3, by omega⟩ j) * cw 0 j
    + (if h : 1 + s.val < 3 then 0 else rows ⟨1 + s.val - 3, by omega⟩ j) * cw 1 j
    + (if h : 2 + s.val < 3 then 0 else rows ⟨2 + s.val - 3, by omega⟩ j) * cw 2 j
    + rows s j * cw 3 j)

theorem seqOf_add (k : ℕ) (hk : k < 3) (s : Fin 4096) (j : Fin 512) :
    (if h : k + s.val < 3 then 0 else rows ⟨k + s.val - 3, by omega⟩ j) = seqOf rows (s.val + k) j := by
  unfold seqOf
  by_cases h : k + s.val < 3
  · rw [dif_pos h, dif_neg (by omega)]
  · rw [dif_neg h, dif_pos (by omega)]
    congr 2; omega

theorem convTaps_eq (s : Fin 4096) (j : Fin 512) :
    convTaps rows cw cb s j = conv (Weights.of cw cb wr br wi bi lam) (seqOf rows) s.val j := by
  have h0 : (if h : s.val < 3 then 0 else rows ⟨s.val - 3, by omega⟩ j) = seqOf rows s.val j := by
    have := seqOf_add rows 0 (by omega) s j
    simpa only [Nat.zero_add, Nat.add_zero] using this
  have h3 : rows s j = seqOf rows (s.val + 3) j := by
    unfold seqOf; rw [dif_pos (by omega)]; congr 2
  unfold convTaps conv
  rw [h0, seqOf_add rows 1 (by omega), seqOf_add rows 2 (by omega), h3]
  show _ = cb j + seqOf rows (s.val + 3) j * cw 3 j + seqOf rows (s.val + 2) j * cw 2 j + seqOf rows (s.val + 1) j * cw 1 j + seqOf rows s.val j * cw 0 j
  ac_rfl

/-- A gate as the reference computes it. -/
def gateTaps (w : Fin 8 → Fin 64 → Fin 64 → EReal) (bb : Fin 512 → EReal) (s : Fin 4096) (j : Fin 512) : EReal :=
  Ideal.div 1 (1 + Ideal.exp (-((∑ x : Fin 64, w ⟨j.val / 64, by omega⟩ x ⟨j.val % 64, by omega⟩
    * convTaps rows cw cb s ⟨j.val / 64 * 64 + x.val, by omega⟩) + bb j)))

theorem gateTaps_eq (w : Fin 8 → Fin 64 → Fin 64 → EReal) (w' : ℕ → ℕ → ℕ → EReal) (bb : Fin 512 → EReal)
    (hw : ∀ n d e, w' n.val d.val e.val = w n d e) (s : Fin 4096) (j : Fin 512) :
    gateTaps rows cw cb w bb s j = gate w' bb (conv (Weights.of cw cb wr br wi bi lam) (seqOf rows) s.val) j := by
  unfold gateTaps gate
  congr 5
  refine Finset.sum_congr rfl fun x _ => ?_
  rw [mul_comm, convTaps_eq rows cw cb wr br wi bi lam]
  congr 1
  · congr 1; exact Fin.ext (by show j.val / 64 * 64 + x.val = 64 * (j.val / 64) + x.val; omega)
  · exact (hw ⟨j.val / 64, by omega⟩ x ⟨j.val % 64, by omega⟩).symm

theorem two_eq : Ideal.ofBits FTy.f32 0x40000000#32 = (2 : EReal) := by
  have h : Ideal.ofBits FTy.f32 0x40000000#32 = ((2 : ℝ) : EReal) := by
    simp [Ideal.ofBits, Ideal.ieee, -EReal.coe_mul, -EReal.coe_neg]; norm_num
  rw [h]; rfl

/-- The decay's logarithm as the reference computes it. -/
def laTaps (s : Fin 4096) (j : Fin 512) : EReal :=
  Ideal.ofBits FTy.f32 0xC1000000#32 *
      (if -lam j ≠ -lam j then -lam j else max (-lam j) 0 + Ideal.log1p (Ideal.exp (-max (-lam j) (-(-lam j)))))
    * gateTaps rows cw cb wr br s j

theorem laTaps_eq (s : Fin 4096) (j : Fin 512) :
    laTaps rows cw cb wr br lam s j = la (Weights.of cw cb wr br wi bi lam) (seqOf rows) s.val j := by
  unfold laTaps la
  rw [if_neg (fun h => h rfl), gateTaps_eq rows cw cb wr br wi bi lam wr (Weights.of cw cb wr br wi bi lam).wr br]
  · rfl
  · intro n d e; exact dif_pos ⟨n.2, d.2, e.2⟩

theorem dec_eq (s : Fin 4096) (j : Fin 512) :
    Ideal.exp (laTaps rows cw cb wr br lam s j) = dec (Weights.of cw cb wr br wi bi lam) (seqOf rows) s.val j := by
  rw [laTaps_eq rows cw cb wr br wi bi lam]; rfl

theorem inp_eq (s : Fin 4096) (j : Fin 512) :
    Ideal.sqrt (-(Ideal.exp (Ideal.ofBits FTy.f32 0x40000000#32 * laTaps rows cw cb wr br lam s j) - 1)) * (gateTaps rows cw cb wi bi s j * convTaps rows cw cb s j)
      = inp (Weights.of cw cb wr br wi bi lam) (seqOf rows) s.val j := by
  rw [two_eq, laTaps_eq rows cw cb wr br wi bi lam, convTaps_eq rows cw cb wr br wi bi lam,
    gateTaps_eq rows cw cb wr br wi bi lam wi (Weights.of cw cb wr br wi bi lam).wi bi]
  · rfl
  · intro n d e; exact dif_pos ⟨n.2, d.2, e.2⟩
end

end Cert.Lru

namespace Cert.ReferenceIdeal.Lru
open Cert.ReferenceIdeal Cert.ReferenceIdeal.Gen Cert.Lru Cert.ReferenceIdeal.Value
variable (m : (ℓ : Loc nD τ sig) → Buf (Elt Ideal) ℓ) (c : Dev nD)

/-- The weights the reference is given. -/
def weights : Weights :=
  Weights.of (fun k j => m ((c : Thread nD τ).loc main_arg2) (ix2 k j)) (fun j => m ((c : Thread nD τ).loc main_arg3) (ix1 j))
    (fun n d e => m ((c : Thread nD τ).loc main_arg4) (ix3 n d e)) (fun j => m ((c : Thread nD τ).loc main_arg5) (ix1 j))
    (fun n d e => m ((c : Thread nD τ).loc main_arg6) (ix3 n d e)) (fun j => m ((c : Thread nD τ).loc main_arg7) (ix1 j))
    (fun j => m ((c : Thread nD τ).loc main_arg8) (ix1 j))

/-- The rows of one sequence the reference is given. -/
def seq (b : Fin 4) : ℕ → Fin 512 → EReal := seqOf fun s j => m ((c : Thread nD τ).loc main_arg0) (ix3 b s j)

set_option maxHeartbeats 4000000 in
theorem decays (s : Fin 4096) (b : Fin 4) (j : Fin 512) :
    ((entryContents preI m c (Proc.devRef .tc main_v78_0)) : Vec Ideal S4096x4x512 .f32) (ix3 s b j) = dec (weights m c) (seq m c b) s.val j := by
  unfold weights seq
  refine Eq.trans ?_ (dec_eq _ _ _ _ _ _ _ _ s j)
  simp only [entryContents, afterL_cons, afterL_nil]
  after_results
  simp -implicitDefEqProofs only [TRef.toBuf, TRef.ofBuf, cast_cast, cast_eq, id_eq]
  clean_types
  pointwise
  rfl

set_option maxHeartbeats 4000000 in
theorem inputs (s : Fin 4096) (b : Fin 4) (j : Fin 512) :
    ((entryContents preI m c (Proc.devRef .tc main_v78_1)) : Vec Ideal S4096x4x512 .f32) (ix3 s b j) = inp (weights m c) (seq m c b) s.val j := by
  unfold weights seq
  refine Eq.trans ?_ (inp_eq _ _ _ _ _ _ _ _ s j)
  simp only [entryContents, afterL_cons, afterL_nil]
  after_results
  simp -implicitDefEqProofs only [TRef.toBuf, TRef.ofBuf, cast_cast, cast_eq, id_eq]
  clean_types
  pointwise
  rfl

set_option maxHeartbeats 4000000 in
theorem state0 (b : Fin 4) (j : Fin 512) :
    ((entryContents preI m c (Proc.devRef .tc main_v78_3)) : Vec Ideal S4x512 .f32) (ix2 b j) = (0 : EReal) := by
  simp only [entryContents, afterL_cons, afterL_nil]
  after_results
  simp -implicitDefEqProofs only [TRef.toBuf, TRef.ofBuf, cast_cast, cast_eq, id_eq]
  clean_types
  pointwise

end Cert.ReferenceIdeal.Lru
end
-- ==== Proof.LruLoop.lean ====
module
public import proofs.«01_k».proof.Proof.LruEntry
public import Idealize.ShloMosaic.Lib.DynamicIndex

/-! # The reference's loop

After any number of trips the carried state is the recurrence's, and the rows of states stored so far are the
recurrence's; at the end both results are read off. -/

@[expose] public section
set_option maxRecDepth 16384
noncomputable section
open Idealize.ShloMosaic Idealize.ShloMosaic.TcCoe Idealize.SL.Sem Idealize.ShloMosaic.StableHlo

namespace Cert.ReferenceIdeal.Lru
open Cert.ReferenceIdeal Cert.ReferenceIdeal.Gen Cert.Lru Cert.ReferenceIdeal.Value

theorem slice_at (x : Vec Ideal S4096x4x512 .f32) (start : Fin 3 → Int) (k : Fin 4096) (h0 : start 0 = k.val) (h1 : start 1 = 0) (h2 : start 2 = 0)
    (b : Fin 4) (j : Fin 512) :
    (shapeCast S4x512 (Host.dynamicSlice S1x4x512 x start sliceFits_S4096x4x512_S1x4x512) shapeCasts_S1x4x512_S4x512 : Vec Ideal S4x512 .f32) (ix2 b j)
      = x (ix3 k b j) := by
  rw [Host.dynamicSlice_eq_extractStridedSlice S1x4x512 x start ![k.val, 0, 0] _ ⟨rfl, fun a => by fin_cases a <;> simp <;> omega⟩
    (fun a => by fin_cases a <;> simp [h0, h1, h2])]
  pointwise

theorem ix3_congr {n0 n1 n2 : ℕ} {a a' : Fin n0} {b b' : Fin n1} {d d' : Fin n2} (h0 : a = a') (h1 : b = b') (h2 : d = d') :
    ix3 a b d = ix3 a' b' d' := by subst h0 h1 h2; rfl

theorem update_at (x : Vec Ideal S4096x4x512 .f32) (u : Vec Ideal S1x4x512 .f32) (start : Fin 3 → Int) (k : Fin 4096)
    (h0 : start 0 = k.val) (h1 : start 1 = 0) (h2 : start 2 = 0) (s : Fin 4096) (b : Fin 4) (j : Fin 512) :
    (Host.dynamicUpdateSlice x u start updateFits_S4096x4x512_S1x4x512 : Vec Ideal S4096x4x512 .f32) (ix3 s b j)
      = if s = k then u (ix3 0 b j) else x (ix3 s b j) := by
  have e0 : Host.clampedStart S4096x4x512 S1x4x512 updateFits_S4096x4x512_S1x4x512.1 start 0 = k.val := by
    show (min (max (start 0) 0) ((4096 - 1 : ℕ) : Int)).toNat = k.val
    rw [h0]; omega
  have e1 : Host.clampedStart S4096x4x512 S1x4x512 updateFits_S4096x4x512_S1x4x512.1 start 1 = 0 := by
    show (min (max (start 1) 0) ((4 - 4 : ℕ) : Int)).toNat = 0
    rw [h1]; omega
  have e2 : Host.clampedStart S4096x4x512 S1x4x512 updateFits_S4096x4x512_S1x4x512.1 start 2 = 0 := by
    show (min (max (start 2) 0) ((512 - 512 : ℕ) : Int)).toNat = 0
    rw [h2]; omega
  pointwise
  by_cases h : s = k
  · subst h
    rw [if_pos rfl]
    refine (dif_pos ⟨⟨by omega, by omega⟩, ⟨by omega, by omega⟩, ⟨by omega, by omega⟩⟩).trans ?_
    refine congrArg u (ix3_congr (Fin.ext ?_) (Fin.ext ?_) (Fin.ext ?_))
    · show s.val - _ = 0; omega
    · show b.val - _ = b.val; omega
    · show j.val - _ = j.val; omega
  · rw [if_neg h]
    refine dif_neg fun hh => h (Fin.ext ?_)
    omega

section
variable (V0 : Valuation τ sig (Elt Ideal))

/-- The buffers the loop carries. -/
abbrev decs : Vec Ideal S4096x4x512 .f32 := V0 (Proc.devRef .tc main_v78_0)
abbrev inps : Vec Ideal S4096x4x512 .f32 := V0 (Proc.devRef .tc main_v78_1)
abbrev hid : Vec Ideal S4x512 .f32 := V0 (Proc.devRef .tc main_v78_3)
abbrev ys : Vec Ideal S4096x4x512 .f32 := V0 (Proc.devRef .tc main_v78_4)

/-- One trip's new state. -/
theorem new_state (k : Fin 4096) (hk : V0 (Proc.devRef .tc main_v78_2) = fun _ => BitVec.ofNat 32 k.val) (b : Fin 4) (j : Fin 512) :
    (res_main_while0b_v98 V0 : Vec Ideal S4x512 .f32) (ix2 b j) = decs V0 (ix3 k b j) * hid V0 (ix2 b j) + inps V0 (ix3 k b j) := by
  have ht : (BitVec.ofNat 32 k.val).toInt = k.val := toInt_ofNat_of_lt (by omega)
  have hz : (0#32 : BitVec 32).toInt = 0 := by decide
  unfold res_main_while0b_v98
  rw [hk]
  exact congrArg₂ (· + ·)
    (congrArg (· * hid V0 (ix2 b j)) (slice_at (decs V0) _ k ht hz hz b j)) (slice_at (inps V0) _ k ht hz hz b j)

/-- One trip's rows of states. -/
theorem new_rows (k : Fin 4096) (hk : V0 (Proc.devRef .tc main_v78_2) = fun _ => BitVec.ofNat 32 k.val) (s : Fin 4096) (b : Fin 4) (j : Fin 512) :
    (step_main_v78_4 V0 : Vec Ideal S4096x4x512 .f32) (ix3 s b j)
      = if s = k then (res_main_while0b_v98 V0 : Vec Ideal S4x512 .f32) (ix2 b j) else ys V0 (ix3 s b j) := by
  have ht : (BitVec.ofNat 32 k.val).toInt = k.val := toInt_ofNat_of_lt (by omega)
  have hz : (0#32 : BitVec 32).toInt = 0 := by decide
  unfold step_main_v78_4
  rw [hk]
  refine (update_at (ys V0) _ _ k ht hz hz s b j).trans ?_
  split
  · pointwise
  · rfl
end

variable (m : (ℓ : Loc nD τ sig) → Buf (Elt Ideal) ℓ) (c : Dev nD)

/-- What the loop holds after `k` trips. -/
abbrev after' (k : ℕ) : Valuation τ sig (Elt Ideal) := STEP^[k] (entryContents preI m c)

theorem after_succ (k : ℕ) : after' m c (k + 1) = STEP (after' m c k) := Function.iterate_succ_apply' _ _ _

theorem decs_kept : ∀ k, decs (after' m c k) = decs (entryContents preI m c)
  | 0 => rfl
  | k + 1 => by
    show after' m c (k + 1) _ = _
    rw [after_succ]
    exact (STEP_main_v78_0 _).trans (decs_kept k)

theorem inps_kept : ∀ k, inps (after' m c k) = inps (entryContents preI m c)
  | 0 => rfl
  | k + 1 => by
    show after' m c (k + 1) _ = _
    rw [after_succ]
    exact (STEP_main_v78_1 _).trans (inps_kept k)

theorem counter : ∀ k, after' m c k (Proc.devRef .tc main_v78_2) = fun _ => BitVec.ofNat 32 k
  | 0 => ctr_entry m c
  | k + 1 => by
    rw [after_succ]
    refine (STEP_main_v78_2 _).trans ?_
    unfold step_main_v78_2
    rw [counter k]
    funext i
    exact (BitVec.ofNat_add k 1).symm

theorem hid_at (b : Fin 4) (j : Fin 512) : ∀ k, k ≤ 4096 → hid (after' m c k) (ix2 b j) = st (weights m c) (seq m c b) j k
  | 0, _ => state0 m c b j
  | k + 1, hk => by
    show (after' m c (k + 1) (Proc.devRef .tc main_v78_3) : Vec Ideal S4x512 .f32) (ix2 b j) = _
    rw [after_succ]
    refine (congrFun (STEP_main_v78_3 _) (ix2 b j)).trans ?_
    refine (new_state _ ⟨k, by omega⟩ (counter m c k) b j).trans ?_
    rw [decs_kept, inps_kept, hid_at b j k (by omega)]
    exact congrArg₂ (· + ·) (congrArg (· * _) (decays m c ⟨k, by omega⟩ b j)) (inputs m c ⟨k, by omega⟩ b j)

theorem ys_at (b : Fin 4) (j : Fin 512) : ∀ k, k ≤ 4096 → ∀ s : Fin 4096, s.val < k →
    ys (after' m c k) (ix3 s b j) = st (weights m c) (seq m c b) j (s.val + 1)
  | 0, _, s, h => absurd h (Nat.not_lt_zero _)
  | k + 1, hk, s, h => by
    have hn : hid (after' m c (k + 1)) (ix2 b j) = (res_main_while0b_v98 (after' m c k) : Vec Ideal S4x512 .f32) (ix2 b j) := by
      show (after' m c (k + 1) (Proc.devRef .tc main_v78_3) : Vec Ideal S4x512 .f32) (ix2 b j) = _
      rw [after_succ]
      exact congrFun (STEP_main_v78_3 _) (ix2 b j)
    show (after' m c (k + 1) (Proc.devRef .tc main_v78_4) : Vec Ideal S4096x4x512 .f32) (ix3 s b j) = _
    rw [after_succ]
    refine (congrFun (STEP_main_v78_4 _) (ix3 s b j)).trans ?_
    refine (new_rows _ ⟨k, by omega⟩ (counter m c k) s b j).trans ?_
    by_cases e : s = ⟨k, by omega⟩
    · rw [if_pos e, ← hn, hid_at m c b j (k + 1) hk, e]
    · rw [if_neg e]
      exact ys_at b j k (by omega) s (by have : s.val ≠ k := fun h' => e (Fin.ext h'); omega)

/-- The first result: the state after each row, times the gelu of the gate branch. -/
theorem out_y (b : Fin 4) (s : Fin 4096) (j : Fin 512) :
    (out_main_v93 (after' m c 4096) : Vec Ideal S4x4096x512 .f32) (ix3 b s j)
      = st (weights m c) (seq m c b) j (s.val + 1) * gelu (m ((c : Thread nD τ).loc main_arg1) (ix3 b s j)) := by
  rw [← ys_at m c b j 4096 (Nat.le_refl _) s s.2]
  unfold out_main_v93
  rw [show after' m c 4096 (Proc.devRef .tc main_arg1) = m ((c : Thread nD τ).loc main_arg1) from iter_main_arg1 m c 4096]
  pointwise
  rfl

/-- The second result: the state after the last row. -/
theorem out_h (b : Fin 4) (j : Fin 512) :
    (out_main_v94 (after' m c 4096) : Vec Ideal S4x1x512 .f32) (ix3 b 0 j) = st (weights m c) (seq m c b) j 4096 := by
  rw [← hid_at m c b j 4096 (Nat.le_refl _)]
  unfold out_main_v94
  pointwise

end Cert.ReferenceIdeal.Lru
end
-- ==== Proof.LruClaims.lean ====
module
public import proofs.«01_k».proof.Defs
public import proofs.«01_k».proof.Proof.Gen.Kernel.Frame
public import proofs.«01_k».proof.Proof.LruRun
public import proofs.«01_k».proof.Proof.LruLoop
public import Idealize.ShloMosaic.Init

/-! # The recurrence's claims

The kernel's two result arrays and the reference's are the same functions of arguments that agree. -/

@[expose] public section
set_option maxRecDepth 16384
noncomputable section
open Idealize.ShloMosaic Idealize.ShloMosaic.TcCoe Idealize.SL.Sem

namespace Cert.LruClaims

theorem frame_kernel : @Cert.quiescent_Kernel Cert.Kernel.Gen.facts := fun m ρ _ => Cert.Kernel.Gen.frame m ρ
theorem frame_ideal : @Cert.quiescent_KernelIdeal Cert.KernelIdeal.Gen.facts := fun m ρ _ => Cert.KernelIdeal.Gen.frame m ρ
theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : @Cert.algebraic_KernelIdeal_ReferenceIdeal Cert.KernelIdeal.Gen.facts Cert.ReferenceIdeal.Gen.facts := by
  intro m ρ m' ρ' _ hagree
  refine ⟨fun c => Cert.KernelIdeal.Value.G8 m c, fun c => Cert.KernelIdeal.Value.G9 m c, Cert.KernelIdeal.Value.run (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  all_goals
    obtain ⟨e0, e1, e2, e3, e4, e5, e6, e7, e8⟩ := hagree c
    have hw : Cert.ReferenceIdeal.Lru.weights m' c = Cert.KernelIdeal.Lru.weights m c := by
      unfold Cert.ReferenceIdeal.Lru.weights Cert.KernelIdeal.Lru.weights
      rw [e2, e3, e4, e5, e6, e7, e8]
    have hs : ∀ b, Cert.ReferenceIdeal.Lru.seq m' c b = Cert.KernelIdeal.Lru.seq m c b := by
      intro b
      unfold Cert.ReferenceIdeal.Lru.seq Cert.KernelIdeal.Lru.seq
      rw [e0]
  · refine funext fun i => ?_
    obtain ⟨b, s, j, rfl⟩ : ∃ (b : Fin 4) (s : Fin 4096) (j : Fin 512), i = ix3 b s j := ⟨i 0, i 1, i 2, by funext a; fin_cases a <;> rfl⟩
    refine (Cert.ReferenceIdeal.Lru.out_y m' c b s j).trans (Eq.trans ?_ (Cert.KernelIdeal.Lru.G8_apply m c b s j).symm)
    rw [hw, hs, e1]
  · refine funext fun i => ?_
    obtain ⟨b, j, rfl⟩ : ∃ (b : Fin 4) (j : Fin 512), i = ix3 b 0 j :=
      ⟨i 0, i 2, by
        have h1 : (i 1).val < 1 := (i 1).isLt
        funext a
        fin_cases a
        · rfl
        · exact Fin.ext (by show (i 1).val = 0; omega)
        · rfl⟩
    refine (Cert.ReferenceIdeal.Lru.out_h m' c b j).trans (Eq.trans ?_ (Cert.KernelIdeal.Lru.G9_apply m c b j).symm)
    rw [hw, hs]

end Cert.LruClaims
end
-- ==== Proof.ExpertsBitsStep.lean ====
module
public import proofs.«01_k».proof.Proof.Gen.Kernel2.Flash.Runs
public import Idealize.ShloMosaic.Lib.VecWindow

/-! # One step of the experts' kernel on machine numbers

What the body leaves behind on each of its three paths, as a function of the blocks it reads: the chunk's rows, and the
two matrices of the chunk's expert it keeps between the steps. -/

@[expose] public section
set_option maxRecDepth 16384
set_option Elab.async false
noncomputable section

namespace Cert.ExpertsBits
open Cert.Kernel2 Cert.Kernel2.Gen
open Idealize.ShloMosaic Idealize.ShloMosaic.TcCoe Idealize.ShloMosaic.Tactic Idealize.SL.Sem

/-- The matrices kept from an earlier step, as the body reads them. -/
def kept0 (c : Dev nD) (a : Buf (Elt Bits) ((c : Thread nD τ).loc cc0_scratch0)) : S1024x512.Idx → Elt Bits .bf16 :=
  View.readAt (Elt Bits) scM0_0.view (Rect.unit ![0, 0] S1024x512.size inb_S1024x512_S1024x512_0_0).toLoadRect a
def kept1 (c : Dev nD) (a : Buf (Elt Bits) ((c : Thread nD τ).loc cc0_scratch1)) : S256x1024.Idx → Elt Bits .bf16 :=
  View.readAt (Elt Bits) scM0_1.view (Rect.unit ![0, 0] S256x1024.size inb_S256x1024_S256x1024_0_0).toLoadRect a

/-- The two stores of a chunk's rows. -/
def stores (x0 : S512x1024.Idx → Elt Bits .bf16) (x1 : S512x128.Idx → Elt Bits .f32)
    (w0 : S1024x512.Idx → Elt Bits .bf16) (w1 : S256x1024.Idx → Elt Bits .bf16) : List (View.Piece (Elt Bits) S512x1024 .bf16) :=
  [⟨Rect.unit (s := S512x1024) ![256, 0] S256x1024.size inb_S512x1024_S256x1024_256_0,
      k0_pay4 (fun y => x0 ((Rect.unit (s := S512x1024) ![256, 0] S256x1024.size inb_S512x1024_S256x1024_256_0).toLoadRect.idx y)) w0
        (fun y => x1 ((Rect.unit (s := S512x128) ![256, 0] S256x1.size inb_S512x128_S256x1_256_0).toLoadRect.idx y)) w1⟩,
    ⟨Rect.unit (s := S512x1024) ![0, 0] S256x1024.size inb_S512x1024_S256x1024_0_0,
      k0_pay3 (fun y => x0 ((Rect.unit (s := S512x1024) ![0, 0] S256x1024.size inb_S512x1024_S256x1024_0_0).toLoadRect.idx y)) w0
        (fun y => x1 ((Rect.unit (s := S512x128) ![0, 0] S256x1.size inb_S512x128_S256x1_0_0).toLoadRect.idx y)) w1⟩]

/-- The one store of a chunk of no expert. -/
def blank : List (View.Piece (Elt Bits) S512x1024 .bf16) :=
  [⟨Rect.unit (s := S512x1024) ![0, 0] S512x1024.size inb_S512x1024_S512x1024_0_0, k0_pay5 (F := Bits)⟩]

theorem stores_cover (x0 : S512x1024.Idx → Elt Bits .bf16) (x1 : S512x128.Idx → Elt Bits .f32)
    (w0 : S1024x512.Idx → Elt Bits .bf16) (w1 : S256x1024.Idx → Elt Bits .bf16) (y : S512x1024.Idx) :
    ∃ p ∈ stores x0 x1 w0 w1, y ∈ p.1.set :=
  View.cover_of_tiledL (stores x0 x1 w0 w1) S256x1024.size (by sl_kernel_rfl) y

theorem blank_cover (y : S512x1024.Idx) : ∃ p ∈ blank, y ∈ p.1.set :=
  View.cover_of_tiledL blank S512x1024.size (by sl_kernel_rfl) y

/-- The word of a table the body reads at a point. -/
abbrev word1 (i : grid0.Coords) (T0 : S126.Idx → Elt Bits .i32) : BitVec 32 :=
  View.readAt (Elt Bits) (tbM0_0).view (Rect.unit (s := S126) (k0_off1 i) S1.size (k0_off1_inb i)).toLoadRect T0 (Shape.Idx.first (numel1_S1.symm ▸ Nat.one_pos))
abbrev word2 (i : grid0.Coords) (T0 : S126.Idx → Elt Bits .i32) : BitVec 32 :=
  View.readAt (Elt Bits) (tbM0_0).view (Rect.unit (s := S126) (k0_off2 i) S1.size (k0_off2_inb i)).toLoadRect T0 (Shape.Idx.first (numel1_S1.symm ▸ Nat.one_pos))
abbrev word3 (i : grid0.Coords) (T0 : S126.Idx → Elt Bits .i32) : BitVec 32 :=
  View.readAt (Elt Bits) (tbM0_0).view (Rect.unit (s := S126) (k0_off3 i) S1.size (k0_off3_inb i)).toLoadRect T0 (Shape.Idx.first (numel1_S1.symm ▸ Nat.one_pos))

/-- Whether the body takes the expert's matrices in at a point. -/
abbrev Takes (i : grid0.Coords) (T0 : S126.Idx → Elt Bits .i32) : Prop :=
  Scalar.cmpi .ne (Scalar.extui (Scalar.andi (Scalar.cmpi .sge (word1 i T0) 0#32) (Scalar.ori (Scalar.cmpi .eq (BitVec.ofNat 32 (i 0).val) 0#32) (Scalar.cmpi .ne (word1 i T0) (word2 i T0))))) 0#32 = 1#1

variable (c : Dev nD) (i : grid0.Coords) (arg2 : Memref sig .tc .vmem S512x1024 .bf16) (harg2 : arg2.IsWhole)
  (arg3 : Memref sig .tc .vmem S512x128 .f32) (harg3 : arg3.IsWhole) (arg4 : Memref sig .tc .vmem S1x1024x512 .f32) (harg4 : arg4.IsWhole)
  (arg5 : Memref sig .tc .vmem S1x256x1024 .f32) (harg5 : arg5.IsWhole) (arg6 : Memref sig .tc .vmem S512x1024 .bf16) (harg6 : arg6.IsWhole)
  (T0 : S126.Idx → Elt Bits .i32) (x0 : S512x1024.Idx → Elt Bits .bf16) (x1 : S512x128.Idx → Elt Bits .f32)
  (x2 : S1x1024x512.Idx → Elt Bits .f32) (x3 : S1x256x1024.Idx → Elt Bits .f32)
  (xa0 : Buf (Elt Bits) ((c : Thread nD τ).loc cc0_scratch0)) (xa1 : Buf (Elt Bits) ((c : Thread nD τ).loc cc0_scratch1))

theorem first_rows (hc0 : Takes i T0) (h2 : k0_cond2 (word1 i T0) = 1#1) (h3 : ¬(k0_cond3 (word3 i T0) = 1#1)) :
    (kernelRun0_A c i arg2 harg2 arg3 harg3 arg4 harg4 arg5 harg5 arg6 harg6 T0 x0 x1 x2 x3 hc0 h2 h3).1
      = stores x0 x1 (k0_pay1 x2) (k0_pay2 x3) := by
  delta kernelRun0_A; dsimp only
  delta kernelRun0_A.sl.HO4_2
  dsimp only
  unfold stores
  delta kernelRun0_A.sl.v22 kernelRun0_A.sl.v31 kernelRun0_A.sl.HS0_1 kernelRun0_A.sl.HS1_1
  dsimp only
  have e0 : View.readAt (Elt Bits) arg4.view (Rect.unit ![0, 0, 0] S1x1024x512.size inb_S1x1024x512_S1x1024x512_0_0_0).toLoadRect (arg4.view.rep x2) = x2 :=
    View.readAt_rep_full _ _ _
  have e1 : View.readAt (Elt Bits) arg5.view (Rect.unit ![0, 0, 0] S1x256x1024.size inb_S1x256x1024_S1x256x1024_0_0_0).toLoadRect (arg5.view.rep x3) = x3 :=
    View.readAt_rep_full _ _ _
  have f0 := View.readCov_full (Val := Elt Bits) (s := S1024x512) (e := .bf16) (scM0_0.view) inb_S1024x512_S1024x512_0_0 inb_S1024x512_S1024x512_0_0 (k0_pay1 (F := Bits) x2) []
  have f1 := View.readCov_full (Val := Elt Bits) (s := S256x1024) (e := .bf16) (scM0_1.view) inb_S256x1024_S256x1024_0_0 inb_S256x1024_S256x1024_0_0 (k0_pay2 (F := Bits) x3) []
  rw [e0, e1]; erw [f0, f1]
  simp only [View.readAt_rep]
  rfl

theorem first_kept0 (hc0 : Takes i T0) (h2 : k0_cond2 (word1 i T0) = 1#1) (h3 : ¬(k0_cond3 (word3 i T0) = 1#1)) :
    kept0 c (kernelRun0_A c i arg2 harg2 arg3 harg3 arg4 harg4 arg5 harg5 arg6 harg6 T0 x0 x1 x2 x3 hc0 h2 h3).2.1 = k0_pay1 x2 := by
  delta kernelRun0_A kept0; dsimp only
  delta kernelRun0_A.sl.HS0_1
  dsimp only
  erw [View.readAt_writes_full, View.readAt_rep_full]

theorem first_kept1 (hc0 : Takes i T0) (h2 : k0_cond2 (word1 i T0) = 1#1) (h3 : ¬(k0_cond3 (word3 i T0) = 1#1)) :
    kept1 c (kernelRun0_A c i arg2 harg2 arg3 harg3 arg4 harg4 arg5 harg5 arg6 harg6 T0 x0 x1 x2 x3 hc0 h2 h3).2.2.1 = k0_pay2 x3 := by
  delta kernelRun0_A kept1; dsimp only
  delta kernelRun0_A.sl.HS1_1
  dsimp only
  erw [View.readAt_writes_full, View.readAt_rep_full]

theorem again_rows (hc0 : ¬Takes i T0) (h2 : k0_cond2 (word1 i T0) = 1#1) (h3 : ¬(k0_cond3 (word3 i T0) = 1#1)) :
    (kernelRun0_B c i arg2 harg2 arg3 harg3 arg4 harg4 arg5 harg5 arg6 harg6 T0 x0 x1 x2 x3 xa0 xa1 hc0 h2 h3).1
      = stores x0 x1 (kept0 c xa0) (kept1 c xa1) := by
  delta kernelRun0_B; dsimp only
  delta kernelRun0_B.sl.HO4_2
  dsimp only
  unfold stores kept0 kept1
  simp only [View.readAt_rep]
  rfl

theorem again_kept0 (hc0 : ¬Takes i T0) (h2 : k0_cond2 (word1 i T0) = 1#1) (h3 : ¬(k0_cond3 (word3 i T0) = 1#1)) :
    kept0 c (kernelRun0_B c i arg2 harg2 arg3 harg3 arg4 harg4 arg5 harg5 arg6 harg6 T0 x0 x1 x2 x3 xa0 xa1 hc0 h2 h3).2.1 = kept0 c xa0 := by
  delta kernelRun0_B; rfl

theorem again_kept1 (hc0 : ¬Takes i T0) (h2 : k0_cond2 (word1 i T0) = 1#1) (h3 : ¬(k0_cond3 (word3 i T0) = 1#1)) :
    kept1 c (kernelRun0_B c i arg2 harg2 arg3 harg3 arg4 harg4 arg5 harg5 arg6 harg6 T0 x0 x1 x2 x3 xa0 xa1 hc0 h2 h3).2.2.1 = kept1 c xa1 := by
  delta kernelRun0_B; rfl

theorem none_rows (hc0 : ¬Takes i T0) (h2 : ¬(k0_cond2 (word1 i T0) = 1#1)) (h3 : k0_cond3 (word3 i T0) = 1#1) :
    (kernelRun0_C c i arg2 harg2 arg3 harg3 arg4 harg4 arg5 harg5 arg6 harg6 T0 x0 x1 x2 x3 xa0 xa1 hc0 h2 h3).1 = blank := by
  delta kernelRun0_C; dsimp only; delta kernelRun0_C.sl.HO4_1; rfl

end Cert.ExpertsBits
end
-- ==== Proof.ExpertsBitsGrid.lean ====
module
public import proofs.«01_k».proof.Proof.ExpertsBitsStep
public import Idealize.ShloMosaic.Lib.Pipeline.ValueKit

/-! # The grid of the experts' kernel on machine numbers, at any table it may read

The table names each chunk's expert, or −1 for a chunk of none. For every table whose entries lie between −1 and 31 the
blocks the grid points move lie inside their arrays, and a point's path depends on its own entry and the one before. -/

@[expose] public section
set_option maxRecDepth 16384
set_option Elab.async false
noncomputable section

namespace Cert.ExpertsBits
open Cert.Kernel2 Cert.Kernel2.Gen
open Idealize.ShloMosaic Idealize.ShloMosaic.TcCoe Idealize.ShloMosaic.Tactic Idealize.SL.Sem

theorem coord : ∀ t : Fin grid0.N, (grid0.coords t 0).val = t.val := by decide +kernel
theorem off1 : ∀ t : Fin grid0.N, k0_off1 (grid0.coords t) 0 = t.val := by decide +kernel
theorem off2 : ∀ t : Fin grid0.N, k0_off2 (grid0.coords t) 0 = t.val - 1 := by decide +kernel
theorem size : grid0.N = 126 := by decide +kernel

/-- The chunk's word. -/
theorem word1_eq (t : Fin grid0.N) (T0 : S126.Idx → Elt Bits .i32) :
    word1 (grid0.coords t) T0 = T0 (ix1 ⟨t.val, lt_of_lt_of_eq t.isLt size⟩) := by
  refine congrArg T0 (funext fun a => ?_)
  fin_cases a
  refine Fin.ext ?_
  show k0_off1 (grid0.coords t) 0 + 1 * 0 = t.val
  rw [off1]; omega

theorem word2_eq (t : Fin grid0.N) (T0 : S126.Idx → Elt Bits .i32) :
    word2 (grid0.coords t) T0 = T0 (ix1 ⟨t.val - 1, by have := t.isLt; have := size; omega⟩) := by
  refine congrArg T0 (funext fun a => ?_)
  fin_cases a
  refine Fin.ext ?_
  show k0_off2 (grid0.coords t) 0 + 1 * 0 = t.val - 1
  rw [off2]; omega

theorem word2_prev (t s : Fin grid0.N) (h : s.val + 1 = t.val) (T0 : S126.Idx → Elt Bits .i32) :
    word2 (grid0.coords t) T0 = word1 (grid0.coords s) T0 := by
  rw [word2_eq, word1_eq]
  exact congrArg (fun n => T0 (ix1 n)) (Fin.ext (by show t.val - 1 = s.val; omega))

theorem word3_eq (i : grid0.Coords) (T0 : S126.Idx → Elt Bits .i32) : word3 i T0 = word1 i T0 := rfl

/-! ## The decisions -/

theorem bit_one (p : Bool) : BitVec.ofBool p = 1#1 ↔ p = true := by cases p <;> decide
theorem cond2_iff (w : BitVec 32) : k0_cond2 w = 1#1 ↔ 0 ≤ w.toInt := by
  have h : k0_cond2 w = BitVec.ofBool (decide (0 ≤ w.toInt)) := by
    show BitVec.ofBool ((BitVec.setWidth 32 (BitVec.ofBool ((0#32).sle w))) != 0#32) = _
    rw [show (0#32).sle w = decide (0 ≤ w.toInt) from by simp [BitVec.sle]]
    cases decide (0 ≤ w.toInt) <;> rfl
  rw [h, bit_one, decide_eq_true_iff]
theorem cond3_iff (w : BitVec 32) : k0_cond3 w = 1#1 ↔ w.toInt < 0 := by
  have h : k0_cond3 w = BitVec.ofBool (decide (w.toInt < 0)) := by
    show BitVec.ofBool ((BitVec.setWidth 32 (BitVec.ofBool (w.slt 0#32))) != 0#32) = _
    rw [show w.slt 0#32 = decide (w.toInt < 0) from by simp [BitVec.slt]]
    cases decide (w.toInt < 0) <;> rfl
  rw [h, bit_one, decide_eq_true_iff]

theorem takes_iff (i : grid0.Coords) (T0 : S126.Idx → Elt Bits .i32) :
    Takes i T0 ↔ 0 ≤ (word1 i T0).toInt ∧ ((i 0).val = 0 ∨ word1 i T0 ≠ word2 i T0) := by
  have hi : (i 0).val < 126 := (i 0).isLt
  generalize h1 : word1 i T0 = w1
  generalize h2 : word2 i T0 = w2
  have h : (Scalar.cmpi .ne (Scalar.extui (Scalar.andi (Scalar.cmpi .sge w1 0#32) (Scalar.ori (Scalar.cmpi .eq (BitVec.ofNat 32 (i 0).val) 0#32) (Scalar.cmpi .ne w1 w2)))) 0#32 : BitVec 1)
      = BitVec.ofBool (decide (0 ≤ w1.toInt) && (decide ((i 0).val = 0) || decide (w1 ≠ w2))) := by
    show BitVec.ofBool ((BitVec.setWidth 32 (BitVec.ofBool ((0#32).sle w1) &&& (BitVec.ofBool (BitVec.ofNat 32 (i 0).val == 0#32) ||| BitVec.ofBool (w1 != w2)))) != 0#32) = _
    rw [show (0#32).sle w1 = decide (0 ≤ w1.toInt) from by simp [BitVec.sle],
      show (BitVec.ofNat 32 (i 0).val == 0#32) = decide ((i 0).val = 0) from by
        rw [Bool.eq_iff_iff, beq_iff_eq, decide_eq_true_iff, BitVec.toNat_eq]
        simp only [BitVec.toNat_ofNat]
        omega,
      show (w1 != w2) = decide (w1 ≠ w2) from by
        by_cases hw : w1 = w2
        · subst hw; simp
        · rw [decide_eq_true hw]; simp [hw]]
    cases decide (0 ≤ w1.toInt) <;> cases decide ((i 0).val = 0) <;> cases decide (w1 ≠ w2) <;> rfl
  unfold Takes
  rw [h1, h2, h, bit_one]
  simp [decide_eq_true_iff]

/-! ## The tables the kernel may read -/

/-- Every entry of the table is an expert's number or −1. -/
def InRange (T0 : S126.Idx → Elt Bits .i32) : Prop := ∀ n : S126.Idx, -1 ≤ (T0 n : BitVec 32).toInt ∧ (T0 n : BitVec 32).toInt < 32

theorem expert_lt {w : BitVec 32} (h : -1 ≤ w.toInt ∧ w.toInt < 32) : (Scalar.maxsi w 0#32).toNat = w.toInt.toNat ∧ w.toInt.toNat < 32 := by
  have e : (Scalar.maxsi w 0#32 : BitVec 32) = if (0#32).slt w then w else 0#32 := rfl
  constructor
  · rw [e, show (0#32).slt w = decide (0 < w.toInt) from by simp [BitVec.slt]]
    have hn := w.isLt
    have hc := BitVec.toInt_eq_toNat_cond w
    by_cases hw : 0 < w.toInt
    · simp only [hw, decide_true, ↓reduceIte]
      split at hc <;> omega
    · simp only [hw, decide_false, Bool.false_eq_true, ↓reduceIte]
      show 0 = _
      omega
  · omega

theorem word1_range {T0 : S126.Idx → Elt Bits .i32} (h : InRange T0) (i : grid0.Coords) :
    -1 ≤ (word1 i T0).toInt ∧ (word1 i T0).toInt < 32 := h _

theorem row_lt (i : grid0.Coords) (w : BitVec 32) :
    (Scalar.select (Scalar.cmpi .sge w 0#32) (BitVec.ofNat 32 (i 0).val) 0#32 : BitVec 32).toNat = (if 0 ≤ w.toInt then (i 0).val else 0) := by
  have hi : (i 0).val < 126 := (i 0).isLt
  have e : (Scalar.select (Scalar.cmpi .sge w 0#32) (BitVec.ofNat 32 (i 0).val) 0#32 : BitVec 32)
      = if BitVec.ofBool ((0#32).sle w) = 1#1 then BitVec.ofNat 32 (i 0).val else 0#32 := rfl
  rw [e, show (0#32).sle w = decide (0 ≤ w.toInt) from by simp [BitVec.sle]]
  by_cases h : 0 ≤ w.toInt
  · rw [if_pos h, decide_eq_true h, if_pos (by decide), BitVec.toNat_ofNat]; omega
  · rw [if_neg h, decide_eq_false h, if_neg (by decide)]; rfl

/-- The blocks' places. -/
theorem place0 (pf : pre0.Contents (Elt Bits)) (i : grid0.Coords) :
    cc0_transform_0 k0_off1_inb numel1_S1 pf i = ![if 0 ≤ (word1 i (pf 0)).toInt then (i 0).val else 0, 0] := by
  rw [← row_lt]; rfl
theorem place1 (pf : pre0.Contents (Elt Bits)) (i : grid0.Coords) :
    cc0_transform_1 k0_off1_inb numel1_S1 pf i = ![if 0 ≤ (word1 i (pf 0)).toInt then (i 0).val else 0, 0] := by
  rw [← row_lt]; rfl
theorem place2 (pf : pre0.Contents (Elt Bits)) (i : grid0.Coords) :
    cc0_transform_2 k0_off1_inb numel1_S1 pf i = ![(Scalar.maxsi (word1 i (pf 0)) 0#32).toNat, 0, 0] := rfl
theorem place3 (pf : pre0.Contents (Elt Bits)) (i : grid0.Coords) :
    cc0_transform_3 k0_off1_inb numel1_S1 pf i = ![(Scalar.maxsi (word1 i (pf 0)) 0#32).toNat, 0, 0] := rfl

/-- Every block lies inside its array. -/
theorem admissible (pf : pre0.Contents (Elt Bits)) (h : InRange (pf 0)) : ok0 (F := Bits) pf := by
  have hr : ∀ i : grid0.Coords, (if 0 ≤ (word1 i (pf 0)).toInt then (i 0).val else 0) < 126 := fun i => by
    have := (i 0).isLt; split
    · exact this
    · decide
  have he : ∀ i : grid0.Coords, (Scalar.maxsi (word1 i (pf 0)) 0#32).toNat < 32 := fun i => by
    have := expert_lt (word1_range h i); omega
  refine ⟨fun i => ⟨fun a => ?_, .inr (Affine.block_words_dvd (s := S64512x1024) (p := EltTy.packing .bf16) (by decide) (by decide))⟩,
    fun i => ⟨fun a => ?_, .inl rfl⟩, fun i => ⟨fun a => ?_, .inl rfl⟩, fun i => ⟨fun a => ?_, .inl rfl⟩⟩
  · have := hr i
    rw [place0]
    fin_cases a
    · show (_ + 1) * 512 ≤ 64512; simp only [Fin.zero_eta, Matrix.cons_val_zero]; omega
    · show (0 + 1) * 1024 ≤ 1024; omega
  · have := hr i
    rw [place1]
    fin_cases a
    · show (_ + 1) * 512 ≤ 64512; simp only [Fin.zero_eta, Matrix.cons_val_zero]; omega
    · show (0 + 1) * 128 ≤ 128; omega
  · have := he i
    rw [place2]
    fin_cases a
    · show ((Scalar.maxsi (word1 i (pf 0)) 0#32).toNat + 1) * 1 ≤ 32; omega
    · show (0 + 1) * 1024 ≤ 1024; omega
    · show (0 + 1) * 512 ≤ 512; omega
  · have := he i
    rw [place3]
    fin_cases a
    · show ((Scalar.maxsi (word1 i (pf 0)) 0#32).toNat + 1) * 1 ≤ 32; omega
    · show (0 + 1) * 256 ≤ 256; omega
    · show (0 + 1) * 1024 ≤ 1024; omega

end Cert.ExpertsBits
end
-- ==== Proof.ExpertsBitsBody.lean ====
module
public import proofs.«01_k».proof.Proof.ExpertsBitsGrid

/-! # The run of the experts' kernel on machine numbers, step by step

The contents every window and the two kept matrices have before and after each grid point, at any admissible table, and
the proof that the body takes the one to the other -/

@[expose] public section
set_option maxRecDepth 16384
set_option Elab.async false
noncomputable section

namespace Cert.ExpertsBits
open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

abbrev 𝕄 := MT nD τ sig Unit (Elt Bits) ℕ (UR sig nD τ) ℕ

/-- The staging cells' resources. -/
abbrev EP : Emb (UR sig nD τ) 𝕄 := emb₁

variable (a : (pcfg0 (F := Bits)).Adm)

/-- The pipeline at the table `a`. -/
abbrev cfgA : Pipeline.Cfg sig Λ₀ := cfg0 (F := Bits) a
abbrev pcs : Fin 1 → Pipeline.Cfg sig Λ₀ := Pipeline.pin (pcfgs (F := Bits)) fun _ => a
/-- The table itself. -/
abbrev tab : S126.Idx → Elt Bits .i32 := a.1 0

variable (m : (ℓ : Loc nD τ sig) → Buf (Elt Bits) ℓ) (ρ : Dev nD → PrngReg)

/-- Point `t`'s coordinates. -/
abbrev crd (t : Fin (cfgA a).N) : (cfgA a).grid.Coords := (cfgA a).grid.coords t

/-- Each window's current staging memref at point `t`, spelled as the pipeline passes it, and its wholeness. -/
abbrev ms0_0 (t : Fin (cfgA a).N) : Memref sig .tc .vmem S512x1024 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S512x128 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x256x1024 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x1024 .bf16 := spec0_4.stage ((cfgA a).slots t (4 : Fin 5))
abbrev hs0_4 (t : Fin (cfgA a).N) : (ms0_4 a t).IsWhole := hstage0_4 (((cfgA a).slots t (4 : Fin 5)).cast nbuf0_4)

/-! ## The windows' blocks -/

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- Whether the chunk has an expert. -/
abbrev Chosen (t : Fin (cfgA a).N) : Prop := k0_cond2 (word1 (crd a t) (tab a)) = 1#1

theorem idle_eq (t : Fin (cfgA a).N) : (cfgA a).idle (4 : Fin 5) ((cfgA a).grid.coords t) = false := by
  have e1 : a.1.atD 0 (k0_off1 (crd a t)) = word1 (crd a t) (tab a) := by
    show (if h : ∀ b, k0_off1 (crd a t) b + 1 ≤ S126.size b then tab a (fun b => ⟨k0_off1 (crd a t) b, h b⟩) else default) = _
    rw [dif_pos (show ∀ b, k0_off1 (crd a t) b + 1 ≤ S126.size b from fun b => by fin_cases b; exact k0_off1_inb (crd a t) 0)]
    refine congrArg (tab a) (funext fun b => Fin.ext ?_)
    fin_cases b
    show k0_off1 (crd a t) 0 = k0_off1 (crd a t) 0 + 1 * 0
    omega
  have e3 : a.1.atD 0 (k0_off3 (crd a t)) = word1 (crd a t) (tab a) := e1
  show (!(k0_cond2 (a.1.atD 0 (k0_off1 (crd a t))) == 1#1) && !(k0_cond3 (a.1.atD 0 (k0_off3 (crd a t))) == 1#1)) = false
  rw [e1, e3]
  by_cases h : 0 ≤ (word1 (crd a t) (tab a)).toInt
  · rw [(cond2_iff _).mpr h]; rfl
  · rw [(cond3_iff _).mpr (by omega)]; simp

/-- What the point leaves of the chunk's rows. -/
def rows (c : Dev nD) (t : Fin (cfgA a).N) : S512x1024.Idx → Elt Bits .bf16 :=
  if Chosen a t then
    View.canon (stores (iblk a m ρ c (0 : Fin 5) t) (iblk a m ρ c (1 : Fin 5) t) (k0_pay1 (iblk a m ρ c (2 : Fin 5) t)) (k0_pay2 (iblk a m ρ c (3 : Fin 5) t)))
  else View.canon blank

theorem rows_pos (c : Dev nD) (t : Fin (cfgA a).N) (h : Chosen a t) : rows a m ρ c t =
    View.canon (stores (iblk a m ρ c (0 : Fin 5) t) (iblk a m ρ c (1 : Fin 5) t) (k0_pay1 (iblk a m ρ c (2 : Fin 5) t)) (k0_pay2 (iblk a m ρ c (3 : Fin 5) t))) :=
  if_pos h
theorem rows_neg (c : Dev nD) (t : Fin (cfgA a).N) (h : ¬Chosen a t) : rows a m ρ c t = View.canon blank := if_neg h

/-- What is known of the kept matrices before position `n`: after a chunk of an expert they are that expert's. -/
def Keeps (c : Dev nD) (n : ℕ) (a0 : Buf (Elt Bits) ((c : Thread nD τ).loc cc0_scratch0)) (a1 : Buf (Elt Bits) ((c : Thread nD τ).loc cc0_scratch1)) : Prop :=
  ∀ s : Fin (cfgA a).N, s.val + 1 = n → Chosen a s →
    kept0 c a0 = k0_pay1 (iblk a m ρ c (2 : Fin 5) s) ∧ kept1 c a1 = k0_pay2 (iblk a m ρ c (3 : Fin 5) s)

/-- The invariant before position `t`. -/
def Phi (m : (ℓ : Loc nD τ sig) → Buf (Elt Bits) ℓ) (ρ : Dev nD → PrngReg) (c : Dev nD) (t : Fin ((cfgA a).N + 1)) : sProp 𝕄 :=
  iprop(∃ a0, ∃ a1, ⌜Keeps a m ρ c t.val a0 a1⌝ ∗ (scM0_0.view.loc (c : Thread nD τ) ↦{fullShare} a0) ∗ (scM0_1.view.loc (c : Thread nD τ) ↦{fullShare} a1) ∗ (tbM0_0.view.loc (c : Thread nD τ) ↦{fullShare.right} (tab a)))

/-- The proof data of the one pipeline on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => rows a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = rows a m ρ c t := rfl

/-- Input window 0 holds its block, fetched there or not. -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The expert's matrices are the ones the point before moved, when both chunks have the same expert. -/
theorem same2 (c : Dev nD) (s t : Fin (cfgA a).N) (h : word1 (crd a s) (tab a) = word1 (crd a t) (tab a)) :
    (iblk a m ρ c (2 : Fin 5) s : S1x1024x512.Idx → Elt Bits .f32) = iblk a m ρ c (2 : Fin 5) t := by
  have e : ((cfgA a).win (2 : Fin 5)).index s = ((cfgA a).win (2 : Fin 5)).index t := by
    show cc0_transform_2 k0_off1_inb numel1_S1 a.1 (crd a s) = cc0_transform_2 k0_off1_inb numel1_S1 a.1 (crd a t)
    rw [place2, place2, h]
  funext y
  refine congrArg (m ((c : Thread nD τ).loc main_arg3)) (funext fun b => Fin.ext ?_)
  show ((cfgA a).win (2 : Fin 5)).index s b * S1x1024x512.size b + 1 * (y b).val = ((cfgA a).win (2 : Fin 5)).index t b * S1x1024x512.size b + 1 * (y b).val
  rw [e]
theorem same3 (c : Dev nD) (s t : Fin (cfgA a).N) (h : word1 (crd a s) (tab a) = word1 (crd a t) (tab a)) :
    (iblk a m ρ c (3 : Fin 5) s : S1x256x1024.Idx → Elt Bits .f32) = iblk a m ρ c (3 : Fin 5) t := by
  have e : ((cfgA a).win (3 : Fin 5)).index s = ((cfgA a).win (3 : Fin 5)).index t := by
    show cc0_transform_3 k0_off1_inb numel1_S1 a.1 (crd a s) = cc0_transform_3 k0_off1_inb numel1_S1 a.1 (crd a t)
    rw [place3, place3, h]
  funext y
  refine congrArg (m ((c : Thread nD τ).loc main_arg4)) (funext fun b => Fin.ext ?_)
  show ((cfgA a).win (3 : Fin 5)).index s b * S1x256x1024.size b + 1 * (y b).val = ((cfgA a).win (3 : Fin 5)).index t b * S1x256x1024.size b + 1 * (y b).val
  rw [e]

/-- A point that takes nothing in has its expert's matrices from the point before. -/
theorem kept_before (c : Dev nD) (t : Fin (cfgA a).N) (q1 : Chosen a t) (q0 : ¬Takes (crd a t) (tab a))
    {a0 : Buf (Elt Bits) ((c : Thread nD τ).loc cc0_scratch0)} {a1 : Buf (Elt Bits) ((c : Thread nD τ).loc cc0_scratch1)} (hk : Keeps a m ρ c t.val a0 a1) :
    kept0 c a0 = k0_pay1 (iblk a m ρ c (2 : Fin 5) t) ∧ kept1 c a1 = k0_pay2 (iblk a m ρ c (3 : Fin 5) t) := by
  have h1 := (cond2_iff _).mp q1
  rw [takes_iff] at q0
  push Not at q0
  obtain ⟨h0, hw⟩ := q0 h1
  have hc : ((crd a t) 0).val = t.val := coord t
  rw [hc] at h0
  have hs : t.val - 1 < (cfgA a).N := by have := t.isLt; omega
  have hp : word2 (crd a t) (tab a) = word1 (crd a ⟨t.val - 1, hs⟩) (tab a) := word2_prev t ⟨t.val - 1, hs⟩ (by show t.val - 1 + 1 = t.val; omega) (tab a)
  have hws : word1 (crd a ⟨t.val - 1, hs⟩) (tab a) = word1 (crd a t) (tab a) := hp.symm.trans hw.symm
  have hq : Chosen a ⟨t.val - 1, hs⟩ := by show k0_cond2 _ = 1#1; rw [hws]; exact q1
  have := hk ⟨t.val - 1, hs⟩ (by show t.val - 1 + 1 = t.val; omega) hq
  rw [same2 a m ρ c _ t hws, same3 a m ρ c _ t hws] at this
  exact this

/-- The body at point `t` on its staging memrefs, as the pipeline calls it. -/
abbrev bodyAt0 (t : Fin (cfgA a).N) : Prog (TpuEff nD τ sig (Elt Bits) Λ₀ .tc) PUnit :=
  cc0_moe_experts (crd a t) (Memref.whole main_arg0) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _)

set_option maxHeartbeats 4000000 in
/-- The body at point `t` takes the contents before it to the contents after it, on each of its three paths. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Bits)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  by_cases q1 : Chosen a t
  · have h3 : ¬(k0_cond3 (word3 (crd a t) (tab a)) = 1#1) := by
      rw [word3_eq, cond3_iff]; have := (cond2_iff _).mp q1; omega
    by_cases q0 : Takes (crd a t) (tab a)
    · rewrite [idle_eq a t]
      simp only [before0_0, before0_1, before0_2, before0_3, after0_0, after0_1, after0_2, after0_3, after0_4]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      simp only [Fin.val_castSucc, Fin.val_succ]
      iintro ⟨⟨%a0, %a1, %hk, HS0, HS1, HT0⟩, Ho, ⟨%d0, H0⟩, ⟨%d1, H1⟩, ⟨%d2, H2⟩, ⟨%d3, H3⟩, ⟨%d4, H4⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (tab a) (iblk a m ρ c (0 : Fin 5) t) (iblk a m ρ c (1 : Fin 5) t) (iblk a m ρ c (2 : Fin 5) t) (iblk a m ρ c (3 : Fin 5) t) q0 q1 h3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexists _; iexact H4
      isplitl [HS0]; · iexact HS0
      isplitl [HS1]; · iexact HS1
      iintro ⟨H0, H1, H2, H3, HT0, ⟨%e4, H4⟩, HS0, HS1⟩
      isplitl [HS0 HS1 HT0]
      · iexists _; iexists _
        isplitr; swap
        · isplitl [HS0]; · iexact HS0
          isplitl [HS1]; · iexact HS1
          iexact HT0
        · ipureintro
          intro s hs _
          obtain rfl : s = t := Fin.ext (by omega)
          exact ⟨first_kept0 .., first_kept1 ..⟩
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        rw [first_rows, rows_pos a m ρ c t q1]
        exact View.read_writes_eq_canon _ _ _ (stores_cover _ _ _ _)
    · rewrite [idle_eq a t]
      simp only [before0_0, before0_1, before0_2, before0_3, after0_0, after0_1, after0_2, after0_3, after0_4]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      simp only [Fin.val_castSucc, Fin.val_succ]
      iintro ⟨⟨%a0, %a1, %hk, HS0, HS1, HT0⟩, Ho, ⟨%d0, H0⟩, ⟨%d1, H1⟩, ⟨%d2, H2⟩, ⟨%d3, H3⟩, ⟨%d4, H4⟩⟩
      have hK := kept_before a m ρ c t q1 q0 hk
      iapply ((kernelRun0_B c (crd a t) (ms0_0 a t) (hs0_0 a t) (ms0_1 a t) (hs0_1 a t) (ms0_2 a t) (hs0_2 a t) (ms0_3 a t) (hs0_3 a t) (ms0_4 a t) (hs0_4 a t) (tab a) (iblk a m ρ c (0 : Fin 5) t) (iblk a m ρ c (1 : Fin 5) t) (iblk a m ρ c (2 : Fin 5) t) (iblk a m ρ c (3 : Fin 5) t) a0 a1 q0 q1 h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexists _; iexact H4
      isplitl [HS0]; · iexact HS0
      isplitl [HS1]; · iexact HS1
      iintro ⟨H0, H1, H2, H3, HT0, ⟨%e4, H4⟩, HS0, HS1⟩
      isplitl [HS0 HS1 HT0]
      · iexists _; iexists _
        isplitr; swap
        · isplitl [HS0]; · iexact HS0
          isplitl [HS1]; · iexact HS1
          iexact HT0
        · ipureintro
          intro s hs _
          obtain rfl : s = t := Fin.ext (by omega)
          exact ⟨(again_kept0 ..).trans hK.1, (again_kept1 ..).trans hK.2⟩
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        rw [again_rows, rows_pos a m ρ c t q1, hK.1, hK.2]
        exact View.read_writes_eq_canon _ _ _ (stores_cover _ _ _ _)
  · have q0 : ¬Takes (crd a t) (tab a) := fun h => q1 ((cond2_iff _).mpr ((takes_iff _ _).mp h).1)
    have h3 : k0_cond3 (word3 (crd a t) (tab a)) = 1#1 := by
      rw [word3_eq, cond3_iff]
      by_contra h
      exact q1 ((cond2_iff _).mpr (by omega))
    rewrite [idle_eq a t]
    simp only [before0_0, before0_1, before0_2, before0_3, after0_0, after0_1, after0_2, after0_3, after0_4]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    simp only [Fin.val_castSucc, Fin.val_succ]
    iintro ⟨⟨%a0, %a1, %hk, HS0, HS1, HT0⟩, Ho, ⟨%d0, H0⟩, ⟨%d1, H1⟩, ⟨%d2, H2⟩, ⟨%d3, H3⟩, ⟨%d4, H4⟩⟩
    iapply ((kernelRun0_C c (crd a t) (ms0_0 a t) (hs0_0 a t) (ms0_1 a t) (hs0_1 a t) (ms0_2 a t) (hs0_2 a t) (ms0_3 a t) (hs0_3 a t) (ms0_4 a t) (hs0_4 a t) (tab a) (iblk a m ρ c (0 : Fin 5) t) (iblk a m ρ c (1 : Fin 5) t) (iblk a m ρ c (2 : Fin 5) t) (iblk a m ρ c (3 : Fin 5) t) a0 a1 q0 q1 h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [HS0]; · iexact HS0
    isplitl [HS1]; · iexact HS1
    iintro ⟨H0, H1, H2, H3, HT0, ⟨%e4, H4⟩, HS0, HS1⟩
    isplitl [HS0 HS1 HT0]
    · iexists _; iexists _
      isplitr; swap
      · isplitl [HS0]; · iexact HS0
        isplitl [HS1]; · iexact HS1
        iexact HT0
      · ipureintro
        intro s hs h
        obtain rfl : s = t := Fin.ext (by omega)
        exact absurd h q1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      rw [none_rows, rows_neg a m ρ c t q1]
      exact View.read_writes_eq_canon _ _ _ blank_cover

end Cert.ExpertsBits
end
-- ==== Proof.ExpertsBitsFrame.lean ====
module
public import proofs.«01_k».proof.Proof.ExpertsBitsBody

/-! # The run of the whole experts' kernel on machine numbers

From any memory whose table is in range the program runs to its end, every array ends at the contents computed step by
step, and its arguments are as they were. -/

@[expose] public section
set_option maxRecDepth 16384
set_option Elab.async false
noncomputable section

namespace Cert.ExpertsBits
open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (a : (pcfg0 (F := Bits)).Adm)
variable (m : (ℓ : Loc nD τ sig) → Buf (Elt Bits) ℓ) (ρ : Dev nD → PrngReg)

/-- The memory's table is `a`. -/
def Reads : Prop := ∀ c : Dev nD, m ((c : Thread nD τ).loc main_arg0) = tab a

/-- The library's body obligation, at every point. -/
theorem body_obligation (c : Dev nD) : BodyObligation (dats a m ρ 0 c) (defs₀ (F := Bits)) Variants.none () Set.univ := fun t => by
  rw [bigSep_W0]
  exact sound_body a m ρ c t

/-! ## The launch -/

/-- The rounds library's launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant holds at the first point, -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0⟩, ⟨%a0, HS0⟩, ⟨%a1, HS1⟩⟩
  iexists a0; iexists a1
  isplitr; swap
  · isplitl [HS0]; · iexact HS0
    isplitl [HS1]; · iexact HS1
    iexact HT0
  · ipureintro
    intro s hs _
    exact absurd hs (Nat.succ_ne_zero _)

/-- and gives the two kept buffers back after the last. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, -, HS0, HS1, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem V_pre (hp : Reads a m) (c : Dev nD) (j : Fin 1) : m ((c : Thread nD τ).loc (pre0.ref j)) = a.1 j := by
  fin_cases j
  · exact hp c

set_option backward.isDefEq.respectTransparency.types false in
set_option maxHeartbeats 4000000 in
/-- From any memory with the table `a` the program ends, with every array at the computed contents and every counter at zero. -/
theorem run_main_quiescent (hp : Reads a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Reads a m) : θ_run (defs (F := Bits)) (onTc (τ := τ) (main (F := Bits))) (s₀ m ρ) (QC a m ρ) :=
  (θ_run defs _ _).mono (fun _ h => h.1) (run_main_quiescent a m ρ hp)

/-- `frame` without the counters: the argument arrays end unchanged. -/
theorem unchanged (hp : Reads a m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp c).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hp)

/-- The program runs to its end and its arguments are as they were. -/
theorem frame (hp : Reads a m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged a m ρ hp) ((θ_run defs _ _).mono (fun _ h => h.2) (run_main_quiescent a m ρ hp))

end Cert.ExpertsBits
end
-- ==== Proof.ExpertsIdealStep.lean ====
module
public import proofs.«01_k».proof.Proof.Gen.Kernel2Ideal.Flash.Runs
public import Idealize.ShloMosaic.Lib.VecWindow

/-! # One step of the experts' kernel

What the body leaves behind on each of its three paths, as a function of the blocks it reads: the chunk's rows, and the
two matrices of the chunk's expert it keeps between the steps. -/

@[expose] public section
set_option maxRecDepth 16384
set_option Elab.async false
noncomputable section

namespace Cert.ExpertsIdeal
open Cert.Kernel2Ideal Cert.Kernel2Ideal.Gen
open Idealize.ShloMosaic Idealize.ShloMosaic.TcCoe Idealize.ShloMosaic.Tactic Idealize.SL.Sem

/-- The matrices kept from an earlier step, as the body reads them. -/
def kept0 (c : Dev nD) (a : Buf (Elt Ideal) ((c : Thread nD τ).loc cc0_scratch0)) : S1024x512.Idx → Elt Ideal .bf16 :=
  View.readAt (Elt Ideal) scM0_0.view (Rect.unit ![0, 0] S1024x512.size inb_S1024x512_S1024x512_0_0).toLoadRect a
def kept1 (c : Dev nD) (a : Buf (Elt Ideal) ((c : Thread nD τ).loc cc0_scratch1)) : S256x1024.Idx → Elt Ideal .bf16 :=
  View.readAt (Elt Ideal) scM0_1.view (Rect.unit ![0, 0] S256x1024.size inb_S256x1024_S256x1024_0_0).toLoadRect a

/-- The two stores of a chunk's rows. -/
def stores (x0 : S512x1024.Idx → Elt Ideal .bf16) (x1 : S512x128.Idx → Elt Ideal .f32)
    (w0 : S1024x512.Idx → Elt Ideal .bf16) (w1 : S256x1024.Idx → Elt Ideal .bf16) : List (View.Piece (Elt Ideal) S512x1024 .bf16) :=
  [⟨Rect.unit (s := S512x1024) ![256, 0] S256x1024.size inb_S512x1024_S256x1024_256_0,
      k0_pay4 (fun y => x0 ((Rect.unit (s := S512x1024) ![256, 0] S256x1024.size inb_S512x1024_S256x1024_256_0).toLoadRect.idx y)) w0
        (fun y => x1 ((Rect.unit (s := S512x128) ![256, 0] S256x1.size inb_S512x128_S256x1_256_0).toLoadRect.idx y)) w1⟩,
    ⟨Rect.unit (s := S512x1024) ![0, 0] S256x1024.size inb_S512x1024_S256x1024_0_0,
      k0_pay3 (fun y => x0 ((Rect.unit (s := S512x1024) ![0, 0] S256x1024.size inb_S512x1024_S256x1024_0_0).toLoadRect.idx y)) w0
        (fun y => x1 ((Rect.unit (s := S512x128) ![0, 0] S256x1.size inb_S512x128_S256x1_0_0).toLoadRect.idx y)) w1⟩]

/-- The one store of a chunk of no expert. -/
def blank : List (View.Piece (Elt Ideal) S512x1024 .bf16) :=
  [⟨Rect.unit (s := S512x1024) ![0, 0] S512x1024.size inb_S512x1024_S512x1024_0_0, k0_pay5 (F := Ideal)⟩]

theorem stores_cover (x0 : S512x1024.Idx → Elt Ideal .bf16) (x1 : S512x128.Idx → Elt Ideal .f32)
    (w0 : S1024x512.Idx → Elt Ideal .bf16) (w1 : S256x1024.Idx → Elt Ideal .bf16) (y : S512x1024.Idx) :
    ∃ p ∈ stores x0 x1 w0 w1, y ∈ p.1.set :=
  View.cover_of_tiledL (stores x0 x1 w0 w1) S256x1024.size (by sl_kernel_rfl) y

theorem blank_cover (y : S512x1024.Idx) : ∃ p ∈ blank, y ∈ p.1.set :=
  View.cover_of_tiledL blank S512x1024.size (by sl_kernel_rfl) y

/-- The word of a table the body reads at a point. -/
abbrev word1 (i : grid0.Coords) (T0 : S126.Idx → Elt Ideal .i32) : BitVec 32 :=
  View.readAt (Elt Ideal) (tbM0_0).view (Rect.unit (s := S126) (k0_off1 i) S1.size (k0_off1_inb i)).toLoadRect T0 (Shape.Idx.first (numel1_S1.symm ▸ Nat.one_pos))
abbrev word2 (i : grid0.Coords) (T0 : S126.Idx → Elt Ideal .i32) : BitVec 32 :=
  View.readAt (Elt Ideal) (tbM0_0).view (Rect.unit (s := S126) (k0_off2 i) S1.size (k0_off2_inb i)).toLoadRect T0 (Shape.Idx.first (numel1_S1.symm ▸ Nat.one_pos))
abbrev word3 (i : grid0.Coords) (T0 : S126.Idx → Elt Ideal .i32) : BitVec 32 :=
  View.readAt (Elt Ideal) (tbM0_0).view (Rect.unit (s := S126) (k0_off3 i) S1.size (k0_off3_inb i)).toLoadRect T0 (Shape.Idx.first (numel1_S1.symm ▸ Nat.one_pos))

/-- Whether the body takes the expert's matrices in at a point. -/
abbrev Takes (i : grid0.Coords) (T0 : S126.Idx → Elt Ideal .i32) : Prop :=
  Scalar.cmpi .ne (Scalar.extui (Scalar.andi (Scalar.cmpi .sge (word1 i T0) 0#32) (Scalar.ori (Scalar.cmpi .eq (BitVec.ofNat 32 (i 0).val) 0#32) (Scalar.cmpi .ne (word1 i T0) (word2 i T0))))) 0#32 = 1#1

variable (c : Dev nD) (i : grid0.Coords) (arg2 : Memref sig .tc .vmem S512x1024 .bf16) (harg2 : arg2.IsWhole)
  (arg3 : Memref sig .tc .vmem S512x128 .f32) (harg3 : arg3.IsWhole) (arg4 : Memref sig .tc .vmem S1x1024x512 .f32) (harg4 : arg4.IsWhole)
  (arg5 : Memref sig .tc .vmem S1x256x1024 .f32) (harg5 : arg5.IsWhole) (arg6 : Memref sig .tc .vmem S512x1024 .bf16) (harg6 : arg6.IsWhole)
  (T0 : S126.Idx → Elt Ideal .i32) (x0 : S512x1024.Idx → Elt Ideal .bf16) (x1 : S512x128.Idx → Elt Ideal .f32)
  (x2 : S1x1024x512.Idx → Elt Ideal .f32) (x3 : S1x256x1024.Idx → Elt Ideal .f32)
  (xa0 : Buf (Elt Ideal) ((c : Thread nD τ).loc cc0_scratch0)) (xa1 : Buf (Elt Ideal) ((c : Thread nD τ).loc cc0_scratch1))

theorem first_rows (hc0 : Takes i T0) (h2 : k0_cond2 (word1 i T0) = 1#1) (h3 : ¬(k0_cond3 (word3 i T0) = 1#1)) :
    (kernelRun0_A c i arg2 harg2 arg3 harg3 arg4 harg4 arg5 harg5 arg6 harg6 T0 x0 x1 x2 x3 hc0 h2 h3).1
      = stores x0 x1 (k0_pay1 x2) (k0_pay2 x3) := by
  delta kernelRun0_A; dsimp only
  delta kernelRun0_A.sl.HO4_2
  dsimp only
  unfold stores
  delta kernelRun0_A.sl.v22 kernelRun0_A.sl.v31 kernelRun0_A.sl.HS0_1 kernelRun0_A.sl.HS1_1
  dsimp only
  have e0 : View.readAt (Elt Ideal) arg4.view (Rect.unit ![0, 0, 0] S1x1024x512.size inb_S1x1024x512_S1x1024x512_0_0_0).toLoadRect (arg4.view.rep x2) = x2 :=
    View.readAt_rep_full _ _ _
  have e1 : View.readAt (Elt Ideal) arg5.view (Rect.unit ![0, 0, 0] S1x256x1024.size inb_S1x256x1024_S1x256x1024_0_0_0).toLoadRect (arg5.view.rep x3) = x3 :=
    View.readAt_rep_full _ _ _
  have f0 := View.readCov_full (Val := Elt Ideal) (s := S1024x512) (e := .bf16) (scM0_0.view) inb_S1024x512_S1024x512_0_0 inb_S1024x512_S1024x512_0_0 (k0_pay1 (F := Ideal) x2) []
  have f1 := View.readCov_full (Val := Elt Ideal) (s := S256x1024) (e := .bf16) (scM0_1.view) inb_S256x1024_S256x1024_0_0 inb_S256x1024_S256x1024_0_0 (k0_pay2 (F := Ideal) x3) []
  rw [e0, e1]; erw [f0, f1]
  simp only [View.readAt_rep]
  rfl

theorem first_kept0 (hc0 : Takes i T0) (h2 : k0_cond2 (word1 i T0) = 1#1) (h3 : ¬(k0_cond3 (word3 i T0) = 1#1)) :
    kept0 c (kernelRun0_A c i arg2 harg2 arg3 harg3 arg4 harg4 arg5 harg5 arg6 harg6 T0 x0 x1 x2 x3 hc0 h2 h3).2.1 = k0_pay1 x2 := by
  delta kernelRun0_A kept0; dsimp only
  delta kernelRun0_A.sl.HS0_1
  dsimp only
  erw [View.readAt_writes_full, View.readAt_rep_full]

theorem first_kept1 (hc0 : Takes i T0) (h2 : k0_cond2 (word1 i T0) = 1#1) (h3 : ¬(k0_cond3 (word3 i T0) = 1#1)) :
    kept1 c (kernelRun0_A c i arg2 harg2 arg3 harg3 arg4 harg4 arg5 harg5 arg6 harg6 T0 x0 x1 x2 x3 hc0 h2 h3).2.2.1 = k0_pay2 x3 := by
  delta kernelRun0_A kept1; dsimp only
  delta kernelRun0_A.sl.HS1_1
  dsimp only
  erw [View.readAt_writes_full, View.readAt_rep_full]

theorem again_rows (hc0 : ¬Takes i T0) (h2 : k0_cond2 (word1 i T0) = 1#1) (h3 : ¬(k0_cond3 (word3 i T0) = 1#1)) :
    (kernelRun0_B c i arg2 harg2 arg3 harg3 arg4 harg4 arg5 harg5 arg6 harg6 T0 x0 x1 x2 x3 xa0 xa1 hc0 h2 h3).1
      = stores x0 x1 (kept0 c xa0) (kept1 c xa1) := by
  delta kernelRun0_B; dsimp only
  delta kernelRun0_B.sl.HO4_2
  dsimp only
  unfold stores kept0 kept1
  simp only [View.readAt_rep]
  rfl

theorem again_kept0 (hc0 : ¬Takes i T0) (h2 : k0_cond2 (word1 i T0) = 1#1) (h3 : ¬(k0_cond3 (word3 i T0) = 1#1)) :
    kept0 c (kernelRun0_B c i arg2 harg2 arg3 harg3 arg4 harg4 arg5 harg5 arg6 harg6 T0 x0 x1 x2 x3 xa0 xa1 hc0 h2 h3).2.1 = kept0 c xa0 := by
  delta kernelRun0_B; rfl

theorem again_kept1 (hc0 : ¬Takes i T0) (h2 : k0_cond2 (word1 i T0) = 1#1) (h3 : ¬(k0_cond3 (word3 i T0) = 1#1)) :
    kept1 c (kernelRun0_B c i arg2 harg2 arg3 harg3 arg4 harg4 arg5 harg5 arg6 harg6 T0 x0 x1 x2 x3 xa0 xa1 hc0 h2 h3).2.2.1 = kept1 c xa1 := by
  delta kernelRun0_B; rfl

theorem none_rows (hc0 : ¬Takes i T0) (h2 : ¬(k0_cond2 (word1 i T0) = 1#1)) (h3 : k0_cond3 (word3 i T0) = 1#1) :
    (kernelRun0_C c i arg2 harg2 arg3 harg3 arg4 harg4 arg5 harg5 arg6 harg6 T0 x0 x1 x2 x3 xa0 xa1 hc0 h2 h3).1 = blank := by
  delta kernelRun0_C; dsimp only; delta kernelRun0_C.sl.HO4_1; rfl

end Cert.ExpertsIdeal
end
-- ==== Proof.ExpertsIdealGrid.lean ====
module
public import proofs.«01_k».proof.Proof.ExpertsIdealStep
public import Idealize.ShloMosaic.Lib.Pipeline.ValueKit

/-! # The grid of the experts' kernel, at any table it may read

The table names each chunk's expert, or −1 for a chunk of none. For every table whose entries lie between −1 and 31 the
blocks the grid points move lie inside their arrays, and a point's path depends on its own entry and the one before. -/

@[expose] public section
set_option maxRecDepth 16384
set_option Elab.async false
noncomputable section

namespace Cert.ExpertsIdeal
open Cert.Kernel2Ideal Cert.Kernel2Ideal.Gen
open Idealize.ShloMosaic Idealize.ShloMosaic.TcCoe Idealize.ShloMosaic.Tactic Idealize.SL.Sem

theorem coord : ∀ t : Fin grid0.N, (grid0.coords t 0).val = t.val := by decide +kernel
theorem off1 : ∀ t : Fin grid0.N, k0_off1 (grid0.coords t) 0 = t.val := by decide +kernel
theorem off2 : ∀ t : Fin grid0.N, k0_off2 (grid0.coords t) 0 = t.val - 1 := by decide +kernel
theorem size : grid0.N = 126 := by decide +kernel

/-- The chunk's word. -/
theorem word1_eq (t : Fin grid0.N) (T0 : S126.Idx → Elt Ideal .i32) :
    word1 (grid0.coords t) T0 = T0 (ix1 ⟨t.val, lt_of_lt_of_eq t.isLt size⟩) := by
  refine congrArg T0 (funext fun a => ?_)
  fin_cases a
  refine Fin.ext ?_
  show k0_off1 (grid0.coords t) 0 + 1 * 0 = t.val
  rw [off1]; omega

theorem word2_eq (t : Fin grid0.N) (T0 : S126.Idx → Elt Ideal .i32) :
    word2 (grid0.coords t) T0 = T0 (ix1 ⟨t.val - 1, by have := t.isLt; have := size; omega⟩) := by
  refine congrArg T0 (funext fun a => ?_)
  fin_cases a
  refine Fin.ext ?_
  show k0_off2 (grid0.coords t) 0 + 1 * 0 = t.val - 1
  rw [off2]; omega

theorem word2_prev (t s : Fin grid0.N) (h : s.val + 1 = t.val) (T0 : S126.Idx → Elt Ideal .i32) :
    word2 (grid0.coords t) T0 = word1 (grid0.coords s) T0 := by
  rw [word2_eq, word1_eq]
  exact congrArg (fun n => T0 (ix1 n)) (Fin.ext (by show t.val - 1 = s.val; omega))

theorem word3_eq (i : grid0.Coords) (T0 : S126.Idx → Elt Ideal .i32) : word3 i T0 = word1 i T0 := rfl

/-! ## The decisions -/

theorem bit_one (p : Bool) : BitVec.ofBool p = 1#1 ↔ p = true := by cases p <;> decide
theorem cond2_iff (w : BitVec 32) : k0_cond2 w = 1#1 ↔ 0 ≤ w.toInt := by
  have h : k0_cond2 w = BitVec.ofBool (decide (0 ≤ w.toInt)) := by
    show BitVec.ofBool ((BitVec.setWidth 32 (BitVec.ofBool ((0#32).sle w))) != 0#32) = _
    rw [show (0#32).sle w = decide (0 ≤ w.toInt) from by simp [BitVec.sle]]
    cases decide (0 ≤ w.toInt) <;> rfl
  rw [h, bit_one, decide_eq_true_iff]
theorem cond3_iff (w : BitVec 32) : k0_cond3 w = 1#1 ↔ w.toInt < 0 := by
  have h : k0_cond3 w = BitVec.ofBool (decide (w.toInt < 0)) := by
    show BitVec.ofBool ((BitVec.setWidth 32 (BitVec.ofBool (w.slt 0#32))) != 0#32) = _
    rw [show w.slt 0#32 = decide (w.toInt < 0) from by simp [BitVec.slt]]
    cases decide (w.toInt < 0) <;> rfl
  rw [h, bit_one, decide_eq_true_iff]

theorem takes_iff (i : grid0.Coords) (T0 : S126.Idx → Elt Ideal .i32) :
    Takes i T0 ↔ 0 ≤ (word1 i T0).toInt ∧ ((i 0).val = 0 ∨ word1 i T0 ≠ word2 i T0) := by
  have hi : (i 0).val < 126 := (i 0).isLt
  generalize h1 : word1 i T0 = w1
  generalize h2 : word2 i T0 = w2
  have h : (Scalar.cmpi .ne (Scalar.extui (Scalar.andi (Scalar.cmpi .sge w1 0#32) (Scalar.ori (Scalar.cmpi .eq (BitVec.ofNat 32 (i 0).val) 0#32) (Scalar.cmpi .ne w1 w2)))) 0#32 : BitVec 1)
      = BitVec.ofBool (decide (0 ≤ w1.toInt) && (decide ((i 0).val = 0) || decide (w1 ≠ w2))) := by
    show BitVec.ofBool ((BitVec.setWidth 32 (BitVec.ofBool ((0#32).sle w1) &&& (BitVec.ofBool (BitVec.ofNat 32 (i 0).val == 0#32) ||| BitVec.ofBool (w1 != w2)))) != 0#32) = _
    rw [show (0#32).sle w1 = decide (0 ≤ w1.toInt) from by simp [BitVec.sle],
      show (BitVec.ofNat 32 (i 0).val == 0#32) = decide ((i 0).val = 0) from by
        rw [Bool.eq_iff_iff, beq_iff_eq, decide_eq_true_iff, BitVec.toNat_eq]
        simp only [BitVec.toNat_ofNat]
        omega,
      show (w1 != w2) = decide (w1 ≠ w2) from by
        by_cases hw : w1 = w2
        · subst hw; simp
        · rw [decide_eq_true hw]; simp [hw]]
    cases decide (0 ≤ w1.toInt) <;> cases decide ((i 0).val = 0) <;> cases decide (w1 ≠ w2) <;> rfl
  unfold Takes
  rw [h1, h2, h, bit_one]
  simp [decide_eq_true_iff]

/-! ## The tables the kernel may read -/

/-- Every entry of the table is an expert's number or −1. -/
def InRange (T0 : S126.Idx → Elt Ideal .i32) : Prop := ∀ n : S126.Idx, -1 ≤ (T0 n : BitVec 32).toInt ∧ (T0 n : BitVec 32).toInt < 32

theorem expert_lt {w : BitVec 32} (h : -1 ≤ w.toInt ∧ w.toInt < 32) : (Scalar.maxsi w 0#32).toNat = w.toInt.toNat ∧ w.toInt.toNat < 32 := by
  have e : (Scalar.maxsi w 0#32 : BitVec 32) = if (0#32).slt w then w else 0#32 := rfl
  constructor
  · rw [e, show (0#32).slt w = decide (0 < w.toInt) from by simp [BitVec.slt]]
    have hn := w.isLt
    have hc := BitVec.toInt_eq_toNat_cond w
    by_cases hw : 0 < w.toInt
    · simp only [hw, decide_true, ↓reduceIte]
      split at hc <;> omega
    · simp only [hw, decide_false, Bool.false_eq_true, ↓reduceIte]
      show 0 = _
      omega
  · omega

theorem word1_range {T0 : S126.Idx → Elt Ideal .i32} (h : InRange T0) (i : grid0.Coords) :
    -1 ≤ (word1 i T0).toInt ∧ (word1 i T0).toInt < 32 := h _

theorem row_lt (i : grid0.Coords) (w : BitVec 32) :
    (Scalar.select (Scalar.cmpi .sge w 0#32) (BitVec.ofNat 32 (i 0).val) 0#32 : BitVec 32).toNat = (if 0 ≤ w.toInt then (i 0).val else 0) := by
  have hi : (i 0).val < 126 := (i 0).isLt
  have e : (Scalar.select (Scalar.cmpi .sge w 0#32) (BitVec.ofNat 32 (i 0).val) 0#32 : BitVec 32)
      = if BitVec.ofBool ((0#32).sle w) = 1#1 then BitVec.ofNat 32 (i 0).val else 0#32 := rfl
  rw [e, show (0#32).sle w = decide (0 ≤ w.toInt) from by simp [BitVec.sle]]
  by_cases h : 0 ≤ w.toInt
  · rw [if_pos h, decide_eq_true h, if_pos (by decide), BitVec.toNat_ofNat]; omega
  · rw [if_neg h, decide_eq_false h, if_neg (by decide)]; rfl

/-- The blocks' places. -/
theorem place0 (pf : pre0.Contents (Elt Ideal)) (i : grid0.Coords) :
    cc0_transform_0 k0_off1_inb numel1_S1 pf i = ![if 0 ≤ (word1 i (pf 0)).toInt then (i 0).val else 0, 0] := by
  rw [← row_lt]; rfl
theorem place1 (pf : pre0.Contents (Elt Ideal)) (i : grid0.Coords) :
    cc0_transform_1 k0_off1_inb numel1_S1 pf i = ![if 0 ≤ (word1 i (pf 0)).toInt then (i 0).val else 0, 0] := by
  rw [← row_lt]; rfl
theorem place2 (pf : pre0.Contents (Elt Ideal)) (i : grid0.Coords) :
    cc0_transform_2 k0_off1_inb numel1_S1 pf i = ![(Scalar.maxsi (word1 i (pf 0)) 0#32).toNat, 0, 0] := rfl
theorem place3 (pf : pre0.Contents (Elt Ideal)) (i : grid0.Coords) :
    cc0_transform_3 k0_off1_inb numel1_S1 pf i = ![(Scalar.maxsi (word1 i (pf 0)) 0#32).toNat, 0, 0] := rfl

/-- Every block lies inside its array. -/
theorem admissible (pf : pre0.Contents (Elt Ideal)) (h : InRange (pf 0)) : ok0 (F := Ideal) pf := by
  have hr : ∀ i : grid0.Coords, (if 0 ≤ (word1 i (pf 0)).toInt then (i 0).val else 0) < 126 := fun i => by
    have := (i 0).isLt; split
    · exact this
    · decide
  have he : ∀ i : grid0.Coords, (Scalar.maxsi (word1 i (pf 0)) 0#32).toNat < 32 := fun i => by
    have := expert_lt (word1_range h i); omega
  refine ⟨fun i => ⟨fun a => ?_, .inr (Affine.block_words_dvd (s := S64512x1024) (p := EltTy.packing .bf16) (by decide) (by decide))⟩,
    fun i => ⟨fun a => ?_, .inl rfl⟩, fun i => ⟨fun a => ?_, .inl rfl⟩, fun i => ⟨fun a => ?_, .inl rfl⟩⟩
  · have := hr i
    rw [place0]
    fin_cases a
    · show (_ + 1) * 512 ≤ 64512; simp only [Fin.zero_eta, Matrix.cons_val_zero]; omega
    · show (0 + 1) * 1024 ≤ 1024; omega
  · have := hr i
    rw [place1]
    fin_cases a
    · show (_ + 1) * 512 ≤ 64512; simp only [Fin.zero_eta, Matrix.cons_val_zero]; omega
    · show (0 + 1) * 128 ≤ 128; omega
  · have := he i
    rw [place2]
    fin_cases a
    · show ((Scalar.maxsi (word1 i (pf 0)) 0#32).toNat + 1) * 1 ≤ 32; omega
    · show (0 + 1) * 1024 ≤ 1024; omega
    · show (0 + 1) * 512 ≤ 512; omega
  · have := he i
    rw [place3]
    fin_cases a
    · show ((Scalar.maxsi (word1 i (pf 0)) 0#32).toNat + 1) * 1 ≤ 32; omega
    · show (0 + 1) * 256 ≤ 256; omega
    · show (0 + 1) * 1024 ≤ 1024; omega

end Cert.ExpertsIdeal
end
-- ==== Proof.ExpertsIdealBody.lean ====
module
public import proofs.«01_k».proof.Proof.ExpertsIdealGrid

/-! # The run of the experts' kernel, step by step

The contents every window and the two kept matrices have before and after each grid point, at any admissible table, and
the proof that the body takes the one to the other -/

@[expose] public section
set_option maxRecDepth 16384
set_option Elab.async false
noncomputable section

namespace Cert.ExpertsIdeal
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

abbrev 𝕄 := MT nD τ sig Unit (Elt Ideal) ℕ (UR sig nD τ) ℕ

/-- The staging cells' resources. -/
abbrev EP : Emb (UR sig nD τ) 𝕄 := emb₁

variable (a : (pcfg0 (F := Ideal)).Adm)

/-- The pipeline at the table `a`. -/
abbrev cfgA : Pipeline.Cfg sig Λ₀ := cfg0 (F := Ideal) a
abbrev pcs : Fin 1 → Pipeline.Cfg sig Λ₀ := Pipeline.pin (pcfgs (F := Ideal)) fun _ => a
/-- The table itself. -/
abbrev tab : S126.Idx → Elt Ideal .i32 := a.1 0

variable (m : (ℓ : Loc nD τ sig) → Buf (Elt Ideal) ℓ) (ρ : Dev nD → PrngReg)

/-- Point `t`'s coordinates. -/
abbrev crd (t : Fin (cfgA a).N) : (cfgA a).grid.Coords := (cfgA a).grid.coords t

/-- Each window's current staging memref at point `t`, spelled as the pipeline passes it, and its wholeness. -/
abbrev ms0_0 (t : Fin (cfgA a).N) : Memref sig .tc .vmem S512x1024 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S512x128 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x256x1024 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x1024 .bf16 := spec0_4.stage ((cfgA a).slots t (4 : Fin 5))
abbrev hs0_4 (t : Fin (cfgA a).N) : (ms0_4 a t).IsWhole := hstage0_4 (((cfgA a).slots t (4 : Fin 5)).cast nbuf0_4)

/-! ## The windows' blocks -/

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- Whether the chunk has an expert. -/
abbrev Chosen (t : Fin (cfgA a).N) : Prop := k0_cond2 (word1 (crd a t) (tab a)) = 1#1

theorem idle_eq (t : Fin (cfgA a).N) : (cfgA a).idle (4 : Fin 5) ((cfgA a).grid.coords t) = false := by
  have e1 : a.1.atD 0 (k0_off1 (crd a t)) = word1 (crd a t) (tab a) := by
    show (if h : ∀ b, k0_off1 (crd a t) b + 1 ≤ S126.size b then tab a (fun b => ⟨k0_off1 (crd a t) b, h b⟩) else default) = _
    rw [dif_pos (show ∀ b, k0_off1 (crd a t) b + 1 ≤ S126.size b from fun b => by fin_cases b; exact k0_off1_inb (crd a t) 0)]
    refine congrArg (tab a) (funext fun b => Fin.ext ?_)
    fin_cases b
    show k0_off1 (crd a t) 0 = k0_off1 (crd a t) 0 + 1 * 0
    omega
  have e3 : a.1.atD 0 (k0_off3 (crd a t)) = word1 (crd a t) (tab a) := e1
  show (!(k0_cond2 (a.1.atD 0 (k0_off1 (crd a t))) == 1#1) && !(k0_cond3 (a.1.atD 0 (k0_off3 (crd a t))) == 1#1)) = false
  rw [e1, e3]
  by_cases h : 0 ≤ (word1 (crd a t) (tab a)).toInt
  · rw [(cond2_iff _).mpr h]; rfl
  · rw [(cond3_iff _).mpr (by omega)]; simp

/-- What the point leaves of the chunk's rows. -/
def rows (c : Dev nD) (t : Fin (cfgA a).N) : S512x1024.Idx → Elt Ideal .bf16 :=
  if Chosen a t then
    View.canon (stores (iblk a m ρ c (0 : Fin 5) t) (iblk a m ρ c (1 : Fin 5) t) (k0_pay1 (iblk a m ρ c (2 : Fin 5) t)) (k0_pay2 (iblk a m ρ c (3 : Fin 5) t)))
  else View.canon blank

theorem rows_pos (c : Dev nD) (t : Fin (cfgA a).N) (h : Chosen a t) : rows a m ρ c t =
    View.canon (stores (iblk a m ρ c (0 : Fin 5) t) (iblk a m ρ c (1 : Fin 5) t) (k0_pay1 (iblk a m ρ c (2 : Fin 5) t)) (k0_pay2 (iblk a m ρ c (3 : Fin 5) t))) :=
  if_pos h
theorem rows_neg (c : Dev nD) (t : Fin (cfgA a).N) (h : ¬Chosen a t) : rows a m ρ c t = View.canon blank := if_neg h

/-- What is known of the kept matrices before position `n`: after a chunk of an expert they are that expert's. -/
def Keeps (c : Dev nD) (n : ℕ) (a0 : Buf (Elt Ideal) ((c : Thread nD τ).loc cc0_scratch0)) (a1 : Buf (Elt Ideal) ((c : Thread nD τ).loc cc0_scratch1)) : Prop :=
  ∀ s : Fin (cfgA a).N, s.val + 1 = n → Chosen a s →
    kept0 c a0 = k0_pay1 (iblk a m ρ c (2 : Fin 5) s) ∧ kept1 c a1 = k0_pay2 (iblk a m ρ c (3 : Fin 5) s)

/-- The invariant before position `t`. -/
def Phi (m : (ℓ : Loc nD τ sig) → Buf (Elt Ideal) ℓ) (ρ : Dev nD → PrngReg) (c : Dev nD) (t : Fin ((cfgA a).N + 1)) : sProp 𝕄 :=
  iprop(∃ a0, ∃ a1, ⌜Keeps a m ρ c t.val a0 a1⌝ ∗ (scM0_0.view.loc (c : Thread nD τ) ↦{fullShare} a0) ∗ (scM0_1.view.loc (c : Thread nD τ) ↦{fullShare} a1) ∗ (tbM0_0.view.loc (c : Thread nD τ) ↦{fullShare.right} (tab a)))

/-- The proof data of the one pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => rows a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = rows a m ρ c t := rfl

/-- Input window 0 holds its block, fetched there or not. -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The expert's matrices are the ones the point before moved, when both chunks have the same expert. -/
theorem same2 (c : Dev nD) (s t : Fin (cfgA a).N) (h : word1 (crd a s) (tab a) = word1 (crd a t) (tab a)) :
    (iblk a m ρ c (2 : Fin 5) s : S1x1024x512.Idx → Elt Ideal .f32) = iblk a m ρ c (2 : Fin 5) t := by
  have e : ((cfgA a).win (2 : Fin 5)).index s = ((cfgA a).win (2 : Fin 5)).index t := by
    show cc0_transform_2 k0_off1_inb numel1_S1 a.1 (crd a s) = cc0_transform_2 k0_off1_inb numel1_S1 a.1 (crd a t)
    rw [place2, place2, h]
  funext y
  refine congrArg (m ((c : Thread nD τ).loc main_arg3)) (funext fun b => Fin.ext ?_)
  show ((cfgA a).win (2 : Fin 5)).index s b * S1x1024x512.size b + 1 * (y b).val = ((cfgA a).win (2 : Fin 5)).index t b * S1x1024x512.size b + 1 * (y b).val
  rw [e]
theorem same3 (c : Dev nD) (s t : Fin (cfgA a).N) (h : word1 (crd a s) (tab a) = word1 (crd a t) (tab a)) :
    (iblk a m ρ c (3 : Fin 5) s : S1x256x1024.Idx → Elt Ideal .f32) = iblk a m ρ c (3 : Fin 5) t := by
  have e : ((cfgA a).win (3 : Fin 5)).index s = ((cfgA a).win (3 : Fin 5)).index t := by
    show cc0_transform_3 k0_off1_inb numel1_S1 a.1 (crd a s) = cc0_transform_3 k0_off1_inb numel1_S1 a.1 (crd a t)
    rw [place3, place3, h]
  funext y
  refine congrArg (m ((c : Thread nD τ).loc main_arg4)) (funext fun b => Fin.ext ?_)
  show ((cfgA a).win (3 : Fin 5)).index s b * S1x256x1024.size b + 1 * (y b).val = ((cfgA a).win (3 : Fin 5)).index t b * S1x256x1024.size b + 1 * (y b).val
  rw [e]

/-- A point that takes nothing in has its expert's matrices from the point before. -/
theorem kept_before (c : Dev nD) (t : Fin (cfgA a).N) (q1 : Chosen a t) (q0 : ¬Takes (crd a t) (tab a))
    {a0 : Buf (Elt Ideal) ((c : Thread nD τ).loc cc0_scratch0)} {a1 : Buf (Elt Ideal) ((c : Thread nD τ).loc cc0_scratch1)} (hk : Keeps a m ρ c t.val a0 a1) :
    kept0 c a0 = k0_pay1 (iblk a m ρ c (2 : Fin 5) t) ∧ kept1 c a1 = k0_pay2 (iblk a m ρ c (3 : Fin 5) t) := by
  have h1 := (cond2_iff _).mp q1
  rw [takes_iff] at q0
  push Not at q0
  obtain ⟨h0, hw⟩ := q0 h1
  have hc : ((crd a t) 0).val = t.val := coord t
  rw [hc] at h0
  have hs : t.val - 1 < (cfgA a).N := by have := t.isLt; omega
  have hp : word2 (crd a t) (tab a) = word1 (crd a ⟨t.val - 1, hs⟩) (tab a) := word2_prev t ⟨t.val - 1, hs⟩ (by show t.val - 1 + 1 = t.val; omega) (tab a)
  have hws : word1 (crd a ⟨t.val - 1, hs⟩) (tab a) = word1 (crd a t) (tab a) := hp.symm.trans hw.symm
  have hq : Chosen a ⟨t.val - 1, hs⟩ := by show k0_cond2 _ = 1#1; rw [hws]; exact q1
  have := hk ⟨t.val - 1, hs⟩ (by show t.val - 1 + 1 = t.val; omega) hq
  rw [same2 a m ρ c _ t hws, same3 a m ρ c _ t hws] at this
  exact this

/-- The body at point `t` on its staging memrefs, as the pipeline calls it. -/
abbrev bodyAt0 (t : Fin (cfgA a).N) : Prog (TpuEff nD τ sig (Elt Ideal) Λ₀ .tc) PUnit :=
  cc0_moe_experts (crd a t) (Memref.whole main_arg0) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _)

set_option maxHeartbeats 4000000 in
/-- The body at point `t` takes the contents before it to the contents after it, on each of its three paths. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Ideal)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  by_cases q1 : Chosen a t
  · have h3 : ¬(k0_cond3 (word3 (crd a t) (tab a)) = 1#1) := by
      rw [word3_eq, cond3_iff]; have := (cond2_iff _).mp q1; omega
    by_cases q0 : Takes (crd a t) (tab a)
    · rewrite [idle_eq a t]
      simp only [before0_0, before0_1, before0_2, before0_3, after0_0, after0_1, after0_2, after0_3, after0_4]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      simp only [Fin.val_castSucc, Fin.val_succ]
      iintro ⟨⟨%a0, %a1, %hk, HS0, HS1, HT0⟩, Ho, ⟨%d0, H0⟩, ⟨%d1, H1⟩, ⟨%d2, H2⟩, ⟨%d3, H3⟩, ⟨%d4, H4⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (tab a) (iblk a m ρ c (0 : Fin 5) t) (iblk a m ρ c (1 : Fin 5) t) (iblk a m ρ c (2 : Fin 5) t) (iblk a m ρ c (3 : Fin 5) t) q0 q1 h3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexists _; iexact H4
      isplitl [HS0]; · iexact HS0
      isplitl [HS1]; · iexact HS1
      iintro ⟨H0, H1, H2, H3, HT0, ⟨%e4, H4⟩, HS0, HS1⟩
      isplitl [HS0 HS1 HT0]
      · iexists _; iexists _
        isplitr; swap
        · isplitl [HS0]; · iexact HS0
          isplitl [HS1]; · iexact HS1
          iexact HT0
        · ipureintro
          intro s hs _
          obtain rfl : s = t := Fin.ext (by omega)
          exact ⟨first_kept0 .., first_kept1 ..⟩
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        rw [first_rows, rows_pos a m ρ c t q1]
        exact View.read_writes_eq_canon _ _ _ (stores_cover _ _ _ _)
    · rewrite [idle_eq a t]
      simp only [before0_0, before0_1, before0_2, before0_3, after0_0, after0_1, after0_2, after0_3, after0_4]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      simp only [Fin.val_castSucc, Fin.val_succ]
      iintro ⟨⟨%a0, %a1, %hk, HS0, HS1, HT0⟩, Ho, ⟨%d0, H0⟩, ⟨%d1, H1⟩, ⟨%d2, H2⟩, ⟨%d3, H3⟩, ⟨%d4, H4⟩⟩
      have hK := kept_before a m ρ c t q1 q0 hk
      iapply ((kernelRun0_B c (crd a t) (ms0_0 a t) (hs0_0 a t) (ms0_1 a t) (hs0_1 a t) (ms0_2 a t) (hs0_2 a t) (ms0_3 a t) (hs0_3 a t) (ms0_4 a t) (hs0_4 a t) (tab a) (iblk a m ρ c (0 : Fin 5) t) (iblk a m ρ c (1 : Fin 5) t) (iblk a m ρ c (2 : Fin 5) t) (iblk a m ρ c (3 : Fin 5) t) a0 a1 q0 q1 h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexists _; iexact H4
      isplitl [HS0]; · iexact HS0
      isplitl [HS1]; · iexact HS1
      iintro ⟨H0, H1, H2, H3, HT0, ⟨%e4, H4⟩, HS0, HS1⟩
      isplitl [HS0 HS1 HT0]
      · iexists _; iexists _
        isplitr; swap
        · isplitl [HS0]; · iexact HS0
          isplitl [HS1]; · iexact HS1
          iexact HT0
        · ipureintro
          intro s hs _
          obtain rfl : s = t := Fin.ext (by omega)
          exact ⟨(again_kept0 ..).trans hK.1, (again_kept1 ..).trans hK.2⟩
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        rw [again_rows, rows_pos a m ρ c t q1, hK.1, hK.2]
        exact View.read_writes_eq_canon _ _ _ (stores_cover _ _ _ _)
  · have q0 : ¬Takes (crd a t) (tab a) := fun h => q1 ((cond2_iff _).mpr ((takes_iff _ _).mp h).1)
    have h3 : k0_cond3 (word3 (crd a t) (tab a)) = 1#1 := by
      rw [word3_eq, cond3_iff]
      by_contra h
      exact q1 ((cond2_iff _).mpr (by omega))
    rewrite [idle_eq a t]
    simp only [before0_0, before0_1, before0_2, before0_3, after0_0, after0_1, after0_2, after0_3, after0_4]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    simp only [Fin.val_castSucc, Fin.val_succ]
    iintro ⟨⟨%a0, %a1, %hk, HS0, HS1, HT0⟩, Ho, ⟨%d0, H0⟩, ⟨%d1, H1⟩, ⟨%d2, H2⟩, ⟨%d3, H3⟩, ⟨%d4, H4⟩⟩
    iapply ((kernelRun0_C c (crd a t) (ms0_0 a t) (hs0_0 a t) (ms0_1 a t) (hs0_1 a t) (ms0_2 a t) (hs0_2 a t) (ms0_3 a t) (hs0_3 a t) (ms0_4 a t) (hs0_4 a t) (tab a) (iblk a m ρ c (0 : Fin 5) t) (iblk a m ρ c (1 : Fin 5) t) (iblk a m ρ c (2 : Fin 5) t) (iblk a m ρ c (3 : Fin 5) t) a0 a1 q0 q1 h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [HS0]; · iexact HS0
    isplitl [HS1]; · iexact HS1
    iintro ⟨H0, H1, H2, H3, HT0, ⟨%e4, H4⟩, HS0, HS1⟩
    isplitl [HS0 HS1 HT0]
    · iexists _; iexists _
      isplitr; swap
      · isplitl [HS0]; · iexact HS0
        isplitl [HS1]; · iexact HS1
        iexact HT0
      · ipureintro
        intro s hs h
        obtain rfl : s = t := Fin.ext (by omega)
        exact absurd h q1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      rw [none_rows, rows_neg a m ρ c t q1]
      exact View.read_writes_eq_canon _ _ _ blank_cover

end Cert.ExpertsIdeal
end
-- ==== Proof.ExpertsIdealFrame.lean ====
module
public import proofs.«01_k».proof.Proof.ExpertsIdealBody

/-! # The run of the whole experts' kernel

From any memory whose table is in range the program runs to its end, every array ends at the contents computed step by
step, and its arguments are as they were. -/

@[expose] public section
set_option maxRecDepth 16384
set_option Elab.async false
noncomputable section

namespace Cert.ExpertsIdeal
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (a : (pcfg0 (F := Ideal)).Adm)
variable (m : (ℓ : Loc nD τ sig) → Buf (Elt Ideal) ℓ) (ρ : Dev nD → PrngReg)

/-- The memory's table is `a`. -/
def Reads : Prop := ∀ c : Dev nD, m ((c : Thread nD τ).loc main_arg0) = tab a

/-- The library's body obligation, at every point. -/
theorem body_obligation (c : Dev nD) : BodyObligation (dats a m ρ 0 c) (defs₀ (F := Ideal)) Variants.none () Set.univ := fun t => by
  rw [bigSep_W0]
  exact sound_body a m ρ c t

/-! ## The launch -/

/-- The rounds library's launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant holds at the first point, -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0⟩, ⟨%a0, HS0⟩, ⟨%a1, HS1⟩⟩
  iexists a0; iexists a1
  isplitr; swap
  · isplitl [HS0]; · iexact HS0
    isplitl [HS1]; · iexact HS1
    iexact HT0
  · ipureintro
    intro s hs _
    exact absurd hs (Nat.succ_ne_zero _)

/-- and gives the two kept buffers back after the last. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, -, HS0, HS1, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem V_pre (hp : Reads a m) (c : Dev nD) (j : Fin 1) : m ((c : Thread nD τ).loc (pre0.ref j)) = a.1 j := by
  fin_cases j
  · exact hp c

set_option backward.isDefEq.respectTransparency.types false in
set_option maxHeartbeats 4000000 in
/-- From any memory with the table `a` the program ends, with every array at the computed contents and every counter at zero. -/
theorem run_main_quiescent (hp : Reads a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Reads a m) : θ_run (defs (F := Ideal)) (onTc (τ := τ) (main (F := Ideal))) (s₀ m ρ) (QC a m ρ) :=
  (θ_run defs _ _).mono (fun _ h => h.1) (run_main_quiescent a m ρ hp)

/-- `frame` without the counters: the argument arrays end unchanged. -/
theorem unchanged (hp : Reads a m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp c).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hp)

/-- The program runs to its end and its arguments are as they were. -/
theorem frame (hp : Reads a m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged a m ρ hp) ((θ_run defs _ _).mono (fun _ h => h.2) (run_main_quiescent a m ρ hp))

end Cert.ExpertsIdeal
end
-- ==== Proof.ExpertsSpec.lean ====
module
public import Idealize.ShloMosaic.Lib.Pipeline.ValueKit
public import Idealize.ShloMosaic.Lib.StableHlo.ReadAt

/-! # The experts' product as mathematics

A chunk's rows go through the gated feed-forward network of the chunk's expert, each row scaled by its gate; the rows of a
chunk of no expert are zero. -/

@[expose] public section
noncomputable section
open Idealize.ShloMosaic

namespace Cert.Experts

/-- A row times the expert's first matrix. -/
def up (x : Fin 1024 → EReal) (w : Fin 1024 → Fin 512 → EReal) (f : Fin 512) : EReal := ∑ d : Fin 1024, x d * w d f

/-- The hidden row: the first half of the product, through `silu`, times the second half. -/
def hid (x : Fin 1024 → EReal) (w : Fin 1024 → Fin 512 → EReal) (f : Fin 256) : EReal :=
  up x w ⟨f.val, by omega⟩ * Ideal.logistic (up x w ⟨f.val, by omega⟩) * up x w ⟨256 + f.val, by omega⟩

/-- One row of the result. -/
def row (g : EReal) (x : Fin 1024 → EReal) (w : Fin 1024 → Fin 512 → EReal) (w' : Fin 256 → Fin 1024 → EReal) (j : Fin 1024) : EReal :=
  g * ∑ f : Fin 256, hid x w f * w' f j

/-- The expert a word of the table names. -/
def expert (k : BitVec 32) : Fin 32 := ⟨k.toInt.toNat % 32, Nat.mod_lt _ (by decide)⟩

/-- The chunk row `n` lies in. -/
def chunk (n : Fin 64512) : Fin 126 := ⟨n.val / 512, by omega⟩

/-- The result at row `n` and column `j`. -/
def entry (T : Fin 126 → BitVec 32) (x : Fin 64512 → Fin 1024 → EReal) (g : Fin 64512 → EReal) (w : Fin 32 → Fin 1024 → Fin 512 → EReal)
    (w' : Fin 32 → Fin 256 → Fin 1024 → EReal) (n : Fin 64512) (j : Fin 1024) : EReal :=
  if 0 ≤ (T (chunk n)).toInt then row (g n) (x n) (w (expert (T (chunk n)))) (w' (expert (T (chunk n)))) j else 0

end Cert.Experts
end
-- ==== Proof.ExpertsIdealRows.lean ====
module
public import proofs.«01_k».proof.Proof.ExpertsIdealStep
public import proofs.«01_k».proof.Proof.ExpertsSpec

/-! # The rows of one chunk, read at an index

The two stores of a chunk's rows together leave, at every row and column, the expert's network of that row. -/

@[expose] public section
set_option maxRecDepth 16384
set_option Elab.async false
noncomputable section

namespace Cert.ExpertsIdeal
open Cert.Kernel2Ideal Cert.Kernel2Ideal.Gen Cert.Experts
open Idealize.ShloMosaic Idealize.ShloMosaic.TcCoe Idealize.ShloMosaic.Tactic Idealize.SL.Sem

theorem pay1_apply (x2 : S1x1024x512.Idx → Elt Ideal .f32) (d : Fin 1024) (f : Fin 512) : k0_pay1 (F := Ideal) x2 (ix2 d f) = x2 (ix3 0 d f) := by
  pointwise [k0_pay1]

theorem pay2_apply (x3 : S1x256x1024.Idx → Elt Ideal .f32) (f : Fin 256) (j : Fin 1024) : k0_pay2 (F := Ideal) x3 (ix2 f j) = x3 (ix3 0 f j) := by
  pointwise [k0_pay2]

theorem pay3_apply (x : S256x1024.Idx → EReal) (w : S1024x512.Idx → EReal) (g : S256x1.Idx → EReal) (w' : S256x1024.Idx → EReal)
    (r : Fin 256) (j : Fin 1024) :
    k0_pay3 (F := Ideal) x w g w' (ix2 r j) = row (g (ix2 r 0)) (fun d => x (ix2 r d)) (fun d f => w (ix2 d f)) (fun f j => w' (ix2 f j)) j := by
  pointwise [k0_pay3, row, hid, up]

theorem pay4_eq (x : S256x1024.Idx → EReal) (w : S1024x512.Idx → EReal) (g : S256x1.Idx → EReal) (w' : S256x1024.Idx → EReal) :
    k0_pay4 (F := Ideal) x w g w' = k0_pay3 (F := Ideal) x w g w' := rfl

theorem pay5_apply (y : S512x1024.Idx) : k0_pay5 (F := Ideal) y = (0 : EReal) := by
  show Ideal.ofBits .bf16 0x0000#16 = 0
  simp [Ideal.ofBits, Ideal.ieee, -EReal.coe_mul, -EReal.coe_neg]

theorem canon_blank (y : S512x1024.Idx) : View.canon blank y = (0 : EReal) := by
  unfold blank
  rw [View.canon_unit_zero (by funext a; fin_cases a <;> rfl)]
  exact pay5_apply y

theorem place {g g' : EReal} {x x' : Fin 1024 → EReal} (w : Fin 1024 → Fin 512 → EReal) (w' : Fin 256 → Fin 1024 → EReal) (j j' : Fin 1024)
    (hg : g = g') (hx : ∀ d, x d = x' d) (hj : j = j') : row g x w w' j = row g' x' w w' j' := by
  rw [hg, hj, show x = x' from funext hx]

theorem canon_stores (x0 : S512x1024.Idx → Elt Ideal .bf16) (x1 : S512x128.Idx → Elt Ideal .f32)
    (w0 : S1024x512.Idx → Elt Ideal .bf16) (w1 : S256x1024.Idx → Elt Ideal .bf16) (r : Fin 512) (j : Fin 1024) :
    View.canon (stores x0 x1 w0 w1) (ix2 r j)
      = row (x1 (ix2 r 0)) (fun d => x0 (ix2 r d)) (fun d f => w0 (ix2 d f)) (fun f j => w1 (ix2 f j)) j := by
  refine View.canon_apply_of_pieces (fun y : S512x1024.Idx => row (x1 (ix2 (y 0) 0)) (fun d => x0 (ix2 (y 0) d)) (fun d f => w0 (ix2 d f)) (fun f j => w1 (ix2 f j)) (y 1))
    _ ?_ (ix2 r j) (stores_cover x0 x1 w0 w1 (ix2 r j))
  intro p hp y
  have hp' : p ∈ [_, _] := hp
  rcases List.mem_cons.mp hp' with rfl | hp''
  · obtain ⟨r, j, rfl⟩ : ∃ (r : Fin 256) (j : Fin 1024), y = ix2 r j := ⟨y 0, y 1, by funext a; fin_cases a <;> rfl⟩
    show k0_pay4 (F := Ideal) _ _ _ _ (ix2 r j) = _
    rw [pay4_eq, pay3_apply]
    refine place _ _ j _ ?_ (fun d => ?_) ?_
    · refine congrArg x1 (funext fun a => Fin.ext ?_); fin_cases a <;> rfl
    · refine congrArg x0 (funext fun a => Fin.ext ?_)
      fin_cases a
      · rfl
      · show 0 + 1 * d.val = d.val; omega
    · refine Fin.ext ?_; show j.val = 0 + 1 * j.val; omega
  · obtain rfl := List.mem_singleton.mp hp''
    obtain ⟨r, j, rfl⟩ : ∃ (r : Fin 256) (j : Fin 1024), y = ix2 r j := ⟨y 0, y 1, by funext a; fin_cases a <;> rfl⟩
    show k0_pay3 (F := Ideal) _ _ _ _ (ix2 r j) = _
    rw [pay3_apply]
    refine place _ _ j _ ?_ (fun d => ?_) ?_
    · refine congrArg x1 (funext fun a => Fin.ext ?_); fin_cases a <;> rfl
    · refine congrArg x0 (funext fun a => Fin.ext ?_)
      fin_cases a
      · rfl
      · show 0 + 1 * d.val = d.val; omega
    · refine Fin.ext ?_; show j.val = 0 + 1 * j.val; omega

end Cert.ExpertsIdeal
end
-- ==== Proof.ExpertsIdealValue.lean ====
module
public import proofs.«01_k».proof.Proof.ExpertsIdealFrame
public import proofs.«01_k».proof.Proof.ExpertsIdealRows

/-! # The result array of the experts' kernel

Every grid point writes its chunk's 512 rows back, so the array ends holding the mathematical entry at every index. -/

@[expose] public section
set_option maxRecDepth 16384
set_option Elab.async false
noncomputable section

namespace Cert.ExpertsIdeal
open Cert.Kernel2Ideal Cert.Kernel2Ideal.Gen Cert.Experts
open Idealize.ShloMosaic Idealize.ShloMosaic.TcCoe Idealize.ShloMosaic.Tactic Idealize.SL Idealize.SL.Sem
open Idealize.ShloMosaic.Pipeline (Dat Cfg Window)

variable (a : (pcfg0 (F := Ideal)).Adm) (m : (ℓ : Loc nD τ sig) → Buf (Elt Ideal) ℓ) (ρ : Dev nD → PrngReg)

/-- The result at every index, of the arrays at launch. -/
def result (T : S126.Idx → BitVec 32) (x : S64512x1024.Idx → EReal) (g : S64512x128.Idx → EReal) (w : S32x1024x512.Idx → EReal)
    (w' : S32x256x1024.Idx → EReal) : S64512x1024.Idx → EReal := fun i =>
  entry (fun n => T (ix1 n)) (fun n d => x (ix2 n d)) (fun n => g (ix2 n 0)) (fun e d f => w (ix3 e d f)) (fun e f j => w' (ix3 e f j)) (i 0) (i 1)

/-! ## The blocks a chunk of an expert reads -/

theorem chosen_iff (t : Fin (cfgA a).N) : Chosen a t ↔ 0 ≤ (tab a (ix1 ⟨t.val, lt_of_lt_of_eq t.isLt size⟩) : BitVec 32).toInt := by
  show k0_cond2 (word1 (grid0.coords t) (tab a)) = 1#1 ↔ _
  rw [cond2_iff, word1_eq]

theorem read0 (c : Dev nD) (t : Fin (cfgA a).N) (h : Chosen a t) (r : Fin 512) (d : Fin 1024) (n : Fin 64512) (hn : n.val = 512 * t.val + r.val) :
    iblk a m ρ c (0 : Fin 5) t (ix2 r d) = m ((c : Thread nD τ).loc main_arg1) (ix2 n d) := by
  have e : ((cfgA a).win (0 : Fin 5)).index t = ![t.val, 0] := by
    show cc0_transform_0 k0_off1_inb numel1_S1 a.1 (crd a t) = _
    rw [place0, if_pos ((cond2_iff _).mp h), coord]
  refine congrArg (m ((c : Thread nD τ).loc main_arg1)) (funext fun b => Fin.ext ?_)
  show ((cfgA a).win (0 : Fin 5)).index t b * S512x1024.size b + 1 * (ix2 r d b).val = _
  rw [e]
  fin_cases b
  · show t.val * 512 + 1 * r.val = n.val; omega
  · show 0 * 1024 + 1 * d.val = d.val; omega

theorem read1 (c : Dev nD) (t : Fin (cfgA a).N) (h : Chosen a t) (r : Fin 512) (d : Fin 128) (n : Fin 64512) (hn : n.val = 512 * t.val + r.val) :
    iblk a m ρ c (1 : Fin 5) t (ix2 r d) = m ((c : Thread nD τ).loc main_arg2) (ix2 n d) := by
  have e : ((cfgA a).win (1 : Fin 5)).index t = ![t.val, 0] := by
    show cc0_transform_1 k0_off1_inb numel1_S1 a.1 (crd a t) = _
    rw [place1, if_pos ((cond2_iff _).mp h), coord]
  refine congrArg (m ((c : Thread nD τ).loc main_arg2)) (funext fun b => Fin.ext ?_)
  show ((cfgA a).win (1 : Fin 5)).index t b * S512x128.size b + 1 * (ix2 r d b).val = _
  rw [e]
  fin_cases b
  · show t.val * 512 + 1 * r.val = n.val; omega
  · show 0 * 128 + 1 * d.val = d.val; omega

theorem read2 (hr : InRange (tab a)) (c : Dev nD) (t : Fin (cfgA a).N) (d : Fin 1024) (f : Fin 512) :
    iblk a m ρ c (2 : Fin 5) t (ix3 (0 : Fin 1) d f)
      = m ((c : Thread nD τ).loc main_arg3) (ix3 (expert (tab a (ix1 ⟨t.val, lt_of_lt_of_eq t.isLt size⟩))) d f) := by
  have hw := word1_eq t (tab a)
  have hx := expert_lt (word1_range hr (crd a t))
  have e : ((cfgA a).win (2 : Fin 5)).index t = ![(word1 (crd a t) (tab a)).toInt.toNat, 0, 0] := by
    show cc0_transform_2 k0_off1_inb numel1_S1 a.1 (crd a t) = _
    rw [place2, hx.1]
  refine congrArg (m ((c : Thread nD τ).loc main_arg3)) (funext fun b => Fin.ext ?_)
  show ((cfgA a).win (2 : Fin 5)).index t b * S1x1024x512.size b + 1 * (ix3 (0 : Fin 1) d f b).val = _
  rw [e]
  fin_cases b
  · show (word1 (crd a t) (tab a)).toInt.toNat * 1 + 1 * 0 = (tab a (ix1 ⟨t.val, _⟩) : BitVec 32).toInt.toNat % 32
    rw [← hw, Nat.mod_eq_of_lt hx.2]; omega
  · show 0 * 1024 + 1 * d.val = d.val; omega
  · show 0 * 512 + 1 * f.val = f.val; omega

theorem read3 (hr : InRange (tab a)) (c : Dev nD) (t : Fin (cfgA a).N) (f : Fin 256) (j : Fin 1024) :
    iblk a m ρ c (3 : Fin 5) t (ix3 (0 : Fin 1) f j)
      = m ((c : Thread nD τ).loc main_arg4) (ix3 (expert (tab a (ix1 ⟨t.val, lt_of_lt_of_eq t.isLt size⟩))) f j) := by
  have hw := word1_eq t (tab a)
  have hx := expert_lt (word1_range hr (crd a t))
  have e : ((cfgA a).win (3 : Fin 5)).index t = ![(word1 (crd a t) (tab a)).toInt.toNat, 0, 0] := by
    show cc0_transform_3 k0_off1_inb numel1_S1 a.1 (crd a t) = _
    rw [place3, hx.1]
  refine congrArg (m ((c : Thread nD τ).loc main_arg4)) (funext fun b => Fin.ext ?_)
  show ((cfgA a).win (3 : Fin 5)).index t b * S1x256x1024.size b + 1 * (ix3 (0 : Fin 1) f j b).val = _
  rw [e]
  fin_cases b
  · show (word1 (crd a t) (tab a)).toInt.toNat * 1 + 1 * 0 = (tab a (ix1 ⟨t.val, _⟩) : BitVec 32).toInt.toNat % 32
    rw [← hw, Nat.mod_eq_of_lt hx.2]; omega
  · show 0 * 256 + 1 * f.val = f.val; omega
  · show 0 * 1024 + 1 * j.val = j.val; omega

/-- What a point leaves of row `r` of its chunk. -/
theorem rows_apply (hr : InRange (tab a)) (c : Dev nD) (t : Fin (cfgA a).N) (r : Fin 512) (j : Fin 1024) (n : Fin 64512)
    (hn : n.val = 512 * t.val + r.val) :
    rows a m ρ c t (ix2 r j) = result (tab a) (m ((c : Thread nD τ).loc main_arg1)) (m ((c : Thread nD τ).loc main_arg2))
      (m ((c : Thread nD τ).loc main_arg3)) (m ((c : Thread nD τ).loc main_arg4)) (ix2 n j) := by
  have hc : chunk n = ⟨t.val, lt_of_lt_of_eq t.isLt size⟩ := Fin.ext (by show n.val / 512 = t.val; have := r.isLt; omega)
  show _ = entry _ _ _ _ _ n j
  unfold entry
  dsimp only
  rw [hc]
  by_cases h : Chosen a t
  · rw [rows_pos a m ρ c t h, canon_stores, if_pos ((chosen_iff a t).mp h), read1 a m ρ c t h r 0 n hn]
    unfold row
    have e0 : (fun d => iblk a m ρ c (0 : Fin 5) t (ix2 r d)) = fun d => m ((c : Thread nD τ).loc main_arg1) (ix2 n d) :=
      funext fun d => read0 a m ρ c t h r d n hn
    have e2 : (fun (d : Fin 1024) (f : Fin 512) => k0_pay1 (F := Ideal) (iblk a m ρ c (2 : Fin 5) t) (ix2 d f))
        = fun d f => m ((c : Thread nD τ).loc main_arg3) (ix3 (expert (tab a (ix1 ⟨t.val, lt_of_lt_of_eq t.isLt size⟩))) d f) :=
      funext fun d => funext fun f => (pay1_apply _ d f).trans (read2 a m ρ hr c t d f)
    have e3 : ∀ f, k0_pay2 (F := Ideal) (iblk a m ρ c (3 : Fin 5) t) (ix2 f j)
        = m ((c : Thread nD τ).loc main_arg4) (ix3 (expert (tab a (ix1 ⟨t.val, lt_of_lt_of_eq t.isLt size⟩))) f j) :=
      fun f => (pay2_apply _ f j).trans (read3 a m ρ hr c t f j)
    refine congrArg₂ (fun x y : EReal => x * y) rfl (Finset.sum_congr rfl fun f _ => ?_)
    exact congrArg₂ (fun x y : EReal => x * y) (congrArg₂ (fun x w => hid x w f) e0 e2) (e3 f)
  · rw [rows_neg a m ρ c t h, canon_blank, if_neg (fun h' => h ((chosen_iff a t).mpr h'))]

/-! ## The array after the run -/

theorem flush_all : ∀ t : Fin grid0.N, Window.flushOf grid0 true cc0_transform_4 t = true := by decide +kernel
theorem place4 : ∀ t : Fin grid0.N, cc0_transform_4 (grid0.coords t) = ![t.val, 0] := by decide +kernel

theorem covers : ((cfgA a).win (4 : Fin 5)).Covers := by
  refine ⟨fun x => ?_, fun β => ?_⟩
  · show 0 < S512x1024.size x
    fin_cases x
    · show 0 < 512; decide
    · show 0 < 1024; decide
  · have h0 : (β (0 : Fin 2)).val < 126 :=
      lt_of_lt_of_eq (β (0 : Fin 2)).isLt (show (64512 + 512 - 1) / 512 = 126 by decide)
    have h1 : (β (1 : Fin 2)).val < 1 :=
      lt_of_lt_of_eq (β (1 : Fin 2)).isLt (show (1024 + 1024 - 1) / 1024 = 1 by decide)
    refine ⟨⟨(β (0 : Fin 2)).val, lt_of_lt_of_eq h0 size.symm⟩, flush_all _, fun x => ⟨?_, .inl rfl⟩⟩
    show cc0_transform_4 (grid0.coords _) x = _
    rw [place4]
    fin_cases x
    · rfl
    · show 0 = (β (1 : Fin 2)).val; omega

/-- The result array after the run. -/
theorem final (hr : InRange (tab a)) (c : Dev nD) : (dats a m ρ 0 c).arrAt (4 : Fin 5) (cfgA a).N
    = result (tab a) (m ((c : Thread nD τ).loc main_arg1)) (m ((c : Thread nD τ).loc main_arg2))
      (m ((c : Thread nD τ).loc main_arg3)) (m ((c : Thread nD τ).loc main_arg4)) := by
  refine (dats a m ρ 0 c).arrAt_eq_of_covers (4 : Fin 5) _ (covers a) fun t _ y => ?_
  obtain ⟨r, j, rfl⟩ : ∃ (r : Fin 512) (j : Fin 1024), y = ix2 r j := ⟨y 0, y 1, by funext b; fin_cases b <;> rfl⟩
  have ht : t.val < 126 := lt_of_lt_of_eq t.isLt size
  have e : (((cfgA a).win (4 : Fin 5)).blk t).view.emb (ix2 r j) = (ix2 ⟨512 * t.val + r.val, by omega⟩ j : S64512x1024.Idx) := by
    funext b
    refine Fin.ext ?_
    show cc0_transform_4 (grid0.coords t) b * S512x1024.size b + 1 * (ix2 r j b).val = _
    rw [place4]
    fin_cases b
    · show t.val * 512 + 1 * r.val = 512 * t.val + r.val; omega
    · show 0 * 1024 + 1 * j.val = j.val; omega
  refine Eq.trans ?_ (congrArg _ e.symm)
  exact rows_apply a m ρ hr c t r j _ rfl

end Cert.ExpertsIdeal
end
-- ==== Proof.ExpertsReference.lean ====
module
public import proofs.«01_k».proof.Proof.ExpertsSpec
public import proofs.«01_k».proof.Proof.Gen.Reference2Ideal.Run

/-! # The experts' reference

The reference puts every row through every expert and scales by a gate that is zero but for the row's own expert; the sum
over the experts is then the one expert's row. -/

@[expose] public section
set_option maxRecDepth 16384
noncomputable section

namespace Cert.ExpertsReference
open Cert.Reference2Ideal Cert.Reference2Ideal.Gen Cert.Experts
open Idealize.ShloMosaic Idealize.ShloMosaic.TcCoe Idealize.SL.Sem Idealize.ShloMosaic.StableHlo

/-- Every row times every expert's first matrix. -/
def ups (x : FVec Ideal S64512x1024 .bf16) (w : FVec Ideal S32x1024x512 .f32) : FVec Ideal S32x64512x512 .f32 :=
  transpose S32x64512x512 [0, 2, 1] (Host.dotGeneral dot_S32x1024x512_S64512x1024_S32x512x64512_1_1_02_0_n_n none w (extf .f32 x bitsLt_bf16_f32)) transposes_S32x512x64512_S32x64512x512_0_2_1

/-- Every hidden row of every expert. -/
def hids (x : FVec Ideal S64512x1024 .bf16) (w : FVec Ideal S32x1024x512 .f32) : FVec Ideal S32x64512x256 .f32 :=
  mulf (mulf (extractStridedSlice S32x64512x256 ![0, 0, 0] (ups x w) slices_S32x64512x512_S32x64512x256_0_0_0) (Host.divf (broadcastInDim S32x64512x256 ![] bcast_S_S32x64512x256 (constant S_ .f32 0x3F800000#32)) (addf (broadcastInDim S32x64512x256 ![] bcast_S_S32x64512x256 (constant S_ .f32 0x3F800000#32)) (Host.exp (Host.negf (extractStridedSlice S32x64512x256 ![0, 0, 0] (ups x w) slices_S32x64512x512_S32x64512x256_0_0_0)))))) (extractStridedSlice S32x64512x256 ![0, 0, 256] (ups x w) slices_S32x64512x512_S32x64512x256_0_0_256)

/-- Every row's gate at every expert. -/
def gates (T : IVec S126 32) (g : FVec Ideal S64512x128 .f32) : FVec Ideal S32x64512x1024 .f32 :=
  broadcastInDim S32x64512x1024 ![0, 1, 2] bcast_S32x64512x1_S32x64512x1024_0_1_2 (broadcastInDim S32x64512x1 ![0, 1] bcast_S32x64512_S32x64512x1_0_1 (select (cmpi .eq (broadcastInDim S32x64512 ![0, 1] bcast_S1x64512_S32x64512_0_1 (broadcastInDim S1x64512 ![1] bcast_S64512_S1x64512_1 (shapeCast _ (broadcastInDim S126x512 ![0, 1] bcast_S126x1_S126x512_0_1 (broadcastInDim S126x1 ![0] bcast_S126_S126x1_0 T)) shapeCasts_S126x512_S64512))) (broadcastInDim S32x64512 ![0, 1] bcast_S32x1_S32x64512_0_1 (broadcastInDim S32x1 ![0] bcast_S32_S32x1_0 (iotaInDim S32 32 0)))) (broadcastInDim S32x64512 ![0, 1] bcast_S1x64512_S32x64512_0_1 (broadcastInDim S1x64512 ![1] bcast_S64512_S1x64512_1 (shapeCast _ (extractStridedSlice S64512x1 ![0, 0] g slices_S64512x128_S64512x1_0_0) shapeCasts_S64512x1_S64512))) (broadcastInDim S32x64512 ![] bcast_S_S32x64512 (id (constant S_ .f32 0x00000000#32)))))

/-- The result. -/
def out (T : IVec S126 32) (x : FVec Ideal S64512x1024 .bf16) (g : FVec Ideal S64512x128 .f32) (w : FVec Ideal S32x1024x512 .f32)
    (w' : FVec Ideal S32x256x1024 .f32) : FVec Ideal S64512x1024 .bf16 :=
  truncf .bf16 (Host.reduceAdd (mulf (gates T g) (Host.dotGeneral dot_S32x64512x256_S32x256x1024_S32x64512x1024_2_1_1_2_0_0 none (hids x w) w')) (constant S_ .f32 0x00000000#32) reducesTo_S32x64512x1024_S64512x1024_d0 h_S_) bitsLt_bf16_f32

theorem ups_apply (x : FVec Ideal S64512x1024 .bf16) (w : FVec Ideal S32x1024x512 .f32) (e : Fin 32) (n : Fin 64512) (f : Fin 512) :
    ups x w (ix3 e n f) = up (fun d => x (ix2 n d)) (fun d f => w (ix3 e d f)) f := by
  pointwise [ups, up]
  exact Finset.sum_congr rfl fun d _ => mul_comm _ _

theorem hids_apply (x : FVec Ideal S64512x1024 .bf16) (w : FVec Ideal S32x1024x512 .f32) (e : Fin 32) (n : Fin 64512) (f : Fin 256) :
    hids x w (ix3 e n f) = hid (fun d => x (ix2 n d)) (fun d f => w (ix3 e d f)) f := by
  pointwise [hids, hid]
  rw [ups_apply, ups_apply]
  rfl

theorem zero_word : (id (constant (F := Ideal) S_ FTy.f32 0x00000000#32) ix0 : EReal) = 0 := by
  show Ideal.ofBits .f32 0x00000000#32 = 0
  simp [Ideal.ofBits, Ideal.ieee, -EReal.coe_mul, -EReal.coe_neg]

theorem gates_apply (T : IVec S126 32) (g : FVec Ideal S64512x128 .f32) (e : Fin 32) (n : Fin 64512) (j : Fin 1024) :
    gates T g (ix3 e n j) = if T (ix1 (chunk n)) = BitVec.ofNat 32 e.val then g (ix2 n 0) else 0 := by
  pointwise [gates]
  refine (congrArg (Scalar.select _ _) zero_word).trans ?_
  show (if BitVec.ofBool (T (ix1 (chunk n)) == BitVec.ofNat 32 e.val) = 1#1 then g (ix2 n 0) else 0) = _
  by_cases h : T (ix1 (chunk n)) = BitVec.ofNat 32 e.val
  · rw [if_pos h, if_pos (by rw [beq_iff_eq.mpr h]; rfl)]
  · rw [if_neg h, if_neg (by rw [beq_eq_false_iff_ne.mpr h]; decide)]

theorem out_sum (T : IVec S126 32) (x : FVec Ideal S64512x1024 .bf16) (g : FVec Ideal S64512x128 .f32) (w : FVec Ideal S32x1024x512 .f32)
    (w' : FVec Ideal S32x256x1024 .f32) (n : Fin 64512) (j : Fin 1024) :
    out T x g w w' (ix2 n j) = ∑ e : Fin 32, gates T g (ix3 e n j) * ∑ f : Fin 256, hids x w (ix3 e n f) * w' (ix3 e f j) := by
  pointwise [out]

/-- A word in the range names expert `e` exactly when it is `e`. -/
theorem names_iff {k : BitVec 32} (h : -1 ≤ k.toInt ∧ k.toInt < 32) (e : Fin 32) :
    k = BitVec.ofNat 32 e.val ↔ 0 ≤ k.toInt ∧ e = expert k := by
  have he := e.isLt
  have hn := k.isLt
  have hc := BitVec.toInt_eq_toNat_cond k
  rw [BitVec.toNat_eq, BitVec.toNat_ofNat, Fin.ext_iff]
  show _ ↔ 0 ≤ k.toInt ∧ e.val = k.toInt.toNat % 32
  split at hc <;> omega

/-- The result, read at an index. -/
theorem out_apply (T : IVec S126 32) (hT : ∀ n : S126.Idx, -1 ≤ (T n).toInt ∧ (T n).toInt < 32) (x : FVec Ideal S64512x1024 .bf16)
    (g : FVec Ideal S64512x128 .f32) (w : FVec Ideal S32x1024x512 .f32) (w' : FVec Ideal S32x256x1024 .f32) (n : Fin 64512) (j : Fin 1024) :
    out T x g w w' (ix2 n j) = entry (fun n => T (ix1 n)) (fun n d => x (ix2 n d)) (fun n => g (ix2 n 0)) (fun e d f => w (ix3 e d f))
      (fun e f j => w' (ix3 e f j)) n j := by
  have hk := hT (ix1 (chunk n))
  rw [out_sum]
  unfold entry
  by_cases h : 0 ≤ (T (ix1 (chunk n))).toInt
  · rw [if_pos h, Finset.sum_eq_single (expert (T (ix1 (chunk n))))]
    · rw [gates_apply, if_pos ((names_iff hk _).mpr ⟨h, rfl⟩)]
      unfold row
      refine congrArg _ (Finset.sum_congr rfl fun f _ => ?_)
      rw [hids_apply]
    · intro e _ he
      rw [gates_apply, if_neg (fun h' => he ((names_iff hk e).mp h').2), zero_mul]
    · exact fun h' => absurd (Finset.mem_univ _) h'
  · rw [if_neg h]
    refine Finset.sum_eq_zero fun e _ => ?_
    rw [gates_apply, if_neg (fun h' => h ((names_iff hk e).mp h').1), zero_mul]

end Cert.ExpertsReference
end
-- ==== Proof.ExpertsRange.lean ====
module
public import proofs.«01_k».proof.Proof.Gen.Pre_chunks_name_experts

/-! # The precondition, read

Where the precondition holds, every entry of the table is an expert's number or −1. -/

@[expose] public section
noncomputable section

namespace Cert.Experts
open Cert.Pre_chunks_name_experts Cert.Pre_chunks_name_experts.Gen
open Idealize.ShloMosaic

theorem range_of_pre {F : FTy → Type} [FloatOps F] (T : IVec S126 32) (x : FVec F S64512x1024 .bf16) (g : FVec F S64512x128 .f32)
    (w : FVec F S32x1024x512 .f32) (w' : FVec F S32x256x1024 .f32)
    (h : Cert.Pre_chunks_name_experts.fn (F := F) T x g w w' = fun _ => 1#1) (n : S126.Idx) : -1 ≤ (T n).toInt ∧ (T n).toInt < 32 := by
  have e : (BitVec.ofBool ((4294967295#32).sle (T n)) &&& BitVec.ofBool ((T n).slt 32#32) : BitVec 1) = 1#1 := congrFun h n
  rw [show (4294967295#32).sle (T n) = decide (-1 ≤ (T n).toInt) from by simp [BitVec.sle],
    show (T n).slt 32#32 = decide ((T n).toInt < 32) from by simp [BitVec.slt]] at e
  by_cases h1 : -1 ≤ (T n).toInt <;> by_cases h2 : (T n).toInt < 32
  · exact ⟨h1, h2⟩
  all_goals
    simp [h1, h2] at e

end Cert.Experts
end
-- ==== Proof.ExpertsClaims.lean ====
module
public import proofs.«01_k».proof.Defs
public import proofs.«01_k».proof.Proof.ExpertsBitsFrame
public import proofs.«01_k».proof.Proof.ExpertsIdealValue
public import proofs.«01_k».proof.Proof.ExpertsReference
public import proofs.«01_k».proof.Proof.ExpertsRange
public import Idealize.ShloMosaic.Init

/-! # The experts' claims

Under the precondition the kernel's table is one its blocks stay inside their arrays at, so it runs; its result array and
the reference's are the same function of arguments that agree. -/

@[expose] public section
set_option maxRecDepth 16384
noncomputable section
open Idealize.ShloMosaic Idealize.ShloMosaic.TcCoe Idealize.SL.Sem

namespace Cert.ExpertsClaims

/-! ## The table of a memory -/

section
open Cert.Kernel2 Cert.Kernel2.Gen

/-- The table device 0 launches with (there is one device). -/
def tableBits (m : (ℓ : Loc nD τ sig) → Buf (Elt Bits) ℓ) (h : Cert.ExpertsBits.InRange (m (((0 : Dev nD).tc : Thread nD τ).loc main_arg0))) :
    (pcfg0 (F := Bits)).Adm :=
  ⟨fun k => m (((0 : Dev nD).tc : Thread nD τ).loc (pre0.ref k)), Cert.ExpertsBits.admissible _ h⟩

theorem readsBits (m : (ℓ : Loc nD τ sig) → Buf (Elt Bits) ℓ) (h) : Cert.ExpertsBits.Reads (tableBits m h) m := fun c => by
  obtain rfl : c = (0 : Dev nD) := Subsingleton.elim _ _
  rfl

theorem frame_kernel : @Cert.quiescent_Kernel2 Cert.Kernel2.Gen.facts Cert.Pre_chunks_name_experts.Gen.facts := fun m ρ hpre =>
  Cert.ExpertsBits.frame (tableBits m (Cert.Experts.range_of_pre _ _ _ _ _ (hpre 0))) m ρ (readsBits m _)
end

section
open Cert.Kernel2Ideal Cert.Kernel2Ideal.Gen

/-- The table device 0 launches with (there is one device). -/
def table (m : (ℓ : Loc nD τ sig) → Buf (Elt Ideal) ℓ) (h : Cert.ExpertsIdeal.InRange (m (((0 : Dev nD).tc : Thread nD τ).loc main_arg0))) :
    (pcfg0 (F := Ideal)).Adm :=
  ⟨fun k => m (((0 : Dev nD).tc : Thread nD τ).loc (pre0.ref k)), Cert.ExpertsIdeal.admissible _ h⟩

theorem reads (m : (ℓ : Loc nD τ sig) → Buf (Elt Ideal) ℓ) (h) : Cert.ExpertsIdeal.Reads (table m h) m := fun c => by
  obtain rfl : c = (0 : Dev nD) := Subsingleton.elim _ _
  rfl

theorem frame_ideal : @Cert.quiescent_Kernel2Ideal Cert.Kernel2Ideal.Gen.facts Cert.Pre_chunks_name_experts.Gen.facts := fun m ρ hpre =>
  Cert.ExpertsIdeal.frame (table m (Cert.Experts.range_of_pre _ _ _ _ _ (hpre 0))) m ρ (reads m _)
end

theorem frame_reference : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference_pre : @Cert.quiescent_Reference2Ideal_pre_chunks_name_experts Cert.Reference2Ideal.Gen.facts Cert.Pre_chunks_name_experts.Gen.facts :=
  fun m ρ _ => frame_reference m ρ trivial

/-- The kernel's result array on a device. -/
abbrev value (m : (ℓ : Loc Cert.Kernel2Ideal.nD Cert.Kernel2Ideal.τ Cert.Kernel2Ideal.sig) → Buf (Elt Ideal) ℓ) (c : Dev Cert.Kernel2Ideal.nD) :
    Buf (Elt Ideal) ((c.tc : Thread Cert.Kernel2Ideal.nD Cert.Kernel2Ideal.τ).loc Cert.Kernel2Ideal.main_v0) :=
  Cert.ExpertsIdeal.result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))

theorem algebraic : @Cert.algebraic_Kernel2Ideal_Reference2Ideal Cert.Kernel2Ideal.Gen.facts Cert.Reference2Ideal.Gen.facts
    Cert.Pre_chunks_name_experts.Gen.facts := by
  intro m ρ m' ρ' hpre hagree
  have hr : ∀ c : Dev Cert.Kernel2Ideal.nD, Cert.ExpertsIdeal.InRange (m ((c.tc : Thread Cert.Kernel2Ideal.nD Cert.Kernel2Ideal.τ).loc Cert.Kernel2Ideal.main_arg0)) :=
    fun c => Cert.Experts.range_of_pre _ _ _ _ _ (hpre c)
  refine ⟨fun c => value m c, ?_, ?_⟩
  · refine (θ_run Cert.Kernel2Ideal.defs _ _).mono (fun r h c => ⟨((h.1 c).1 (4 : Fin 5)).trans ?_, h.2 c⟩)
      (θ_run_and (Cert.ExpertsIdeal.run_main (table m (hr 0)) m ρ (reads m _)) (Cert.ExpertsIdeal.unchanged (table m (hr 0)) m ρ (reads m _)))
    obtain rfl : c = (0 : Dev Cert.Kernel2Ideal.nD) := Subsingleton.elim _ _
    exact Cert.ExpertsIdeal.final (table m (hr 0)) m ρ (hr 0) 0
  · refine (θ_run Cert.Reference2Ideal.defs _ _).mono (fun r h c => ⟨(h c).1.trans ?_, (h c).2⟩)
      (Cert.Reference2Ideal.Value.run (F := Ideal) m' ρ')
    obtain ⟨e0, e1, e2, e3, e4⟩ := hagree c
    rw [e0, e1, e2, e3, e4]
    refine funext fun i => ?_
    obtain ⟨n, j, rfl⟩ : ∃ (n : Fin 64512) (j : Fin 1024), i = ix2 n j := ⟨i 0, i 1, by funext a; fin_cases a <;> rfl⟩
    exact Cert.ExpertsReference.out_apply _ (hr c) _ _ _ _ n j

end Cert.ExpertsClaims
end
-- ==== Proof.ProjSpec.lean ====
module
public import Idealize.ShloMosaic.PureOps.Ideal
public import Idealize.ShloMosaic.Lib.Pipeline.ValueKit

/-! # The projection of one token, over the extended reals

The latents are normed by their mean square; a head of a query or a key has 64 unrotated columns and 32 rotary ones, laid
out in 128 columns of which the last 32 are zero. -/

@[expose] public section
noncomputable section
open Idealize.ShloMosaic

namespace Cert.Proj

/-- The angle of position `s` at frequency `e`: the position times a power of the base. -/
def angle (s e : ℕ) : EReal :=
  (FloatOps.sitofp .f32 (BitVec.ofNat 32 s) : Ideal .f32) *
    Ideal.pow (Ideal.ofBits .f32 0x461C4000#32)
      (-Ideal.div ((FloatOps.sitofp .f32 (BitVec.ofNat 32 e) : Ideal .f32) * Ideal.ofBits .f32 0x40000000#32) (Ideal.ofBits .f32 0x42000000#32))

/-- The 32 rotary columns of position `s`, rotated: column `i` with column `i + 16`. -/
def rot (s : ℕ) (b : Fin 32 → EReal) (i : Fin 32) : EReal :=
  if h : i.val < 16 then b i * Ideal.cos (angle s i.val) - b ⟨i.val + 16, by omega⟩ * Ideal.sin (angle s i.val)
  else b i * Ideal.cos (angle s (i.val - 16)) + b ⟨i.val - 16, by omega⟩ * Ideal.sin (angle s (i.val - 16))

/-- The columns with their halves exchanged. -/
def turned (b : Fin 32 → EReal) (i : Fin 32) : EReal :=
  if h : i.val < 16 then b ⟨i.val + 16, by omega⟩ else b ⟨i.val - 16, by omega⟩

/-- A head in 128 columns: the unrotated ones, the rotary ones, zeros. -/
def lanes (a : Fin 64 → EReal) (b : Fin 32 → EReal) (r : Fin 128) : EReal :=
  if h : r.val < 64 then a ⟨r.val, h⟩ else if h : r.val < 96 then b ⟨r.val - 64, by omega⟩ else 0

/-- The cosines a head's columns are multiplied by. -/
def cosLane (s : ℕ) : Fin 128 → EReal := lanes (fun _ => 1) fun i => Ideal.cos (angle s (i.val % 16))

/-- The sines the exchanged columns are multiplied by. -/
def sinLane (s : ℕ) : Fin 128 → EReal :=
  lanes (fun _ => 0) fun i => if i.val < 16 then -Ideal.sin (angle s i.val) else Ideal.sin (angle s (i.val - 16))

theorem lanes_rot (s : ℕ) (a : Fin 64 → EReal) (b : Fin 32 → EReal) (r : Fin 128) :
    lanes a b r * cosLane s r + lanes (fun _ => 0) (turned b) r * sinLane s r = lanes a (rot s b) r := by
  unfold cosLane sinLane lanes
  by_cases h : r.val < 64
  · simp only [dif_pos h, mul_one, zero_mul, add_zero]
  · by_cases h' : r.val < 96
    · simp only [dif_neg h, dif_pos h']
      unfold turned rot
      by_cases h'' : r.val - 64 < 16
      · simp only [dif_pos h'', if_pos h'', Nat.mod_eq_of_lt h'', mul_neg, sub_eq_add_neg]
      · have e : (r.val - 64) % 16 = r.val - 64 - 16 := by omega
        simp only [dif_neg h'', if_neg h'', e]
    · simp only [dif_neg h, dif_neg h', zero_mul, add_zero]

theorem lanes_turned (b : Fin 32 → EReal) (r : Fin 128) : lanes (fun _ => 0) (turned b) r
    = if h : r.val < 64 then 0 else if h : r.val < 96 then
      (if h : r.val - 64 < 16 then b ⟨r.val - 64 + 16, by omega⟩ else b ⟨r.val - 64 - 16, by omega⟩) else 0 := rfl

theorem lanes_add (a : Fin 64 → EReal) (b : Fin 32 → EReal) (r : Fin 128) :
    lanes a (fun _ => 0) r + lanes (fun _ => 0) b r = lanes a b r := by
  unfold lanes
  by_cases h : r.val < 64
  · simp only [dif_pos h, add_zero]
  · by_cases h' : r.val < 96
    · simp only [dif_neg h, dif_pos h', zero_add]
    · simp only [dif_neg h, dif_neg h', zero_add]

theorem sum_lanes {n : ℕ} (x : Fin n → EReal) (a : Fin n → Fin 64 → EReal) (b : Fin n → Fin 32 → EReal) (r : Fin 128) :
    ∑ d, x d * lanes (a d) (b d) r = lanes (fun e => ∑ d, x d * a d e) (fun i => ∑ d, x d * b d i) r := by
  unfold lanes
  by_cases h : r.val < 64
  · simp only [dif_pos h]
  · by_cases h' : r.val < 96
    · simp only [dif_neg h, dif_pos h']
    · simp only [dif_neg h, dif_neg h', mul_zero, Finset.sum_const_zero]

theorem sum_turned {n : ℕ} (x : Fin n → EReal) (b : Fin n → Fin 32 → EReal) :
    (fun i => ∑ d, x d * turned (b d) i) = turned fun i => ∑ d, x d * b d i := by
  funext i
  unfold turned
  by_cases h : i.val < 16
  · simp only [dif_pos h]
  · simp only [dif_neg h]

theorem sum_zero_lane {n : ℕ} (x : Fin n → EReal) : (fun _ : Fin 64 => ∑ d, x d * 0) = fun _ => 0 := by
  funext _
  simp only [mul_zero, Finset.sum_const_zero]

/-- A vector divided by the root of its mean square (`N` its length, as a float), times the scale. -/
def normed {n : ℕ} (N : EReal) (v g : Fin n → EReal) (i : Fin n) : EReal :=
  v i * Ideal.rsqrt (Ideal.div (∑ k, v k * v k) N + Ideal.ofBits .f32 0x358637BD#32) * g i

/-- The projection's weights. -/
structure Weights where
  w : Fin 1024 → Fin 1696 → EReal
  qg : Fin 384 → EReal
  uq : Fin 384 → Fin 8 → Fin 96 → EReal
  kg : Fin 256 → EReal
  uk : Fin 256 → Fin 8 → Fin 64 → EReal
  uv : Fin 256 → Fin 8 → Fin 64 → EReal

variable (W : Weights) (x : Fin 1024 → EReal) (s : ℕ)

/-- Column `j` of a token's combined projection. -/
def col (j : Fin 1696) : EReal := ∑ d, x d * W.w d j

/-- The queries' latent. -/
def qlat : Fin 384 → EReal := normed (Ideal.ofBits .f32 0x43C00000#32) (fun i => col W x ⟨i.val, by omega⟩) W.qg

/-- The keys' and values' latent. -/
def kvlat : Fin 256 → EReal := normed (Ideal.ofBits .f32 0x43800000#32) (fun i => col W x ⟨384 + i.val, by omega⟩) W.kg

/-- The rotary key, before the rotation. -/
def krope (i : Fin 32) : EReal := col W x ⟨640 + i.val, by omega⟩

/-- A head's query. -/
def query (h : Fin 8) (e : Fin 96) : EReal := ∑ l, qlat W x l * W.uq l h e

/-- A head's query in 128 columns, rotated and scaled. -/
def queryLane (h : Fin 8) (r : Fin 128) : EReal :=
  lanes (fun e => query W x h ⟨e.val, by omega⟩) (rot s fun i => query W x h ⟨64 + i.val, by omega⟩) r * Ideal.ofBits .f32 0x3E16C740#32

/-- A head's key in 128 columns. -/
def keyLane (h : Fin 8) (r : Fin 128) : EReal := lanes (fun e => ∑ k, kvlat W x k * W.uk k h e) (rot s (krope W x)) r

/-- A head's value. -/
def value (h : Fin 8) (e : Fin 64) : EReal := ∑ k, kvlat W x k * W.uv k h e

/-- The rotary key in 128 columns. -/
def ropeLane (r : Fin 128) : EReal := lanes (fun _ => 0) (rot s (krope W x)) r

end Cert.Proj
end
-- ==== Proof.ProjHost.lean ====
module
public import proofs.«01_k».proof.Proof.Gen.Kernel3Ideal.Frame
public import Idealize.ShloMosaic.Lib.Pipeline.ValueKit
public import Idealize.ShloMosaic.Lib.StableHlo.ReadAt
public import proofs.«01_k».proof.Proof.ProjSpec

/-! # What the projection's host code prepares -/

@[expose] public section
set_option maxRecDepth 16384
set_option Elab.async false
noncomputable section

namespace Cert.Kernel3Ideal.Proj
open Cert.Kernel3Ideal Cert.Kernel3Ideal.Gen Cert.Proj
open Idealize.ShloMosaic Idealize.ShloMosaic.TcCoe Idealize.ShloMosaic.Tactic Idealize.SL Idealize.SL.Sem

variable (m : (ℓ : Loc nD τ sig) → Buf (Elt Ideal) ℓ) (c : Dev nD)

/-- The input weights as the kernel reads them: the latents' columns, the rotary columns between zeros, the rotary columns with
    their halves exchanged between zeros, the recurrent branch's and the gate's columns. -/
def wide (A : FVec Ideal S1024x1696 .f32) : FVec Ideal S1024x1920 .bf16 :=
  truncf .bf16 (concatenate S1024x1920 1 [
    ⟨S1024x640, (extractStridedSlice S1024x640 ![0, 0] A slices_S1024x1696_S1024x640_0_0 : FVec Ideal S1024x640 .f32)⟩,
    ⟨S1024x64, (broadcastInDim S1024x64 ![] bcast_S_S1024x64 (constant S_ .f32 0x00000000#32) : FVec Ideal S1024x64 .f32)⟩,
    ⟨S1024x32, (extractStridedSlice S1024x32 ![0, 640] A slices_S1024x1696_S1024x32_0_640 : FVec Ideal S1024x32 .f32)⟩,
    ⟨S1024x32, (broadcastInDim S1024x32 ![] bcast_S_S1024x32 (constant S_ .f32 0x00000000#32) : FVec Ideal S1024x32 .f32)⟩,
    ⟨S1024x64, (broadcastInDim S1024x64 ![] bcast_S_S1024x64 (constant S_ .f32 0x00000000#32) : FVec Ideal S1024x64 .f32)⟩,
    ⟨S1024x32, (concatenate S1024x32 1
      [⟨S1024x16, (extractStridedSlice S1024x16 ![0, 16] (extractStridedSlice S1024x32 ![0, 640] A slices_S1024x1696_S1024x32_0_640)
          slices_S1024x32_S1024x16_0_16 : FVec Ideal S1024x16 .f32)⟩,
       ⟨S1024x16, (extractStridedSlice S1024x16 ![0, 0] (extractStridedSlice S1024x32 ![0, 640] A slices_S1024x1696_S1024x32_0_640)
          slices_S1024x32_S1024x16_0_0 : FVec Ideal S1024x16 .f32)⟩] concatenates_S1024x16_S1024x16_S1024x32_d1 : FVec Ideal S1024x32 .f32)⟩,
    ⟨S1024x32, (broadcastInDim S1024x32 ![] bcast_S_S1024x32 (constant S_ .f32 0x00000000#32) : FVec Ideal S1024x32 .f32)⟩,
    ⟨S1024x512, (extractStridedSlice S1024x512 ![0, 672] A slices_S1024x1696_S1024x512_0_672 : FVec Ideal S1024x512 .f32)⟩,
    ⟨S1024x512, (extractStridedSlice S1024x512 ![0, 1184] A slices_S1024x1696_S1024x512_0_1184 : FVec Ideal S1024x512 .f32)⟩]
    concatenates_S1024x640_S1024x64_S1024x32_S1024x32_S1024x64_S1024x32_S1024x32_S1024x512_S1024x512_S1024x1920_d1) bitsLt_bf16_f32

/-- The queries' weights as the kernel reads them, a row for each of the result's: the heads' columns padded by zeros to 128, then
    the rotary columns with their halves exchanged, in the same places. -/
def queries (A : FVec Ideal S384x8x96 .f32) : FVec Ideal S2048x384 .bf16 :=
  truncf .bf16 (transpose S2048x384 [1, 0] (concatenate S384x2048 1 [
    ⟨S384x1024, (shapeCast S384x1024 (concatenate S384x8x128 2 [
      ⟨S384x8x64, (extractStridedSlice S384x8x64 ![0, 0, 0] A slices_S384x8x96_S384x8x64_0_0_0 : FVec Ideal S384x8x64 .f32)⟩,
      ⟨S384x8x32, (extractStridedSlice S384x8x32 ![0, 0, 64] A slices_S384x8x96_S384x8x32_0_0_64 : FVec Ideal S384x8x32 .f32)⟩,
      ⟨S384x8x32, (broadcastInDim S384x8x32 ![] bcast_S_S384x8x32 (constant S_ .f32 0x00000000#32) : FVec Ideal S384x8x32 .f32)⟩]
      concatenates_S384x8x64_S384x8x32_S384x8x32_S384x8x128_d2) shapeCasts_S384x8x128_S384x1024 : FVec Ideal S384x1024 .f32)⟩,
    ⟨S384x1024, (shapeCast S384x1024 (concatenate S384x8x128 2 [
      ⟨S384x8x64, (broadcastInDim S384x8x64 ![] bcast_S_S384x8x64 (constant S_ .f32 0x00000000#32) : FVec Ideal S384x8x64 .f32)⟩,
      ⟨S384x8x32, (concatenate S384x8x32 2 [
        ⟨S384x8x16, (extractStridedSlice S384x8x16 ![0, 0, 16] (extractStridedSlice S384x8x32 ![0, 0, 64] A slices_S384x8x96_S384x8x32_0_0_64)
          slices_S384x8x32_S384x8x16_0_0_16 : FVec Ideal S384x8x16 .f32)⟩,
        ⟨S384x8x16, (extractStridedSlice S384x8x16 ![0, 0, 0] (extractStridedSlice S384x8x32 ![0, 0, 64] A slices_S384x8x96_S384x8x32_0_0_64)
          slices_S384x8x32_S384x8x16_0_0_0 : FVec Ideal S384x8x16 .f32)⟩] concatenates_S384x8x16_S384x8x16_S384x8x32_d2 : FVec Ideal S384x8x32 .f32)⟩,
      ⟨S384x8x32, (broadcastInDim S384x8x32 ![] bcast_S_S384x8x32 (constant S_ .f32 0x00000000#32) : FVec Ideal S384x8x32 .f32)⟩]
      concatenates_S384x8x64_S384x8x32_S384x8x32_S384x8x128_d2) shapeCasts_S384x8x128_S384x1024 : FVec Ideal S384x1024 .f32)⟩]
    concatenates_S384x1024_S384x1024_S384x2048_d1) transposes_S384x2048_S2048x384_1_0) bitsLt_bf16_f32

/-- The angle of every position and frequency. -/
def ang : FVec Ideal S4096x16 .f32 :=
  mulf (broadcastInDim S4096x16 ![0, 1] bcast_S4096x1_S4096x16_0_1 (broadcastInDim S4096x1 ![0] bcast_S4096_S4096x1_0
      (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.negf (Host.divf (mulf (sitofp .f32 (iotaInDim S16 32 0)) (broadcastInDim S16 ![] bcast_S_S16 (constant S_ .f32 0x40000000#32)))
          (broadcastInDim S16 ![] bcast_S_S16 (constant S_ .f32 0x42000000#32)))))))

/-- The cosines' table, a head's 64 unrotated columns and 32 unused ones filled up. -/
def cosines : FVec Ideal S4096x128 .f32 :=
  concatenate S4096x128 1 [⟨S4096x64, (broadcastInDim S4096x64 ![] bcast_S_S4096x64 (constant S_ .f32 0x3F800000#32) : FVec Ideal S4096x64 .f32)⟩, ⟨S4096x16, Host.cos ang⟩,
    ⟨S4096x16, Host.cos ang⟩, ⟨S4096x32, (broadcastInDim S4096x32 ![] bcast_S_S4096x32 (constant S_ .f32 0x00000000#32) : FVec Ideal S4096x32 .f32)⟩]
    concatenates_S4096x64_S4096x16_S4096x16_S4096x32_S4096x128_d1

set_option maxHeartbeats 8000000 in
theorem v54_eq : (V m c main_v54 : Vec Ideal S4096x128 .f32) = cosines := by
  show StableHlo.after hostOps0 (fun b => m (c, b)) main_v54 = _
  after_results_simp
  try dsimp only [Matrix.cons_val]
  try after_results_simp
  rfl

/-- The sines' table, negative in the first half of the rotated columns. -/
def sines : FVec Ideal S4096x128 .f32 :=
  concatenate S4096x128 1 [⟨S4096x64, (broadcastInDim S4096x64 ![] bcast_S_S4096x64 (constant S_ .f32 0x00000000#32) : FVec Ideal S4096x64 .f32)⟩,
    ⟨S4096x16, Host.negf (Host.sin ang)⟩, ⟨S4096x16, Host.sin ang⟩,
    ⟨S4096x32, (broadcastInDim S4096x32 ![] bcast_S_S4096x32 (constant S_ .f32 0x00000000#32) : FVec Ideal S4096x32 .f32)⟩]
    concatenates_S4096x64_S4096x16_S4096x16_S4096x32_S4096x128_d1

set_option maxHeartbeats 8000000 in
theorem v58_eq : (V m c main_v58 : Vec Ideal S4096x128 .f32) = sines := by
  show StableHlo.after hostOps0 (fun b => m (c, b)) main_v58 = _
  after_results_simp
  try dsimp only [Matrix.cons_val]
  try after_results_simp
  rfl

set_option maxHeartbeats 8000000 in
theorem v59_eq : (V m c main_v59 : Vec Ideal S128x4096 .f32) = transpose S128x4096 [1, 0] cosines transposes_S4096x128_S128x4096_1_0 := by
  show StableHlo.after hostOps0 (fun b => m (c, b)) main_v59 = _
  after_results_simp
  try dsimp only [Matrix.cons_val]
  try after_results_simp
  rfl

set_option maxHeartbeats 8000000 in
theorem v60_eq : (V m c main_v60 : Vec Ideal S128x4096 .f32) = transpose S128x4096 [1, 0] sines transposes_S4096x128_S128x4096_1_0 := by
  show StableHlo.after hostOps0 (fun b => m (c, b)) main_v60 = _
  after_results_simp
  try dsimp only [Matrix.cons_val]
  try after_results_simp
  rfl

set_option maxHeartbeats 8000000 in
theorem v10_eq : (V m c main_v10 : Vec Ideal S1024x1920 .bf16) = wide (m ((c : Thread nD τ).loc main_arg1)) := by
  show StableHlo.after hostOps0 (fun b => m (c, b)) main_v10 = _
  after_results_simp
  try dsimp only [Matrix.cons_val]
  try after_results_simp
  rfl

set_option maxHeartbeats 8000000 in
theorem v25_eq : (V m c main_v25 : Vec Ideal S2048x384 .bf16) = queries (m ((c : Thread nD τ).loc main_arg3)) := by
  show StableHlo.after hostOps0 (fun b => m (c, b)) main_v25 = _
  after_results_simp
  try dsimp only [Matrix.cons_val]
  try after_results_simp
  rfl

/-- The keys' and the values' weights the kernel's program is given. -/
def keys5 : FVec Ideal S256x8x64 .f32 := m ((c : Thread nD τ).loc main_arg5)
@[inherit_doc keys5] def values6 : FVec Ideal S256x8x64 .f32 := m ((c : Thread nD τ).loc main_arg6)

theorem v29_apply (d : Fin 256) (h : Fin 8) (r : Fin 128) :
    (V m c main_v29 : Vec Ideal S256x1024 .bf16) (ix2 d ⟨h.val * 128 + r.val, by omega⟩)
      = lanes (fun e => keys5 m c (ix3 d h e)) (fun _ => 0) r := by
  entry_read
  pointwise
  show (if h_1 : (h.val * 128 + r.val) % 128 < 64 then
      keys5 m c (ix3 d ⟨(h.val * 128 + r.val) / 128, by omega⟩ ⟨(h.val * 128 + r.val) % 128, by omega⟩) else (0 : EReal)) = _
  unfold lanes
  split_ifs
  · exact congrArg₂ (fun a b => keys5 m c (ix3 d a b)) (Fin.ext (by first | (dsimp only; omega) | dsimp only)) (Fin.ext (by first | (dsimp only; omega) | dsimp only))
  all_goals first | rfl | omega

theorem v32_apply (d : Fin 256) (p : Fin 4) (r : Fin 128) :
    (V m c main_v32 : Vec Ideal S512x256 .bf16) (ix2 ⟨p.val * 128 + r.val, by omega⟩ d)
      = values6 m c (ix3 d ⟨2 * p.val + r.val / 64, by omega⟩ ⟨r.val % 64, by omega⟩) := by
  entry_read
  pointwise
  exact congrArg₂ (fun a b => values6 m c (ix3 d a b)) (Fin.ext (by first | (dsimp only; omega) | dsimp only)) (Fin.ext (by first | (dsimp only; omega) | dsimp only))

theorem v33_apply (l : Fin 384) :
    (V m c main_v33 : Vec Ideal S1x384 .f32) (ix2 (0 : Fin 1) l) = m ((c : Thread nD τ).loc main_arg2) (ix1 l) := by
  entry_read
  pointwise

theorem v34_apply (l : Fin 256) :
    (V m c main_v34 : Vec Ideal S1x256 .f32) (ix2 (0 : Fin 1) l) = m ((c : Thread nD τ).loc main_arg4) (ix1 l) := by
  entry_read
  pointwise

section Wide
variable (A : FVec Ideal S1024x1696 .f32) (d : Fin 1024)

set_option maxHeartbeats 8000000 in
theorem wide_latent (j : Fin 640) : wide A (ix2 d ⟨j.val, by omega⟩) = A (ix2 d ⟨j.val, by omega⟩) := by
  unfold wide
  pointwise

set_option maxHeartbeats 8000000 in
theorem wide_rope (r : Fin 128) : wide A (ix2 d ⟨r.val + 640, by omega⟩)
    = lanes (fun _ => 0) (fun i => A (ix2 d ⟨640 + i.val, by omega⟩)) r := by
  unfold wide
  pointwise
  unfold lanes
  repeat' split
  all_goals try dsimp only at *
  all_goals repeat' split
  all_goals try dsimp only at *
  all_goals first | rfl | omega | exact congrArg (fun k => A (ix2 d k)) (Fin.ext (by dsimp only; omega))

set_option maxHeartbeats 8000000 in
theorem wide_turned (r : Fin 128) : wide A (ix2 d ⟨r.val + 768, by omega⟩)
    = lanes (fun _ => 0) (turned fun i => A (ix2 d ⟨640 + i.val, by omega⟩)) r := by
  unfold wide
  pointwise
  rw [lanes_turned]
  repeat' split
  all_goals try dsimp only at *
  all_goals repeat' split
  all_goals try dsimp only at *
  all_goals first | rfl | omega | exact congrArg (fun k => A (ix2 d k)) (Fin.ext (by dsimp only; omega))

set_option maxHeartbeats 8000000 in
theorem wide_rec (j : Fin 512) : wide A (ix2 d ⟨j.val + 896, by omega⟩) = A (ix2 d ⟨672 + j.val, by omega⟩) := by
  unfold wide
  pointwise
  repeat' split
  all_goals try dsimp only at *
  all_goals repeat' split
  all_goals try dsimp only at *
  all_goals first | rfl | omega | exact congrArg (fun k => A (ix2 d k)) (Fin.ext (by dsimp only; omega))

set_option maxHeartbeats 8000000 in
theorem wide_gate (j : Fin 512) : wide A (ix2 d ⟨j.val + 1408, by omega⟩) = A (ix2 d ⟨1184 + j.val, by omega⟩) := by
  unfold wide
  pointwise
  repeat' split
  all_goals try dsimp only at *
  all_goals repeat' split
  all_goals try dsimp only at *
  all_goals first | rfl | omega | exact congrArg (fun k => A (ix2 d k)) (Fin.ext (by dsimp only; omega))
end Wide

section Queries
variable (A : FVec Ideal S384x8x96 .f32) (l : Fin 384) (h : Fin 8) (r : Fin 128)

set_option maxHeartbeats 8000000 in
theorem queries_main : queries A (ix2 ⟨h.val * 128 + r.val, by omega⟩ l)
    = lanes (fun e => A (ix3 l h ⟨e.val, by omega⟩)) (fun i => A (ix3 l h ⟨64 + i.val, by omega⟩)) r := by
  unfold queries
  pointwise
  unfold lanes
  repeat' split
  all_goals try dsimp only at *
  all_goals repeat' split
  all_goals try dsimp only at *
  all_goals first | rfl | omega | exact congrArg₂ (fun a b => A (ix3 l a b)) (Fin.ext (by dsimp only; omega)) (Fin.ext (by dsimp only; omega))

set_option maxHeartbeats 8000000 in
theorem queries_turned : queries A (ix2 ⟨h.val * 128 + r.val + 1024, by omega⟩ l)
    = lanes (fun _ => 0) (turned fun i => A (ix3 l h ⟨64 + i.val, by omega⟩)) r := by
  unfold queries
  pointwise
  rw [lanes_turned]
  repeat' split
  all_goals try dsimp only at *
  all_goals repeat' split
  all_goals try dsimp only at *
  all_goals first | rfl | omega | exact congrArg₂ (fun a b => A (ix3 l a b)) (Fin.ext (by dsimp only; omega)) (Fin.ext (by dsimp only; omega))
end Queries

set_option maxHeartbeats 8000000 in
theorem cosines_apply (s : Fin 4096) (r : Fin 128) : cosines (ix2 s r) = cosLane s.val r := by
  unfold cosines ang
  pointwise
  unfold cosLane lanes angle
  repeat' split
  all_goals try dsimp only at *
  all_goals repeat' split
  all_goals try dsimp only at *
  all_goals first | rfl | omega | (exfalso; omega) | (rw [Nat.mod_eq_of_lt (by omega)]) | (rw [show (r.val - 64) % 16 = r.val - 64 - 16 from by omega])

set_option maxHeartbeats 8000000 in
theorem sines_apply (s : Fin 4096) (r : Fin 128) : sines (ix2 s r) = sinLane s.val r := by
  unfold sines ang
  pointwise
  unfold sinLane lanes angle
  repeat' split
  all_goals try dsimp only at *
  all_goals repeat' split
  all_goals try dsimp only at *
  all_goals first | rfl | omega | (exfalso; omega) | (rw [Nat.mod_eq_of_lt (by omega)]) | (rw [show (r.val - 64) % 16 = r.val - 64 - 16 from by omega])

end Cert.Kernel3Ideal.Proj
end
-- ==== Proof.ProjRows.lean ====
module
public import proofs.«01_k».proof.Proof.ProjSpec
public import proofs.«01_k».proof.Proof.Gen.Kernel3Ideal.Value
public import Idealize.ShloMosaic.Lib.Pipeline.ValueKit

/-! # The rows a grid point computes

The kernel's arithmetic at one row of a tile, for arbitrary blocks. -/

@[expose] public section
set_option maxRecDepth 16384
noncomputable section
open Idealize.ShloMosaic Idealize.ShloMosaic.TcCoe Idealize.SL.Sem

namespace Cert.Kernel3Ideal.Proj
open Cert.Kernel3Ideal Cert.Kernel3Ideal.Gen Cert.Proj

variable (P0 : Vec Ideal S1x512x1024 .f32) (P1 : Vec Ideal S1024x1920 .bf16)

theorem pay6_apply (p : Fin 512) (j : Fin 1920) :
    k0_pay6 P0 P1 (ix2 p j) = ∑ d : Fin 1024, P0 (ix3 (0 : Fin 1) p d) * P1 (ix2 d j) := by
  pointwise [k0_pay6]

theorem pay25_apply (K : FVec Ideal S512x256 .f32) (P : Vec Ideal S256x1024 .bf16) (p : Fin 512) (j : Fin 1024) :
    k0_pay25 K P (ix2 p j) = ∑ k : Fin 256, K (ix2 p k) * P (ix2 k j) := by
  pointwise [k0_pay25, k0_pay24]

theorem pay35_apply (K : FVec Ideal S512x256 .bf16) (P : Vec Ideal S512x256 .bf16) (a : Fin 512) (p : Fin 512) :
    k0_pay35 K P (ix2 a p) = ∑ k : Fin 256, P (ix2 a k) * K (ix2 p k) := by
  pointwise [k0_pay35]

theorem pay20_apply (C : FVec Ideal S512x1920 .f32) (P2 : Vec Ideal S1x256 .f32) (p : Fin 512) (k : Fin 256) :
    k0_pay20 C P2 (ix2 p k) = normed (Ideal.ofBits .f32 0x43800000#32) (fun i : Fin 256 => C (ix2 p ⟨384 + i.val, by omega⟩))
      (fun i => P2 (ix2 (0 : Fin 1) i)) k := by
  pointwise [k0_pay20]
  rfl

theorem pay7_apply (P2 : Vec Ideal S1x384 .f32) (P3 : Vec Ideal S2048x384 .bf16) (a : Fin 2048) (p : Fin 512) :
    k0_pay7 P0 P1 P2 P3 (ix2 a p) = ∑ l : Fin 384, P3 (ix2 a l) *
      normed (Ideal.ofBits .f32 0x43C00000#32) (fun i : Fin 384 => k0_pay6 P0 P1 (ix2 p ⟨i.val, by omega⟩))
      (fun i => P2 (ix2 (0 : Fin 1) i)) l := by
  pointwise [k0_pay7]
  rfl

/-! ## Where an entry of a block reads the computed values -/

theorem ix11_0 (h : Fin 8) (r : Fin 128) (p : Fin 512) : Value.ix11_0 (ix5 (0 : Fin 1) h (0 : Fin 1) r p) = ix2 ⟨h.val * 128 + r.val, by omega⟩ p := by
  funext b; fin_cases b <;> rfl
theorem ix11_1 (h : Fin 8) (r : Fin 128) (p : Fin 512) : Value.ix11_1 (ix5 (0 : Fin 1) h (0 : Fin 1) r p) = ix2 r p := by
  funext b; fin_cases b <;> rfl
theorem ix11_2 (h : Fin 8) (r : Fin 128) (p : Fin 512) : Value.ix11_2 (ix5 (0 : Fin 1) h (0 : Fin 1) r p) = ix2 ⟨h.val * 128 + r.val + 1024, by omega⟩ p := by
  funext b; fin_cases b <;> rfl
theorem ix11_3 (h : Fin 8) (r : Fin 128) (p : Fin 512) : Value.ix11_3 (ix5 (0 : Fin 1) h (0 : Fin 1) r p) = ix2 r p := by
  funext b; fin_cases b <;> rfl
theorem ix12_0 (h : Fin 8) (r : Fin 128) (p : Fin 512) : Value.ix12_0 (ix4 (0 : Fin 1) h p r) = ix2 p ⟨h.val * 128 + r.val, by omega⟩ := by
  funext b; fin_cases b <;> rfl
theorem ix12_1 (h : Fin 8) (r : Fin 128) (p : Fin 512) : Value.ix12_1 (ix4 (0 : Fin 1) h p r) = ix2 p ⟨r.val + 640, by omega⟩ := by
  funext b; fin_cases b <;> rfl
theorem ix12_2 (h : Fin 8) (r : Fin 128) (p : Fin 512) : Value.ix12_2 (ix4 (0 : Fin 1) h p r) = ix2 p r := by
  funext b; fin_cases b <;> rfl
theorem ix12_3 (h : Fin 8) (r : Fin 128) (p : Fin 512) : Value.ix12_3 (ix4 (0 : Fin 1) h p r) = ix2 p ⟨r.val + 768, by omega⟩ := by
  funext b; fin_cases b <;> rfl
theorem ix12_4 (h : Fin 8) (r : Fin 128) (p : Fin 512) : Value.ix12_4 (ix4 (0 : Fin 1) h p r) = ix2 p r := by
  funext b; fin_cases b <;> rfl
theorem ix13_0 (g : Fin 4) (r : Fin 128) (p : Fin 512) : Value.ix13_0 (ix5 (0 : Fin 1) g (0 : Fin 1) r p) = ix2 ⟨g.val * 128 + r.val, by omega⟩ p := by
  funext b; fin_cases b <;> rfl
theorem ix14_0 (p : Fin 512) (k : Fin 256) : Value.ix14_0 (ix3 (0 : Fin 1) p k) = ix2 p ⟨k.val + 384, by omega⟩ := by
  funext b; fin_cases b <;> rfl
theorem ix14_2 (p : Fin 512) (k : Fin 256) : Value.ix14_2 (ix3 (0 : Fin 1) p k) = ix2 (0 : Fin 1) k := by
  funext b; fin_cases b <;> rfl
theorem ix15_0 (p : Fin 512) (r : Fin 128) : Value.ix15_0 (ix3 (0 : Fin 1) p r) = ix2 p ⟨r.val + 640, by omega⟩ := by
  funext b; fin_cases b <;> rfl
theorem ix15_1 (p : Fin 512) (r : Fin 128) : Value.ix15_1 (ix3 (0 : Fin 1) p r) = ix2 p r := by
  funext b; fin_cases b <;> rfl
theorem ix15_2 (p : Fin 512) (r : Fin 128) : Value.ix15_2 (ix3 (0 : Fin 1) p r) = ix2 p ⟨r.val + 768, by omega⟩ := by
  funext b; fin_cases b <;> rfl
theorem ix15_3 (p : Fin 512) (r : Fin 128) : Value.ix15_3 (ix3 (0 : Fin 1) p r) = ix2 p r := by
  funext b; fin_cases b <;> rfl

section Stores
variable (x0 : Vec Ideal S1x512x1024 .f32) (x1 x2 : Vec Ideal S512x128 .f32) (x3 x4 : Vec Ideal S128x512 .f32)
  (x5 : Vec Ideal S1024x1920 .bf16) (x6 : Vec Ideal S1x384 .f32) (x7 : Vec Ideal S2048x384 .bf16) (x8 : Vec Ideal S1x256 .f32)
  (x9 : Vec Ideal S256x1024 .bf16) (x10 : Vec Ideal S512x256 .bf16)

theorem out11_apply (h : Fin 8) (r : Fin 128) (p : Fin 512) :
    out0_11 x0 x1 x2 x3 x4 x5 x6 x7 x8 x9 x10 (ix5 (0 : Fin 1) h (0 : Fin 1) r p)
      = (k0_pay7 x0 x5 x6 x7 (ix2 ⟨h.val * 128 + r.val, by omega⟩ p) * x3 (ix2 r p)
        + k0_pay7 x0 x5 x6 x7 (ix2 ⟨h.val * 128 + r.val + 1024, by omega⟩ p) * x4 (ix2 r p)) * Ideal.ofBits .f32 0x3E16C740#32 := by
  unfold_out out0_11
  simp (disch := decide) only [View.ld_unit_lit']
  refine (Value.canon11_eq x0 x5 x6 x7 x3 x4 _).trans ?_
  show (k0_pay7 x0 x5 x6 x7 (Value.ix11_0 _) * x3 (Value.ix11_1 _) + k0_pay7 x0 x5 x6 x7 (Value.ix11_2 _) * x4 (Value.ix11_3 _)) * _ = _
  rw [ix11_0, ix11_1, ix11_2, ix11_3]
  rfl

theorem out12_apply (h : Fin 8) (p : Fin 512) (r : Fin 128) :
    out0_12 x0 x1 x2 x3 x4 x5 x6 x7 x8 x9 x10 (ix4 (0 : Fin 1) h p r)
      = k0_pay25 (k0_pay20 (k0_pay6 x0 x5) x8) x9 (ix2 p ⟨h.val * 128 + r.val, by omega⟩)
        + (k0_pay6 x0 x5 (ix2 p ⟨r.val + 640, by omega⟩) * x1 (ix2 p r) + k0_pay6 x0 x5 (ix2 p ⟨r.val + 768, by omega⟩) * x2 (ix2 p r)) := by
  unfold_out out0_12
  simp (disch := decide) only [View.ld_unit_lit']
  refine (Value.canon12_eq x0 x5 x8 x9 x1 x2 _).trans ?_
  show k0_pay25 (k0_pay20 (k0_pay6 x0 x5) x8) x9 (Value.ix12_0 _)
    + (k0_pay6 x0 x5 (Value.ix12_1 _) * x1 (Value.ix12_2 _) + k0_pay6 x0 x5 (Value.ix12_3 _) * x2 (Value.ix12_4 _)) = _
  rw [ix12_0, ix12_1, ix12_2, ix12_3, ix12_4]

theorem out13_apply (g : Fin 4) (r : Fin 128) (p : Fin 512) :
    out0_13 x0 x1 x2 x3 x4 x5 x6 x7 x8 x9 x10 (ix5 (0 : Fin 1) g (0 : Fin 1) r p)
      = k0_pay35 (k0_pay24 (k0_pay20 (k0_pay6 x0 x5) x8)) x10 (ix2 ⟨g.val * 128 + r.val, by omega⟩ p) := by
  unfold_out out0_13
  simp (disch := decide) only [View.ld_unit_lit']
  refine (Value.canon13_eq x0 x5 x8 x10 _).trans ?_
  show k0_pay35 (k0_pay24 (k0_pay20 (k0_pay6 x0 x5) x8)) x10 (Value.ix13_0 _) = _
  rw [ix13_0]

theorem out14_apply (p : Fin 512) (k : Fin 256) :
    out0_14 x0 x1 x2 x3 x4 x5 x6 x7 x8 x9 x10 (ix3 (0 : Fin 1) p k) = k0_pay20 (k0_pay6 x0 x5) x8 (ix2 p k) := by
  unfold_out out0_14
  simp (disch := decide) only [View.ld_unit_lit']
  refine (Value.canon14_eq x0 x5 x8 _).trans ?_
  pointwise [k0_pay20]
  rw [ix14_0, ix14_2, show (⟨k.val + 384, by omega⟩ : Fin 1920) = ⟨384 + k.val, by omega⟩ from Fin.ext (Nat.add_comm _ _)]

theorem out15_apply (p : Fin 512) (r : Fin 128) :
    out0_15 x0 x1 x2 x3 x4 x5 x6 x7 x8 x9 x10 (ix3 (0 : Fin 1) p r)
      = k0_pay6 x0 x5 (ix2 p ⟨r.val + 640, by omega⟩) * x1 (ix2 p r) + k0_pay6 x0 x5 (ix2 p ⟨r.val + 768, by omega⟩) * x2 (ix2 p r) := by
  unfold_out out0_15
  simp (disch := decide) only [View.ld_unit_lit']
  refine (Value.canon15_eq x0 x5 x1 x2 _).trans ?_
  show k0_pay6 x0 x5 (Value.ix15_0 _) * x1 (Value.ix15_1 _) + k0_pay6 x0 x5 (Value.ix15_2 _) * x2 (Value.ix15_3 _) = _
  rw [ix15_0, ix15_1, ix15_2, ix15_3]

theorem out16_apply (p : Fin 512) (j : Fin 512) :
    out0_16 x0 x1 x2 x3 x4 x5 x6 x7 x8 x9 x10 (ix3 (0 : Fin 1) p j) = k0_pay6 x0 x5 (ix2 p ⟨j.val + 896, by omega⟩) := by
  unfold_out out0_16
  simp (disch := decide) only [View.ld_unit_lit']
  exact (Value.canon16_eq x0 x5 _).trans rfl

theorem out17_apply (p : Fin 512) (j : Fin 512) :
    out0_17 x0 x1 x2 x3 x4 x5 x6 x7 x8 x9 x10 (ix3 (0 : Fin 1) p j) = k0_pay6 x0 x5 (ix2 p ⟨j.val + 1408, by omega⟩) := by
  unfold_out out0_17
  simp (disch := decide) only [View.ld_unit_lit']
  exact (Value.canon17_eq x0 x5 _).trans rfl
end Stores

end Cert.Kernel3Ideal.Proj
end
-- ==== Proof.ProjBlocks.lean ====
module
public import proofs.«01_k».proof.Proof.ProjHost
public import proofs.«01_k».proof.Proof.ProjRows

/-! # What a grid point computes

Each input block at a grid point, at the array it is cut from; then every entry the point stores, as the projection of its
token. -/

@[expose] public section
set_option maxRecDepth 16384
noncomputable section
open Idealize.ShloMosaic Idealize.ShloMosaic.TcCoe Idealize.SL.Sem

namespace Cert.Kernel3Ideal.Proj
open Cert.Kernel3Ideal Cert.Kernel3Ideal.Gen Cert.Proj

theorem idx : ∀ t : Fin cfg0.N, win0_0.index t = ![t.val / 8, t.val % 8, 0] ∧ win0_1.index t = ![t.val % 8, 0]
    ∧ win0_2.index t = ![t.val % 8, 0] ∧ win0_3.index t = ![0, t.val % 8] ∧ win0_4.index t = ![0, t.val % 8]
    ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

variable (m : (ℓ : Loc nD τ sig) → Buf (Elt Ideal) ℓ) (c : Dev nD) (t : Fin cfg0.N)

theorem t_lt : t.val < 32 := lt_of_lt_of_eq t.isLt N_0

/-- The position of row `p` of the point's tile. -/
def pos (p : Fin 512) : Fin 4096 := ⟨512 * (t.val % 8) + p.val, by omega⟩

/-- The token at row `p` of the point's tile. -/
def token (b : Fin 4) (s : Fin 4096) (d : Fin 1024) : EReal := m ((c : Thread nD τ).loc main_arg0) (ix3 b s d)

/-- The weights the kernel's program is given. -/
def weights : Weights where
  w d j := m ((c : Thread nD τ).loc main_arg1) (ix2 d j)
  qg l := m ((c : Thread nD τ).loc main_arg2) (ix1 l)
  uq l h e := m ((c : Thread nD τ).loc main_arg3) (ix3 l h e)
  kg k := m ((c : Thread nD τ).loc main_arg4) (ix1 k)
  uk k h e := keys5 m c (ix3 k h e)
  uv k h e := values6 m c (ix3 k h e)

theorem blk0 (p : Fin 512) (d : Fin 1024) : (iblk m c 0 t : Vec Ideal S1x512x1024 .f32) (ix3 (0 : Fin 1) p d)
    = token m c ⟨t.val / 8, by have := t_lt t; omega⟩ (pos t p) d := by
  unfold token pos
  blk_ext [iblk, V, idx t]

theorem blk1 (p : Fin 512) (r : Fin 128) : (iblk m c 1 t : Vec Ideal S512x128 .f32) (ix2 p r) = cosLane (pos t p).val r := by
  rw [← cosines_apply, ← v54_eq m c]
  unfold pos
  blk_ext [iblk, idx t]

theorem blk2 (p : Fin 512) (r : Fin 128) : (iblk m c 2 t : Vec Ideal S512x128 .f32) (ix2 p r) = sinLane (pos t p).val r := by
  rw [← sines_apply, ← v58_eq m c]
  unfold pos
  blk_ext [iblk, idx t]

theorem blk3 (p : Fin 512) (r : Fin 128) : (iblk m c 3 t : Vec Ideal S128x512 .f32) (ix2 r p) = cosLane (pos t p).val r := by
  have e : (iblk m c 3 t : Vec Ideal S128x512 .f32) (ix2 r p) = (V m c main_v59 : Vec Ideal S128x4096 .f32) (ix2 r (pos t p)) := by
    unfold pos
    blk_ext [iblk, idx t]
  rw [e, v59_eq m c, ← cosines_apply]
  pointwise

theorem blk4 (p : Fin 512) (r : Fin 128) : (iblk m c 4 t : Vec Ideal S128x512 .f32) (ix2 r p) = sinLane (pos t p).val r := by
  have e : (iblk m c 4 t : Vec Ideal S128x512 .f32) (ix2 r p) = (V m c main_v60 : Vec Ideal S128x4096 .f32) (ix2 r (pos t p)) := by
    unfold pos
    blk_ext [iblk, idx t]
  rw [e, v60_eq m c, ← sines_apply]
  pointwise

theorem blk5 (d : Fin 1024) (j : Fin 1920) : (iblk m c 5 t : Vec Ideal S1024x1920 .bf16) (ix2 d j)
    = wide (m ((c : Thread nD τ).loc main_arg1)) (ix2 d j) := by
  rw [← v10_eq m c]
  blk_ext [iblk, idx t]

theorem blk6 (l : Fin 384) : (iblk m c 6 t : Vec Ideal S1x384 .f32) (ix2 (0 : Fin 1) l) = m ((c : Thread nD τ).loc main_arg2) (ix1 l) := by
  rw [← v33_apply m c]
  blk_ext [iblk, idx t]

theorem blk7 (a : Fin 2048) (l : Fin 384) : (iblk m c 7 t : Vec Ideal S2048x384 .bf16) (ix2 a l)
    = queries (m ((c : Thread nD τ).loc main_arg3)) (ix2 a l) := by
  rw [← v25_eq m c]
  blk_ext [iblk, idx t]

theorem blk8 (k : Fin 256) : (iblk m c 8 t : Vec Ideal S1x256 .f32) (ix2 (0 : Fin 1) k) = m ((c : Thread nD τ).loc main_arg4) (ix1 k) := by
  rw [← v34_apply m c]
  blk_ext [iblk, idx t]

theorem blk9 (d : Fin 256) (h : Fin 8) (r : Fin 128) : (iblk m c 9 t : Vec Ideal S256x1024 .bf16) (ix2 d ⟨h.val * 128 + r.val, by omega⟩)
    = lanes (fun e => keys5 m c (ix3 d h e)) (fun _ => 0) r := by
  rw [← v29_apply m c]
  blk_ext [iblk, idx t]

theorem blk10 (d : Fin 256) (g : Fin 4) (r : Fin 128) : (iblk m c 10 t : Vec Ideal S512x256 .bf16) (ix2 ⟨g.val * 128 + r.val, by omega⟩ d)
    = values6 m c (ix3 d ⟨2 * g.val + r.val / 64, by omega⟩ ⟨r.val % 64, by omega⟩) := by
  rw [← v32_apply m c]
  blk_ext [iblk, idx t]

/-! ## The computed values -/

/-- The sequence the point's tile belongs to. -/
def seq : Fin 4 := ⟨t.val / 8, by have := t_lt t; omega⟩

variable (p : Fin 512)

/-- The token at row `p` of the point's tile. -/
def tok : Fin 1024 → EReal := token m c (seq t) (pos t p)

/-- The combined projection of the point's tile. -/
def cols : FVec Ideal S512x1920 .f32 := k0_pay6 (F := Ideal) (iblk m c 0 t) (iblk m c 5 t)

theorem cols_sum (j : Fin 1920) :
    cols m c t (ix2 p j) = ∑ d, tok m c t p d * wide (m ((c : Thread nD τ).loc main_arg1)) (ix2 d j) := by
  unfold cols
  rw [pay6_apply]
  exact Finset.sum_congr rfl fun d _ => congrArg₂ (fun x y : EReal => x * y) (blk0 m c t p d) (blk5 m c t d j)

theorem cols_latent (j : Fin 640) : cols m c t (ix2 p ⟨j.val, by omega⟩) = col (weights m c) (tok m c t p) ⟨j.val, by omega⟩ := by
  rw [cols_sum]
  exact Finset.sum_congr rfl fun d _ => congrArg (fun y : EReal => tok m c t p d * y) (wide_latent _ d j)

theorem cols_rope (r : Fin 128) : cols m c t (ix2 p ⟨r.val + 640, by omega⟩)
    = lanes (fun _ => 0) (krope (weights m c) (tok m c t p)) r := by
  rw [cols_sum]
  simp only [wide_rope]
  rw [sum_lanes, sum_zero_lane]
  rfl

theorem cols_turned (r : Fin 128) : cols m c t (ix2 p ⟨r.val + 768, by omega⟩)
    = lanes (fun _ => 0) (turned (krope (weights m c) (tok m c t p))) r := by
  rw [cols_sum]
  simp only [wide_turned]
  rw [sum_lanes, sum_zero_lane, sum_turned]
  rfl

theorem cols_rec (j : Fin 512) : cols m c t (ix2 p ⟨j.val + 896, by omega⟩) = col (weights m c) (tok m c t p) ⟨672 + j.val, by omega⟩ := by
  rw [cols_sum]
  exact Finset.sum_congr rfl fun d _ => congrArg (fun y : EReal => tok m c t p d * y) (wide_rec _ d j)

theorem cols_gate (j : Fin 512) : cols m c t (ix2 p ⟨j.val + 1408, by omega⟩) = col (weights m c) (tok m c t p) ⟨1184 + j.val, by omega⟩ := by
  rw [cols_sum]
  exact Finset.sum_congr rfl fun d _ => congrArg (fun y : EReal => tok m c t p d * y) (wide_gate _ d j)

theorem latent_apply (k : Fin 256) : k0_pay20 (F := Ideal) (cols m c t) (iblk m c 8 t) (ix2 p k) = kvlat (weights m c) (tok m c t p) k := by
  rw [pay20_apply]
  unfold kvlat
  refine congrArg₂ (fun v g => normed _ v g k) (funext fun i => ?_) (funext fun i => blk8 m c t i)
  exact cols_latent m c t p ⟨384 + i.val, by omega⟩

/-- The queries of the point's tile, a column for each row of it. -/
def qrows : FVec Ideal S2048x512 .f32 := k0_pay7 (F := Ideal) (iblk m c 0 t) (iblk m c 5 t) (iblk m c 6 t) (iblk m c 7 t)

theorem qrows_sum (a : Fin 2048) : qrows m c t (ix2 a p)
    = ∑ l, qlat (weights m c) (tok m c t p) l * queries (m ((c : Thread nD τ).loc main_arg3)) (ix2 a l) := by
  unfold qrows
  rw [pay7_apply]
  refine Finset.sum_congr rfl fun l _ => ?_
  rw [mul_comm]
  refine congrArg₂ (fun x y : EReal => x * y) ?_ (blk7 m c t a l)
  unfold qlat
  refine congrArg₂ (fun v g => normed _ v g l) (funext fun i => ?_) (funext fun i => blk6 m c t i)
  exact cols_latent m c t p ⟨i.val, by omega⟩

theorem qrows_main (h : Fin 8) (r : Fin 128) : qrows m c t (ix2 ⟨h.val * 128 + r.val, by omega⟩ p)
    = lanes (fun e => query (weights m c) (tok m c t p) h ⟨e.val, by omega⟩)
      (fun i => query (weights m c) (tok m c t p) h ⟨64 + i.val, by omega⟩) r := by
  rw [qrows_sum]
  simp only [queries_main]
  rw [sum_lanes]
  rfl

theorem qrows_turned (h : Fin 8) (r : Fin 128) : qrows m c t (ix2 ⟨h.val * 128 + r.val + 1024, by omega⟩ p)
    = lanes (fun _ => 0) (turned fun i => query (weights m c) (tok m c t p) h ⟨64 + i.val, by omega⟩) r := by
  rw [qrows_sum]
  simp only [queries_turned]
  rw [sum_lanes, sum_zero_lane, sum_turned]
  rfl

/-! ## The stored entries -/

theorem stored11 (h : Fin 8) (r : Fin 128) :
    out0_11 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix5 (0 : Fin 1) h (0 : Fin 1) r p)
      = queryLane (weights m c) (tok m c t p) (pos t p).val h r := by
  refine (out11_apply _ _ _ _ _ _ _ _ _ _ _ h r p).trans ?_
  refine congrArg (fun z : EReal => z * _) (Eq.trans ?_ (lanes_rot (pos t p).val _ _ r))
  exact congrArg₂ (fun x y : EReal => x + y)
    (congrArg₂ (fun x y : EReal => x * y) (qrows_main m c t p h r) (blk3 m c t p r))
    (congrArg₂ (fun x y : EReal => x * y) (qrows_turned m c t p h r) (blk4 m c t p r))

theorem rotated (r : Fin 128) :
    cols m c t (ix2 p ⟨r.val + 640, by omega⟩) * (iblk m c 1 t : Vec Ideal S512x128 .f32) (ix2 p r)
      + cols m c t (ix2 p ⟨r.val + 768, by omega⟩) * (iblk m c 2 t : Vec Ideal S512x128 .f32) (ix2 p r)
      = ropeLane (weights m c) (tok m c t p) (pos t p).val r := by
  rw [cols_rope, cols_turned, blk1, blk2, lanes_rot]
  rfl

theorem stored12 (h : Fin 8) (r : Fin 128) :
    out0_12 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix4 (0 : Fin 1) h p r)
      = keyLane (weights m c) (tok m c t p) (pos t p).val h r := by
  refine (out12_apply _ _ _ _ _ _ _ _ _ _ _ h p r).trans ?_
  have e : k0_pay25 (F := Ideal) (k0_pay20 (cols m c t) (iblk m c 8 t)) (iblk m c 9 t) (ix2 p ⟨h.val * 128 + r.val, by omega⟩)
      = lanes (fun e => ∑ k, kvlat (weights m c) (tok m c t p) k * (weights m c).uk k h e) (fun _ => 0) r := by
    rw [pay25_apply]
    simp only [latent_apply, blk9]
    rw [sum_lanes]
    refine congrArg (fun b => lanes _ b r) (funext fun _ => ?_)
    simp only [mul_zero, Finset.sum_const_zero]
  exact (congrArg₂ (fun x y : EReal => x + y) e (rotated m c t p r)).trans (lanes_add _ _ r)

theorem stored13 (g : Fin 4) (r : Fin 128) :
    out0_13 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix5 (0 : Fin 1) g (0 : Fin 1) r p)
      = value (weights m c) (tok m c t p) ⟨2 * g.val + r.val / 64, by omega⟩ ⟨r.val % 64, by omega⟩ := by
  refine (out13_apply _ _ _ _ _ _ _ _ _ _ _ g r p).trans ((pay35_apply _ _ _ _).trans (Finset.sum_congr rfl fun k _ => ?_))
  rw [mul_comm]
  exact congrArg₂ (fun x y : EReal => x * y) (latent_apply m c t p k) (blk10 m c t k g r)

theorem stored14 (k : Fin 256) :
    out0_14 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 (0 : Fin 1) p k) = kvlat (weights m c) (tok m c t p) k :=
  (out14_apply _ _ _ _ _ _ _ _ _ _ _ p k).trans (latent_apply m c t p k)

theorem stored15 (r : Fin 128) :
    out0_15 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 (0 : Fin 1) p r) = ropeLane (weights m c) (tok m c t p) (pos t p).val r :=
  (out15_apply _ _ _ _ _ _ _ _ _ _ _ p r).trans (rotated m c t p r)

theorem stored16 (j : Fin 512) :
    out0_16 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 (0 : Fin 1) p j) = col (weights m c) (tok m c t p) ⟨672 + j.val, by omega⟩ :=
  (out16_apply _ _ _ _ _ _ _ _ _ _ _ p j).trans (cols_rec m c t p j)

theorem stored17 (j : Fin 512) :
    out0_17 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 (0 : Fin 1) p j) = col (weights m c) (tok m c t p) ⟨1184 + j.val, by omega⟩ :=
  (out17_apply _ _ _ _ _ _ _ _ _ _ _ p j).trans (cols_gate m c t p j)

end Cert.Kernel3Ideal.Proj
end
-- ==== Proof.ProjValue.lean ====
module
public import proofs.«01_k».proof.Proof.ProjBlocks

/-! # The projection's result arrays

Every grid point writes its blocks back, so each array ends holding the projection of its token at every index. -/

@[expose] public section
set_option maxRecDepth 16384
noncomputable section
open Idealize.ShloMosaic Idealize.ShloMosaic.TcCoe Idealize.ShloMosaic.Tactic Idealize.SL Idealize.SL.Sem
open Idealize.ShloMosaic.Pipeline (Dat Cfg Window)

namespace Cert.Kernel3Ideal.Proj
open Cert.Kernel3Ideal Cert.Kernel3Ideal.Gen Cert.Proj

/-- The position of row `p` of tile `n`. -/
def place (n : Fin 8) (p : Fin 512) : Fin 4096 := ⟨512 * n.val + p.val, by omega⟩

variable (m : (ℓ : Loc nD τ sig) → Buf (Elt Ideal) ℓ) (c : Dev nD) (t : Fin cfg0.N)

/-- The tile of the point. -/
def tile : Fin 8 := ⟨t.val % 8, by omega⟩

/-- The queries' array. -/
def queryArr : S4x8x8x128x512.Idx → EReal := fun i =>
  queryLane (weights m c) (token m c (i 0) (place (i 2) (i 4))) (place (i 2) (i 4)).val (i 1) (i 3)
/-- The keys' array. -/
def keyArr : S4x8x4096x128.Idx → EReal := fun i => keyLane (weights m c) (token m c (i 0) (i 2)) (i 2).val (i 1) (i 3)
/-- The values' array. -/
def valueArr : S4x4x8x128x512.Idx → EReal := fun i =>
  value (weights m c) (token m c (i 0) (place (i 2) (i 4)))
    ⟨2 * (i 1).val + (i 3).val / 64, by have h1 : (i 1).val < 4 := (i 1).isLt; have h3 : (i 3).val < 128 := (i 3).isLt; omega⟩
    ⟨(i 3).val % 64, by omega⟩
/-- The latents' array. -/
def latentArr : S4x4096x256.Idx → EReal := fun i => kvlat (weights m c) (token m c (i 0) (i 1)) (i 2)
/-- The rotary keys' array. -/
def ropeArr : S4x4096x128.Idx → EReal := fun i => ropeLane (weights m c) (token m c (i 0) (i 1)) (i 1).val (i 2)
/-- The recurrence's input. -/
def recArr : S4x4096x512.Idx → EReal := fun i =>
  col (weights m c) (token m c (i 0) (i 1)) ⟨672 + (i 2).val, by have h : (i 2).val < 512 := (i 2).isLt; omega⟩
/-- The recurrence's gate. -/
def gateArr : S4x4096x512.Idx → EReal := fun i =>
  col (weights m c) (token m c (i 0) (i 1)) ⟨1184 + (i 2).val, by have h : (i 2).val < 512 := (i 2).isLt; omega⟩

theorem placed : ∀ t : Fin grid0.N, cc0_transform_11 (grid0.coords t) = ![t.val / 8, 0, t.val % 8, 0, 0]
    ∧ cc0_transform_12 (grid0.coords t) = ![t.val / 8, 0, t.val % 8, 0]
    ∧ cc0_transform_13 (grid0.coords t) = ![t.val / 8, 0, t.val % 8, 0, 0]
    ∧ cc0_transform_14 (grid0.coords t) = ![t.val / 8, t.val % 8, 0]
    ∧ cc0_transform_15 (grid0.coords t) = ![t.val / 8, t.val % 8, 0]
    ∧ cc0_transform_16 (grid0.coords t) = ![t.val / 8, t.val % 8, 0]
    ∧ cc0_transform_17 (grid0.coords t) = ![t.val / 8, t.val % 8, 0] := by decide +kernel

/-- The queries' array after the run. -/
theorem final11 : (dats m 0 c).arrAt 11 cfg0.N = queryArr m c := by
  refine (dats m 0 c).arrAt_eq_of_covers 11 _ (by decide +kernel) fun t _ y => ?_
  obtain ⟨h, r, p, rfl⟩ : ∃ (h : Fin 8) (r : Fin 128) (p : Fin 512), y = ix5 (0 : Fin 1) h (0 : Fin 1) r p := ⟨y 1, y 3, y 4, by
      funext a
      fin_cases a
      · exact Fin.ext (by have h : (y 0).val < 1 := (y 0).isLt; show (y 0).val = 0; omega)
      · rfl
      · exact Fin.ext (by have h : (y 2).val < 1 := (y 2).isLt; show (y 2).val = 0; omega)
      · rfl
      · rfl⟩
  have e : ((cfg0.win 11).blk t).view.emb (ix5 (0 : Fin 1) h (0 : Fin 1) r p) = (ix5 (seq t) h (tile t) r p : S4x8x8x128x512.Idx) := by
    funext a
    refine Fin.ext ?_
    show cc0_transform_11 (grid0.coords t) a * S1x8x1x128x512.size a + 1 * (ix5 (0 : Fin 1) h (0 : Fin 1) r p a).val = _
    rw [(placed t).1]
    fin_cases a
    · show t.val / 8 * 1 + 1 * 0 = t.val / 8; omega
    · show 0 * 8 + 1 * h.val = h.val; omega
    · show t.val % 8 * 1 + 1 * 0 = t.val % 8; omega
    · show 0 * 128 + 1 * r.val = r.val; omega
    · show 0 * 512 + 1 * p.val = p.val; omega
  have f := congrFun (Value.flushed11 m c t) (ix5 (0 : Fin 1) h (0 : Fin 1) r p)
  refine (f.trans ?_).trans (congrArg (queryArr m c) e.symm)
  exact stored11 m c t p h r

/-- The keys' array after the run. -/
theorem final12 : (dats m 0 c).arrAt 12 cfg0.N = keyArr m c := by
  refine (dats m 0 c).arrAt_eq_of_covers 12 _ (by decide +kernel) fun t _ y => ?_
  obtain ⟨h, p, r, rfl⟩ : ∃ (h : Fin 8) (p : Fin 512) (r : Fin 128), y = ix4 (0 : Fin 1) h p r := ⟨y 1, y 2, y 3, by
      funext a
      fin_cases a
      · exact Fin.ext (by have h : (y 0).val < 1 := (y 0).isLt; show (y 0).val = 0; omega)
      · rfl
      · rfl
      · rfl⟩
  have e : ((cfg0.win 12).blk t).view.emb (ix4 (0 : Fin 1) h p r) = (ix4 (seq t) h (pos t p) r : S4x8x4096x128.Idx) := by
    funext a
    refine Fin.ext ?_
    show cc0_transform_12 (grid0.coords t) a * S1x8x512x128.size a + 1 * (ix4 (0 : Fin 1) h p r a).val = _
    rw [(placed t).2.1]
    fin_cases a
    · show t.val / 8 * 1 + 1 * 0 = t.val / 8; omega
    · show 0 * 8 + 1 * h.val = h.val; omega
    · show t.val % 8 * 512 + 1 * p.val = 512 * (t.val % 8) + p.val; omega
    · show 0 * 128 + 1 * r.val = r.val; omega
  have f := congrFun (Value.flushed12 m c t) (ix4 (0 : Fin 1) h p r)
  refine (f.trans ?_).trans (congrArg (keyArr m c) e.symm)
  exact stored12 m c t p h r

/-- The values' array after the run. -/
theorem final13 : (dats m 0 c).arrAt 13 cfg0.N = valueArr m c := by
  refine (dats m 0 c).arrAt_eq_of_covers 13 _ (by decide +kernel) fun t _ y => ?_
  obtain ⟨h, r, p, rfl⟩ : ∃ (h : Fin 4) (r : Fin 128) (p : Fin 512), y = ix5 (0 : Fin 1) h (0 : Fin 1) r p := ⟨y 1, y 3, y 4, by
      funext a
      fin_cases a
      · exact Fin.ext (by have h : (y 0).val < 1 := (y 0).isLt; show (y 0).val = 0; omega)
      · rfl
      · exact Fin.ext (by have h : (y 2).val < 1 := (y 2).isLt; show (y 2).val = 0; omega)
      · rfl
      · rfl⟩
  have e : ((cfg0.win 13).blk t).view.emb (ix5 (0 : Fin 1) h (0 : Fin 1) r p) = (ix5 (seq t) h (tile t) r p : S4x4x8x128x512.Idx) := by
    funext a
    refine Fin.ext ?_
    show cc0_transform_13 (grid0.coords t) a * S1x4x1x128x512.size a + 1 * (ix5 (0 : Fin 1) h (0 : Fin 1) r p a).val = _
    rw [(placed t).2.2.1]
    fin_cases a
    · show t.val / 8 * 1 + 1 * 0 = t.val / 8; omega
    · show 0 * 4 + 1 * h.val = h.val; omega
    · show t.val % 8 * 1 + 1 * 0 = t.val % 8; omega
    · show 0 * 128 + 1 * r.val = r.val; omega
    · show 0 * 512 + 1 * p.val = p.val; omega
  have f := congrFun (Value.flushed13 m c t) (ix5 (0 : Fin 1) h (0 : Fin 1) r p)
  refine (f.trans ?_).trans (congrArg (valueArr m c) e.symm)
  exact stored13 m c t p h r

/-- The latents' array after the run. -/
theorem final14 : (dats m 0 c).arrAt 14 cfg0.N = latentArr m c := by
  refine (dats m 0 c).arrAt_eq_of_covers 14 _ (by decide +kernel) fun t _ y => ?_
  obtain ⟨p, r, rfl⟩ : ∃ (p : Fin 512) (r : Fin 256), y = ix3 (0 : Fin 1) p r := ⟨y 1, y 2, by
      funext a
      fin_cases a
      · exact Fin.ext (by have h : (y 0).val < 1 := (y 0).isLt; show (y 0).val = 0; omega)
      · rfl
      · rfl⟩
  have e : ((cfg0.win 14).blk t).view.emb (ix3 (0 : Fin 1) p r) = (ix3 (seq t) (pos t p) r : S4x4096x256.Idx) := by
    funext a
    refine Fin.ext ?_
    show cc0_transform_14 (grid0.coords t) a * S1x512x256.size a + 1 * (ix3 (0 : Fin 1) p r a).val = _
    rw [(placed t).2.2.2.1]
    fin_cases a
    · show t.val / 8 * 1 + 1 * 0 = t.val / 8; omega
    · show t.val % 8 * 512 + 1 * p.val = 512 * (t.val % 8) + p.val; omega
    · show 0 * 256 + 1 * r.val = r.val; omega
  have f := congrFun (Value.flushed14 m c t) (ix3 (0 : Fin 1) p r)
  refine (f.trans ?_).trans (congrArg (latentArr m c) e.symm)
  exact stored14 m c t p r

/-- The rotary keys' array after the run. -/
theorem final15 : (dats m 0 c).arrAt 15 cfg0.N = ropeArr m c := by
  refine (dats m 0 c).arrAt_eq_of_covers 15 _ (by decide +kernel) fun t _ y => ?_
  obtain ⟨p, r, rfl⟩ : ∃ (p : Fin 512) (r : Fin 128), y = ix3 (0 : Fin 1) p r := ⟨y 1, y 2, by
      funext a
      fin_cases a
      · exact Fin.ext (by have h : (y 0).val < 1 := (y 0).isLt; show (y 0).val = 0; omega)
      · rfl
      · rfl⟩
  have e : ((cfg0.win 15).blk t).view.emb (ix3 (0 : Fin 1) p r) = (ix3 (seq t) (pos t p) r : S4x4096x128.Idx) := by
    funext a
    refine Fin.ext ?_
    show cc0_transform_15 (grid0.coords t) a * S1x512x128.size a + 1 * (ix3 (0 : Fin 1) p r a).val = _
    rw [(placed t).2.2.2.2.1]
    fin_cases a
    · show t.val / 8 * 1 + 1 * 0 = t.val / 8; omega
    · show t.val % 8 * 512 + 1 * p.val = 512 * (t.val % 8) + p.val; omega
    · show 0 * 128 + 1 * r.val = r.val; omega
  have f := congrFun (Value.flushed15 m c t) (ix3 (0 : Fin 1) p r)
  refine (f.trans ?_).trans (congrArg (ropeArr m c) e.symm)
  exact stored15 m c t p r

/-- The recurrence input's array after the run. -/
theorem final16 : (dats m 0 c).arrAt 16 cfg0.N = recArr m c := by
  refine (dats m 0 c).arrAt_eq_of_covers 16 _ (by decide +kernel) fun t _ y => ?_
  obtain ⟨p, r, rfl⟩ : ∃ (p : Fin 512) (r : Fin 512), y = ix3 (0 : Fin 1) p r := ⟨y 1, y 2, by
      funext a
      fin_cases a
      · exact Fin.ext (by have h : (y 0).val < 1 := (y 0).isLt; show (y 0).val = 0; omega)
      · rfl
      · rfl⟩
  have e : ((cfg0.win 16).blk t).view.emb (ix3 (0 : Fin 1) p r) = (ix3 (seq t) (pos t p) r : S4x4096x512.Idx) := by
    funext a
    refine Fin.ext ?_
    show cc0_transform_16 (grid0.coords t) a * S1x512x512.size a + 1 * (ix3 (0 : Fin 1) p r a).val = _
    rw [(placed t).2.2.2.2.2.1]
    fin_cases a
    · show t.val / 8 * 1 + 1 * 0 = t.val / 8; omega
    · show t.val % 8 * 512 + 1 * p.val = 512 * (t.val % 8) + p.val; omega
    · show 0 * 512 + 1 * r.val = r.val; omega
  have f := congrFun (Value.flushed16 m c t) (ix3 (0 : Fin 1) p r)
  refine (f.trans ?_).trans (congrArg (recArr m c) e.symm)
  exact stored16 m c t p r

/-- The gate's array after the run. -/
theorem final17 : (dats m 0 c).arrAt 17 cfg0.N = gateArr m c := by
  refine (dats m 0 c).arrAt_eq_of_covers 17 _ (by decide +kernel) fun t _ y => ?_
  obtain ⟨p, r, rfl⟩ : ∃ (p : Fin 512) (r : Fin 512), y = ix3 (0 : Fin 1) p r := ⟨y 1, y 2, by
      funext a
      fin_cases a
      · exact Fin.ext (by have h : (y 0).val < 1 := (y 0).isLt; show (y 0).val = 0; omega)
      · rfl
      · rfl⟩
  have e : ((cfg0.win 17).blk t).view.emb (ix3 (0 : Fin 1) p r) = (ix3 (seq t) (pos t p) r : S4x4096x512.Idx) := by
    funext a
    refine Fin.ext ?_
    show cc0_transform_17 (grid0.coords t) a * S1x512x512.size a + 1 * (ix3 (0 : Fin 1) p r a).val = _
    rw [(placed t).2.2.2.2.2.2]
    fin_cases a
    · show t.val / 8 * 1 + 1 * 0 = t.val / 8; omega
    · show t.val % 8 * 512 + 1 * p.val = 512 * (t.val % 8) + p.val; omega
    · show 0 * 512 + 1 * r.val = r.val; omega
  have f := congrFun (Value.flushed17 m c t) (ix3 (0 : Fin 1) p r)
  refine (f.trans ?_).trans (congrArg (gateArr m c) e.symm)
  exact stored17 m c t p r

end Cert.Kernel3Ideal.Proj
end
-- ==== Proof.ProjReference.lean ====
module
public import proofs.«01_k».proof.Proof.ProjSpec
public import proofs.«01_k».proof.Proof.Gen.Reference3Ideal.Run
public import Idealize.ShloMosaic.Lib.Pipeline.ValueKit

/-! # The projection's reference, entry by entry -/

@[expose] public section
set_option maxRecDepth 16384
noncomputable section

namespace Cert.Reference3Ideal.Proj
open Cert.Reference3Ideal Cert.Reference3Ideal.Gen Cert.Proj
open Idealize.ShloMosaic Idealize.ShloMosaic.TcCoe Idealize.SL.Sem

variable (m : (ℓ : Loc nD τ sig) → Buf (Elt Ideal) ℓ) (c : Dev nD)

/-- Argument 0, an array of extended reals. -/
def arg0 : FVec Ideal S4x4096x1024 .f32 := m ((c.tc : Thread nD τ).loc main_arg0)
/-- Argument 1, an array of extended reals. -/
def arg1 : FVec Ideal S1024x1696 .f32 := m ((c.tc : Thread nD τ).loc main_arg1)
/-- Argument 2, an array of extended reals. -/
def arg2 : FVec Ideal S384 .f32 := m ((c.tc : Thread nD τ).loc main_arg2)
/-- Argument 3, an array of extended reals. -/
def arg3 : FVec Ideal S384x8x96 .f32 := m ((c.tc : Thread nD τ).loc main_arg3)
/-- Argument 4, an array of extended reals. -/
def arg4 : FVec Ideal S256 .f32 := m ((c.tc : Thread nD τ).loc main_arg4)
/-- Argument 5, an array of extended reals. -/
def arg5 : FVec Ideal S256x8x64 .f32 := m ((c.tc : Thread nD τ).loc main_arg5)
/-- Argument 6, an array of extended reals. -/
def arg6 : FVec Ideal S256x8x64 .f32 := m ((c.tc : Thread nD τ).loc main_arg6)

/-- The token at position `s` of sequence `b`. -/
def token (b : Fin 4) (s : Fin 4096) (d : Fin 1024) : EReal := arg0 m c (ix3 b s d)

/-- The weights the reference is given. -/
def weights : Weights where
  w d j := arg1 m c (ix2 d j)
  qg l := arg2 m c (ix1 l)
  uq l h e := arg3 m c (ix3 l h e)
  kg k := arg4 m c (ix1 k)
  uk k h e := arg5 m c (ix3 k h e)
  uv k h e := arg6 m c (ix3 k h e)

/-- The combined projection of every token. -/
def cols : FVec Ideal S4x4096x1696 .f32 :=
  Host.dotGeneral (F := Ideal) dot_S4x4096x1024_S1024x1696_S4x4096x1696_2_0_01_1_n_n none (arg0 m c) (arg1 m c)

theorem cols_apply (b : Fin 4) (s : Fin 4096) (j : Fin 1696) : cols m c (ix3 b s j) = col (weights m c) (token m c b s) j := by
  unfold cols
  pointwise
  rfl

/-- The keys' and values' latent. -/
def latent : FVec Ideal S4x4096x256 .f32 :=
  mulf (mulf (extractStridedSlice S4x4096x256 ![0, 0, 384] (cols m c) slices_S4x4096x1696_S4x4096x256_0_0_384) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 384] (cols m c) slices_S4x4096x1696_S4x4096x256_0_0_384) (extractStridedSlice S4x4096x256 ![0, 0, 384] (cols m c) slices_S4x4096x1696_S4x4096x256_0_0_384)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 (arg4 m c)))

theorem latent_apply (b : Fin 4) (s : Fin 4096) (k : Fin 256) : latent m c (ix3 b s k) = kvlat (weights m c) (token m c b s) k := by
  unfold latent
  pointwise
  simp only [cols_apply]
  rfl

/-- The queries' latent. -/
def qlatent : FVec Ideal S4x4096x384 .f32 :=
  mulf (mulf (extractStridedSlice S4x4096x384 ![0, 0, 0] (cols m c) slices_S4x4096x1696_S4x4096x384_0_0_0) (broadcastInDim S4x4096x384 ![0, 1, 2] bcast_S4x4096x1_S4x4096x384_0_1_2 (Host.rsqrt (addf (Host.divf (broadcastInDim S4x4096x1 ![0, 1] bcast_S4x4096_S4x4096x1_0_1 (Host.reduceAdd (mulf (extractStridedSlice S4x4096x384 ![0, 0, 0] (cols m c) slices_S4x4096x1696_S4x4096x384_0_0_0) (extractStridedSlice S4x4096x384 ![0, 0, 0] (cols m c) slices_S4x4096x1696_S4x4096x384_0_0_0)) (constant S_ .f32 0x00000000#32) reducesTo_S4x4096x384_S4x4096_d2 h_S_)) (broadcastInDim S4x4096x1 ![] bcast_S_S4x4096x1 (constant S_ .f32 0x43C00000#32))) (broadcastInDim S4x4096x1 ![] bcast_S_S4x4096x1 (constant S_ .f32 0x358637BD#32)))))) (broadcastInDim S4x4096x384 ![0, 1, 2] bcast_S1x1x384_S4x4096x384_0_1_2 (broadcastInDim S1x1x384 ![2] bcast_S384_S1x1x384_2 (arg2 m c)))

theorem qlatent_apply (b : Fin 4) (s : Fin 4096) (k : Fin 384) : qlatent m c (ix3 b s k) = qlat (weights m c) (token m c b s) k := by
  unfold qlatent
  pointwise
  simp only [cols_apply]
  rfl

/-- The queries of every token and head. -/
def queries : FVec Ideal S4x4096x8x96 .f32 :=
  Host.dotGeneral (F := Ideal) dot_S4x4096x384_S384x8x96_S4x4096x8x96_2_0_01_12_n_n none (qlatent m c) (arg3 m c)

theorem queries_apply (b : Fin 4) (s : Fin 4096) (h : Fin 8) (e : Fin 96) :
    queries m c (ix4 b s h e) = query (weights m c) (token m c b s) h e := by
  unfold queries
  pointwise
  simp only [qlatent_apply]
  rfl

/-- The unrotated columns of the keys. -/
def keys : FVec Ideal S4x4096x8x64 .f32 :=
  Host.dotGeneral (F := Ideal) dot_S4x4096x256_S256x8x64_S4x4096x8x64_2_0_01_12_n_n none (latent m c) (arg5 m c)

theorem keys_apply (b : Fin 4) (s : Fin 4096) (h : Fin 8) (e : Fin 64) :
    keys m c (ix4 b s h e) = ∑ k, kvlat (weights m c) (token m c b s) k * (weights m c).uk k h e := by
  unfold keys
  pointwise
  simp only [latent_apply]
  rfl

/-- The values of every token and head. -/
def values : FVec Ideal S4x4096x8x64 .f32 :=
  Host.dotGeneral (F := Ideal) dot_S4x4096x256_S256x8x64_S4x4096x8x64_2_0_01_12_n_n none (latent m c) (arg6 m c)

theorem values_apply (b : Fin 4) (s : Fin 4096) (h : Fin 8) (e : Fin 64) :
    values m c (ix4 b s h e) = value (weights m c) (token m c b s) h e := by
  unfold values
  pointwise
  simp only [latent_apply]
  rfl

/-- The angle of every position and frequency. -/
def ang : FVec Ideal S4096x16 .f32 :=
  (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.negf (Host.divf (mulf (sitofp .f32 (iotaInDim S16 32 0)) (broadcastInDim S16 ![] bcast_S_S16 (constant S_ .f32 0x40000000#32))) (broadcastInDim S16 ![] bcast_S_S16 (constant S_ .f32 0x42000000#32))))))))

/-- The rotary keys, rotated. -/
def ropes : FVec Ideal S4x4096x32 .f32 :=
  concatenate S4x4096x32 2 [
    ⟨S4x4096x16, (subf (mulf (extractStridedSlice S4x4096x16 ![0, 0, 0] (extractStridedSlice S4x4096x32 ![0, 0, 640] (cols m c) slices_S4x4096x1696_S4x4096x32_0_0_640) slices_S4x4096x32_S4x4096x16_0_0_0)
        (broadcastInDim S4x4096x16 ![0, 1, 2] bcast_S1x4096x16_S4x4096x16_0_1_2 (broadcastInDim S1x4096x16 ![1, 2] bcast_S4096x16_S1x4096x16_1_2 (Host.cos ang))))
      (mulf (extractStridedSlice S4x4096x16 ![0, 0, 16] (extractStridedSlice S4x4096x32 ![0, 0, 640] (cols m c) slices_S4x4096x1696_S4x4096x32_0_0_640) slices_S4x4096x32_S4x4096x16_0_0_16)
        (broadcastInDim S4x4096x16 ![0, 1, 2] bcast_S1x4096x16_S4x4096x16_0_1_2 (broadcastInDim S1x4096x16 ![1, 2] bcast_S4096x16_S1x4096x16_1_2 (Host.sin ang)))) : FVec Ideal S4x4096x16 .f32)⟩,
    ⟨S4x4096x16, (addf (mulf (extractStridedSlice S4x4096x16 ![0, 0, 16] (extractStridedSlice S4x4096x32 ![0, 0, 640] (cols m c) slices_S4x4096x1696_S4x4096x32_0_0_640) slices_S4x4096x32_S4x4096x16_0_0_16)
        (broadcastInDim S4x4096x16 ![0, 1, 2] bcast_S1x4096x16_S4x4096x16_0_1_2 (broadcastInDim S1x4096x16 ![1, 2] bcast_S4096x16_S1x4096x16_1_2 (Host.cos ang))))
      (mulf (extractStridedSlice S4x4096x16 ![0, 0, 0] (extractStridedSlice S4x4096x32 ![0, 0, 640] (cols m c) slices_S4x4096x1696_S4x4096x32_0_0_640) slices_S4x4096x32_S4x4096x16_0_0_0)
        (broadcastInDim S4x4096x16 ![0, 1, 2] bcast_S1x4096x16_S4x4096x16_0_1_2 (broadcastInDim S1x4096x16 ![1, 2] bcast_S4096x16_S1x4096x16_1_2 (Host.sin ang)))) : FVec Ideal S4x4096x16 .f32)⟩]
    concatenates_S4x4096x16_S4x4096x16_S4x4096x32_d2

theorem ropes_apply (b : Fin 4) (s : Fin 4096) (i : Fin 32) :
    ropes m c (ix3 b s i) = rot s.val (krope (weights m c) (token m c b s)) i := by
  unfold ropes ang
  pointwise
  simp only [cols_apply]
  unfold rot krope angle
  split
  · simp only [Nat.add_comm 16]
  · simp only [show 16 + (i.val - 16) = i.val by omega]

/-- The queries' rotary columns, rotated. -/
def qropes : FVec Ideal S4x4096x8x32 .f32 :=
  concatenate S4x4096x8x32 3 [
    ⟨S4x4096x8x16, (subf (mulf (extractStridedSlice S4x4096x8x16 ![0, 0, 0, 0] (extractStridedSlice S4x4096x8x32 ![0, 0, 0, 64] (queries m c) slices_S4x4096x8x96_S4x4096x8x32_0_0_0_64) slices_S4x4096x8x32_S4x4096x8x16_0_0_0_0)
        (broadcastInDim S4x4096x8x16 ![0, 1, 2, 3] bcast_S1x4096x1x16_S4x4096x8x16_0_1_2_3 (broadcastInDim S1x4096x1x16 ![1, 3] bcast_S4096x16_S1x4096x1x16_1_3 (Host.cos ang))))
      (mulf (extractStridedSlice S4x4096x8x16 ![0, 0, 0, 16] (extractStridedSlice S4x4096x8x32 ![0, 0, 0, 64] (queries m c) slices_S4x4096x8x96_S4x4096x8x32_0_0_0_64) slices_S4x4096x8x32_S4x4096x8x16_0_0_0_16)
        (broadcastInDim S4x4096x8x16 ![0, 1, 2, 3] bcast_S1x4096x1x16_S4x4096x8x16_0_1_2_3 (broadcastInDim S1x4096x1x16 ![1, 3] bcast_S4096x16_S1x4096x1x16_1_3 (Host.sin ang)))) : FVec Ideal S4x4096x8x16 .f32)⟩,
    ⟨S4x4096x8x16, (addf (mulf (extractStridedSlice S4x4096x8x16 ![0, 0, 0, 16] (extractStridedSlice S4x4096x8x32 ![0, 0, 0, 64] (queries m c) slices_S4x4096x8x96_S4x4096x8x32_0_0_0_64) slices_S4x4096x8x32_S4x4096x8x16_0_0_0_16)
        (broadcastInDim S4x4096x8x16 ![0, 1, 2, 3] bcast_S1x4096x1x16_S4x4096x8x16_0_1_2_3 (broadcastInDim S1x4096x1x16 ![1, 3] bcast_S4096x16_S1x4096x1x16_1_3 (Host.cos ang))))
      (mulf (extractStridedSlice S4x4096x8x16 ![0, 0, 0, 0] (extractStridedSlice S4x4096x8x32 ![0, 0, 0, 64] (queries m c) slices_S4x4096x8x96_S4x4096x8x32_0_0_0_64) slices_S4x4096x8x32_S4x4096x8x16_0_0_0_0)
        (broadcastInDim S4x4096x8x16 ![0, 1, 2, 3] bcast_S1x4096x1x16_S4x4096x8x16_0_1_2_3 (broadcastInDim S1x4096x1x16 ![1, 3] bcast_S4096x16_S1x4096x1x16_1_3 (Host.sin ang)))) : FVec Ideal S4x4096x8x16 .f32)⟩]
    concatenates_S4x4096x8x16_S4x4096x8x16_S4x4096x8x32_d3

theorem qropes_apply (b : Fin 4) (s : Fin 4096) (h : Fin 8) (i : Fin 32) : qropes m c (ix4 b s h i)
    = rot s.val (fun i => query (weights m c) (token m c b s) h ⟨64 + i.val, by omega⟩) i := by
  unfold qropes ang
  pointwise
  simp only [queries_apply]
  unfold rot angle
  split
  · simp only [Nat.add_comm 16]
  · simp only [show 16 + (i.val - 16) = i.val by omega]

theorem rope_apply (b : Fin 4) (s : Fin 4096) (r : Fin 128) :
    Value.res_main_v93 (F := Ideal) m c (ix3 b s r) = ropeLane (weights m c) (token m c b s) s.val r := by
  show concatenate S4x4096x128 2 [
    ⟨S4x4096x64, (broadcastInDim S4x4096x64 ![] bcast_S_S4x4096x64 (constant S_ .f32 0x00000000#32) : FVec Ideal S4x4096x64 .f32)⟩,
    ⟨S4x4096x32, ropes m c⟩,
    ⟨S4x4096x32, (broadcastInDim S4x4096x32 ![] bcast_S_S4x4096x32 (constant S_ .f32 0x00000000#32) : FVec Ideal S4x4096x32 .f32)⟩]
    concatenates_S4x4096x64_S4x4096x32_S4x4096x32_S4x4096x128_d2 (ix3 b s r) = _
  pointwise
  simp only [ropes_apply]
  unfold ropeLane lanes
  repeat' split
  all_goals first | rfl | omega

theorem key_apply (b : Fin 4) (h : Fin 8) (s : Fin 4096) (r : Fin 128) :
    Value.res_main_v100 (F := Ideal) m c (ix4 b h s r) = keyLane (weights m c) (token m c b s) s.val h r := by
  show truncf .bf16 (transpose S4x8x4096x128 [0, 2, 1, 3] (concatenate S4x4096x8x128 3 [
    ⟨S4x4096x8x64, keys m c⟩,
    ⟨S4x4096x8x32, (broadcastInDim S4x4096x8x32 ![0, 1, 2, 3] bcast_S4x4096x1x32_S4x4096x8x32_0_1_2_3
      (broadcastInDim S4x4096x1x32 ![0, 1, 3] bcast_S4x4096x32_S4x4096x1x32_0_1_3 (ropes m c)) : FVec Ideal S4x4096x8x32 .f32)⟩,
    ⟨S4x4096x8x32, (broadcastInDim S4x4096x8x32 ![] bcast_S_S4x4096x8x32 (constant S_ .f32 0x00000000#32) : FVec Ideal S4x4096x8x32 .f32)⟩]
    concatenates_S4x4096x8x64_S4x4096x8x32_S4x4096x8x32_S4x4096x8x128_d3) transposes_S4x4096x8x128_S4x8x4096x128_0_2_1_3) bitsLt_bf16_f32 (ix4 b h s r) = _
  pointwise
  simp only [ropes_apply, keys_apply]
  unfold keyLane lanes
  repeat' split
  all_goals first | rfl | omega

theorem query_apply (b : Fin 4) (h : Fin 8) (n : Fin 8) (r : Fin 128) (p : Fin 512) :
    Value.res_main_v98 (F := Ideal) m c (ix5 b h n r p)
      = queryLane (weights m c) (token m c b ⟨512 * n.val + p.val, by omega⟩) (512 * n.val + p.val) h r := by
  show truncf .bf16 (transpose S4x8x8x128x512 [0, 3, 1, 4, 2] (shapeCast S4x8x512x8x128 (mulf (concatenate S4x4096x8x128 3 [
    ⟨S4x4096x8x64, (extractStridedSlice S4x4096x8x64 ![0, 0, 0, 0] (queries m c) slices_S4x4096x8x96_S4x4096x8x64_0_0_0_0 : FVec Ideal S4x4096x8x64 .f32)⟩,
    ⟨S4x4096x8x32, qropes m c⟩,
    ⟨S4x4096x8x32, (broadcastInDim S4x4096x8x32 ![] bcast_S_S4x4096x8x32 (constant S_ .f32 0x00000000#32) : FVec Ideal S4x4096x8x32 .f32)⟩]
    concatenates_S4x4096x8x64_S4x4096x8x32_S4x4096x8x32_S4x4096x8x128_d3 : FVec Ideal S4x4096x8x128 .f32)
    (broadcastInDim S4x4096x8x128 ![] bcast_S_S4x4096x8x128 (constant S_ .f32 0x3E16C740#32))) shapeCasts_S4x4096x8x128_S4x8x512x8x128)
    transposes_S4x8x512x8x128_S4x8x8x128x512_0_3_1_4_2) bitsLt_bf16_f32 (ix5 b h n r p) = _
  pointwise
  simp only [qropes_apply, queries_apply, Nat.mul_comm _ 512]
  unfold queryLane lanes
  repeat' split
  all_goals first | rfl | omega

/-- The values' array in the call's layout. -/
def vt : FVec Ideal S4x4x8x128x512 .bf16 :=
  truncf .bf16 (transpose S4x4x8x128x512 [0, 3, 1, 4, 2] (shapeCast S4x8x512x4x128 (values m c) shapeCasts_S4x4096x8x64_S4x8x512x4x128)
    transposes_S4x8x512x4x128_S4x4x8x128x512_0_3_1_4_2) bitsLt_bf16_f32

theorem vt_apply (b : Fin 4) (g : Fin 4) (n : Fin 8) (r : Fin 128) (p : Fin 512) : vt m c (ix5 b g n r p)
    = value (weights m c) (token m c b ⟨512 * n.val + p.val, by omega⟩) ⟨2 * g.val + r.val / 64, by omega⟩ ⟨r.val % 64, by omega⟩ := by
  unfold vt
  pointwise
  simp only [values_apply, Nat.mul_comm _ 512, Nat.mul_comm _ 2]

/-- The recurrence's input. -/
def recs : FVec Ideal S4x4096x512 .f32 := extractStridedSlice S4x4096x512 ![0, 0, 672] (cols m c) slices_S4x4096x1696_S4x4096x512_0_0_672

theorem rec_apply (b : Fin 4) (s : Fin 4096) (j : Fin 512) :
    recs m c (ix3 b s j)
      = col (weights m c) (token m c b s) ⟨672 + j.val, by omega⟩ := by
  unfold recs
  pointwise
  exact cols_apply m c b s _

/-- The recurrence's gate. -/
def gates : FVec Ideal S4x4096x512 .f32 := extractStridedSlice S4x4096x512 ![0, 0, 1184] (cols m c) slices_S4x4096x1696_S4x4096x512_0_0_1184

theorem gate_apply (b : Fin 4) (s : Fin 4096) (j : Fin 512) :
    gates m c (ix3 b s j)
      = col (weights m c) (token m c b s) ⟨1184 + j.val, by omega⟩ := by
  unfold gates
  pointwise
  exact cols_apply m c b s _

end Cert.Reference3Ideal.Proj
end
-- ==== Proof.ProjClaims.lean ====
module
public import proofs.«01_k».proof.Defs
public import proofs.«01_k».proof.Proof.Gen.Kernel3.Frame
public import proofs.«01_k».proof.Proof.ProjValue
public import proofs.«01_k».proof.Proof.ProjReference
public import Idealize.ShloMosaic.Init

/-! # The projection's claims

The kernel's seven result arrays and the reference's are the same functions of arguments that agree. -/

@[expose] public section
set_option maxRecDepth 16384
noncomputable section
open Idealize.ShloMosaic Idealize.ShloMosaic.TcCoe Idealize.SL.Sem

namespace Cert.ProjClaims
open Cert.Kernel3Ideal.Proj Cert.Proj

theorem frame_kernel : @Cert.quiescent_Kernel3 Cert.Kernel3.Gen.facts := fun m ρ _ => Cert.Kernel3.Gen.frame m ρ
theorem frame_ideal : @Cert.quiescent_Kernel3Ideal Cert.Kernel3Ideal.Gen.facts := fun m ρ _ => Cert.Kernel3Ideal.Gen.frame m ρ
theorem frame_reference : @Cert.quiescent_Reference3Ideal Cert.Reference3Ideal.Gen.facts := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem ext3 {a b d : ℕ} {F G : (Shape.mk 3 ![a, b, d]).Idx → EReal}
    (h : ∀ (p : Fin a) (q : Fin b) (r : Fin d), F (ix3 p q r) = G (ix3 p q r)) : F = G :=
  funext fun i => by
    rw [show i = ix3 (i 0) (i 1) (i 2) by funext y; fin_cases y <;> rfl]
    exact h _ _ _

theorem ext4 {a b d e : ℕ} {F G : (Shape.mk 4 ![a, b, d, e]).Idx → EReal}
    (h : ∀ (p : Fin a) (q : Fin b) (r : Fin d) (s : Fin e), F (ix4 p q r s) = G (ix4 p q r s)) : F = G :=
  funext fun i => by
    rw [show i = ix4 (i 0) (i 1) (i 2) (i 3) by funext y; fin_cases y <;> rfl]
    exact h _ _ _ _

theorem ext5 {a b d e f : ℕ} {F G : (Shape.mk 5 ![a, b, d, e, f]).Idx → EReal}
    (h : ∀ (p : Fin a) (q : Fin b) (r : Fin d) (s : Fin e) (t : Fin f), F (ix5 p q r s t) = G (ix5 p q r s t)) : F = G :=
  funext fun i => by
    rw [show i = ix5 (i 0) (i 1) (i 2) (i 3) (i 4) by funext y; fin_cases y <;> rfl]
    exact h _ _ _ _ _

/-! ## The reference's arrays are the kernel's, over the same weights and tokens -/

section
variable {m : (ℓ : Loc Cert.Kernel3Ideal.nD Cert.Kernel3Ideal.τ Cert.Kernel3Ideal.sig) → Buf (Elt Ideal) ℓ}
  {m' : (ℓ : Loc Cert.Reference3Ideal.nD Cert.Reference3Ideal.τ Cert.Reference3Ideal.sig) → Buf (Elt Ideal) ℓ} {c : Dev 1}
  (hw : Cert.Reference3Ideal.Proj.weights m' c = weights m c) (hs : ∀ b s, Cert.Reference3Ideal.Proj.token m' c b s = token m c b s)
include hw hs

theorem queries_eq : Cert.Reference3Ideal.Value.res_main_v98 (F := Ideal) m' c = queryArr m c := by
  refine ext5 fun p q r s t => (Cert.Reference3Ideal.Proj.query_apply m' c p q r s t).trans ?_
  rw [hw, hs]
  rfl

theorem keys_eq : Cert.Reference3Ideal.Value.res_main_v100 (F := Ideal) m' c = keyArr m c := by
  refine ext4 fun p q r s => (Cert.Reference3Ideal.Proj.key_apply m' c p q r s).trans ?_
  rw [hw, hs]
  rfl

theorem values_eq : Cert.Reference3Ideal.Proj.vt m' c = valueArr m c := by
  refine ext5 fun p q r s t => (Cert.Reference3Ideal.Proj.vt_apply m' c p q r s t).trans ?_
  rw [hw, hs]
  rfl

theorem latents_eq : Cert.Reference3Ideal.Proj.latent m' c = latentArr m c := by
  refine ext3 fun p q r => (Cert.Reference3Ideal.Proj.latent_apply m' c p q r).trans ?_
  rw [hw, hs]
  rfl

theorem ropes_eq : Cert.Reference3Ideal.Value.res_main_v93 (F := Ideal) m' c = ropeArr m c := by
  refine ext3 fun p q r => (Cert.Reference3Ideal.Proj.rope_apply m' c p q r).trans ?_
  rw [hw, hs]
  rfl

theorem recs_eq : Cert.Reference3Ideal.Proj.recs m' c = recArr m c := by
  refine ext3 fun p q r => (Cert.Reference3Ideal.Proj.rec_apply m' c p q r).trans ?_
  rw [hw, hs]
  rfl

theorem gates_eq : Cert.Reference3Ideal.Proj.gates m' c = gateArr m c := by
  refine ext3 fun p q r => (Cert.Reference3Ideal.Proj.gate_apply m' c p q r).trans ?_
  rw [hw, hs]
  rfl

end

theorem algebraic : @Cert.algebraic_Kernel3Ideal_Reference3Ideal Cert.Kernel3Ideal.Gen.facts Cert.Reference3Ideal.Gen.facts := by
  intro m ρ m' ρ' _ hagree
  refine ⟨fun c => queryArr m c, fun c => keyArr m c, fun c => valueArr m c, fun c => latentArr m c, fun c => ropeArr m c,
    fun c => recArr m c, fun c => gateArr m c,
    (θ_run Cert.Kernel3Ideal.defs _ _).mono (fun r h c => ?_) (Cert.Kernel3Ideal.Value.run_blocks (F := Ideal) m ρ), ?_⟩
  · obtain ⟨h0, h1, h2, h3, h4, h5, h6, h7⟩ := h c
    exact ⟨h0.trans (final11 m c), h1.trans (final12 m c), h2.trans (final13 m c), h3.trans (final14 m c), h4.trans (final15 m c),
      h5.trans (final16 m c), h6.trans (final17 m c), h7⟩
  refine (θ_run Cert.Reference3Ideal.defs _ _).mono (fun r h c => ?_) (Cert.Reference3Ideal.Value.run (F := Ideal) m' ρ')
  obtain ⟨h0, h1, h2, h3, h4, h5, h6, h7⟩ := h c
  obtain ⟨e0, e1, e2, e3, e4, e5, e6⟩ := hagree c
  have hw : Cert.Reference3Ideal.Proj.weights m' c = weights m c := by
    unfold Cert.Reference3Ideal.Proj.weights weights Cert.Reference3Ideal.Proj.arg1 Cert.Reference3Ideal.Proj.arg2
      Cert.Reference3Ideal.Proj.arg3 Cert.Reference3Ideal.Proj.arg4 Cert.Reference3Ideal.Proj.arg5 Cert.Reference3Ideal.Proj.arg6
    rw [e1, e2, e3, e4, e5, e6]
    rfl
  have hs : ∀ b s, Cert.Reference3Ideal.Proj.token m' c b s = token m c b s := by
    intro b s
    unfold Cert.Reference3Ideal.Proj.token token Cert.Reference3Ideal.Proj.arg0
    rw [e0]
  exact ⟨h0.trans (queries_eq hw hs), h1.trans (keys_eq hw hs), h2.trans (values_eq hw hs), h3.trans (latents_eq hw hs),
    h4.trans (ropes_eq hw hs), h5.trans (recs_eq hw hs), h6.trans (gates_eq hw hs), h7⟩

end Cert.ProjClaims
end
-- ==== Proof.SampleHost.lean ====
module
public import proofs.«01_k».proof.Proof.Gen.Kernel4Ideal.Frame
public import proofs.«01_k».proof.Proof.ProjHost

/-! # What the samples' projection's host code prepares

The input weights are laid out as for the prompts; the tables have the one position 16384 in every row. -/

@[expose] public section
set_option maxRecDepth 16384
set_option Elab.async false
noncomputable section

namespace Cert.Kernel4Ideal.Sample
open Cert.Kernel4Ideal Cert.Kernel4Ideal.Gen Cert.Proj
open Idealize.ShloMosaic Idealize.ShloMosaic.TcCoe Idealize.ShloMosaic.Tactic Idealize.SL Idealize.SL.Sem

variable (m : (ℓ : Loc nD τ sig) → Buf (Elt Ideal) ℓ) (c : Dev nD)

/-- The samples and the weights the kernel's program is given. -/
def arg0 : FVec Ideal S128x1x1024 .f32 := m ((c : Thread nD τ).loc main_arg0)
@[inherit_doc arg0] def arg1 : FVec Ideal S1024x1696 .f32 := m ((c : Thread nD τ).loc main_arg1)
@[inherit_doc arg0] def arg4 : FVec Ideal S256 .f32 := m ((c : Thread nD τ).loc main_arg4)

set_option maxHeartbeats 8000000 in
theorem v10_eq : (V m c main_v10 : Vec Ideal S1024x1920 .bf16) = Kernel3Ideal.Proj.wide (arg1 m c) := by
  show StableHlo.after hostOps0 (fun b => m (c, b)) main_v10 = _
  after_results_simp
  try dsimp only [Matrix.cons_val]
  try after_results_simp
  rfl

theorem v34_apply (l : Fin 256) : (V m c main_v34 : Vec Ideal S1x256 .f32) (ix2 (0 : Fin 1) l) = arg4 m c (ix1 l) := by
  entry_read
  pointwise
  rfl

theorem v35_apply (p : Fin 128) (d : Fin 1024) :
    (V m c main_v35 : Vec Ideal S1x128x1024 .f32) (ix3 (0 : Fin 1) p d) = arg0 m c (ix3 p (0 : Fin 1) d) := by
  entry_read
  pointwise
  rfl

/-- The angle of the samples' position and every frequency, a row for each sample. -/
def ang : FVec Ideal S128x16 .f32 :=
  mulf (broadcastInDim S128x16 ![0, 1] bcast_S128x1_S128x16_0_1 (broadcastInDim S128x1 ![0] bcast_S128_S128x1_0
      (sitofp .f32 (broadcastInDim S128 ![] bcast_S_S128 (constantI S_ 32 16384#32)))))
    (broadcastInDim S128x16 ![0, 1] bcast_S1x16_S128x16_0_1 (broadcastInDim S1x16 ![1] bcast_S16_S1x16_1
      (Host.powf (broadcastInDim S16 ![] bcast_S_S16 (constant S_ .f32 0x461C4000#32))
        (Host.negf (Host.divf (mulf (sitofp .f32 (iotaInDim S16 32 0)) (broadcastInDim S16 ![] bcast_S_S16 (constant S_ .f32 0x40000000#32)))
          (broadcastInDim S16 ![] bcast_S_S16 (constant S_ .f32 0x42000000#32)))))))

/-- The cosines' table. -/
def cosines : FVec Ideal S128x128 .f32 :=
  concatenate S128x128 1 [⟨S128x64, (broadcastInDim S128x64 ![] bcast_S_S128x64 (constant S_ .f32 0x3F800000#32) : FVec Ideal S128x64 .f32)⟩, ⟨S128x16, Host.cos ang⟩,
    ⟨S128x16, Host.cos ang⟩, ⟨S128x32, (broadcastInDim S128x32 ![] bcast_S_S128x32 (constant S_ .f32 0x00000000#32) : FVec Ideal S128x32 .f32)⟩]
    concatenates_S128x64_S128x16_S128x16_S128x32_S128x128_d1

/-- The sines' table. -/
def sines : FVec Ideal S128x128 .f32 :=
  concatenate S128x128 1 [⟨S128x64, (broadcastInDim S128x64 ![] bcast_S_S128x64 (constant S_ .f32 0x00000000#32) : FVec Ideal S128x64 .f32)⟩,
    ⟨S128x16, Host.negf (Host.sin ang)⟩, ⟨S128x16, Host.sin ang⟩,
    ⟨S128x32, (broadcastInDim S128x32 ![] bcast_S_S128x32 (constant S_ .f32 0x00000000#32) : FVec Ideal S128x32 .f32)⟩]
    concatenates_S128x64_S128x16_S128x16_S128x32_S128x128_d1

set_option maxHeartbeats 8000000 in
theorem v55_eq : (V m c main_v55 : Vec Ideal S128x128 .f32) = cosines := by
  show StableHlo.after hostOps0 (fun b => m (c, b)) main_v55 = _
  after_results_simp
  try dsimp only [Matrix.cons_val]
  try after_results_simp
  rfl

set_option maxHeartbeats 8000000 in
theorem v59_eq : (V m c main_v59 : Vec Ideal S128x128 .f32) = sines := by
  show StableHlo.after hostOps0 (fun b => m (c, b)) main_v59 = _
  after_results_simp
  try dsimp only [Matrix.cons_val]
  try after_results_simp
  rfl

set_option maxHeartbeats 8000000 in
theorem cosines_apply (p r : Fin 128) : cosines (ix2 p r) = cosLane 16384 r := by
  unfold cosines ang
  pointwise
  unfold cosLane lanes angle
  repeat' split
  all_goals try dsimp only at *
  all_goals repeat' split
  all_goals try dsimp only at *
  all_goals first | rfl | omega | (exfalso; omega) | (rw [Nat.mod_eq_of_lt (by omega)]) | (rw [show (r.val - 64) % 16 = r.val - 64 - 16 from by omega])

set_option maxHeartbeats 8000000 in
theorem sines_apply (p r : Fin 128) : sines (ix2 p r) = sinLane 16384 r := by
  unfold sines ang
  pointwise
  unfold sinLane lanes angle
  repeat' split
  all_goals try dsimp only at *
  all_goals repeat' split
  all_goals try dsimp only at *
  all_goals first | rfl | omega | (exfalso; omega) | (rw [Nat.mod_eq_of_lt (by omega)]) | (rw [show (r.val - 64) % 16 = r.val - 64 - 16 from by omega])

end Cert.Kernel4Ideal.Sample
end
-- ==== Proof.SampleRows.lean ====
module
public import proofs.«01_k».proof.Proof.ProjSpec
public import proofs.«01_k».proof.Proof.Gen.Kernel4Ideal.Value
public import Idealize.ShloMosaic.Lib.Pipeline.ValueKit

/-! # The samples' rows

The kernel's arithmetic at one sample, for arbitrary blocks. -/

@[expose] public section
set_option maxRecDepth 16384
noncomputable section
open Idealize.ShloMosaic Idealize.ShloMosaic.TcCoe Idealize.SL.Sem

namespace Cert.Kernel4Ideal.Sample
open Cert.Kernel4Ideal Cert.Kernel4Ideal.Gen Cert.Proj

theorem pay6_apply (P0 : Vec Ideal S1x128x1024 .f32) (P1 : Vec Ideal S1024x1920 .bf16) (p : Fin 128) (j : Fin 1920) :
    k0_pay6 P0 P1 (ix2 p j) = ∑ d : Fin 1024, P0 (ix3 (0 : Fin 1) p d) * P1 (ix2 d j) := by
  pointwise [k0_pay6]

theorem pay20_apply (C : FVec Ideal S128x1920 .f32) (P2 : Vec Ideal S1x256 .f32) (p : Fin 128) (k : Fin 256) :
    k0_pay20 C P2 (ix2 p k) = normed (Ideal.ofBits .f32 0x43800000#32) (fun i : Fin 256 => C (ix2 p ⟨384 + i.val, by omega⟩))
      (fun i => P2 (ix2 (0 : Fin 1) i)) k := by
  pointwise [k0_pay20]
  rfl

theorem ix14_0 (p : Fin 128) (k : Fin 256) : Value.ix14_0 (ix3 (0 : Fin 1) p k) = ix2 p ⟨k.val + 384, by omega⟩ := by
  funext b; fin_cases b <;> rfl
theorem ix14_2 (p : Fin 128) (k : Fin 256) : Value.ix14_2 (ix3 (0 : Fin 1) p k) = ix2 (0 : Fin 1) k := by
  funext b; fin_cases b <;> rfl
theorem ix15_0 (p r : Fin 128) : Value.ix15_0 (ix3 (0 : Fin 1) p r) = ix2 p ⟨r.val + 640, by omega⟩ := by
  funext b; fin_cases b <;> rfl
theorem ix15_1 (p r : Fin 128) : Value.ix15_1 (ix3 (0 : Fin 1) p r) = ix2 p r := by
  funext b; fin_cases b <;> rfl
theorem ix15_2 (p r : Fin 128) : Value.ix15_2 (ix3 (0 : Fin 1) p r) = ix2 p ⟨r.val + 768, by omega⟩ := by
  funext b; fin_cases b <;> rfl
theorem ix15_3 (p r : Fin 128) : Value.ix15_3 (ix3 (0 : Fin 1) p r) = ix2 p r := by
  funext b; fin_cases b <;> rfl

section Stores
variable (x0 : Vec Ideal S1x128x1024 .f32) (x1 x2 : Vec Ideal S128x128 .f32) (x3 x4 : Vec Ideal S128x128 .f32)
  (x5 : Vec Ideal S1024x1920 .bf16) (x6 : Vec Ideal S1x384 .f32) (x7 : Vec Ideal S2048x384 .bf16) (x8 : Vec Ideal S1x256 .f32)
  (x9 : Vec Ideal S256x1024 .bf16) (x10 : Vec Ideal S512x256 .bf16) (p : Fin 128)

theorem out14_apply (k : Fin 256) :
    out0_14 x0 x1 x2 x3 x4 x5 x6 x7 x8 x9 x10 (ix3 (0 : Fin 1) p k) = k0_pay20 (k0_pay6 x0 x5) x8 (ix2 p k) := by
  unfold_out out0_14
  simp (disch := decide) only [View.ld_unit_lit']
  refine (Value.canon14_eq x0 x5 x8 _).trans ?_
  pointwise [k0_pay20]
  rw [ix14_0, ix14_2, show (⟨k.val + 384, by omega⟩ : Fin 1920) = ⟨384 + k.val, by omega⟩ from Fin.ext (Nat.add_comm _ _)]

theorem out15_apply (r : Fin 128) :
    out0_15 x0 x1 x2 x3 x4 x5 x6 x7 x8 x9 x10 (ix3 (0 : Fin 1) p r)
      = k0_pay6 x0 x5 (ix2 p ⟨r.val + 640, by omega⟩) * x1 (ix2 p r) + k0_pay6 x0 x5 (ix2 p ⟨r.val + 768, by omega⟩) * x2 (ix2 p r) := by
  unfold_out out0_15
  simp (disch := decide) only [View.ld_unit_lit']
  refine (Value.canon15_eq x0 x5 x1 x2 _).trans ?_
  show k0_pay6 x0 x5 (Value.ix15_0 _) * x1 (Value.ix15_1 _) + k0_pay6 x0 x5 (Value.ix15_2 _) * x2 (Value.ix15_3 _) = _
  rw [ix15_0, ix15_1, ix15_2, ix15_3]

theorem out16_apply (j : Fin 512) :
    out0_16 x0 x1 x2 x3 x4 x5 x6 x7 x8 x9 x10 (ix3 (0 : Fin 1) p j) = k0_pay6 x0 x5 (ix2 p ⟨j.val + 896, by omega⟩) := by
  unfold_out out0_16
  simp (disch := decide) only [View.ld_unit_lit']
  exact (Value.canon16_eq x0 x5 _).trans rfl

theorem out17_apply (j : Fin 512) :
    out0_17 x0 x1 x2 x3 x4 x5 x6 x7 x8 x9 x10 (ix3 (0 : Fin 1) p j) = k0_pay6 x0 x5 (ix2 p ⟨j.val + 1408, by omega⟩) := by
  unfold_out out0_17
  simp (disch := decide) only [View.ld_unit_lit']
  exact (Value.canon17_eq x0 x5 _).trans rfl
end Stores

end Cert.Kernel4Ideal.Sample
end
-- ==== Proof.SampleValue.lean ====
module
public import proofs.«01_k».proof.Proof.SampleHost
public import proofs.«01_k».proof.Proof.SampleRows

/-! # The samples' projection's result arrays

Each input block at the array it is cut from; every entry stored, as the projection of its sample; and the arrays that are
left. -/

@[expose] public section
set_option maxRecDepth 16384
noncomputable section
open Idealize.ShloMosaic Idealize.ShloMosaic.TcCoe Idealize.ShloMosaic.Tactic Idealize.SL Idealize.SL.Sem
open Idealize.ShloMosaic.Pipeline (Dat Cfg Window)

namespace Cert.Kernel4Ideal.Sample
open Cert.Kernel4Ideal Cert.Kernel4Ideal.Gen Cert.Proj
open Cert.Kernel3Ideal.Proj (wide wide_latent wide_rope wide_turned wide_rec wide_gate)

theorem idx : ∀ t : Fin cfg0.N, win0_0.index t = ![0, 0, 0] ∧ win0_1.index t = ![0, 0] ∧ win0_2.index t = ![0, 0]
    ∧ win0_5.index t = ![0, 0] ∧ win0_8.index t = ![0, 0] :=
  (by decide +kernel : ∀ t : Fin grid0.N, _)

variable (m : (ℓ : Loc nD τ sig) → Buf (Elt Ideal) ℓ) (c : Dev nD) (t : Fin cfg0.N)

/-- A sample's token. -/
def token (p : Fin 128) (d : Fin 1024) : EReal := arg0 m c (ix3 p (0 : Fin 1) d)

/-- The weights the kernel's program is given. -/
def weights : Weights where
  w d j := arg1 m c (ix2 d j)
  qg l := m ((c : Thread nD τ).loc main_arg2) (ix1 l)
  uq l h e := m ((c : Thread nD τ).loc main_arg3) (ix3 l h e)
  kg k := arg4 m c (ix1 k)
  uk k h e := m ((c : Thread nD τ).loc main_arg5) (ix3 k h e)
  uv k h e := m ((c : Thread nD τ).loc main_arg6) (ix3 k h e)

theorem blk0 (p : Fin 128) (d : Fin 1024) : (iblk m c 0 t : Vec Ideal S1x128x1024 .f32) (ix3 (0 : Fin 1) p d) = token m c p d := by
  unfold token
  rw [← v35_apply m c]
  blk_ext [iblk, idx t]

theorem blk1 (p r : Fin 128) : (iblk m c 1 t : Vec Ideal S128x128 .f32) (ix2 p r) = cosLane 16384 r := by
  rw [← cosines_apply p, ← v55_eq m c]
  blk_ext [iblk, idx t]

theorem blk2 (p r : Fin 128) : (iblk m c 2 t : Vec Ideal S128x128 .f32) (ix2 p r) = sinLane 16384 r := by
  rw [← sines_apply p, ← v59_eq m c]
  blk_ext [iblk, idx t]

theorem blk5 (d : Fin 1024) (j : Fin 1920) : (iblk m c 5 t : Vec Ideal S1024x1920 .bf16) (ix2 d j) = wide (arg1 m c) (ix2 d j) := by
  rw [← v10_eq m c]
  blk_ext [iblk, idx t]

theorem blk8 (k : Fin 256) : (iblk m c 8 t : Vec Ideal S1x256 .f32) (ix2 (0 : Fin 1) k) = arg4 m c (ix1 k) := by
  rw [← v34_apply m c]
  blk_ext [iblk, idx t]

/-! ## The computed values -/

variable (p : Fin 128)

/-- The combined projection of the samples. -/
def cols : FVec Ideal S128x1920 .f32 := k0_pay6 (F := Ideal) (iblk m c 0 t) (iblk m c 5 t)

theorem cols_sum (j : Fin 1920) : cols m c t (ix2 p j) = ∑ d, token m c p d * wide (arg1 m c) (ix2 d j) := by
  unfold cols
  rw [pay6_apply]
  exact Finset.sum_congr rfl fun d _ => congrArg₂ (fun x y : EReal => x * y) (blk0 m c t p d) (blk5 m c t d j)

theorem cols_latent (j : Fin 640) : cols m c t (ix2 p ⟨j.val, by omega⟩) = col (weights m c) (token m c p) ⟨j.val, by omega⟩ := by
  rw [cols_sum]
  exact Finset.sum_congr rfl fun d _ => congrArg (fun y : EReal => token m c p d * y) (wide_latent _ d j)

theorem cols_rope (r : Fin 128) : cols m c t (ix2 p ⟨r.val + 640, by omega⟩)
    = lanes (fun _ => 0) (krope (weights m c) (token m c p)) r := by
  rw [cols_sum]
  simp only [wide_rope]
  rw [sum_lanes, sum_zero_lane]
  rfl

theorem cols_turned (r : Fin 128) : cols m c t (ix2 p ⟨r.val + 768, by omega⟩)
    = lanes (fun _ => 0) (turned (krope (weights m c) (token m c p))) r := by
  rw [cols_sum]
  simp only [wide_turned]
  rw [sum_lanes, sum_zero_lane, sum_turned]
  rfl

theorem cols_rec (j : Fin 512) : cols m c t (ix2 p ⟨j.val + 896, by omega⟩) = col (weights m c) (token m c p) ⟨672 + j.val, by omega⟩ := by
  rw [cols_sum]
  exact Finset.sum_congr rfl fun d _ => congrArg (fun y : EReal => token m c p d * y) (wide_rec _ d j)

theorem cols_gate (j : Fin 512) : cols m c t (ix2 p ⟨j.val + 1408, by omega⟩) = col (weights m c) (token m c p) ⟨1184 + j.val, by omega⟩ := by
  rw [cols_sum]
  exact Finset.sum_congr rfl fun d _ => congrArg (fun y : EReal => token m c p d * y) (wide_gate _ d j)

theorem latent_apply (k : Fin 256) : k0_pay20 (F := Ideal) (cols m c t) (iblk m c 8 t) (ix2 p k) = kvlat (weights m c) (token m c p) k := by
  rw [pay20_apply]
  unfold kvlat
  refine congrArg₂ (fun v g => normed _ v g k) (funext fun i => ?_) (funext fun i => blk8 m c t i)
  exact cols_latent m c t p ⟨384 + i.val, by omega⟩

theorem rotated (r : Fin 128) :
    cols m c t (ix2 p ⟨r.val + 640, by omega⟩) * (iblk m c 1 t : Vec Ideal S128x128 .f32) (ix2 p r)
      + cols m c t (ix2 p ⟨r.val + 768, by omega⟩) * (iblk m c 2 t : Vec Ideal S128x128 .f32) (ix2 p r)
      = ropeLane (weights m c) (token m c p) 16384 r := by
  rw [cols_rope, cols_turned, blk1, blk2, lanes_rot]
  rfl

/-! ## The result arrays -/

/-- The latents' array. -/
def latentArr : S1x128x256.Idx → EReal := fun i => kvlat (weights m c) (token m c (i 1)) (i 2)
/-- The rotary keys' array. -/
def ropeArr : S1x128x128.Idx → EReal := fun i => ropeLane (weights m c) (token m c (i 1)) 16384 (i 2)
/-- The recurrence's input. -/
def recArr : S1x128x512.Idx → EReal := fun i =>
  col (weights m c) (token m c (i 1)) ⟨672 + (i 2).val, by have h : (i 2).val < 512 := (i 2).isLt; omega⟩
/-- The recurrence's gate. -/
def gateArr : S1x128x512.Idx → EReal := fun i =>
  col (weights m c) (token m c (i 1)) ⟨1184 + (i 2).val, by have h : (i 2).val < 512 := (i 2).isLt; omega⟩

theorem placed : ∀ t : Fin grid0.N, cc0_transform_14 (grid0.coords t) = ![0, 0, 0] ∧ cc0_transform_15 (grid0.coords t) = ![0, 0, 0]
    ∧ cc0_transform_16 (grid0.coords t) = ![0, 0, 0] ∧ cc0_transform_17 (grid0.coords t) = ![0, 0, 0] := by decide +kernel

/-- An index of an array with one leading row. -/
theorem lead {b d : ℕ} (y : (Shape.mk 3 ![1, b, d]).Idx) : ∃ (p : Fin b) (r : Fin d), y = ix3 (0 : Fin 1) p r :=
  ⟨y 1, y 2, by
    funext a
    fin_cases a
    · exact Fin.ext (by have h : (y 0).val < 1 := (y 0).isLt; show (y 0).val = 0; omega)
    · rfl
    · rfl⟩

/-- The latents' array after the run. -/
theorem final14 : (dats m 0 c).arrAt 14 cfg0.N = latentArr m c := by
  refine (dats m 0 c).arrAt_eq_of_covers 14 _ (by decide +kernel) fun t _ y => ?_
  obtain ⟨p, r, rfl⟩ : ∃ (p : Fin 128) (r : Fin 256), y = ix3 (0 : Fin 1) p r := lead y
  have e : ((cfg0.win 14).blk t).view.emb (ix3 (0 : Fin 1) p r) = (ix3 (0 : Fin 1) p r : S1x128x256.Idx) := by
    funext a
    refine Fin.ext ?_
    show cc0_transform_14 (grid0.coords t) a * S1x128x256.size a + 1 * (ix3 (0 : Fin 1) p r a).val = _
    rw [(placed t).1]
    fin_cases a
    · rfl
    · show 0 * 128 + 1 * p.val = p.val; omega
    · show 0 * 256 + 1 * r.val = r.val; omega
  have f := congrFun (Value.flushed14 m c t) (ix3 (0 : Fin 1) p r)
  refine (f.trans ?_).trans (congrArg (latentArr m c) e.symm)
  exact (out14_apply _ _ _ _ _ _ _ _ _ _ _ p r).trans (latent_apply m c t p r)

/-- The rotary keys' array after the run. -/
theorem final15 : (dats m 0 c).arrAt 15 cfg0.N = ropeArr m c := by
  refine (dats m 0 c).arrAt_eq_of_covers 15 _ (by decide +kernel) fun t _ y => ?_
  obtain ⟨p, r, rfl⟩ : ∃ (p : Fin 128) (r : Fin 128), y = ix3 (0 : Fin 1) p r := lead y
  have e : ((cfg0.win 15).blk t).view.emb (ix3 (0 : Fin 1) p r) = (ix3 (0 : Fin 1) p r : S1x128x128.Idx) := by
    funext a
    refine Fin.ext ?_
    show cc0_transform_15 (grid0.coords t) a * S1x128x128.size a + 1 * (ix3 (0 : Fin 1) p r a).val = _
    rw [(placed t).2.1]
    fin_cases a
    · rfl
    · show 0 * 128 + 1 * p.val = p.val; omega
    · show 0 * 128 + 1 * r.val = r.val; omega
  have f := congrFun (Value.flushed15 m c t) (ix3 (0 : Fin 1) p r)
  refine (f.trans ?_).trans (congrArg (ropeArr m c) e.symm)
  exact (out15_apply _ _ _ _ _ _ _ _ _ _ _ p r).trans (rotated m c t p r)

/-- The recurrence input's array after the run. -/
theorem final16 : (dats m 0 c).arrAt 16 cfg0.N = recArr m c := by
  refine (dats m 0 c).arrAt_eq_of_covers 16 _ (by decide +kernel) fun t _ y => ?_
  obtain ⟨p, r, rfl⟩ : ∃ (p : Fin 128) (r : Fin 512), y = ix3 (0 : Fin 1) p r := lead y
  have e : ((cfg0.win 16).blk t).view.emb (ix3 (0 : Fin 1) p r) = (ix3 (0 : Fin 1) p r : S1x128x512.Idx) := by
    funext a
    refine Fin.ext ?_
    show cc0_transform_16 (grid0.coords t) a * S1x128x512.size a + 1 * (ix3 (0 : Fin 1) p r a).val = _
    rw [(placed t).2.2.1]
    fin_cases a
    · rfl
    · show 0 * 128 + 1 * p.val = p.val; omega
    · show 0 * 512 + 1 * r.val = r.val; omega
  have f := congrFun (Value.flushed16 m c t) (ix3 (0 : Fin 1) p r)
  refine (f.trans ?_).trans (congrArg (recArr m c) e.symm)
  exact (out16_apply _ _ _ _ _ _ _ _ _ _ _ p r).trans (cols_rec m c t p r)

/-- The gate's array after the run. -/
theorem final17 : (dats m 0 c).arrAt 17 cfg0.N = gateArr m c := by
  refine (dats m 0 c).arrAt_eq_of_covers 17 _ (by decide +kernel) fun t _ y => ?_
  obtain ⟨p, r, rfl⟩ : ∃ (p : Fin 128) (r : Fin 512), y = ix3 (0 : Fin 1) p r := lead y
  have e : ((cfg0.win 17).blk t).view.emb (ix3 (0 : Fin 1) p r) = (ix3 (0 : Fin 1) p r : S1x128x512.Idx) := by
    funext a
    refine Fin.ext ?_
    show cc0_transform_17 (grid0.coords t) a * S1x128x512.size a + 1 * (ix3 (0 : Fin 1) p r a).val = _
    rw [(placed t).2.2.2]
    fin_cases a
    · rfl
    · show 0 * 128 + 1 * p.val = p.val; omega
    · show 0 * 512 + 1 * r.val = r.val; omega
  have f := congrFun (Value.flushed17 m c t) (ix3 (0 : Fin 1) p r)
  refine (f.trans ?_).trans (congrArg (gateArr m c) e.symm)
  exact (out17_apply _ _ _ _ _ _ _ _ _ _ _ p r).trans (cols_gate m c t p r)

end Cert.Kernel4Ideal.Sample
end
-- ==== Proof.SampleReference.lean ====
module
public import proofs.«01_k».proof.Proof.ProjSpec
public import proofs.«01_k».proof.Proof.Gen.Reference4Ideal.Run
public import Idealize.ShloMosaic.Lib.Pipeline.ValueKit

/-! # The samples' projection's reference, entry by entry -/

@[expose] public section
set_option maxRecDepth 16384
noncomputable section

namespace Cert.Reference4Ideal.Sample
open Cert.Reference4Ideal Cert.Reference4Ideal.Gen Cert.Proj
open Idealize.ShloMosaic Idealize.ShloMosaic.TcCoe Idealize.SL.Sem

variable (m : (ℓ : Loc nD τ sig) → Buf (Elt Ideal) ℓ) (c : Dev nD)

/-- The samples and the weights the reference is given. -/
def arg0 : FVec Ideal S128x1x1024 .f32 := m ((c.tc : Thread nD τ).loc main_arg0)
@[inherit_doc arg0] def arg1 : FVec Ideal S1024x1696 .f32 := m ((c.tc : Thread nD τ).loc main_arg1)
@[inherit_doc arg0] def arg4 : FVec Ideal S256 .f32 := m ((c.tc : Thread nD τ).loc main_arg4)

/-- A sample's token. -/
def token (p : Fin 128) (d : Fin 1024) : EReal := arg0 m c (ix3 p (0 : Fin 1) d)

@[inherit_doc arg0] def weights : Weights where
  w d j := arg1 m c (ix2 d j)
  qg l := m ((c.tc : Thread nD τ).loc main_arg2) (ix1 l)
  uq l h e := m ((c.tc : Thread nD τ).loc main_arg3) (ix3 l h e)
  kg k := arg4 m c (ix1 k)
  uk k h e := m ((c.tc : Thread nD τ).loc main_arg5) (ix3 k h e)
  uv k h e := m ((c.tc : Thread nD τ).loc main_arg6) (ix3 k h e)

/-- The combined projection of every sample. -/
def cols : FVec Ideal S128x1x1696 .f32 :=
  Host.dotGeneral (F := Ideal) dot_S128x1x1024_S1024x1696_S128x1x1696_2_0_01_1_n_n none (arg0 m c) (arg1 m c)

theorem cols_apply (p : Fin 128) (j : Fin 1696) : cols m c (ix3 p (0 : Fin 1) j) = col (weights m c) (token m c p) j := by
  unfold cols
  pointwise
  rfl

/-- The latents, a row for each sample. -/
def latent : FVec Ideal S1x128x256 .f32 :=
  shapeCast S1x128x256 (mulf (mulf (extractStridedSlice S128x1x256 ![0, 0, 384] (cols m c) slices_S128x1x1696_S128x1x256_0_0_384) (broadcastInDim S128x1x256 ![0, 1, 2] bcast_S128x1x1_S128x1x256_0_1_2 (Host.rsqrt (addf (Host.divf (broadcastInDim S128x1x1 ![0, 1] bcast_S128x1_S128x1x1_0_1 (Host.reduceAdd (mulf (extractStridedSlice S128x1x256 ![0, 0, 384] (cols m c) slices_S128x1x1696_S128x1x256_0_0_384) (extractStridedSlice S128x1x256 ![0, 0, 384] (cols m c) slices_S128x1x1696_S128x1x256_0_0_384)) (constant S_ .f32 0x00000000#32) reducesTo_S128x1x256_S128x1_d2 h_S_)) (broadcastInDim S128x1x1 ![] bcast_S_S128x1x1 (constant S_ .f32 0x43800000#32))) (broadcastInDim S128x1x1 ![] bcast_S_S128x1x1 (constant S_ .f32 0x358637BD#32)))))) (broadcastInDim S128x1x256 ![0, 1, 2] bcast_S1x1x256_S128x1x256_0_1_2 (broadcastInDim S1x1x256 ![2] bcast_S256_S1x1x256_2 (arg4 m c)))) shapeCasts_S128x1x256_S1x128x256

theorem latent_apply (p : Fin 128) (k : Fin 256) : latent m c (ix3 (0 : Fin 1) p k) = kvlat (weights m c) (token m c p) k := by
  unfold latent
  pointwise
  simp only [cols_apply]
  rfl

/-- The angle of the position and every frequency. -/
def ang : FVec Ideal S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 16384#32)) (iotaInDim S1 32 0))))) (broadcastInDim S1x16 ![1] bcast_S16_S1x16_1 (Host.powf (broadcastInDim S16 ![] bcast_S_S16 (constant S_ .f32 0x461C4000#32)) (Host.negf (Host.divf (mulf (sitofp .f32 (iotaInDim S16 32 0)) (broadcastInDim S16 ![] bcast_S_S16 (constant S_ .f32 0x40000000#32))) (broadcastInDim S16 ![] bcast_S_S16 (constant S_ .f32 0x42000000#32))))))

theorem ang_apply (e : Fin 16) : ang (ix2 (0 : Fin 1) e) = angle 16384 e.val := by
  unfold ang
  pointwise
  unfold angle
  rfl

/-- The rotary keys, rotated. -/
def ropes : FVec Ideal S128x1x32 .f32 :=
  concatenate S128x1x32 2 [
    ⟨S128x1x16, (subf (mulf (extractStridedSlice S128x1x16 ![0, 0, 0] (extractStridedSlice S128x1x32 ![0, 0, 640] (cols m c) slices_S128x1x1696_S128x1x32_0_0_640) slices_S128x1x32_S128x1x16_0_0_0)
        (broadcastInDim S128x1x16 ![0, 1, 2] bcast_S1x1x16_S128x1x16_0_1_2 (broadcastInDim S1x1x16 ![1, 2] bcast_S1x16_S1x1x16_1_2 (Host.cos ang))))
      (mulf (extractStridedSlice S128x1x16 ![0, 0, 16] (extractStridedSlice S128x1x32 ![0, 0, 640] (cols m c) slices_S128x1x1696_S128x1x32_0_0_640) slices_S128x1x32_S128x1x16_0_0_16)
        (broadcastInDim S128x1x16 ![0, 1, 2] bcast_S1x1x16_S128x1x16_0_1_2 (broadcastInDim S1x1x16 ![1, 2] bcast_S1x16_S1x1x16_1_2 (Host.sin ang)))) : FVec Ideal S128x1x16 .f32)⟩,
    ⟨S128x1x16, (addf (mulf (extractStridedSlice S128x1x16 ![0, 0, 16] (extractStridedSlice S128x1x32 ![0, 0, 640] (cols m c) slices_S128x1x1696_S128x1x32_0_0_640) slices_S128x1x32_S128x1x16_0_0_16)
        (broadcastInDim S128x1x16 ![0, 1, 2] bcast_S1x1x16_S128x1x16_0_1_2 (broadcastInDim S1x1x16 ![1, 2] bcast_S1x16_S1x1x16_1_2 (Host.cos ang))))
      (mulf (extractStridedSlice S128x1x16 ![0, 0, 0] (extractStridedSlice S128x1x32 ![0, 0, 640] (cols m c) slices_S128x1x1696_S128x1x32_0_0_640) slices_S128x1x32_S128x1x16_0_0_0)
        (broadcastInDim S128x1x16 ![0, 1, 2] bcast_S1x1x16_S128x1x16_0_1_2 (broadcastInDim S1x1x16 ![1, 2] bcast_S1x16_S1x1x16_1_2 (Host.sin ang)))) : FVec Ideal S128x1x16 .f32)⟩]
    concatenates_S128x1x16_S128x1x16_S128x1x32_d2

theorem ropes_apply (p : Fin 128) (i : Fin 32) :
    ropes m c (ix3 p (0 : Fin 1) i) = rot 16384 (krope (weights m c) (token m c p)) i := by
  unfold ropes
  pointwise
  simp only [cols_apply, ang_apply]
  unfold rot krope
  split
  · simp only [Nat.add_comm 16]
  · simp only [show 16 + (i.val - 16) = i.val by omega]

theorem rope_apply (p r : Fin 128) :
    Value.res_main_v56 (F := Ideal) m c (ix3 (0 : Fin 1) p r) = ropeLane (weights m c) (token m c p) 16384 r := by
  show shapeCast S1x128x128 (concatenate S128x1x128 2 [
    ⟨S128x1x64, (broadcastInDim S128x1x64 ![] bcast_S_S128x1x64 (constant S_ .f32 0x00000000#32) : FVec Ideal S128x1x64 .f32)⟩,
    ⟨S128x1x32, ropes m c⟩,
    ⟨S128x1x32, (broadcastInDim S128x1x32 ![] bcast_S_S128x1x32 (constant S_ .f32 0x00000000#32) : FVec Ideal S128x1x32 .f32)⟩]
    concatenates_S128x1x64_S128x1x32_S128x1x32_S128x1x128_d2) shapeCasts_S128x1x128_S1x128x128 (ix3 (0 : Fin 1) p r) = _
  pointwise
  simp only [ropes_apply]
  unfold ropeLane lanes
  repeat' split
  all_goals first | rfl | omega

/-- The recurrence's input. -/
def recs : FVec Ideal S1x128x512 .f32 :=
  shapeCast S1x128x512 (extractStridedSlice S128x1x512 ![0, 0, 672] (cols m c) slices_S128x1x1696_S128x1x512_0_0_672) shapeCasts_S128x1x512_S1x128x512

theorem rec_apply (p : Fin 128) (j : Fin 512) : recs m c (ix3 (0 : Fin 1) p j) = col (weights m c) (token m c p) ⟨672 + j.val, by omega⟩ := by
  unfold recs
  pointwise
  exact cols_apply m c p _

/-- The recurrence's gate. -/
def gates : FVec Ideal S1x128x512 .f32 :=
  shapeCast S1x128x512 (extractStridedSlice S128x1x512 ![0, 0, 1184] (cols m c) slices_S128x1x1696_S128x1x512_0_0_1184) shapeCasts_S128x1x512_S1x128x512

theorem gate_apply (p : Fin 128) (j : Fin 512) : gates m c (ix3 (0 : Fin 1) p j) = col (weights m c) (token m c p) ⟨1184 + j.val, by omega⟩ := by
  unfold gates
  pointwise
  exact cols_apply m c p _

end Cert.Reference4Ideal.Sample
end
-- ==== Proof.SampleClaims.lean ====
module
public import proofs.«01_k».proof.Defs
public import proofs.«01_k».proof.Proof.Gen.Kernel4.Frame
public import proofs.«01_k».proof.Proof.SampleValue
public import proofs.«01_k».proof.Proof.SampleReference
public import Idealize.ShloMosaic.Init

/-! # The samples' projection's claims

The kernel's four result arrays and the reference's are the same functions of arguments that agree. -/

@[expose] public section
set_option maxRecDepth 16384
noncomputable section
open Idealize.ShloMosaic Idealize.ShloMosaic.TcCoe Idealize.SL.Sem

namespace Cert.SampleClaims
open Cert.Kernel4Ideal.Sample Cert.Proj

theorem frame_kernel : @Cert.quiescent_Kernel4 Cert.Kernel4.Gen.facts := fun m ρ _ => Cert.Kernel4.Gen.frame m ρ
theorem frame_ideal : @Cert.quiescent_Kernel4Ideal Cert.Kernel4Ideal.Gen.facts := fun m ρ _ => Cert.Kernel4Ideal.Gen.frame m ρ
theorem frame_reference : @Cert.quiescent_Reference4Ideal Cert.Reference4Ideal.Gen.facts := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem ext1 {b d : ℕ} {F G : (Shape.mk 3 ![1, b, d]).Idx → EReal}
    (h : ∀ (p : Fin b) (r : Fin d), F (ix3 (0 : Fin 1) p r) = G (ix3 (0 : Fin 1) p r)) : F = G :=
  funext fun i => by
    obtain ⟨p, r, rfl⟩ := lead i
    exact h p r

section
variable {m : (ℓ : Loc Cert.Kernel4Ideal.nD Cert.Kernel4Ideal.τ Cert.Kernel4Ideal.sig) → Buf (Elt Ideal) ℓ}
  {m' : (ℓ : Loc Cert.Reference4Ideal.nD Cert.Reference4Ideal.τ Cert.Reference4Ideal.sig) → Buf (Elt Ideal) ℓ} {c : Dev 1}
  (hw : Cert.Reference4Ideal.Sample.weights m' c = weights m c) (hs : ∀ p, Cert.Reference4Ideal.Sample.token m' c p = token m c p)
include hw hs

theorem latent_eq : Cert.Reference4Ideal.Sample.latent m' c = latentArr m c := by
  refine ext1 fun p r => (Cert.Reference4Ideal.Sample.latent_apply m' c p r).trans ?_
  rw [hw, hs]
  rfl

theorem rope_eq : Cert.Reference4Ideal.Value.res_main_v56 (F := Ideal) m' c = ropeArr m c := by
  refine ext1 fun p r => (Cert.Reference4Ideal.Sample.rope_apply m' c p r).trans ?_
  rw [hw, hs]
  rfl

theorem rec_eq : Cert.Reference4Ideal.Sample.recs m' c = recArr m c := by
  refine ext1 fun p r => (Cert.Reference4Ideal.Sample.rec_apply m' c p r).trans ?_
  rw [hw, hs]
  rfl

theorem gate_eq : Cert.Reference4Ideal.Sample.gates m' c = gateArr m c := by
  refine ext1 fun p r => (Cert.Reference4Ideal.Sample.gate_apply m' c p r).trans ?_
  rw [hw, hs]
  rfl
end

theorem algebraic : @Cert.algebraic_Kernel4Ideal_Reference4Ideal Cert.Kernel4Ideal.Gen.facts Cert.Reference4Ideal.Gen.facts := by
  intro m ρ m' ρ' _ hagree
  refine ⟨fun c => latentArr m c, fun c => ropeArr m c, fun c => recArr m c, fun c => gateArr m c,
    (θ_run Cert.Kernel4Ideal.defs _ _).mono (fun r h c => ?_) (Cert.Kernel4Ideal.Value.run_blocks (F := Ideal) m ρ), ?_⟩
  · obtain ⟨_, _, _, h3, h4, h5, h6, h7⟩ := h c
    exact ⟨h3.trans (final14 m c), h4.trans (final15 m c), h5.trans (final16 m c), h6.trans (final17 m c), h7⟩
  refine (θ_run Cert.Reference4Ideal.defs _ _).mono (fun r h c => ?_) (Cert.Reference4Ideal.Value.run (F := Ideal) m' ρ')
  obtain ⟨h0, h1, h2, h3, h4⟩ := h c
  obtain ⟨e0, e1, e2, e3, e4, e5, e6⟩ := hagree c
  have hw : Cert.Reference4Ideal.Sample.weights m' c = weights m c := by
    unfold Cert.Reference4Ideal.Sample.weights weights Cert.Reference4Ideal.Sample.arg1 Cert.Reference4Ideal.Sample.arg4
    rw [e1, e2, e3, e4, e5, e6]
    rfl
  have hs : ∀ p, Cert.Reference4Ideal.Sample.token m' c p = token m c p := by
    intro p
    unfold Cert.Reference4Ideal.Sample.token Cert.Reference4Ideal.Sample.arg0
    rw [e0]
    rfl
  exact ⟨h0.trans (latent_eq hw hs), h1.trans (rope_eq hw hs), h2.trans (rec_eq hw hs), h3.trans (gate_eq hw hs), h4⟩

end Cert.SampleClaims
end
-- ==== Proof.StepRows.lean ====
module
public import proofs.«01_k».proof.Proof.LruTile
public import proofs.«01_k».proof.Proof.Gen.Kernel5Ideal.Value
public import Idealize.ShloMosaic.Lib.Pipeline.ValueKit

/-! # The rows of a single step

The step's arithmetic for arbitrary blocks: at one sample and one channel it is the recurrence's, over a sequence of four
rows, the three rows of the sample's history and then the new one. -/

@[expose] public section
set_option maxRecDepth 16384
noncomputable section
open Idealize.ShloMosaic Idealize.ShloMosaic.TcCoe Idealize.SL.Sem

namespace Cert.Kernel5Ideal.Step
open Cert.Kernel5Ideal Cert.Kernel5Ideal.Gen Cert.Lru Cert.KernelIdeal.Lru

/-! ## The payloads at an index -/

section
variable (P1 : Vec Ideal S128x512 .f32) (P2 P3 P5 P7 P9 : Vec Ideal S1x512 .f32) (P4 P6 P8 : Vec Ideal S1x128x512 .f32)
  (P10 : Vec Ideal S1x256x512 .bf16)

theorem pay2_apply (p : Fin 128) (j : Fin 512) : k0_pay2 P1 P2 P3 P4 P5 P6 P7 P8 P9 (ix2 p j)
    = P2 (ix2 0 j) + P1 (ix2 p j) * P3 (ix2 0 j) + P4 (ix3 0 p j) * P5 (ix2 0 j) + P6 (ix3 0 p j) * P7 (ix2 0 j)
      + P8 (ix3 0 p j) * P9 (ix2 0 j) := by
  pointwise [k0_pay2]

theorem pay3_apply (p : Fin 128) (j : Fin 512) : k0_pay3 P1 P2 P3 P4 P5 P6 P7 P8 P9 P10 (ix2 p j)
    = ∑ x : Fin 256, k0_pay2 P1 P2 P3 P4 P5 P6 P7 P8 P9 (ix2 p ⟨x.val, by omega⟩) * P10 (ix3 0 x j) := by
  pointwise [k0_pay3]

theorem pay4_apply (p : Fin 128) (x : Fin 256) : k0_pay4 P1 P2 P3 P4 P5 P6 P7 P8 P9 (ix2 p x)
    = k0_pay2 P1 P2 P3 P4 P5 P6 P7 P8 P9 (ix2 p ⟨256 + x.val, by omega⟩) := by
  pointwise [k0_pay4]
end

section
variable (Y A : FVec Ideal S128x512 .f32) (B : FVec Ideal S128x256 .bf16) (Q : Vec Ideal S1x256x512 .bf16)
  (br bi l : Vec Ideal S1x512 .f32)

theorem pay5_apply (p : Fin 128) (j : Fin 512) : k0_pay5 B Q (ix2 p j) = ∑ x : Fin 256, B (ix2 p x) * Q (ix3 0 x j) := by
  pointwise [k0_pay5]

theorem pay6_apply (p : Fin 128) (c : Fin 512) : k0_pay6 A B Q br l (ix2 p c)
    = Cert.Lru.c8 * softplus (-l (ix2 0 c)) * Ideal.logistic ((if h : c.val < 256 then A (ix2 p ⟨c.val, by omega⟩)
      else k0_pay5 B Q (ix2 p ⟨c.val - 256, by omega⟩)) + br (ix2 0 c)) := by
  pointwise [k0_pay6]
  simp only [zero_sub]
  rfl

theorem pay8_apply (p : Fin 128) (c : Fin 512) : k0_pay8 Y A B Q br bi l (ix2 p c)
    = Ideal.sqrt ((0 - Ideal.tanh (k0_pay6 A B Q br l (ix2 p c))) * (Ideal.exp (k0_pay6 A B Q br l (ix2 p c)) * Ideal.exp (k0_pay6 A B Q br l (ix2 p c)) + 1))
      * (Ideal.logistic ((if h : c.val < 256 then A (ix2 p ⟨256 + c.val, by omega⟩)
      else k0_pay5 B Q (ix2 p ⟨256 + (c.val - 256), by omega⟩)) + bi (ix2 0 c)) * Y (ix2 p c)) := by
  pointwise [k0_pay8, k0_pay7]

theorem pay9_apply (D U h : FVec Ideal S128x512 .f32) (p : Fin 128) (c : Fin 512) :
    k0_pay9 D U h (ix2 p c) = D (ix2 p c) * h (ix2 p c) + U (ix2 p c) := by
  pointwise [k0_pay9]

theorem pay10_apply (D U h g : FVec Ideal S128x512 .f32) (p : Fin 128) (c : Fin 512) :
    k0_pay10 D U h g (ix2 p c) = k0_pay9 D U h (ix2 p c) * gelu (g (ix2 p c)) := by
  unfold gelu
  pointwise [k0_pay10]
end

/-! ## The blocks the body leaves -/

/-- The loads of a row. -/
theorem ld_row (x : Vec Ideal S1x512 .f32) (c : Fin 512) : View.ld x r0_1 (ix2 0 c) = x (ix2 0 c) :=
  congrArg x (funext fun a => Fin.ext (by fin_cases a <;> first | rfl | exact (Nat.zero_add _).trans (Nat.one_mul _)))
theorem ld_tap0 (x : Vec Ideal S4x512 .f32) (c : Fin 512) : View.ld x r0_4 (ix2 0 c) = x (ix2 0 c) :=
  congrArg x (funext fun a => Fin.ext (by fin_cases a <;> first | rfl | exact (Nat.zero_add _).trans (Nat.one_mul _)))
theorem ld_tap1 (x : Vec Ideal S4x512 .f32) (c : Fin 512) : View.ld x r0_6 (ix2 0 c) = x (ix2 1 c) :=
  congrArg x (funext fun a => Fin.ext (by fin_cases a <;> first | rfl | exact (Nat.zero_add _).trans (Nat.one_mul _)))
theorem ld_tap2 (x : Vec Ideal S4x512 .f32) (c : Fin 512) : View.ld x r0_8 (ix2 0 c) = x (ix2 2 c) :=
  congrArg x (funext fun a => Fin.ext (by fin_cases a <;> first | rfl | exact (Nat.zero_add _).trans (Nat.one_mul _)))
theorem ld_tap3 (x : Vec Ideal S4x512 .f32) (c : Fin 512) : View.ld x r0_2 (ix2 0 c) = x (ix2 3 c) :=
  congrArg x (funext fun a => Fin.ext (by fin_cases a <;> first | rfl | exact (Nat.zero_add _).trans (Nat.one_mul _)))
theorem ld_past0 (x : Vec Ideal S3x128x512 .f32) (p : Fin 128) (c : Fin 512) : View.ld x r0_3 (ix3 0 p c) = x (ix3 0 p c) :=
  congrArg x (funext fun a => Fin.ext (by fin_cases a <;> first | rfl | exact (Nat.zero_add _).trans (Nat.one_mul _)))
theorem ld_past1 (x : Vec Ideal S3x128x512 .f32) (p : Fin 128) (c : Fin 512) : View.ld x r0_5 (ix3 0 p c) = x (ix3 1 p c) :=
  congrArg x (funext fun a => Fin.ext (by fin_cases a <;> first | rfl | exact (Nat.zero_add _).trans (Nat.one_mul _)))
theorem ld_past2 (x : Vec Ideal S3x128x512 .f32) (p : Fin 128) (c : Fin 512) : View.ld x r0_7 (ix3 0 p c) = x (ix3 2 p c) :=
  congrArg x (funext fun a => Fin.ext (by fin_cases a <;> first | rfl | exact (Nat.zero_add _).trans (Nat.one_mul _)))
theorem ld_gate0 (x : Vec Ideal S2x256x512 .bf16) (k : Fin 256) (c : Fin 512) : View.ld x r0_9 (ix3 0 k c) = x (ix3 0 k c) :=
  congrArg x (funext fun a => Fin.ext (by fin_cases a <;> first | rfl | exact (Nat.zero_add _).trans (Nat.one_mul _)))
theorem ld_gate1 (x : Vec Ideal S2x256x512 .bf16) (k : Fin 256) (c : Fin 512) : View.ld x r0_10 (ix3 0 k c) = x (ix3 1 k c) :=
  congrArg x (funext fun a => Fin.ext (by fin_cases a <;> first | rfl | exact (Nat.zero_add _).trans (Nat.one_mul _)))
theorem ld_block (x : Vec Ideal S128x512 .f32) : View.ld x r0_0 = x := by
  simp (disch := decide) only [View.ld_unit_lit']

variable {P : Weights} (x0 x1 : Vec Ideal S128x512 .f32) (x2 : Vec Ideal S3x128x512 .f32) (x3 : Vec Ideal S128x512 .f32)
  {x4 : Vec Ideal S4x512 .f32} {x5 : Vec Ideal S1x512 .f32} {x6 : Vec Ideal S2x256x512 .bf16} {x7 x8 x9 : Vec Ideal S1x512 .f32}
  (H : Holds P x4 x5 x6 x7 x8 x9)

/-- The four rows of a sample: its history and then the new row. -/
def four (p : Fin 128) (s : ℕ) (c : Fin 512) : EReal := if h : s < 3 then x2 (ix3 ⟨s, h⟩ p c) else x0 (ix2 p c)

/-- The step's convolution. -/
def sConv (x4 : Vec Ideal S4x512 .f32) (x5 : Vec Ideal S1x512 .f32) : FVec Ideal S128x512 .f32 :=
  k0_pay2 (View.ld x0 r0_0) (View.ld x5 r0_1) (View.ld x4 r0_2) (View.ld x2 r0_3) (View.ld x4 r0_4) (View.ld x2 r0_5) (View.ld x4 r0_6)
    (View.ld x2 r0_7) (View.ld x4 r0_8)

include H
theorem sConv_apply (p : Fin 128) (c : Fin 512) : sConv x0 x2 x4 x5 (ix2 p c) = conv P (four x0 x2 p) 0 c := by
  unfold sConv
  rw [pay2_apply, ld_block, ld_row, ld_tap0, ld_tap1, ld_tap2, ld_tap3, ld_past0, ld_past1, ld_past2, H.cb, H.cw, H.cw, H.cw, H.cw]
  show _ = P.cb c + x0 (ix2 p c) * P.cw 3 c + x2 (ix3 2 p c) * P.cw 2 c + x2 (ix3 1 p c) * P.cw 1 c + x2 (ix3 0 p c) * P.cw 0 c
  ac_rfl

theorem first_apply (p : Fin 128) (j : Fin 512) : k0_pay13 x0 x1 x2 x3 x4 x5 x6 x7 x8 x9 (ix2 p j)
    = ∑ x : Fin 256, conv P (four x0 x2 p) 0 ⟨x.val, by omega⟩ * x6 (ix3 0 x j) := by
  unfold k0_pay13
  rw [pay3_apply]
  exact Finset.sum_congr rfl fun x _ => congrArg₂ (fun a b : EReal => a * b) (sConv_apply x0 x2 H p _) (ld_gate0 x6 x j)

theorem second_apply (p : Fin 128) (j : Fin 512) : k0_pay5 (k0_pay14 x0 x1 x2 x3 x4 x5 x6 x7 x8 x9) (View.ld x6 r0_10) (ix2 p j)
    = ∑ x : Fin 256, conv P (four x0 x2 p) 0 ⟨256 + x.val, by omega⟩ * x6 (ix3 1 x j) := by
  rw [pay5_apply]
  refine Finset.sum_congr rfl fun x _ => congrArg₂ (fun a b : EReal => a * b) ?_ (ld_gate1 x6 x j)
  unfold k0_pay14
  rw [pay4_apply]
  exact sConv_apply x0 x2 H p _

/-- The decay gate. -/
theorem gate_r (p : Fin 128) (c : Fin 512) : Ideal.logistic ((if h : c.val < 256 then k0_pay13 x0 x1 x2 x3 x4 x5 x6 x7 x8 x9 (ix2 p ⟨c.val, by omega⟩)
      else k0_pay5 (k0_pay14 x0 x1 x2 x3 x4 x5 x6 x7 x8 x9) (View.ld x6 r0_10) (ix2 p ⟨c.val - 256, by omega⟩)) + View.ld x7 r0_1 (ix2 0 c))
    = gate P.wr P.br (conv P (four x0 x2 p) 0) c := by
  have hc := c.isLt
  simp only [first_apply x0 x1 x2 x3 H, second_apply x0 x1 x2 x3 H]
  rw [ld_row, H.br]
  show Ideal.div 1 (1 + Ideal.exp (-(_ + P.br c))) = _
  unfold gate
  congr 6
  split
  · have := half_sum (conv P (four x0 x2 p) 0) P.wr 0 ⟨c.val, by omega⟩ _ (fun x => H.wr 0 x ⟨c.val, by omega⟩) c (by simp)
    simpa using this
  · have := half_sum (conv P (four x0 x2 p) 0) P.wr 1 ⟨c.val - 256, by omega⟩ _ (fun x => H.wr 1 x ⟨c.val - 256, by omega⟩) c
      (by simp; omega)
    simpa using this

/-- The input gate. -/
theorem gate_i (p : Fin 128) (c : Fin 512) : Ideal.logistic ((if h : c.val < 256 then k0_pay13 x0 x1 x2 x3 x4 x5 x6 x7 x8 x9 (ix2 p ⟨256 + c.val, by omega⟩)
      else k0_pay5 (k0_pay14 x0 x1 x2 x3 x4 x5 x6 x7 x8 x9) (View.ld x6 r0_10) (ix2 p ⟨256 + (c.val - 256), by omega⟩)) + View.ld x8 r0_1 (ix2 0 c))
    = gate P.wi P.bi (conv P (four x0 x2 p) 0) c := by
  have hc := c.isLt
  simp only [first_apply x0 x1 x2 x3 H, second_apply x0 x1 x2 x3 H]
  rw [ld_row, H.bi]
  show Ideal.div 1 (1 + Ideal.exp (-(_ + P.bi c))) = _
  unfold gate
  congr 6
  split
  · have := half_sum (conv P (four x0 x2 p) 0) P.wi 0 ⟨c.val, by omega⟩ _ (fun x => H.wi 0 x ⟨c.val, by omega⟩) c (by simp)
    simpa using this
  · have := half_sum (conv P (four x0 x2 p) 0) P.wi 1 ⟨c.val - 256, by omega⟩ _ (fun x => H.wi 1 x ⟨c.val - 256, by omega⟩) c
      (by simp; omega)
    simpa using this

theorem log_step (p : Fin 128) (c : Fin 512) :
    k0_pay6 (k0_pay13 x0 x1 x2 x3 x4 x5 x6 x7 x8 x9) (k0_pay14 x0 x1 x2 x3 x4 x5 x6 x7 x8 x9) (View.ld x6 r0_10) (View.ld x7 r0_1)
      (View.ld x9 r0_1) (ix2 p c) = la P (four x0 x2 p) 0 c := by
  rw [pay6_apply, gate_r x0 x1 x2 x3 H, ld_row, H.lam]
  rfl

theorem dec_step (p : Fin 128) (c : Fin 512) :
    k0_pay15 x0 x1 x2 x3 x4 x5 x6 x7 x8 x9 (ix2 p c) = dec P (four x0 x2 p) 0 c :=
  congrArg Ideal.exp (log_step x0 x1 x2 x3 H p c)

theorem inp_step (p : Fin 128) (c : Fin 512) :
    k0_pay16 x0 x1 x2 x3 x4 x5 x6 x7 x8 x9 (ix2 p c) = inp P (four x0 x2 p) 0 c := by
  unfold k0_pay16
  rw [pay8_apply, log_step x0 x1 x2 x3 H, gate_i x0 x1 x2 x3 H, coef_eq]
  exact congrArg (fun z => _ * (_ * z)) (sConv_apply x0 x2 H p c)

theorem state_step (p : Fin 128) (c : Fin 512) :
    k0_pay9 (k0_pay15 x0 x1 x2 x3 x4 x5 x6 x7 x8 x9) (k0_pay16 x0 x1 x2 x3 x4 x5 x6 x7 x8 x9) (View.ld x3 r0_0) (ix2 p c)
      = dec P (four x0 x2 p) 0 c * x3 (ix2 p c) + inp P (four x0 x2 p) 0 c := by
  rw [pay9_apply, dec_step x0 x1 x2 x3 H, inp_step x0 x1 x2 x3 H, ld_block]

theorem out12_apply (p : Fin 128) (c : Fin 512) : out0_12 x0 x1 x2 x3 x4 x5 x6 x7 x8 x9 (ix2 p c)
    = dec P (four x0 x2 p) 0 c * x3 (ix2 p c) + inp P (four x0 x2 p) 0 c := by
  unfold out0_12
  rw [View.canon_unit_zero (by funext a; fin_cases a <;> rfl)]
  exact state_step x0 x1 x2 x3 H p c

theorem out10_apply (p : Fin 128) (c : Fin 512) : out0_10 x0 x1 x2 x3 x4 x5 x6 x7 x8 x9 (ix2 p c)
    = (dec P (four x0 x2 p) 0 c * x3 (ix2 p c) + inp P (four x0 x2 p) 0 c) * gelu (x1 (ix2 p c)) := by
  unfold out0_10
  rw [View.canon_unit_zero (by funext a; fin_cases a <;> rfl), pay10_apply, state_step x0 x1 x2 x3 H, ld_block]

omit H in
/-- The new history: the rows moved one place back, and the new row. -/
theorem out11_apply (k : Fin 3) (p : Fin 128) (c : Fin 512) : out0_11 x0 x1 x2 x3 x4 x5 x6 x7 x8 x9 (ix3 k p c)
    = four x0 x2 p (k.val + 1) c := by
  unfold out0_11
  refine (View.canon_apply_of_pieces (fun y : S3x128x512.Idx => four x0 x2 (y 1) ((y 0).val + 1) (y 2)) _ ?_ (ix3 k p c) (cover0_11 _ _ _ _)).trans rfl
  have hx : ∀ x : S1x128x512.Idx, ∃ (p : Fin 128) (c : Fin 512), x = ix3 (0 : Fin 1) p c := fun x => ⟨x 1, x 2, by
    funext a
    fin_cases a
    · exact Fin.ext (by have h : (x 0).val < 1 := (x 0).isLt; show (x 0).val = 0; omega)
    · rfl
    · rfl⟩
  have hp : ∀ (p : Fin 128), (⟨0 + 1 * p.val, by omega⟩ : Fin 128) = p := fun p => Fin.ext (by show 0 + 1 * p.val = p.val; omega)
  have hc : ∀ (c : Fin 512), (⟨0 + 1 * c.val, by omega⟩ : Fin 512) = c := fun c => Fin.ext (by show 0 + 1 * c.val = c.val; omega)
  intro pc hpc
  rcases List.mem_cons.mp hpc with rfl | hpc
  · intro x
    obtain ⟨p, c, rfl⟩ := hx x
    have e : k0_pay1 (View.ld x0 r0_0) (ix3 0 p c) = x0 (ix2 p c) := by
      rw [ld_block]
      pointwise [k0_pay1]
    refine e.trans ?_
    show _ = four x0 x2 ⟨0 + 1 * p.val, _⟩ 3 ⟨0 + 1 * c.val, _⟩
    rw [hp, hc]
    rfl
  rcases List.mem_cons.mp hpc with rfl | hpc
  · intro x
    obtain ⟨p, c, rfl⟩ := hx x
    have e : k0_pay12 (View.ld x2 r0_7) (ix3 0 p c) = x2 (ix3 2 p c) := by
      refine Eq.trans ?_ (ld_past2 x2 p c)
      pointwise [k0_pay12]
    refine e.trans ?_
    show _ = four x0 x2 ⟨0 + 1 * p.val, _⟩ 2 ⟨0 + 1 * c.val, _⟩
    rw [hp, hc]
    rfl
  rcases List.mem_cons.mp hpc with rfl | hpc
  · intro x
    obtain ⟨p, c, rfl⟩ := hx x
    have e : k0_pay11 (View.ld x2 r0_5) (ix3 0 p c) = x2 (ix3 1 p c) := by
      refine Eq.trans ?_ (ld_past1 x2 p c)
      pointwise [k0_pay11]
    refine e.trans ?_
    show _ = four x0 x2 ⟨0 + 1 * p.val, _⟩ 1 ⟨0 + 1 * c.val, _⟩
    rw [hp, hc]
    rfl
  nomatch hpc

end Cert.Kernel5Ideal.Step
end
-- ==== Proof.StepValue.lean ====
module
public import proofs.«01_k».proof.Proof.StepRows
public import proofs.«01_k».proof.Proof.LruBlocks

/-! # A single step's result arrays

The one grid point reads whole arrays and writes whole arrays back. -/

@[expose] public section
set_option maxRecDepth 16384
noncomputable section
open Idealize.ShloMosaic Idealize.ShloMosaic.TcCoe Idealize.ShloMosaic.Tactic Idealize.SL Idealize.SL.Sem
open Idealize.ShloMosaic.Pipeline (Dat Cfg Window)

namespace Cert.Kernel5Ideal.Step
open Cert.Kernel5Ideal Cert.Kernel5Ideal.Gen Cert.Lru Cert.KernelIdeal.Lru

variable (m : (ℓ : Loc nD τ sig) → Buf (Elt Ideal) ℓ) (c : Dev nD) (t : Fin cfg0.N)

/-- The gates' head matrices. -/
def heads6 : Vec Ideal S8x64x64 .f32 := m ((c : Thread nD τ).loc main_arg6)
@[inherit_doc heads6] def heads8 : Vec Ideal S8x64x64 .f32 := m ((c : Thread nD τ).loc main_arg8)

/-- The weights the kernel's program is given. -/
def weights : Weights :=
  Weights.of (fun k j => m ((c : Thread nD τ).loc main_arg4) (ix2 k j)) (fun j => m ((c : Thread nD τ).loc main_arg5) (ix1 j))
    (fun n d e => m ((c : Thread nD τ).loc main_arg6) (ix3 n d e)) (fun j => m ((c : Thread nD τ).loc main_arg7) (ix1 j))
    (fun n d e => m ((c : Thread nD τ).loc main_arg8) (ix3 n d e)) (fun j => m ((c : Thread nD τ).loc main_arg9) (ix1 j))
    (fun j => m ((c : Thread nD τ).loc main_arg10) (ix1 j))

/-- The rows of a sample: its history and then the new row. -/
def rows (p : Fin 128) (s : ℕ) (j : Fin 512) : EReal :=
  if h : s < 3 then m ((c : Thread nD τ).loc main_arg2) (ix3 p ⟨s, h⟩ j) else m ((c : Thread nD τ).loc main_arg0) (ix2 p j)

/-- The state after the step. -/
def stateArr : S128x512.Idx → EReal := fun i =>
  dec (weights m c) (rows m c (i 0)) 0 (i 1) * m ((c : Thread nD τ).loc main_arg3) (ix2 (i 0) (i 1)) + inp (weights m c) (rows m c (i 0)) 0 (i 1)
/-- The step's output. -/
def outArr : S128x512.Idx → EReal := fun i => stateArr m c i * gelu (m ((c : Thread nD τ).loc main_arg1) (ix2 (i 0) (i 1)))
/-- The history after the step. -/
def pastArr : S3x128x512.Idx → EReal := fun i => rows m c (i 1) ((i 0).val + 1) (i 2)

theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] :=
  (by decide +kernel : ∀ t : Fin grid0.N, _)

theorem blk0 (p : Fin 128) (j : Fin 512) : (iblk m c 0 t : Vec Ideal S128x512 .f32) (ix2 p j) = m ((c : Thread nD τ).loc main_arg0) (ix2 p j) := by
  blk_ext [iblk, V, idx t]

theorem blk1 (p : Fin 128) (j : Fin 512) : (iblk m c 1 t : Vec Ideal S128x512 .f32) (ix2 p j) = m ((c : Thread nD τ).loc main_arg1) (ix2 p j) := by
  blk_ext [iblk, V, idx t]

theorem blk3 (p : Fin 128) (j : Fin 512) : (iblk m c 3 t : Vec Ideal S128x512 .f32) (ix2 p j) = m ((c : Thread nD τ).loc main_arg3) (ix2 p j) := by
  blk_ext [iblk, V, idx t]

theorem blk2 (k : Fin 3) (p : Fin 128) (j : Fin 512) : (iblk m c 2 t : Vec Ideal S3x128x512 .f32) (ix3 k p j) = m ((c : Thread nD τ).loc main_arg2) (ix3 p k j) := by
  have e : (iblk m c 2 t : Vec Ideal S3x128x512 .f32) (ix3 k p j) = (V m c main_v38 : Vec Ideal S3x128x512 .f32) (ix3 k p j) := by
    blk_ext [iblk, idx t]
  rw [e]
  entry_read
  pointwise

theorem blk4 (k : Fin 4) (j : Fin 512) : (iblk m c 4 t : Vec Ideal S4x512 .f32) (ix2 k j) = m ((c : Thread nD τ).loc main_arg4) (ix2 k j) := by
  blk_ext [iblk, V, idx t]

theorem blk5 (j : Fin 512) : (iblk m c 5 t : Vec Ideal S1x512 .f32) (ix2 0 j) = m ((c : Thread nD τ).loc main_arg5) (ix1 j) := by
  blk_ext! [iblk, idx t]

theorem blk7 (j : Fin 512) : (iblk m c 7 t : Vec Ideal S1x512 .f32) (ix2 0 j) = m ((c : Thread nD τ).loc main_arg7) (ix1 j) := by
  blk_ext! [iblk, idx t]

theorem blk8 (j : Fin 512) : (iblk m c 8 t : Vec Ideal S1x512 .f32) (ix2 0 j) = m ((c : Thread nD τ).loc main_arg9) (ix1 j) := by
  blk_ext! [iblk, idx t]

theorem blk9 (j : Fin 512) : (iblk m c 9 t : Vec Ideal S1x512 .f32) (ix2 0 j) = m ((c : Thread nD τ).loc main_arg10) (ix1 j) := by
  blk_ext! [iblk, idx t]

theorem blk6 (k : Fin 2) (x : Fin 256) (j : Fin 512) : (iblk m c 6 t : Vec Ideal S2x256x512 .bf16) (ix3 k x j)
    = gateEntry (heads6 m c) (heads8 m c) k x j := by
  have e : (iblk m c 6 t : Vec Ideal S2x256x512 .bf16) (ix3 k x j) = (V m c main_v33 : Vec Ideal S2x256x512 .bf16) (ix3 k x j) := by
    blk_ext [iblk, idx t]
  rw [e]
  unfold gateEntry
  entry_read
  pointwise
  rfl

theorem holds : Holds (weights m c) (iblk m c 4 t) (iblk m c 5 t) (iblk m c 6 t) (iblk m c 7 t) (iblk m c 8 t) (iblk m c 9 t) where
  cw := blk4 m c t
  cb := blk5 m c t
  wr k x j := (blk6 m c t k x _).trans (gateEntry_r _ _ _ (fun _ _ _ hn hd he => dif_pos ⟨hn, hd, he⟩) k x j)
  br := blk7 m c t
  wi k x j := (blk6 m c t k x _).trans (gateEntry_i _ _ _ (fun _ _ _ hn hd he => dif_pos ⟨hn, hd, he⟩) k x j)
  bi := blk8 m c t
  lam := blk9 m c t

theorem four_eq (p : Fin 128) : four (iblk m c 0 t) (iblk m c 2 t) p = rows m c p := by
  funext s j
  unfold four rows
  split
  · exact blk2 m c t _ p j
  · exact blk0 m c t p j

theorem stored12 (p : Fin 128) (j : Fin 512) : out0_12 (F := Ideal) (iblk m c 0 t) (iblk m c 1 t) (iblk m c 2 t) (iblk m c 3 t) (iblk m c 4 t)
    (iblk m c 5 t) (iblk m c 6 t) (iblk m c 7 t) (iblk m c 8 t) (iblk m c 9 t) (ix2 p j) = stateArr m c (ix2 p j) := by
  refine (out12_apply _ _ _ _ (holds m c t) p j).trans ?_
  rw [four_eq]
  exact congrArg (fun z : EReal => dec (weights m c) (rows m c p) 0 j * z + inp (weights m c) (rows m c p) 0 j) (blk3 m c t p j)

theorem stored10 (p : Fin 128) (j : Fin 512) : out0_10 (F := Ideal) (iblk m c 0 t) (iblk m c 1 t) (iblk m c 2 t) (iblk m c 3 t) (iblk m c 4 t)
    (iblk m c 5 t) (iblk m c 6 t) (iblk m c 7 t) (iblk m c 8 t) (iblk m c 9 t) (ix2 p j) = outArr m c (ix2 p j) := by
  refine (out10_apply _ _ _ _ (holds m c t) p j).trans ?_
  rw [four_eq]
  exact congrArg₂ (fun z g : EReal => (dec (weights m c) (rows m c p) 0 j * z + inp (weights m c) (rows m c p) 0 j) * gelu g)
    (blk3 m c t p j) (blk1 m c t p j)

theorem stored11 (k : Fin 3) (p : Fin 128) (j : Fin 512) : out0_11 (F := Ideal) (iblk m c 0 t) (iblk m c 1 t) (iblk m c 2 t) (iblk m c 3 t)
    (iblk m c 4 t) (iblk m c 5 t) (iblk m c 6 t) (iblk m c 7 t) (iblk m c 8 t) (iblk m c 9 t) (ix3 k p j) = pastArr m c (ix3 k p j) := by
  refine (out11_apply _ _ _ _ k p j).trans ?_
  rw [four_eq]
  rfl

/-- The output's array after the run. -/
theorem final10 : (dats m 0 c).arrAt 10 cfg0.N = outArr m c := by
  refine (dats m 0 c).arrAt_eq_of_covers 10 _ (by decide +kernel) fun t _ y => ?_
  obtain ⟨p, j, rfl⟩ : ∃ (p : Fin 128) (j : Fin 512), y = ix2 p j := ⟨y 0, y 1, by funext a; fin_cases a <;> rfl⟩
  have e : ((cfg0.win 10).blk t).view.emb (ix2 p j) = (ix2 p j : S128x512.Idx) := by
    funext a
    refine Fin.ext ?_
    fin_cases a
    · show 0 * 128 + 1 * p.val = p.val; omega
    · show 0 * 512 + 1 * j.val = j.val; omega
  have f := congrFun (Value.flushed10 m c t) (ix2 p j)
  refine (f.trans ?_).trans (congrArg (outArr m c) e.symm)
  exact stored10 m c t p j

/-- The history's array after the run. -/
theorem final11 : (dats m 0 c).arrAt 11 cfg0.N = pastArr m c := by
  refine (dats m 0 c).arrAt_eq_of_covers 11 _ (by decide +kernel) fun t _ y => ?_
  obtain ⟨k, p, j, rfl⟩ : ∃ (k : Fin 3) (p : Fin 128) (j : Fin 512), y = ix3 k p j := ⟨y 0, y 1, y 2, by funext a; fin_cases a <;> rfl⟩
  have e : ((cfg0.win 11).blk t).view.emb (ix3 k p j) = (ix3 k p j : S3x128x512.Idx) := by
    funext a
    refine Fin.ext ?_
    fin_cases a
    · show 0 * 3 + 1 * k.val = k.val; omega
    · show 0 * 128 + 1 * p.val = p.val; omega
    · show 0 * 512 + 1 * j.val = j.val; omega
  have f := congrFun (Value.flushed11 m c t) (ix3 k p j)
  refine (f.trans ?_).trans (congrArg (pastArr m c) e.symm)
  exact stored11 m c t k p j

/-- The state's array after the run. -/
theorem final12 : (dats m 0 c).arrAt 12 cfg0.N = stateArr m c := by
  refine (dats m 0 c).arrAt_eq_of_covers 12 _ (by decide +kernel) fun t _ y => ?_
  obtain ⟨p, j, rfl⟩ : ∃ (p : Fin 128) (j : Fin 512), y = ix2 p j := ⟨y 0, y 1, by funext a; fin_cases a <;> rfl⟩
  have e : ((cfg0.win 12).blk t).view.emb (ix2 p j) = (ix2 p j : S128x512.Idx) := by
    funext a
    refine Fin.ext ?_
    fin_cases a
    · show 0 * 128 + 1 * p.val = p.val; omega
    · show 0 * 512 + 1 * j.val = j.val; omega
  have f := congrFun (Value.flushed12 m c t) (ix2 p j)
  refine (f.trans ?_).trans (congrArg (stateArr m c) e.symm)
  exact stored12 m c t p j

end Cert.Kernel5Ideal.Step
end
-- ==== Proof.StepReference.lean ====
module
public import proofs.«01_k».proof.Proof.LruEntry
public import proofs.«01_k».proof.Proof.Gen.Reference5Ideal.Run

/-! # The reference's single step

The reference's three arrays at an index, over the rows of a sample: its history and then the new row. -/

@[expose] public section
set_option maxRecDepth 16384
noncomputable section
open Idealize.ShloMosaic Idealize.ShloMosaic.TcCoe Idealize.SL.Sem Idealize.ShloMosaic.StableHlo

namespace Cert.Lru

section
variable (past : Fin 3 → Fin 512 → EReal) (new : Fin 512 → EReal) (cw : Fin 4 → Fin 512 → EReal) (cb : Fin 512 → EReal)
  (wr : Fin 8 → Fin 64 → Fin 64 → EReal) (br : Fin 512 → EReal) (wi : Fin 8 → Fin 64 → Fin 64 → EReal) (bi lam : Fin 512 → EReal)

/-- Three rows and then a new one. -/
def fourOf (s : ℕ) (j : Fin 512) : EReal := if h : s < 3 then past ⟨s, h⟩ j else new j

/-- The convolution as the reference sums it: the four taps first, then the bias. -/
def convFour (j : Fin 512) : EReal :=
  cb j + (past 0 j * cw 0 j + past 1 j * cw 1 j + past 2 j * cw 2 j + new j * cw 3 j)

theorem convFour_eq (j : Fin 512) : convFour past new cw cb j = conv (Weights.of cw cb wr br wi bi lam) (fourOf past new) 0 j := by
  show _ = cb j + new j * cw 3 j + past 2 j * cw 2 j + past 1 j * cw 1 j + past 0 j * cw 0 j
  unfold convFour
  ac_rfl

/-- A gate as the reference computes it. -/
def gateFour (w : Fin 8 → Fin 64 → Fin 64 → EReal) (bb : Fin 512 → EReal) (j : Fin 512) : EReal :=
  Ideal.div 1 (1 + Ideal.exp (-((∑ x : Fin 64, w ⟨j.val / 64, by omega⟩ x ⟨j.val % 64, by omega⟩
    * convFour past new cw cb ⟨j.val / 64 * 64 + x.val, by omega⟩) + bb j)))

theorem gateFour_eq (w : Fin 8 → Fin 64 → Fin 64 → EReal) (w' : ℕ → ℕ → ℕ → EReal) (bb : Fin 512 → EReal)
    (hw : ∀ n d e, w' n.val d.val e.val = w n d e) (j : Fin 512) :
    gateFour past new cw cb w bb j = gate w' bb (conv (Weights.of cw cb wr br wi bi lam) (fourOf past new) 0) j := by
  unfold gateFour gate
  congr 5
  refine Finset.sum_congr rfl fun x _ => ?_
  rw [mul_comm, convFour_eq past new cw cb wr br wi bi lam]
  congr 1
  · congr 1; exact Fin.ext (by show j.val / 64 * 64 + x.val = 64 * (j.val / 64) + x.val; omega)
  · exact (hw ⟨j.val / 64, by omega⟩ x ⟨j.val % 64, by omega⟩).symm

/-- The decay's logarithm as the reference computes it. -/
def laFour (j : Fin 512) : EReal :=
  Ideal.ofBits FTy.f32 0xC1000000#32 *
      (if -lam j ≠ -lam j then -lam j else max (-lam j) 0 + Ideal.log1p (Ideal.exp (-max (-lam j) (-(-lam j)))))
    * gateFour past new cw cb wr br j

/-- The state after the step, as the reference computes it. -/
def stateFour (h : EReal) (j : Fin 512) : EReal :=
  Ideal.exp (laFour past new cw cb wr br lam j) * h
    + Ideal.sqrt (-(Ideal.exp (Ideal.ofBits FTy.f32 0x40000000#32 * laFour past new cw cb wr br lam j) - 1))
      * (gateFour past new cw cb wi bi j * convFour past new cw cb j)

theorem stateFour_eq (h : EReal) (j : Fin 512) : stateFour past new cw cb wr br wi bi lam h j
    = dec (Weights.of cw cb wr br wi bi lam) (fourOf past new) 0 j * h + inp (Weights.of cw cb wr br wi bi lam) (fourOf past new) 0 j := by
  have hl : laFour past new cw cb wr br lam j = la (Weights.of cw cb wr br wi bi lam) (fourOf past new) 0 j := by
    unfold laFour la
    rw [if_neg (fun h => h rfl), gateFour_eq past new cw cb wr br wi bi lam wr (Weights.of cw cb wr br wi bi lam).wr br
      (fun n d e => dif_pos ⟨n.2, d.2, e.2⟩)]
    rfl
  unfold stateFour
  rw [hl, two_eq, convFour_eq past new cw cb wr br wi bi lam,
    gateFour_eq past new cw cb wr br wi bi lam wi (Weights.of cw cb wr br wi bi lam).wi bi (fun n d e => dif_pos ⟨n.2, d.2, e.2⟩)]
  rfl
end

end Cert.Lru

namespace Cert.Reference5Ideal.Step
open Cert.Reference5Ideal Cert.Reference5Ideal.Gen Cert.Lru
variable (m : (ℓ : Loc nD τ sig) → Buf (Elt Ideal) ℓ) (c : Dev nD)

/-- The arguments. -/
def arg0 : FVec Ideal S128x512 .f32 := m ((c : Thread nD τ).loc main_arg0)
@[inherit_doc arg0] def arg1 : FVec Ideal S128x512 .f32 := m ((c : Thread nD τ).loc main_arg1)
@[inherit_doc arg0] def arg2 : FVec Ideal S128x3x512 .f32 := m ((c : Thread nD τ).loc main_arg2)
@[inherit_doc arg0] def arg3 : FVec Ideal S128x512 .f32 := m ((c : Thread nD τ).loc main_arg3)

/-- The weights the reference is given. -/
def weights : Weights :=
  Weights.of (fun k j => m ((c : Thread nD τ).loc main_arg4) (ix2 k j)) (fun j => m ((c : Thread nD τ).loc main_arg5) (ix1 j))
    (fun n d e => m ((c : Thread nD τ).loc main_arg6) (ix3 n d e)) (fun j => m ((c : Thread nD τ).loc main_arg7) (ix1 j))
    (fun n d e => m ((c : Thread nD τ).loc main_arg8) (ix3 n d e)) (fun j => m ((c : Thread nD τ).loc main_arg9) (ix1 j))
    (fun j => m ((c : Thread nD τ).loc main_arg10) (ix1 j))

/-- The rows of a sample: its history and then the new row. -/
def rows (p : Fin 128) : ℕ → Fin 512 → EReal := fourOf (fun k j => arg2 m c (ix3 p k j)) fun j => arg0 m c (ix2 p j)

/-- The state after the step. -/
def state (p : Fin 128) (j : Fin 512) : EReal :=
  dec (weights m c) (rows m c p) 0 j * arg3 m c (ix2 p j) + inp (weights m c) (rows m c p) 0 j

theorem state_apply (p : Fin 128) (j : Fin 512) : (Value.res_main_v79 (F := Ideal) m c : Vec Ideal S128x512 .f32) (ix2 p j) = state m c p j := by
  unfold state weights rows
  refine Eq.trans ?_ (stateFour_eq _ _ _ _ _ _ _ _ _ (arg3 m c (ix2 p j)) j)
  unfold Value.res_main_v79
  pointwise
  rfl

theorem out_apply (p : Fin 128) (j : Fin 512) : (Value.res_main_v95 (F := Ideal) m c : Vec Ideal S128x512 .f32) (ix2 p j)
    = state m c p j * gelu (arg1 m c (ix2 p j)) := by
  rw [← state_apply]
  unfold Value.res_main_v95 Value.res_main_v79 gelu
  pointwise
  rfl

/-- The history after the step. -/
def past : FVec Ideal S3x128x512 .f32 :=
  transpose S3x128x512 [1, 0, 2] (extractStridedSlice S128x3x512 ![0, 1, 0] (concatenate S128x4x512 1 [⟨S128x3x512, arg2 m c⟩,
    ⟨S128x1x512, (broadcastInDim S128x1x512 ![0, 2] bcast_S128x512_S128x1x512_0_2 (arg0 m c))⟩]
    concatenates_S128x3x512_S128x1x512_S128x4x512_d1) slices_S128x4x512_S128x3x512_0_1_0) transposes_S128x3x512_S3x128x512_1_0_2

theorem past_apply (k : Fin 3) (p : Fin 128) (j : Fin 512) : past m c (ix3 k p j) = rows m c p (k.val + 1) j := by
  unfold past rows fourOf
  pointwise
  fin_cases k <;> rfl

end Cert.Reference5Ideal.Step
end
-- ==== Proof.StepClaims.lean ====
module
public import proofs.«01_k».proof.Defs
public import proofs.«01_k».proof.Proof.Gen.Kernel5.Frame
public import proofs.«01_k».proof.Proof.ProjClaims
public import proofs.«01_k».proof.Proof.StepValue
public import proofs.«01_k».proof.Proof.StepReference
public import Idealize.ShloMosaic.Init

/-! # The single step's claims

The kernel's three result arrays and the reference's are the same functions of arguments that agree. -/

@[expose] public section
set_option maxRecDepth 16384
noncomputable section
open Idealize.ShloMosaic Idealize.ShloMosaic.TcCoe Idealize.SL.Sem

namespace Cert.StepClaims
open Cert.Kernel5Ideal.Step Cert.Lru

theorem frame_kernel : @Cert.quiescent_Kernel5 Cert.Kernel5.Gen.facts := fun m ρ _ => Cert.Kernel5.Gen.frame m ρ
theorem frame_ideal : @Cert.quiescent_Kernel5Ideal Cert.Kernel5Ideal.Gen.facts := fun m ρ _ => Cert.Kernel5Ideal.Gen.frame m ρ
theorem frame_reference : @Cert.quiescent_Reference5Ideal Cert.Reference5Ideal.Gen.facts := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem ext2 {a b : ℕ} {F G : (Shape.mk 2 ![a, b]).Idx → EReal} (h : ∀ (p : Fin a) (q : Fin b), F (ix2 p q) = G (ix2 p q)) : F = G :=
  funext fun i => by
    rw [show i = ix2 (i 0) (i 1) by funext y; fin_cases y <;> rfl]
    exact h _ _

section
variable {m : (ℓ : Loc Cert.Kernel5Ideal.nD Cert.Kernel5Ideal.τ Cert.Kernel5Ideal.sig) → Buf (Elt Ideal) ℓ}
  {m' : (ℓ : Loc Cert.Reference5Ideal.nD Cert.Reference5Ideal.τ Cert.Reference5Ideal.sig) → Buf (Elt Ideal) ℓ} {c : Dev 1}
  (hw : Cert.Reference5Ideal.Step.weights m' c = weights m c) (hr : ∀ p, Cert.Reference5Ideal.Step.rows m' c p = rows m c p)
include hr

theorem past_eq : Cert.Reference5Ideal.Step.past m' c = pastArr m c := by
  refine Cert.ProjClaims.ext3 fun k p j => (Cert.Reference5Ideal.Step.past_apply m' c k p j).trans ?_
  rw [hr]
  rfl

include hw

theorem state_eq (h3 : ∀ p j, Cert.Reference5Ideal.Step.arg3 m' c (ix2 p j) = m ((c : Thread Cert.Kernel5Ideal.nD Cert.Kernel5Ideal.τ).loc Cert.Kernel5Ideal.main_arg3) (ix2 p j)) :
    Cert.Reference5Ideal.Value.res_main_v79 (F := Ideal) m' c = stateArr m c := by
  refine ext2 fun p j => (Cert.Reference5Ideal.Step.state_apply m' c p j).trans ?_
  unfold Cert.Reference5Ideal.Step.state
  rw [hw, hr, h3]
  rfl

theorem out_eq (h3 : ∀ p j, Cert.Reference5Ideal.Step.arg3 m' c (ix2 p j) = m ((c : Thread Cert.Kernel5Ideal.nD Cert.Kernel5Ideal.τ).loc Cert.Kernel5Ideal.main_arg3) (ix2 p j))
    (h1 : ∀ p j, Cert.Reference5Ideal.Step.arg1 m' c (ix2 p j) = m ((c : Thread Cert.Kernel5Ideal.nD Cert.Kernel5Ideal.τ).loc Cert.Kernel5Ideal.main_arg1) (ix2 p j)) :
    Cert.Reference5Ideal.Value.res_main_v95 (F := Ideal) m' c = outArr m c := by
  refine ext2 fun p j => (Cert.Reference5Ideal.Step.out_apply m' c p j).trans ?_
  unfold Cert.Reference5Ideal.Step.state
  rw [hw, hr, h3, h1]
  rfl

end

theorem algebraic : @Cert.algebraic_Kernel5Ideal_Reference5Ideal Cert.Kernel5Ideal.Gen.facts Cert.Reference5Ideal.Gen.facts := by
  intro m ρ m' ρ' _ hagree
  refine ⟨fun c => outArr m c, fun c => pastArr m c, fun c => stateArr m c,
    (θ_run Cert.Kernel5Ideal.defs _ _).mono (fun r h c => ?_) (Cert.Kernel5Ideal.Value.run_blocks (F := Ideal) m ρ), ?_⟩
  · obtain ⟨h0, h1, h2, h3⟩ := h c
    exact ⟨h0.trans (final10 m c), h1.trans (final11 m c), h2.trans (final12 m c), h3⟩
  refine (θ_run Cert.Reference5Ideal.defs _ _).mono (fun r h c => ?_) (Cert.Reference5Ideal.Value.run (F := Ideal) m' ρ')
  obtain ⟨h0, h1, h2, h3⟩ := h c
  obtain ⟨e0, e1, e2, e3, e4, e5, e6, e7, e8, e9, e10⟩ := hagree c
  have hw : Cert.Reference5Ideal.Step.weights m' c = weights m c := by
    unfold Cert.Reference5Ideal.Step.weights weights
    rw [e4, e5, e6, e7, e8, e9, e10]
  have hr : ∀ p, Cert.Reference5Ideal.Step.rows m' c p = rows m c p := by
    intro p
    unfold Cert.Reference5Ideal.Step.rows Cert.Reference5Ideal.Step.arg0 Cert.Reference5Ideal.Step.arg2
    rw [e0, e2]
    rfl
  have g3 : ∀ p j, Cert.Reference5Ideal.Step.arg3 m' c (ix2 p j) = m ((c : Thread Cert.Kernel5Ideal.nD Cert.Kernel5Ideal.τ).loc Cert.Kernel5Ideal.main_arg3) (ix2 p j) :=
    fun p j => congrFun e3 (ix2 p j)
  have g1 : ∀ p j, Cert.Reference5Ideal.Step.arg1 m' c (ix2 p j) = m ((c : Thread Cert.Kernel5Ideal.nD Cert.Kernel5Ideal.τ).loc Cert.Kernel5Ideal.main_arg1) (ix2 p j) :=
    fun p j => congrFun e1 (ix2 p j)
  exact ⟨h0.trans (out_eq hw hr g3 g1), h1.trans (past_eq hr), h2.trans (state_eq hw hr g3), h3⟩

end Cert.StepClaims
end
-- ==== Proof.UpValue.lean ====
module
public import proofs.«01_k».proof.Proof.Gen.Kernel6Ideal.Value
public import Idealize.ShloMosaic.Lib.Pipeline.ValueKit

/-! # The values' expansion of the samples

A pair of heads is one product with a matrix that has the two heads' matrices on its diagonal and zeros elsewhere: its entry
is a sum over 512 latents of which the 256 of the entry's own head count. -/

@[expose] public section
set_option maxRecDepth 16384
set_option Elab.async false
noncomputable section
open Idealize.ShloMosaic Idealize.ShloMosaic.TcCoe Idealize.ShloMosaic.Tactic Idealize.SL Idealize.SL.Sem
open Idealize.ShloMosaic.Pipeline (Dat Cfg Window)

namespace Cert.Kernel6Ideal.Up
open Cert.Kernel6Ideal Cert.Kernel6Ideal.Gen

/-! ## The mathematics -/

/-- The value of head `h` at column `e`, from the latents `o` of that head. -/
def value (o : Fin 256 → EReal) (w : Fin 256 → Fin 8 → Fin 64 → EReal) (h : Fin 8) (e : Fin 64) : EReal := ∑ k, o k * w k h e

/-- A sum over a pair of heads of which one counts. -/
theorem half (x : Fin 512 → EReal) (f : Fin 256 → EReal) (g : Fin 2) :
    ∑ k : Fin 512, x k * (if k.val / 256 = g.val then f ⟨k.val % 256, by omega⟩ else 0)
      = ∑ k : Fin 256, x ⟨g.val * 256 + k.val, by omega⟩ * f k := by
  refine (Fin.sum_univ_add (M := EReal) (a := 256) (b := 256) _).trans ?_
  have lo : ∀ k : Fin 256, (Fin.castAdd 256 k).val = k.val := fun _ => rfl
  have hi : ∀ k : Fin 256, (Fin.natAdd 256 k).val = 256 + k.val := fun _ => rfl
  fin_cases g
  · refine (congrArg₂ (fun a b : EReal => a + b) (Finset.sum_congr rfl fun k _ => ?_) (Finset.sum_eq_zero fun k _ => ?_)).trans (add_zero _)
    · rw [if_pos (by rw [lo]; show k.val / 256 = 0; omega)]
      exact congrArg₂ (fun a b : EReal => a * b) (congrArg x (Fin.ext (by show k.val = 0 * 256 + k.val; omega)))
        (congrArg f (Fin.ext (by show k.val % 256 = k.val; omega)))
    · rw [if_neg (by rw [hi]; show ¬(256 + k.val) / 256 = 0; omega), mul_zero]
  · refine (congrArg₂ (fun a b : EReal => a + b) (Finset.sum_eq_zero fun k _ => ?_) (Finset.sum_congr rfl fun k _ => ?_)).trans (zero_add _)
    · rw [if_neg (by rw [lo]; show ¬k.val / 256 = 1; omega), mul_zero]
    · rw [if_pos (by rw [hi]; show (256 + k.val) / 256 = 1; omega)]
      exact congrArg₂ (fun a b : EReal => a * b) (congrArg x (Fin.ext (by show 256 + k.val = 1 * 256 + k.val; omega)))
        (congrArg f (Fin.ext (by show (256 + k.val) % 256 = k.val; omega)))

/-! ## The host code's matrices -/

/-- The zeros off the diagonal. -/
def zeros : FVec Ideal S256x64 .f32 := broadcastInDim S256x64 ![] bcast_S_S256x64 (constant S_ .f32 0x00000000#32)

/-- A pair of heads' matrices on a diagonal. -/
def pair (a b : FVec Ideal S256x64 .f32) : FVec Ideal S1x512x128 .f32 :=
  broadcastInDim S1x512x128 ![1, 2] bcast_S512x128_S1x512x128_1_2
    (concatenate S512x128 0 [⟨S256x128, (concatenate S256x128 1 [⟨S256x64, a⟩, ⟨S256x64, zeros⟩] concatenates_S256x64_S256x64_S256x128_d1 : FVec Ideal S256x128 .f32)⟩,
      ⟨S256x128, (concatenate S256x128 1 [⟨S256x64, zeros⟩, ⟨S256x64, b⟩] concatenates_S256x64_S256x64_S256x128_d1 : FVec Ideal S256x128 .f32)⟩]
      concatenates_S256x128_S256x128_S512x128_d0)

/-- The weights with the heads first. -/
def heads (w : FVec Ideal S256x8x64 .f32) : FVec Ideal S8x256x64 .f32 := transpose S8x256x64 [1, 0, 2] w transposes_S256x8x64_S8x256x64_1_0_2

/-- The four pairs. -/
def pairs (w : FVec Ideal S256x8x64 .f32) : FVec Ideal S4x512x128 .bf16 :=
  truncf .bf16 (concatenate S4x512x128 0
    [⟨S1x512x128, pair (shapeCast S256x64 (extractStridedSlice S1x256x64 ![0, 0, 0] (heads w) slices_S8x256x64_S1x256x64_0_0_0) shapeCasts_S1x256x64_S256x64)
        (shapeCast S256x64 (extractStridedSlice S1x256x64 ![1, 0, 0] (heads w) slices_S8x256x64_S1x256x64_1_0_0) shapeCasts_S1x256x64_S256x64)⟩,
      ⟨S1x512x128, pair (shapeCast S256x64 (extractStridedSlice S1x256x64 ![2, 0, 0] (heads w) slices_S8x256x64_S1x256x64_2_0_0) shapeCasts_S1x256x64_S256x64)
        (shapeCast S256x64 (extractStridedSlice S1x256x64 ![3, 0, 0] (heads w) slices_S8x256x64_S1x256x64_3_0_0) shapeCasts_S1x256x64_S256x64)⟩,
      ⟨S1x512x128, pair (shapeCast S256x64 (extractStridedSlice S1x256x64 ![4, 0, 0] (heads w) slices_S8x256x64_S1x256x64_4_0_0) shapeCasts_S1x256x64_S256x64)
        (shapeCast S256x64 (extractStridedSlice S1x256x64 ![5, 0, 0] (heads w) slices_S8x256x64_S1x256x64_5_0_0) shapeCasts_S1x256x64_S256x64)⟩,
      ⟨S1x512x128, pair (shapeCast S256x64 (extractStridedSlice S1x256x64 ![6, 0, 0] (heads w) slices_S8x256x64_S1x256x64_6_0_0) shapeCasts_S1x256x64_S256x64)
        (shapeCast S256x64 (extractStridedSlice S1x256x64 ![7, 0, 0] (heads w) slices_S8x256x64_S1x256x64_7_0_0) shapeCasts_S1x256x64_S256x64)⟩]
    concatenates_S1x512x128_S1x512x128_S1x512x128_S1x512x128_S4x512x128_d0) bitsLt_bf16_f32

/-- An entry of a pair's block-diagonal matrix. -/
theorem pair_apply (a b : FVec Ideal S256x64 .f32) (z : Fin 1) (k : Fin 512) (r : Fin 128) : pair a b (ix3 z k r)
    = if k.val / 256 = r.val / 64 then (if r.val / 64 = 0 then a else b) (ix2 ⟨k.val % 256, by omega⟩ ⟨r.val % 64, by omega⟩) else 0 := by
  have hk := k.isLt
  have hr := r.isLt
  unfold pair zeros
  pointwise
  by_cases h : k.val < 256 <;> by_cases h' : r.val < 64
  · rw [dif_pos h, dif_pos h', if_pos (by omega), if_pos (by omega)]
    exact congrArg a (congrArg₂ ix2 (Fin.ext (by show k.val = k.val % 256; omega)) (Fin.ext (by show r.val = r.val % 64; omega)))
  · rw [dif_pos h, dif_neg h', if_neg (by omega)]
  · rw [dif_neg h, dif_pos h', if_neg (by omega)]
  · rw [dif_neg h, dif_neg h']
    have q : k.val / 256 = r.val / 64 := by omega
    have q' : ¬r.val / 64 = 0 := by omega
    simp only [if_pos q, if_neg q']
    exact congrArg b (congrArg₂ ix2 (Fin.ext (by show k.val - 256 = k.val % 256; omega)) (Fin.ext (by show r.val - 64 = r.val % 64; omega)))

set_option maxHeartbeats 4000000 in
/-- An entry of the four pairs' matrices. -/
theorem pairs_apply (w : FVec Ideal S256x8x64 .f32) (p : Fin 4) (k : Fin 512) (r : Fin 128) : pairs w (ix3 p k r)
    = if k.val / 256 = r.val / 64 then w (ix3 ⟨k.val % 256, by omega⟩ ⟨2 * p.val + r.val / 64, by omega⟩ ⟨r.val % 64, by omega⟩) else 0 := by
  have hr := r.isLt
  unfold pairs
  pointwise
  simp only [pair_apply]
  by_cases h : k.val / 256 = r.val / 64
  · simp only [if_pos h]
    by_cases h' : r.val / 64 = 0
    · simp only [if_pos h']
      fin_cases p <;> simp [heads] <;> pointwise <;> simp [h']
    · have h1 : r.val / 64 = 1 := by omega
      simp only [if_neg h']
      fin_cases p <;> simp [heads] <;> pointwise <;> simp [h1]
  · simp only [if_neg h]
    simp

/-! ## The arrays -/

variable (m : (ℓ : Loc nD τ sig) → Buf (Elt Ideal) ℓ) (c : Dev nD) (t : Fin cfg0.N)

/-- The attended latents and the weights the kernel's program is given. -/
def arg0 : FVec Ideal S128x2048 .f32 := m ((c : Thread nD τ).loc main_arg0)
@[inherit_doc arg0] def arg1 : FVec Ideal S256x8x64 .f32 := m ((c : Thread nD τ).loc main_arg1)

set_option maxHeartbeats 8000000 in
/-- The weights the call is given are the four pairs. -/
theorem v35_eq : (V m c main_v35 : Vec Ideal S4x512x128 .bf16) = pairs (arg1 m c) := by
  show StableHlo.after hostOps0 (fun b => m (c, b)) main_v35 = _
  after_results_simp
  try dsimp only [Matrix.cons_val]
  try after_results_simp
  rfl

/-- Every block is its whole array. -/
theorem idx : ∀ t : Fin cfg0.N, win0_0.index t = ![0, 0] ∧ win0_1.index t = ![0, 0, 0] ∧ win0_2.index t = ![0, 0, 0, 0] :=
  (by decide +kernel : ∀ t : Fin grid0.N, _)

/-- The block of the attended latents. -/
theorem blk0 (n : Fin 128) (k : Fin 2048) : (iblk m c 0 t : Vec Ideal S128x2048 .f32) (ix2 n k) = arg0 m c (ix2 n k) := by
  unfold arg0
  blk_ext [iblk, V, idx t]

/-- The block of the weights. -/
theorem blk1 (p : Fin 4) (k : Fin 512) (r : Fin 128) : (iblk m c 1 t : Vec Ideal S4x512x128 .bf16) (ix3 p k r) = pairs (arg1 m c) (ix3 p k r) := by
  rw [← v35_eq m c]
  blk_ext [iblk, idx t]

/-! ## The stores -/

section
variable (a : Vec Ideal S128x512 .f32) (b : Vec Ideal S1x512x128 .bf16) (z z' : Fin 1) (n r : Fin 128)
/-- A pair's product; every pair's store is this one. -/
theorem pay_apply : k0_pay1 a b (ix4 z z' n r) = ∑ k : Fin 512, a (ix2 n k) * b (ix3 (0 : Fin 1) k r) := by pointwise [k0_pay1]
end

section
variable (x0 : Vec Ideal S128x2048 .f32) (x1 : Vec Ideal S4x512x128 .bf16)

/-- An entry of the block the body leaves: a pair's product. -/
def entry (p : Fin 4) (n r : Fin 128) : EReal := ∑ k : Fin 512, x0 (ix2 n ⟨p.val * 512 + k.val, by omega⟩) * x1 (ix3 p k r)

/-- The result's block: every pair's product. -/
theorem out_apply (p : Fin 4) (n r : Fin 128) : out0_2 x0 x1 (ix4 (0 : Fin 1) p n r) = entry x0 x1 p n r := by
  unfold out0_2
  let G : S1x4x128x128.Idx → Elt Ideal .f32 := fun y => (entry x0 x1 (y 1) (y 2) (y 3) : EReal)
  refine View.canon_apply_of_pieces (Val := Elt Ideal) G _ ?_ (ix4 (0 : Fin 1) p n r)
    (cover0_2 _ _ _ _ (ix4 (0 : Fin 1) p n r))
  intro q hq y
  have hq' : q ∈ [_, _, _, _] := hq
  simp only [List.mem_cons, List.not_mem_nil, or_false] at hq'
  rcases hq' with rfl | rfl | rfl | rfl
  all_goals
    obtain ⟨z, z', n, r, rfl⟩ : ∃ (z z' : Fin 1) (n r : Fin 128), y = ix4 z z' n r := ⟨y 0, y 1, y 2, y 3, by funext a; fin_cases a <;> rfl⟩
    obtain rfl : z' = 0 := Subsingleton.elim _ _
    refine (pay_apply _ _ z 0 n r).trans (Finset.sum_congr rfl fun k _ => congrArg₂ (fun a b : EReal => a * b)
      (congrArg x0 (funext fun a => Fin.ext ?_)) (congrArg x1 (funext fun a => Fin.ext ?_)))
  all_goals fin_cases a
  all_goals try first | rfl | (show 0 + 1 * k.val = k.val; omega)
  · show 1536 + 1 * k.val = 3 * 512 + k.val; omega
  · show 1024 + 1 * k.val = 2 * 512 + k.val; omega
  · show 512 + 1 * k.val = 1 * 512 + k.val; omega
  · show 0 + 1 * k.val = 0 * 512 + k.val; omega
end

/-! ## The result array -/

/-- The values' array: two heads in a row of 128 columns. -/
def outArr : S1x4x128x128.Idx → EReal := fun i =>
  have h1 : (i 1).val < 4 := (i 1).isLt
  have h3 : (i 3).val < 128 := (i 3).isLt
  value (fun k => arg0 m c (ix2 (i 2) ⟨(2 * (i 1).val + (i 3).val / 64) * 256 + k.val, by omega⟩)) (fun k h e => arg1 m c (ix3 k h e))
    ⟨2 * (i 1).val + (i 3).val / 64, by omega⟩ ⟨(i 3).val % 64, by omega⟩

/-- A pair's product over 512 columns is one head's over 256. -/
theorem entry_eq (p : Fin 4) (n r : Fin 128) : entry (iblk m c 0 t) (iblk m c 1 t) p n r = outArr m c (ix4 (0 : Fin 1) p n r) := by
  unfold entry
  simp only [blk0, blk1, pairs_apply]
  refine (half (fun k => arg0 m c (ix2 n ⟨p.val * 512 + k.val, by omega⟩))
    (fun k => arg1 m c (ix3 k ⟨2 * p.val + r.val / 64, by omega⟩ ⟨r.val % 64, by omega⟩)) ⟨r.val / 64, by omega⟩).trans ?_
  change _ = ∑ k : Fin 256, arg0 m c (ix2 n ⟨(2 * p.val + r.val / 64) * 256 + k.val, by omega⟩)
    * arg1 m c (ix3 k ⟨2 * p.val + r.val / 64, by omega⟩ ⟨r.val % 64, by omega⟩)
  refine Finset.sum_congr rfl fun k _ => congrArg₂ (fun a b : EReal => a * b) (congrArg (arg0 m c) (congrArg (ix2 n) (Fin.ext ?_))) rfl
  show p.val * 512 + (r.val / 64 * 256 + k.val) = (2 * p.val + r.val / 64) * 256 + k.val
  omega

/-- An index whose first axis has length one. -/
theorem lead4 {b d e : ℕ} (y : (Shape.mk 4 ![1, b, d, e]).Idx) : ∃ (p : Fin b) (n : Fin d) (r : Fin e), y = ix4 (0 : Fin 1) p n r :=
  ⟨y 1, y 2, y 3, by
    funext a
    fin_cases a
    · exact Fin.ext (by have h : (y 0).val < 1 := (y 0).isLt; show (y 0).val = 0; omega)
    · rfl
    · rfl
    · rfl⟩

/-- The values' array after the run. -/
theorem final2 : (dats m 0 c).arrAt 2 cfg0.N = outArr m c := by
  refine (dats m 0 c).arrAt_eq_of_covers 2 _ (by decide +kernel) fun t _ y => ?_
  obtain ⟨p, n, r, rfl⟩ : ∃ (p : Fin 4) (n r : Fin 128), y = ix4 (0 : Fin 1) p n r := lead4 y
  have e : ((cfg0.win 2).blk t).view.emb (ix4 (0 : Fin 1) p n r) = (ix4 (0 : Fin 1) p n r : S1x4x128x128.Idx) := by
    funext a
    refine Fin.ext ?_
    fin_cases a
    · rfl
    · show 0 * 4 + 1 * p.val = p.val; omega
    · show 0 * 128 + 1 * n.val = n.val; omega
    · show 0 * 128 + 1 * r.val = r.val; omega
  have f := congrFun (Value.flushed2 m c t) (ix4 (0 : Fin 1) p n r)
  refine (f.trans ?_).trans (congrArg (outArr m c) e.symm)
  exact (out_apply _ _ p n r).trans (entry_eq m c t p n r)

end Cert.Kernel6Ideal.Up
end
-- ==== Proof.UpReference.lean ====
module
public import Idealize.ShloMosaic.Lib.Pipeline.ValueKit
public import proofs.«01_k».proof.Proof.Gen.Reference6Ideal.Run

/-! # The values' expansion's reference, entry by entry -/

@[expose] public section
set_option maxRecDepth 16384
noncomputable section

namespace Cert.Reference6Ideal.Up
open Cert.Reference6Ideal Cert.Reference6Ideal.Gen
open Idealize.ShloMosaic Idealize.ShloMosaic.TcCoe Idealize.SL.Sem

variable (m : (ℓ : Loc nD τ sig) → Buf (Elt Ideal) ℓ) (c : Dev nD)

/-- The attended latents and the weights the reference is given. -/
def arg0 : FVec Ideal S128x2048 .f32 := m ((c.tc : Thread nD τ).loc main_arg0)
@[inherit_doc arg0] def arg1 : FVec Ideal S256x8x64 .f32 := m ((c.tc : Thread nD τ).loc main_arg1)

/-- The values of every sample and head. -/
def heads : FVec Ideal S128x1x8x64 .f32 :=
  transpose S128x1x8x64 [2, 3, 0, 1] (Host.dotGeneral (F := Ideal) dot_S256x8x64_S128x1x8x256_S8x64x128x1_0_3_2_01_1_2 none (arg1 m c)
    (shapeCast S128x1x8x256 (arg0 m c) shapeCasts_S128x2048_S128x1x8x256)) transposes_S8x64x128x1_S128x1x8x64_2_3_0_1

/-- An entry of the heads' values. -/
theorem heads_apply (n : Fin 128) (z : Fin 1) (h : Fin 8) (e : Fin 64) : heads m c (ix4 n z h e)
    = ∑ k : Fin 256, arg1 m c (ix3 k h e) * arg0 m c (ix2 n ⟨h.val * 256 + k.val, by omega⟩) := by
  unfold heads
  pointwise

/-- The reference's result. -/
def out : FVec Ideal S1x4x128x128 .f32 :=
  broadcastInDim S1x4x128x128 ![1, 2, 3] bcast_S4x128x128_S1x4x128x128_1_2_3 (transpose S4x128x128 [1, 0, 2]
    (shapeCast S128x4x128 (shapeCast S128x1x512 (heads m c) shapeCasts_S128x1x8x64_S128x1x512) shapeCasts_S128x1x512_S128x4x128)
    transposes_S128x4x128_S4x128x128_1_0_2)

/-- An entry of the reference's result. -/
theorem out_apply (p : Fin 4) (n r : Fin 128) : out m c (ix4 (0 : Fin 1) p n r)
    = heads m c (ix4 n (0 : Fin 1) ⟨2 * p.val + r.val / 64, by omega⟩ ⟨r.val % 64, by omega⟩) := by
  unfold out
  pointwise
  exact congrArg (fun h => heads m c (ix4 n (0 : Fin 1) h ⟨r.val % 64, by omega⟩)) (Fin.ext (by show p.val * 2 + r.val / 64 = 2 * p.val + r.val / 64; omega))

end Cert.Reference6Ideal.Up
end
-- ==== Proof.UpClaims.lean ====
module
public import proofs.«01_k».proof.Defs
public import proofs.«01_k».proof.Proof.Gen.Kernel6.Frame
public import proofs.«01_k».proof.Proof.UpValue
public import proofs.«01_k».proof.Proof.UpReference
public import Idealize.ShloMosaic.Init

/-! # The values' expansion's claims

The kernel's result array and the reference's are the same function of arguments that agree. -/

@[expose] public section
set_option maxRecDepth 16384
noncomputable section
open Idealize.ShloMosaic Idealize.ShloMosaic.TcCoe Idealize.SL.Sem

namespace Cert.UpClaims
open Cert.Kernel6Ideal.Up

/-- The kernel ends without fault and leaves its arguments. -/
theorem frame_kernel : @Cert.quiescent_Kernel6 Cert.Kernel6.Gen.facts := fun m ρ _ => Cert.Kernel6.Gen.frame m ρ
/-- So does its idealization. -/
theorem frame_ideal : @Cert.quiescent_Kernel6Ideal Cert.Kernel6Ideal.Gen.facts := fun m ρ _ => Cert.Kernel6Ideal.Gen.frame m ρ
/-- So does the reference. -/
theorem frame_reference : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two programs have the same result. -/
theorem out_eq {m : (ℓ : Loc Cert.Kernel6Ideal.nD Cert.Kernel6Ideal.τ Cert.Kernel6Ideal.sig) → Buf (Elt Ideal) ℓ}
    {m' : (ℓ : Loc Cert.Reference6Ideal.nD Cert.Reference6Ideal.τ Cert.Reference6Ideal.sig) → Buf (Elt Ideal) ℓ} {c : Dev 1}
    (h0 : Cert.Reference6Ideal.Up.arg0 m' c = arg0 m c) (h1 : Cert.Reference6Ideal.Up.arg1 m' c = arg1 m c) :
    Cert.Reference6Ideal.Up.out m' c = outArr m c := by
  funext i
  obtain ⟨p, n, r, rfl⟩ := lead4 i
  refine (Cert.Reference6Ideal.Up.out_apply m' c p n r).trans ((Cert.Reference6Ideal.Up.heads_apply m' c n 0 _ _).trans ?_)
  rw [h0, h1]
  exact Finset.sum_congr rfl fun k _ => mul_comm _ _

/-- The kernel's result is the reference's. -/
theorem algebraic : @Cert.algebraic_Kernel6Ideal_Reference6Ideal Cert.Kernel6Ideal.Gen.facts Cert.Reference6Ideal.Gen.facts := by
  intro m ρ m' ρ' _ hagree
  refine ⟨fun c => outArr m c,
    (θ_run Cert.Kernel6Ideal.defs _ _).mono (fun r h c => ?_) (Cert.Kernel6Ideal.Value.run_blocks (F := Ideal) m ρ), ?_⟩
  · obtain ⟨h0, h1⟩ := h c
    exact ⟨h0.trans (final2 m c), h1⟩
  refine (θ_run Cert.Reference6Ideal.defs _ _).mono (fun r h c => ?_) (Cert.Reference6Ideal.Value.run (F := Ideal) m' ρ')
  obtain ⟨h0, h1⟩ := h c
  obtain ⟨e0, e1⟩ := hagree c
  have g0 : Cert.Reference6Ideal.Up.arg0 m' c = arg0 m c := e0
  have g1 : Cert.Reference6Ideal.Up.arg1 m' c = arg1 m c := e1
  exact ⟨h0.trans (out_eq g0 g1), h1⟩

end Cert.UpClaims
end
-- ==== Proof.AbsorbHost.lean ====
module
public import proofs.«01_k».proof.Proof.Gen.Kernel7Ideal.Frame
public import Idealize.ShloMosaic.Lib.Pipeline.ValueKit
public import Idealize.ShloMosaic.Lib.Routing.OpsSet

/-! # What the absorption's host code prepares

The keys' weights with the heads first and 64 rows of zeros below; and the matrix that picks the 32 rotary rows out of 128,
which is made by setting 32 entries of a matrix of zeros to one. -/

@[expose] public section
set_option maxRecDepth 16384
set_option Elab.async false
noncomputable section

namespace Cert.Kernel7Ideal.Absorb
open Cert.Kernel7Ideal Cert.Kernel7Ideal.Gen
open Idealize.ShloMosaic Idealize.ShloMosaic.TcCoe Idealize.ShloMosaic.Tactic Idealize.SL Idealize.SL.Sem

variable (m : (ℓ : Loc nD τ sig) → Buf (Elt Ideal) ℓ) (c : Dev nD)

/-- The samples' queries and the weights the kernel's program is given. -/
def arg0 : FVec Ideal S8x128x128 .bf16 := m ((c : Thread nD τ).loc main_arg0)
@[inherit_doc arg0] def arg1 : FVec Ideal S256x8x64 .f32 := m ((c : Thread nD τ).loc main_arg1)

/-- The weights the call is given: a head's keys' weights, and zeros from row 64 on. -/
theorem v3_apply (h : Fin 8) (k : Fin 128) (l : Fin 256) : (V m c main_v3 : Vec Ideal S8x128x256 .bf16) (ix3 h k l)
    = if g : k.val < 64 then arg1 m c (ix3 l h ⟨k.val, g⟩) else 0 := by
  entry_read
  pointwise
  rfl

/-- The rows of the entries that are set. -/
def rowOf : IVec S32 32 := addi (broadcastInDim S32 ![] bcast_S_S32 (constantI S_ 32 64#32)) (iotaInDim S32 32 0)

/-- The entries that are set: row and column. -/
def places : IVec S32x2 32 :=
  concatenate S32x2 1
    [⟨S32x1, broadcastInDim S32x1 ![0] bcast_S32_S32x1_0 (select (cmpi .slt rowOf (broadcastInDim S32 ![] bcast_S_S32 (constantI S_ 32 0#32)))
        (addi rowOf (broadcastInDim S32 ![] bcast_S_S32 (constantI S_ 32 128#32))) rowOf)⟩,
      ⟨S32x1, broadcastInDim S32x1 ![0] bcast_S32_S32x1_0 (select (cmpi .slt (iotaInDim S32 32 0) (broadcastInDim S32 ![] bcast_S_S32 (constantI S_ 32 0#32)))
        (addi (iotaInDim S32 32 0) (broadcastInDim S32 ![] bcast_S_S32 (constantI S_ 32 32#32))) (iotaInDim S32 32 0))⟩]
    concatenates_S32x1_S32x1_S32x2_d1

/-- The matrix that picks the rotary rows. -/
def picks : FVec Ideal S128x32 .bf16 :=
  truncf .bf16 (Host.scatter scatter_S128x32_S32x2_S32_n_01_01_1 (fun _ b => b)
    (broadcastInDim S128x32 ![] bcast_S_S128x32 (constant S_ .f32 0x00000000#32) : FVec Ideal S128x32 .f32) places
    (broadcastInDim S32 ![] bcast_S_S32 (constant S_ .f32 0x3F800000#32) : FVec Ideal S32 .f32)) bitsLt_bf16_f32

set_option maxHeartbeats 8000000 in
/-- The matrix that picks, as the host code makes it. -/
theorem v24_eq : (V m c main_v24 : Vec Ideal S128x32 .bf16) = picks := by
  show StableHlo.after hostOps0 (fun b => m (c, b)) main_v24 = _
  after_results_simp
  try dsimp only [Matrix.cons_val]
  try after_results_simp
  rfl

/-- Where each one of the scatter goes. -/
theorem lands : ∀ e : Fin 32, scatter_S128x32_S32x2_S32_n_01_01_1.resultIdx? (ix1 e) places = some (ix2 ⟨e.val + 64, by omega⟩ e) := by
  decide +kernel

/-- An entry of the matrix that picks. -/
theorem picks_apply (k : Fin 128) (i : Fin 32) : picks (ix2 k i) = if k.val = i.val + 64 then 1 else 0 := by
  have one : ∀ j : S32.Idx, (broadcastInDim S32 ![] bcast_S_S32 (constant S_ .f32 0x3F800000#32) : FVec Ideal S32 .f32) j = (1 : EReal) := by
    intro j
    pointwise
  have zero : (broadcastInDim S128x32 ![] bcast_S_S128x32 (constant S_ .f32 0x00000000#32) : FVec Ideal S128x32 .f32) (ix2 k i) = (0 : EReal) := by
    pointwise
  show Host.scatter (α := EReal) scatter_S128x32_S32x2_S32_n_01_01_1 (fun _ b => b) _ places _ (ix2 k i) = _
  by_cases h : k.val = i.val + 64
  · rw [if_pos h]
    refine Routing.scatter_set_hit _ _ _ _ _ _ (fun j _ => one j) (ix1 i) ((lands i).trans (congrArg some (congrArg (ix2 · i) (Fin.ext h.symm))))
  · rw [if_neg h]
    refine (Routing.scatter_set_miss _ _ _ _ _ fun j q => h ?_).trans zero
    have q' := (lands (j 0)).symm.trans ((congrArg (fun j => scatter_S128x32_S32x2_S32_n_01_01_1.resultIdx? j places) (show ix1 (j 0) = j by funext a; fin_cases a; rfl)).trans q)
    have q0 := Option.some.inj q'
    have a0 : (j 0).val + 64 = k.val := congrArg Fin.val (congrFun q0 0)
    have a1 : (j 0).val = i.val := congrArg Fin.val (congrFun q0 1)
    omega

end Cert.Kernel7Ideal.Absorb
end
-- ==== Proof.AbsorbValue.lean ====
module
public import proofs.«01_k».proof.Proof.AbsorbHost
public import proofs.«01_k».proof.Proof.Gen.Kernel7Ideal.Value

/-! # The absorption of the keys' weights into the samples' queries

A head's query is a product with a matrix whose last 64 rows are zero, so that the query's unrotated rows alone count; its
rotary rows are picked by a product with a matrix of ones and zeros. -/

@[expose] public section
set_option maxRecDepth 16384
noncomputable section
open Idealize.ShloMosaic Idealize.ShloMosaic.TcCoe Idealize.ShloMosaic.Tactic Idealize.SL Idealize.SL.Sem
open Idealize.ShloMosaic.Pipeline (Dat Cfg Window)

namespace Cert.Kernel7Ideal.Absorb
open Cert.Kernel7Ideal Cert.Kernel7Ideal.Gen

/-! ## The mathematics -/

/-- A sum whose second half is of zeros. -/
theorem first_half (x : Fin 128 → EReal) (f : Fin 64 → EReal) :
    ∑ k : Fin 128, x k * (if g : k.val < 64 then f ⟨k.val, g⟩ else 0) = ∑ k : Fin 64, x ⟨k.val, by omega⟩ * f k := by
  refine (Fin.sum_univ_add (M := EReal) (a := 64) (b := 64) _).trans ?_
  have hi : ∀ k : Fin 64, (Fin.natAdd 64 k).val = 64 + k.val := fun _ => rfl
  refine (congrArg₂ (fun a b : EReal => a + b) (Finset.sum_congr rfl fun k _ => ?_) (Finset.sum_eq_zero fun k _ => ?_)).trans (add_zero _)
  · exact congrArg₂ (fun a b : EReal => a * b) rfl (dif_pos k.isLt)
  · rw [dif_neg (by rw [hi]; omega), mul_zero]

/-- A sum with one one. -/
theorem picked (x : Fin 128 → EReal) (i : Fin 32) :
    ∑ k : Fin 128, x k * (if k.val = i.val + 64 then 1 else 0) = x ⟨64 + i.val, by omega⟩ := by
  refine (Finset.sum_eq_single (⟨64 + i.val, by omega⟩ : Fin 128) (fun k _ hk => ?_) (fun h => absurd (Finset.mem_univ _) h)).trans ?_
  · rw [if_neg (fun h => hk (Fin.ext (by show k.val = 64 + i.val; omega))), mul_zero]
  · rw [if_pos (Nat.add_comm _ _), mul_one]

/-! ## The stores -/

section
variable (a : Vec Ideal S1x128x128 .bf16) (b : Vec Ideal S1x128x256 .bf16) (s : Vec Ideal S128x32 .bf16) (z : Fin 1) (n : Fin 128)
/-- A head's product with its matrix; every head's store is this one. -/
theorem lat_apply (l : Fin 256) : k0_pay4 a b (ix3 z n l) = ∑ k : Fin 128, a (ix3 (0 : Fin 1) k n) * b (ix3 (0 : Fin 1) k l) := by
  pointwise [k0_pay4, k0_pay3]
/-- A head's product with the matrix that picks. -/
theorem pe_apply (i : Fin 32) : k0_pay5 a s (ix3 z n i) = ∑ k : Fin 128, a (ix3 (0 : Fin 1) k n) * s (ix2 k i) := by
  pointwise [k0_pay5, k0_pay3]
end

section
variable (x0 : Vec Ideal S8x128x128 .bf16) (x1 : Vec Ideal S8x128x256 .bf16) (x2 : Vec Ideal S128x32 .bf16)

/-- An entry of a head's product with its matrix. -/
def latEntry (h : Fin 8) (n : Fin 128) (l : Fin 256) : EReal := ∑ k : Fin 128, x0 (ix3 h k n) * x1 (ix3 h k l)
/-- An entry of a head's product with the matrix that picks. -/
def peEntry (h : Fin 8) (n : Fin 128) (i : Fin 32) : EReal := ∑ k : Fin 128, x0 (ix3 h k n) * x2 (ix2 k i)

/-- The matrix that picks is read whole. -/
theorem ld_all : View.ld x2 r0_2 = x2 := by
  simp (disch := decide) only [View.ld_unit_lit']

/-- The first result's block: every head's product with its matrix. -/
theorem out3_apply (h : Fin 8) (n : Fin 128) (l : Fin 256) : out0_3 x0 x1 x2 (ix3 h n l) = latEntry x0 x1 h n l := by
  unfold out0_3
  let G : S8x128x256.Idx → Elt Ideal .f32 := fun y => (latEntry x0 x1 (y 0) (y 1) (y 2) : EReal)
  refine View.canon_apply_of_pieces (Val := Elt Ideal) G _ ?_ (ix3 h n l) (cover0_3 _ _ _ _ _ _ _ _ (ix3 h n l))
  intro q hq y
  have hq' : q ∈ [_, _, _, _, _, _, _, _] := hq
  simp only [List.mem_cons, List.not_mem_nil, or_false] at hq'
  rcases hq' with rfl | rfl | rfl | rfl | rfl | rfl | rfl | rfl
  all_goals
    obtain ⟨z, n, l, rfl⟩ : ∃ (z : Fin 1) (n : Fin 128) (l : Fin 256), y = ix3 z n l := ⟨y 0, y 1, y 2, by funext a; fin_cases a <;> rfl⟩
    obtain rfl : z = 0 := Subsingleton.elim _ _
    refine (lat_apply _ _ 0 n l).trans (Finset.sum_congr rfl fun k _ => congrArg₂ (fun a b : EReal => a * b)
      (congrArg x0 (funext fun a => Fin.ext ?_)) (congrArg x1 (funext fun a => Fin.ext ?_)))
  all_goals fin_cases a
  all_goals first | (show 0 + 1 * k.val = k.val; omega) | rfl

/-- The second result's block: every head's product with the matrix that picks. -/
theorem out4_apply (h : Fin 8) (n : Fin 128) (i : Fin 32) : out0_4 x0 x1 x2 (ix3 h n i) = peEntry x0 x2 h n i := by
  unfold out0_4
  rw [ld_all]
  let G : S8x128x32.Idx → Elt Ideal .f32 := fun y => (peEntry x0 x2 (y 0) (y 1) (y 2) : EReal)
  refine View.canon_apply_of_pieces (Val := Elt Ideal) G _ ?_ (ix3 h n i) (cover0_4 _ _ _ _ _ _ _ _ (ix3 h n i))
  intro q hq y
  have hq' : q ∈ [_, _, _, _, _, _, _, _] := hq
  simp only [List.mem_cons, List.not_mem_nil, or_false] at hq'
  rcases hq' with rfl | rfl | rfl | rfl | rfl | rfl | rfl | rfl
  all_goals
    obtain ⟨z, n, i, rfl⟩ : ∃ (z : Fin 1) (n : Fin 128) (i : Fin 32), y = ix3 z n i := ⟨y 0, y 1, y 2, by funext a; fin_cases a <;> rfl⟩
    obtain rfl : z = 0 := Subsingleton.elim _ _
    refine (pe_apply _ _ 0 n i).trans (Finset.sum_congr rfl fun k _ => congrArg₂ (fun a b : EReal => a * b)
      (congrArg x0 (funext fun a => Fin.ext ?_)) (congrArg x2 (funext fun a => Fin.ext ?_)))
  all_goals fin_cases a
  all_goals first | (show 0 + 1 * k.val = k.val; omega) | (show i.val = 0 + 1 * i.val; omega) | rfl
end

/-! ## The result arrays -/

variable (m : (ℓ : Loc nD τ sig) → Buf (Elt Ideal) ℓ) (c : Dev nD) (t : Fin cfg0.N)

/-- Every block is its whole array. -/
theorem idx : ∀ t : Fin cfg0.N, win0_0.index t = ![0, 0, 0] ∧ win0_1.index t = ![0, 0, 0] ∧ win0_2.index t = ![0, 0] :=
  (by decide +kernel : ∀ t : Fin grid0.N, _)

/-- The block of the queries. -/
theorem blk0 (h : Fin 8) (k n : Fin 128) : (iblk m c 0 t : Vec Ideal S8x128x128 .bf16) (ix3 h k n) = arg0 m c (ix3 h k n) := by
  unfold arg0
  blk_ext [iblk, V, idx t]

/-- The block of the keys' weights, zero from row 64 on. -/
theorem blk1 (h : Fin 8) (k : Fin 128) (l : Fin 256) : (iblk m c 1 t : Vec Ideal S8x128x256 .bf16) (ix3 h k l)
    = if g : k.val < 64 then arg1 m c (ix3 l h ⟨k.val, g⟩) else 0 := by
  rw [← v3_apply m c]
  blk_ext [iblk, idx t]

/-- The block of the matrix that picks. -/
theorem blk2 (k : Fin 128) (i : Fin 32) : (iblk m c 2 t : Vec Ideal S128x32 .bf16) (ix2 k i) = (if k.val = i.val + 64 then 1 else 0 : EReal) := by
  refine Eq.trans (b := (V m c main_v24 : Vec Ideal S128x32 .bf16) (ix2 k i)) ?_ ((congrFun (v24_eq m c) (ix2 k i)).trans (picks_apply k i))
  unfold iblk
  generalize V m c main_v24 = v
  blk_ext [idx t]

/-- The queries in the latents' space. -/
def latArr : S8x128x256.Idx → EReal := fun i =>
  ∑ k : Fin 64, arg0 m c (ix3 (i 0) ⟨k.val, by omega⟩ (i 1)) * arg1 m c (ix3 (i 2) (i 0) k)
/-- The rotary queries. -/
def peArr : S8x128x32.Idx → EReal := fun i =>
  arg0 m c (ix3 (i 0) ⟨64 + (i 2).val, by have h : (i 2).val < 32 := (i 2).isLt; omega⟩ (i 1))

/-- A product over 128 rows is one over the 64 unrotated ones. -/
theorem lat_eq (h : Fin 8) (n : Fin 128) (l : Fin 256) : latEntry (iblk m c 0 t) (iblk m c 1 t) h n l = latArr m c (ix3 h n l) := by
  unfold latEntry
  simp only [blk0, blk1]
  exact first_half (fun k => arg0 m c (ix3 h k n)) fun k => arg1 m c (ix3 l h k)

/-- A product with the matrix that picks is a rotary row. -/
theorem pe_eq (h : Fin 8) (n : Fin 128) (i : Fin 32) : peEntry (iblk m c 0 t) (iblk m c 2 t) h n i = peArr m c (ix3 h n i) := by
  unfold peEntry
  simp only [blk0, blk2]
  exact picked (fun k => arg0 m c (ix3 h k n)) i

/-- The latent queries' array after the run. -/
theorem final3 : (dats m 0 c).arrAt 3 cfg0.N = latArr m c := by
  refine (dats m 0 c).arrAt_eq_of_covers 3 _ (by decide +kernel) fun t _ y => ?_
  obtain ⟨h, n, l, rfl⟩ : ∃ (h : Fin 8) (n : Fin 128) (l : Fin 256), y = ix3 h n l := ⟨y 0, y 1, y 2, by funext a; fin_cases a <;> rfl⟩
  have e : ((cfg0.win 3).blk t).view.emb (ix3 h n l) = (ix3 h n l : S8x128x256.Idx) := by
    funext a
    refine Fin.ext ?_
    fin_cases a
    · show 0 * 8 + 1 * h.val = h.val; omega
    · show 0 * 128 + 1 * n.val = n.val; omega
    · show 0 * 256 + 1 * l.val = l.val; omega
  have f := congrFun (Value.flushed3 m c t) (ix3 h n l)
  refine (f.trans ?_).trans (congrArg (latArr m c) e.symm)
  exact (out3_apply _ _ _ h n l).trans (lat_eq m c t h n l)

/-- The rotary queries' array after the run. -/
theorem final4 : (dats m 0 c).arrAt 4 cfg0.N = peArr m c := by
  refine (dats m 0 c).arrAt_eq_of_covers 4 _ (by decide +kernel) fun t _ y => ?_
  obtain ⟨h, n, i, rfl⟩ : ∃ (h : Fin 8) (n : Fin 128) (i : Fin 32), y = ix3 h n i := ⟨y 0, y 1, y 2, by funext a; fin_cases a <;> rfl⟩
  have e : ((cfg0.win 4).blk t).view.emb (ix3 h n i) = (ix3 h n i : S8x128x32.Idx) := by
    funext a
    refine Fin.ext ?_
    fin_cases a
    · show 0 * 8 + 1 * h.val = h.val; omega
    · show 0 * 128 + 1 * n.val = n.val; omega
    · show 0 * 32 + 1 * i.val = i.val; omega
  have f := congrFun (Value.flushed4 m c t) (ix3 h n i)
  refine (f.trans ?_).trans (congrArg (peArr m c) e.symm)
  exact (out4_apply _ _ _ h n i).trans (pe_eq m c t h n i)

end Cert.Kernel7Ideal.Absorb
end
-- ==== Proof.AbsorbReference.lean ====
module
public import Idealize.ShloMosaic.Lib.Pipeline.ValueKit
public import proofs.«01_k».proof.Proof.Gen.Reference7Ideal.Run

/-! # The absorption's reference, entry by entry -/

@[expose] public section
set_option maxRecDepth 16384
noncomputable section

namespace Cert.Reference7Ideal.Absorb
open Cert.Reference7Ideal Cert.Reference7Ideal.Gen
open Idealize.ShloMosaic Idealize.ShloMosaic.TcCoe Idealize.SL.Sem

variable (m : (ℓ : Loc nD τ sig) → Buf (Elt Ideal) ℓ) (c : Dev nD)

/-- The samples' queries and the weights the reference is given. -/
def arg0 : FVec Ideal S8x128x128 .bf16 := m ((c.tc : Thread nD τ).loc main_arg0)
@[inherit_doc arg0] def arg1 : FVec Ideal S256x8x64 .f32 := m ((c.tc : Thread nD τ).loc main_arg1)

/-- The queries, a sample first. -/
def queries : FVec Ideal S128x1x8x128 .f32 :=
  broadcastInDim S128x1x8x128 ![0, 2, 3] bcast_S128x8x128_S128x1x8x128_0_2_3
    (transpose S128x8x128 [2, 0, 1] (extf .f32 (arg0 m c) bitsLt_bf16_f32) transposes_S8x128x128_S128x8x128_2_0_1)

/-- An entry of the reference's queries. -/
theorem queries_apply (n : Fin 128) (z : Fin 1) (h : Fin 8) (k : Fin 128) : queries m c (ix4 n z h k) = arg0 m c (ix3 h k n) := by
  unfold queries
  pointwise

/-- The queries in the latents' space. -/
def latent : FVec Ideal S8x128x256 .f32 :=
  transpose S8x128x256 [1, 0, 2] (shapeCast S128x8x256 (transpose S128x1x8x256 [2, 3, 0, 1]
    (Host.dotGeneral (F := Ideal) dot_S256x8x64_S128x1x8x64_S8x256x128x1_2_3_0_01_1_2 none (arg1 m c)
      (extractStridedSlice S128x1x8x64 ![0, 0, 0, 0] (queries m c) slices_S128x1x8x128_S128x1x8x64_0_0_0_0))
    transposes_S8x256x128x1_S128x1x8x256_2_3_0_1) shapeCasts_S128x1x8x256_S128x8x256) transposes_S128x8x256_S8x128x256_1_0_2

/-- An entry of the latent queries. -/
theorem latent_apply (h : Fin 8) (n : Fin 128) (l : Fin 256) : latent m c (ix3 h n l)
    = ∑ k : Fin 64, arg1 m c (ix3 l h k) * arg0 m c (ix3 h ⟨k.val, by omega⟩ n) := by
  unfold latent
  pointwise
  simp only [queries_apply]

/-- The rotary queries. -/
def rope : FVec Ideal S8x128x32 .f32 :=
  transpose S8x128x32 [1, 0, 2] (shapeCast S128x8x32 (extractStridedSlice S128x1x8x32 ![0, 0, 0, 64] (queries m c)
    slices_S128x1x8x128_S128x1x8x32_0_0_0_64) shapeCasts_S128x1x8x32_S128x8x32) transposes_S128x8x32_S8x128x32_1_0_2

/-- An entry of the rotary queries. -/
theorem rope_apply (h : Fin 8) (n : Fin 128) (i : Fin 32) : rope m c (ix3 h n i) = arg0 m c (ix3 h ⟨64 + i.val, by omega⟩ n) := by
  unfold rope
  pointwise
  exact queries_apply m c _ _ _ _

end Cert.Reference7Ideal.Absorb
end
-- ==== Proof.AbsorbClaims.lean ====
module
public import proofs.«01_k».proof.Defs
public import proofs.«01_k».proof.Proof.Gen.Kernel7.Frame
public import proofs.«01_k».proof.Proof.ProjClaims
public import proofs.«01_k».proof.Proof.AbsorbValue
public import proofs.«01_k».proof.Proof.AbsorbReference
public import Idealize.ShloMosaic.Init

/-! # The absorption's claims

The kernel's two result arrays and the reference's are the same functions of arguments that agree. -/

@[expose] public section
set_option maxRecDepth 16384
noncomputable section
open Idealize.ShloMosaic Idealize.ShloMosaic.TcCoe Idealize.SL.Sem

namespace Cert.AbsorbClaims
open Cert.Kernel7Ideal.Absorb

/-- The kernel ends without fault and leaves its arguments. -/
theorem frame_kernel : @Cert.quiescent_Kernel7 Cert.Kernel7.Gen.facts := fun m ρ _ => Cert.Kernel7.Gen.frame m ρ
/-- So does its idealization. -/
theorem frame_ideal : @Cert.quiescent_Kernel7Ideal Cert.Kernel7Ideal.Gen.facts := fun m ρ _ => Cert.Kernel7Ideal.Gen.frame m ρ
/-- So does the reference. -/
theorem frame_reference : @Cert.quiescent_Reference7Ideal Cert.Reference7Ideal.Gen.facts := fun m ρ _ =>
  (θ_run Cert.Reference7Ideal.defs _ _).mono (fun r h => ⟨fun c => (h c).2.2, sem_eq_zero_of_no_sems (by decide) r.2⟩)
    (Cert.Reference7Ideal.Value.run (F := Ideal) m ρ)

section
variable {m : (ℓ : Loc Cert.Kernel7Ideal.nD Cert.Kernel7Ideal.τ Cert.Kernel7Ideal.sig) → Buf (Elt Ideal) ℓ}
  {m' : (ℓ : Loc Cert.Reference7Ideal.nD Cert.Reference7Ideal.τ Cert.Reference7Ideal.sig) → Buf (Elt Ideal) ℓ} {c : Dev 1}
  (h0 : Cert.Reference7Ideal.Absorb.arg0 m' c = arg0 m c)
include h0

/-- The two programs have the same latent queries. -/
theorem latent_eq (h1 : Cert.Reference7Ideal.Absorb.arg1 m' c = arg1 m c) : Cert.Reference7Ideal.Absorb.latent m' c = latArr m c := by
  refine Cert.ProjClaims.ext3 fun h n l => (Cert.Reference7Ideal.Absorb.latent_apply m' c h n l).trans ?_
  rw [h0, h1]
  exact Finset.sum_congr rfl fun k _ => mul_comm _ _

/-- The two programs have the same rotary queries. -/
theorem rope_eq : Cert.Reference7Ideal.Absorb.rope m' c = peArr m c := by
  refine Cert.ProjClaims.ext3 fun h n i => (Cert.Reference7Ideal.Absorb.rope_apply m' c h n i).trans ?_
  rw [h0]
  rfl
end

/-- The kernel's results are the reference's. -/
theorem algebraic : @Cert.algebraic_Kernel7Ideal_Reference7Ideal Cert.Kernel7Ideal.Gen.facts Cert.Reference7Ideal.Gen.facts := by
  intro m ρ m' ρ' _ hagree
  refine ⟨fun c => latArr m c, fun c => peArr m c,
    (θ_run Cert.Kernel7Ideal.defs _ _).mono (fun r h c => ?_) (Cert.Kernel7Ideal.Value.run_blocks (F := Ideal) m ρ), ?_⟩
  · obtain ⟨h0, h1, h2⟩ := h c
    exact ⟨h0.trans (final3 m c), h1.trans (final4 m c), h2⟩
  refine (θ_run Cert.Reference7Ideal.defs _ _).mono (fun r h c => ?_) (Cert.Reference7Ideal.Value.run (F := Ideal) m' ρ')
  obtain ⟨h0, h1, h2⟩ := h c
  obtain ⟨e0, e1⟩ := hagree c
  have g0 : Cert.Reference7Ideal.Absorb.arg0 m' c = arg0 m c := e0
  have g1 : Cert.Reference7Ideal.Absorb.arg1 m' c = arg1 m c := e1
  exact ⟨h0.trans (latent_eq g0 g1), h1.trans (rope_eq g0), h2⟩

end Cert.AbsorbClaims
end
-- ==== Proof.lean ====
/- The proof of the certificate's claims. For each of the five calls: the frames of its programs, the (empty) list of
   rewrites, and the equality of the kernel's results with the reference's. The witnesses of the programs' stated facts come
   first. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash.Runs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash.Runs
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Pre_chunks_name_experts
public import proofs.«01_k».proof.Proof.LruClaims
public import proofs.«01_k».proof.Proof.ExpertsClaims
public import proofs.«01_k».proof.Proof.ProjClaims
public import proofs.«01_k».proof.Proof.SampleClaims
public import proofs.«01_k».proof.Proof.StepClaims
public import proofs.«01_k».proof.Proof.UpClaims
public import proofs.«01_k».proof.Proof.AbsorbClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_chunks_name_experts.Gen.facts,
  LruClaims.frame_kernel, LruClaims.frame_ideal, LruClaims.frame_reference,
  ExpertsClaims.frame_kernel, ExpertsClaims.frame_ideal, ExpertsClaims.frame_reference, ExpertsClaims.frame_reference_pre,
  ProjClaims.frame_kernel, ProjClaims.frame_ideal, ProjClaims.frame_reference,
  SampleClaims.frame_kernel, SampleClaims.frame_ideal, SampleClaims.frame_reference,
  StepClaims.frame_kernel, StepClaims.frame_ideal, StepClaims.frame_reference,
  UpClaims.frame_kernel, UpClaims.frame_ideal, UpClaims.frame_reference,
  AbsorbClaims.frame_kernel, AbsorbClaims.frame_ideal, AbsorbClaims.frame_reference,
  trivial, LruClaims.algebraic, trivial, ExpertsClaims.algebraic,
  trivial, ProjClaims.algebraic,
  trivial, SampleClaims.algebraic, trivial, StepClaims.algebraic,
  trivial, UpClaims.algebraic, trivial, AbsorbClaims.algebraic⟩

end Cert.Proof

end
